-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Experts [hPre_plan_in_range : Cert.Pre_plan_in_range.Facts] (m : (ℓ : Loc Cert.Experts.nD Cert.Experts.τ Cert.Experts.sig) → Buf (Elt Bits) ℓ) : Prop :=
  ∀ c : Dev Cert.Experts.nD,
    (Cert.Pre_plan_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_plan_in_range : Cert.Pre_plan_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_plan_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_plan_in_range [hPre_plan_in_range : Cert.Pre_plan_in_range.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_plan_in_range.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))) = (fun _ => 1#1)

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojReferenceIdeal (m : (ℓ : Loc Cert.OprojReferenceIdeal.nD Cert.OprojReferenceIdeal.τ Cert.OprojReferenceIdeal.sig) → Buf (Elt Ideal) ℓ) : Prop :=
  True

def Pre_Values (m : (ℓ : Loc Cert.Values.nD Cert.Values.τ Cert.Values.sig) → Buf (Elt Bits) ℓ) : Prop :=
  True

def Pre_ValuesIdeal (m : (ℓ : Loc Cert.ValuesIdeal.nD Cert.ValuesIdeal.τ Cert.ValuesIdeal.sig) → Buf (Elt Ideal) ℓ) : Prop :=
  True

def Pre_ValuesReferenceIdeal (m : (ℓ : Loc Cert.ValuesReferenceIdeal.nD Cert.ValuesReferenceIdeal.τ Cert.ValuesReferenceIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeReferenceIdeal (m : (ℓ : Loc Cert.RopeReferenceIdeal.nD Cert.RopeReferenceIdeal.τ Cert.RopeReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Experts [hExperts : Cert.Experts.Facts] [hPre_plan_in_range : Cert.Pre_plan_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_plan_in_range : Cert.Pre_plan_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_ExpertsReferenceIdeal_pre_plan_in_range [hExpertsReferenceIdeal : Cert.ExpertsReferenceIdeal.Facts] [hPre_plan_in_range : Cert.Pre_plan_in_range.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_plan_in_range m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4)
      ∧ r.2.mem ((c.tc : Thread Cert.Oproj.nD Cert.Oproj.τ).loc Cert.Oproj.main_arg5) = m ((c.tc : Thread Cert.Oproj.nD Cert.Oproj.τ).loc Cert.Oproj.main_arg5)
      ∧ r.2.mem ((c.tc : Thread Cert.Oproj.nD Cert.Oproj.τ).loc Cert.Oproj.main_arg6) = m ((c.tc : Thread Cert.Oproj.nD Cert.Oproj.τ).loc Cert.Oproj.main_arg6))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
      ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5)
      ∧ r.2.mem ((c.tc : Thread Cert.OprojIdeal.nD Cert.OprojIdeal.τ).loc Cert.OprojIdeal.main_arg6) = m ((c.tc : Thread Cert.OprojIdeal.nD Cert.OprojIdeal.τ).loc Cert.OprojIdeal.main_arg6))
      ∧ r.2.sem = fun _ => 0)

def quiescent_OprojReferenceIdeal [hOprojReferenceIdeal : Cert.OprojReferenceIdeal.Facts] : Prop :=
  ∀ (m : (ℓ : Loc Cert.OprojReferenceIdeal.nD Cert.OprojReferenceIdeal.τ Cert.OprojReferenceIdeal.sig) → Buf (Elt Ideal) ℓ) (g : Dev Cert.OprojReferenceIdeal.nD → PrngReg), Pre_OprojReferenceIdeal m →
    θ_run (Cert.OprojReferenceIdeal.defs (F := Ideal)) (onTc (τ := Cert.OprojReferenceIdeal.τ) (Cert.OprojReferenceIdeal.main (F := Ideal))) ⟨m, fun _ => 0, g⟩ (fun r => (∀ c : Dev Cert.OprojReferenceIdeal.nD,
      r.2.mem ((c.tc : Thread Cert.OprojReferenceIdeal.nD Cert.OprojReferenceIdeal.τ).loc Cert.OprojReferenceIdeal.main_arg0) = m ((c.tc : Thread Cert.OprojReferenceIdeal.nD Cert.OprojReferenceIdeal.τ).loc Cert.OprojReferenceIdeal.main_arg0)
      ∧ r.2.mem ((c.tc : Thread Cert.OprojReferenceIdeal.nD Cert.OprojReferenceIdeal.τ).loc Cert.OprojReferenceIdeal.main_arg1) = m ((c.tc : Thread Cert.OprojReferenceIdeal.nD Cert.OprojReferenceIdeal.τ).loc Cert.OprojReferenceIdeal.main_arg1)
      ∧ r.2.mem ((c.tc : Thread Cert.OprojReferenceIdeal.nD Cert.OprojReferenceIdeal.τ).loc Cert.OprojReferenceIdeal.main_arg2) = m ((c.tc : Thread Cert.OprojReferenceIdeal.nD Cert.OprojReferenceIdeal.τ).loc Cert.OprojReferenceIdeal.main_arg2)
      ∧ r.2.mem ((c.tc : Thread Cert.OprojReferenceIdeal.nD Cert.OprojReferenceIdeal.τ).loc Cert.OprojReferenceIdeal.main_arg3) = m ((c.tc : Thread Cert.OprojReferenceIdeal.nD Cert.OprojReferenceIdeal.τ).loc Cert.OprojReferenceIdeal.main_arg3)
      ∧ r.2.mem ((c.tc : Thread Cert.OprojReferenceIdeal.nD Cert.OprojReferenceIdeal.τ).loc Cert.OprojReferenceIdeal.main_arg4) = m ((c.tc : Thread Cert.OprojReferenceIdeal.nD Cert.OprojReferenceIdeal.τ).loc Cert.OprojReferenceIdeal.main_arg4)
      ∧ r.2.mem ((c.tc : Thread Cert.OprojReferenceIdeal.nD Cert.OprojReferenceIdeal.τ).loc Cert.OprojReferenceIdeal.main_arg5) = m ((c.tc : Thread Cert.OprojReferenceIdeal.nD Cert.OprojReferenceIdeal.τ).loc Cert.OprojReferenceIdeal.main_arg5)
      ∧ r.2.mem ((c.tc : Thread Cert.OprojReferenceIdeal.nD Cert.OprojReferenceIdeal.τ).loc Cert.OprojReferenceIdeal.main_arg6) = m ((c.tc : Thread Cert.OprojReferenceIdeal.nD Cert.OprojReferenceIdeal.τ).loc Cert.OprojReferenceIdeal.main_arg6))
      ∧ r.2.sem = fun _ => 0)

def quiescent_Values [hValues : Cert.Values.Facts] : Prop :=
  ∀ (m : (ℓ : Loc Cert.Values.nD Cert.Values.τ Cert.Values.sig) → Buf (Elt Bits) ℓ) (g : Dev Cert.Values.nD → PrngReg), Pre_Values m →
    θ_run (Cert.Values.defs (F := Bits)) (onTc (τ := Cert.Values.τ) (Cert.Values.main (F := Bits))) ⟨m, fun _ => 0, g⟩ (fun r => (∀ c : Dev Cert.Values.nD,
      r.2.mem ((c.tc : Thread Cert.Values.nD Cert.Values.τ).loc Cert.Values.main_arg0) = m ((c.tc : Thread Cert.Values.nD Cert.Values.τ).loc Cert.Values.main_arg0)
      ∧ r.2.mem ((c.tc : Thread Cert.Values.nD Cert.Values.τ).loc Cert.Values.main_arg1) = m ((c.tc : Thread Cert.Values.nD Cert.Values.τ).loc Cert.Values.main_arg1)
      ∧ r.2.mem ((c.tc : Thread Cert.Values.nD Cert.Values.τ).loc Cert.Values.main_arg2) = m ((c.tc : Thread Cert.Values.nD Cert.Values.τ).loc Cert.Values.main_arg2)
      ∧ r.2.mem ((c.tc : Thread Cert.Values.nD Cert.Values.τ).loc Cert.Values.main_arg3) = m ((c.tc : Thread Cert.Values.nD Cert.Values.τ).loc Cert.Values.main_arg3)
      ∧ r.2.mem ((c.tc : Thread Cert.Values.nD Cert.Values.τ).loc Cert.Values.main_arg4) = m ((c.tc : Thread Cert.Values.nD Cert.Values.τ).loc Cert.Values.main_arg4)
      ∧ r.2.mem ((c.tc : Thread Cert.Values.nD Cert.Values.τ).loc Cert.Values.main_arg5) = m ((c.tc : Thread Cert.Values.nD Cert.Values.τ).loc Cert.Values.main_arg5)
      ∧ r.2.mem ((c.tc : Thread Cert.Values.nD Cert.Values.τ).loc Cert.Values.main_arg6) = m ((c.tc : Thread Cert.Values.nD Cert.Values.τ).loc Cert.Values.main_arg6)
      ∧ r.2.mem ((c.tc : Thread Cert.Values.nD Cert.Values.τ).loc Cert.Values.main_arg7) = m ((c.tc : Thread Cert.Values.nD Cert.Values.τ).loc Cert.Values.main_arg7)
      ∧ r.2.mem ((c.tc : Thread Cert.Values.nD Cert.Values.τ).loc Cert.Values.main_arg8) = m ((c.tc : Thread Cert.Values.nD Cert.Values.τ).loc Cert.Values.main_arg8)
      ∧ r.2.mem ((c.tc : Thread Cert.Values.nD Cert.Values.τ).loc Cert.Values.main_arg9) = m ((c.tc : Thread Cert.Values.nD Cert.Values.τ).loc Cert.Values.main_arg9)
      ∧ r.2.mem ((c.tc : Thread Cert.Values.nD Cert.Values.τ).loc Cert.Values.main_arg10) = m ((c.tc : Thread Cert.Values.nD Cert.Values.τ).loc Cert.Values.main_arg10)
      ∧ r.2.mem ((c.tc : Thread Cert.Values.nD Cert.Values.τ).loc Cert.Values.main_arg11) = m ((c.tc : Thread Cert.Values.nD Cert.Values.τ).loc Cert.Values.main_arg11)
      ∧ r.2.mem ((c.tc : Thread Cert.Values.nD Cert.Values.τ).loc Cert.Values.main_arg12) = m ((c.tc : Thread Cert.Values.nD Cert.Values.τ).loc Cert.Values.main_arg12)
      ∧ r.2.mem ((c.tc : Thread Cert.Values.nD Cert.Values.τ).loc Cert.Values.main_arg13) = m ((c.tc : Thread Cert.Values.nD Cert.Values.τ).loc Cert.Values.main_arg13))
      ∧ r.2.sem = fun _ => 0)

def quiescent_ValuesIdeal [hValuesIdeal : Cert.ValuesIdeal.Facts] : Prop :=
  ∀ (m : (ℓ : Loc Cert.ValuesIdeal.nD Cert.ValuesIdeal.τ Cert.ValuesIdeal.sig) → Buf (Elt Ideal) ℓ) (g : Dev Cert.ValuesIdeal.nD → PrngReg), Pre_ValuesIdeal m →
    θ_run (Cert.ValuesIdeal.defs (F := Ideal)) (onTc (τ := Cert.ValuesIdeal.τ) (Cert.ValuesIdeal.main (F := Ideal))) ⟨m, fun _ => 0, g⟩ (fun r => (∀ c : Dev Cert.ValuesIdeal.nD,
      r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
      ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1)
      ∧ r.2.mem ((c.tc : Thread Cert.ValuesIdeal.nD Cert.ValuesIdeal.τ).loc Cert.ValuesIdeal.main_arg2) = m ((c.tc : Thread Cert.ValuesIdeal.nD Cert.ValuesIdeal.τ).loc Cert.ValuesIdeal.main_arg2)
      ∧ r.2.mem ((c.tc : Thread Cert.ValuesIdeal.nD Cert.ValuesIdeal.τ).loc Cert.ValuesIdeal.main_arg3) = m ((c.tc : Thread Cert.ValuesIdeal.nD Cert.ValuesIdeal.τ).loc Cert.ValuesIdeal.main_arg3)
      ∧ r.2.mem ((c.tc : Thread Cert.ValuesIdeal.nD Cert.ValuesIdeal.τ).loc Cert.ValuesIdeal.main_arg4) = m ((c.tc : Thread Cert.ValuesIdeal.nD Cert.ValuesIdeal.τ).loc Cert.ValuesIdeal.main_arg4)
      ∧ r.2.mem ((c.tc : Thread Cert.ValuesIdeal.nD Cert.ValuesIdeal.τ).loc Cert.ValuesIdeal.main_arg5) = m ((c.tc : Thread Cert.ValuesIdeal.nD Cert.ValuesIdeal.τ).loc Cert.ValuesIdeal.main_arg5)
      ∧ r.2.mem ((c.tc : Thread Cert.ValuesIdeal.nD Cert.ValuesIdeal.τ).loc Cert.ValuesIdeal.main_arg6) = m ((c.tc : Thread Cert.ValuesIdeal.nD Cert.ValuesIdeal.τ).loc Cert.ValuesIdeal.main_arg6)
      ∧ r.2.mem ((c.tc : Thread Cert.ValuesIdeal.nD Cert.ValuesIdeal.τ).loc Cert.ValuesIdeal.main_arg7) = m ((c.tc : Thread Cert.ValuesIdeal.nD Cert.ValuesIdeal.τ).loc Cert.ValuesIdeal.main_arg7)
      ∧ r.2.mem ((c.tc : Thread Cert.ValuesIdeal.nD Cert.ValuesIdeal.τ).loc Cert.ValuesIdeal.main_arg8) = m ((c.tc : Thread Cert.ValuesIdeal.nD Cert.ValuesIdeal.τ).loc Cert.ValuesIdeal.main_arg8)
      ∧ r.2.mem ((c.tc : Thread Cert.ValuesIdeal.nD Cert.ValuesIdeal.τ).loc Cert.ValuesIdeal.main_arg9) = m ((c.tc : Thread Cert.ValuesIdeal.nD Cert.ValuesIdeal.τ).loc Cert.ValuesIdeal.main_arg9)
      ∧ r.2.mem ((c.tc : Thread Cert.ValuesIdeal.nD Cert.ValuesIdeal.τ).loc Cert.ValuesIdeal.main_arg10) = m ((c.tc : Thread Cert.ValuesIdeal.nD Cert.ValuesIdeal.τ).loc Cert.ValuesIdeal.main_arg10)
      ∧ r.2.mem ((c.tc : Thread Cert.ValuesIdeal.nD Cert.ValuesIdeal.τ).loc Cert.ValuesIdeal.main_arg11) = m ((c.tc : Thread Cert.ValuesIdeal.nD Cert.ValuesIdeal.τ).loc Cert.ValuesIdeal.main_arg11)
      ∧ r.2.mem ((c.tc : Thread Cert.ValuesIdeal.nD Cert.ValuesIdeal.τ).loc Cert.ValuesIdeal.main_arg12) = m ((c.tc : Thread Cert.ValuesIdeal.nD Cert.ValuesIdeal.τ).loc Cert.ValuesIdeal.main_arg12)
      ∧ r.2.mem ((c.tc : Thread Cert.ValuesIdeal.nD Cert.ValuesIdeal.τ).loc Cert.ValuesIdeal.main_arg13) = m ((c.tc : Thread Cert.ValuesIdeal.nD Cert.ValuesIdeal.τ).loc Cert.ValuesIdeal.main_arg13))
      ∧ r.2.sem = fun _ => 0)

def quiescent_ValuesReferenceIdeal [hValuesReferenceIdeal : Cert.ValuesReferenceIdeal.Facts] : Prop :=
  ∀ (m : (ℓ : Loc Cert.ValuesReferenceIdeal.nD Cert.ValuesReferenceIdeal.τ Cert.ValuesReferenceIdeal.sig) → Buf (Elt Ideal) ℓ) (g : Dev Cert.ValuesReferenceIdeal.nD → PrngReg), Pre_ValuesReferenceIdeal m →
    θ_run (Cert.ValuesReferenceIdeal.defs (F := Ideal)) (onTc (τ := Cert.ValuesReferenceIdeal.τ) (Cert.ValuesReferenceIdeal.main (F := Ideal))) ⟨m, fun _ => 0, g⟩ (fun r => (∀ c : Dev Cert.ValuesReferenceIdeal.nD,
      r.2.mem ((c.tc : Thread Cert.ValuesReferenceIdeal.nD Cert.ValuesReferenceIdeal.τ).loc Cert.ValuesReferenceIdeal.main_arg0) = m ((c.tc : Thread Cert.ValuesReferenceIdeal.nD Cert.ValuesReferenceIdeal.τ).loc Cert.ValuesReferenceIdeal.main_arg0)
      ∧ r.2.mem ((c.tc : Thread Cert.ValuesReferenceIdeal.nD Cert.ValuesReferenceIdeal.τ).loc Cert.ValuesReferenceIdeal.main_arg1) = m ((c.tc : Thread Cert.ValuesReferenceIdeal.nD Cert.ValuesReferenceIdeal.τ).loc Cert.ValuesReferenceIdeal.main_arg1)
      ∧ r.2.mem ((c.tc : Thread Cert.ValuesReferenceIdeal.nD Cert.ValuesReferenceIdeal.τ).loc Cert.ValuesReferenceIdeal.main_arg2) = m ((c.tc : Thread Cert.ValuesReferenceIdeal.nD Cert.ValuesReferenceIdeal.τ).loc Cert.ValuesReferenceIdeal.main_arg2)
      ∧ r.2.mem ((c.tc : Thread Cert.ValuesReferenceIdeal.nD Cert.ValuesReferenceIdeal.τ).loc Cert.ValuesReferenceIdeal.main_arg3) = m ((c.tc : Thread Cert.ValuesReferenceIdeal.nD Cert.ValuesReferenceIdeal.τ).loc Cert.ValuesReferenceIdeal.main_arg3)
      ∧ r.2.mem ((c.tc : Thread Cert.ValuesReferenceIdeal.nD Cert.ValuesReferenceIdeal.τ).loc Cert.ValuesReferenceIdeal.main_arg4) = m ((c.tc : Thread Cert.ValuesReferenceIdeal.nD Cert.ValuesReferenceIdeal.τ).loc Cert.ValuesReferenceIdeal.main_arg4)
      ∧ r.2.mem ((c.tc : Thread Cert.ValuesReferenceIdeal.nD Cert.ValuesReferenceIdeal.τ).loc Cert.ValuesReferenceIdeal.main_arg5) = m ((c.tc : Thread Cert.ValuesReferenceIdeal.nD Cert.ValuesReferenceIdeal.τ).loc Cert.ValuesReferenceIdeal.main_arg5)
      ∧ r.2.mem ((c.tc : Thread Cert.ValuesReferenceIdeal.nD Cert.ValuesReferenceIdeal.τ).loc Cert.ValuesReferenceIdeal.main_arg6) = m ((c.tc : Thread Cert.ValuesReferenceIdeal.nD Cert.ValuesReferenceIdeal.τ).loc Cert.ValuesReferenceIdeal.main_arg6)
      ∧ r.2.mem ((c.tc : Thread Cert.ValuesReferenceIdeal.nD Cert.ValuesReferenceIdeal.τ).loc Cert.ValuesReferenceIdeal.main_arg7) = m ((c.tc : Thread Cert.ValuesReferenceIdeal.nD Cert.ValuesReferenceIdeal.τ).loc Cert.ValuesReferenceIdeal.main_arg7)
      ∧ r.2.mem ((c.tc : Thread Cert.ValuesReferenceIdeal.nD Cert.ValuesReferenceIdeal.τ).loc Cert.ValuesReferenceIdeal.main_arg8) = m ((c.tc : Thread Cert.ValuesReferenceIdeal.nD Cert.ValuesReferenceIdeal.τ).loc Cert.ValuesReferenceIdeal.main_arg8)
      ∧ r.2.mem ((c.tc : Thread Cert.ValuesReferenceIdeal.nD Cert.ValuesReferenceIdeal.τ).loc Cert.ValuesReferenceIdeal.main_arg9) = m ((c.tc : Thread Cert.ValuesReferenceIdeal.nD Cert.ValuesReferenceIdeal.τ).loc Cert.ValuesReferenceIdeal.main_arg9)
      ∧ r.2.mem ((c.tc : Thread Cert.ValuesReferenceIdeal.nD Cert.ValuesReferenceIdeal.τ).loc Cert.ValuesReferenceIdeal.main_arg10) = m ((c.tc : Thread Cert.ValuesReferenceIdeal.nD Cert.ValuesReferenceIdeal.τ).loc Cert.ValuesReferenceIdeal.main_arg10)
      ∧ r.2.mem ((c.tc : Thread Cert.ValuesReferenceIdeal.nD Cert.ValuesReferenceIdeal.τ).loc Cert.ValuesReferenceIdeal.main_arg11) = m ((c.tc : Thread Cert.ValuesReferenceIdeal.nD Cert.ValuesReferenceIdeal.τ).loc Cert.ValuesReferenceIdeal.main_arg11)
      ∧ r.2.mem ((c.tc : Thread Cert.ValuesReferenceIdeal.nD Cert.ValuesReferenceIdeal.τ).loc Cert.ValuesReferenceIdeal.main_arg12) = m ((c.tc : Thread Cert.ValuesReferenceIdeal.nD Cert.ValuesReferenceIdeal.τ).loc Cert.ValuesReferenceIdeal.main_arg12)
      ∧ r.2.mem ((c.tc : Thread Cert.ValuesReferenceIdeal.nD Cert.ValuesReferenceIdeal.τ).loc Cert.ValuesReferenceIdeal.main_arg13) = m ((c.tc : Thread Cert.ValuesReferenceIdeal.nD Cert.ValuesReferenceIdeal.τ).loc Cert.ValuesReferenceIdeal.main_arg13))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeReferenceIdeal [hRopeReferenceIdeal : Cert.RopeReferenceIdeal.Facts] : Prop :=
  ∀ (m : (ℓ : Loc Cert.RopeReferenceIdeal.nD Cert.RopeReferenceIdeal.τ Cert.RopeReferenceIdeal.sig) → Buf (Elt Ideal) ℓ) (g : Dev Cert.RopeReferenceIdeal.nD → PrngReg), Pre_RopeReferenceIdeal m →
    θ_run (Cert.RopeReferenceIdeal.defs (F := Ideal)) (onTc (τ := Cert.RopeReferenceIdeal.τ) (Cert.RopeReferenceIdeal.main (F := Ideal))) ⟨m, fun _ => 0, g⟩ (fun r => (∀ c : Dev Cert.RopeReferenceIdeal.nD,
      r.2.mem ((c.tc : Thread Cert.RopeReferenceIdeal.nD Cert.RopeReferenceIdeal.τ).loc Cert.RopeReferenceIdeal.main_arg0) = m ((c.tc : Thread Cert.RopeReferenceIdeal.nD Cert.RopeReferenceIdeal.τ).loc Cert.RopeReferenceIdeal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_plan_in_range : Cert.Pre_plan_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v34) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5))

def preserves_Oproj_OprojIdeal : Prop :=
  True

def algebraic_OprojIdeal_OprojReferenceIdeal [hOprojIdeal : Cert.OprojIdeal.Facts] [hOprojReferenceIdeal : Cert.OprojReferenceIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojReferenceIdeal.nD Cert.OprojReferenceIdeal.τ Cert.OprojReferenceIdeal.sig) → Buf (Elt Ideal) ℓ) (g' : Dev Cert.OprojReferenceIdeal.nD → PrngReg), Pre_OprojIdeal m →
    (∀ c : Dev Cert.OprojIdeal.nD,
      m' ((c.tc : Thread Cert.OprojReferenceIdeal.nD Cert.OprojReferenceIdeal.τ).loc Cert.OprojReferenceIdeal.main_arg0) = m ((c.tc : Thread Cert.OprojIdeal.nD Cert.OprojIdeal.τ).loc Cert.OprojIdeal.main_arg0)
      ∧ m' ((c.tc : Thread Cert.OprojReferenceIdeal.nD Cert.OprojReferenceIdeal.τ).loc Cert.OprojReferenceIdeal.main_arg1) = m ((c.tc : Thread Cert.OprojIdeal.nD Cert.OprojIdeal.τ).loc Cert.OprojIdeal.main_arg1)
      ∧ m' ((c.tc : Thread Cert.OprojReferenceIdeal.nD Cert.OprojReferenceIdeal.τ).loc Cert.OprojReferenceIdeal.main_arg2) = m ((c.tc : Thread Cert.OprojIdeal.nD Cert.OprojIdeal.τ).loc Cert.OprojIdeal.main_arg2)
      ∧ m' ((c.tc : Thread Cert.OprojReferenceIdeal.nD Cert.OprojReferenceIdeal.τ).loc Cert.OprojReferenceIdeal.main_arg3) = m ((c.tc : Thread Cert.OprojIdeal.nD Cert.OprojIdeal.τ).loc Cert.OprojIdeal.main_arg3)
      ∧ m' ((c.tc : Thread Cert.OprojReferenceIdeal.nD Cert.OprojReferenceIdeal.τ).loc Cert.OprojReferenceIdeal.main_arg4) = m ((c.tc : Thread Cert.OprojIdeal.nD Cert.OprojIdeal.τ).loc Cert.OprojIdeal.main_arg4)
      ∧ m' ((c.tc : Thread Cert.OprojReferenceIdeal.nD Cert.OprojReferenceIdeal.τ).loc Cert.OprojReferenceIdeal.main_arg5) = m ((c.tc : Thread Cert.OprojIdeal.nD Cert.OprojIdeal.τ).loc Cert.OprojIdeal.main_arg5)
      ∧ m' ((c.tc : Thread Cert.OprojReferenceIdeal.nD Cert.OprojReferenceIdeal.τ).loc Cert.OprojReferenceIdeal.main_arg6) = m ((c.tc : Thread Cert.OprojIdeal.nD Cert.OprojIdeal.τ).loc Cert.OprojIdeal.main_arg6)) →
    ∃ (v0 : (c : Dev Cert.OprojIdeal.nD) → Buf (Elt Ideal) ((c.tc : Thread Cert.OprojIdeal.nD Cert.OprojIdeal.τ).loc Cert.OprojIdeal.main_v11_0)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v11_0) = v0 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
          ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
          ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5)
          ∧ r.2.mem ((c.tc : Thread Cert.OprojIdeal.nD Cert.OprojIdeal.τ).loc Cert.OprojIdeal.main_arg6) = m ((c.tc : Thread Cert.OprojIdeal.nD Cert.OprojIdeal.τ).loc Cert.OprojIdeal.main_arg6))
      ∧ θ_run (Cert.OprojReferenceIdeal.defs (F := Ideal)) (onTc (τ := Cert.OprojReferenceIdeal.τ) (Cert.OprojReferenceIdeal.main (F := Ideal))) ⟨m', fun _ => 0, g'⟩ (fun r => ∀ c : Dev Cert.OprojReferenceIdeal.nD,
          r.2.mem ((c.tc : Thread Cert.OprojReferenceIdeal.nD Cert.OprojReferenceIdeal.τ).loc Cert.OprojReferenceIdeal.main_v2) = v0 c
          ∧ r.2.mem ((c.tc : Thread Cert.OprojReferenceIdeal.nD Cert.OprojReferenceIdeal.τ).loc Cert.OprojReferenceIdeal.main_arg0) = m' ((c.tc : Thread Cert.OprojReferenceIdeal.nD Cert.OprojReferenceIdeal.τ).loc Cert.OprojReferenceIdeal.main_arg0)
          ∧ r.2.mem ((c.tc : Thread Cert.OprojReferenceIdeal.nD Cert.OprojReferenceIdeal.τ).loc Cert.OprojReferenceIdeal.main_arg1) = m' ((c.tc : Thread Cert.OprojReferenceIdeal.nD Cert.OprojReferenceIdeal.τ).loc Cert.OprojReferenceIdeal.main_arg1)
          ∧ r.2.mem ((c.tc : Thread Cert.OprojReferenceIdeal.nD Cert.OprojReferenceIdeal.τ).loc Cert.OprojReferenceIdeal.main_arg2) = m' ((c.tc : Thread Cert.OprojReferenceIdeal.nD Cert.OprojReferenceIdeal.τ).loc Cert.OprojReferenceIdeal.main_arg2)
          ∧ r.2.mem ((c.tc : Thread Cert.OprojReferenceIdeal.nD Cert.OprojReferenceIdeal.τ).loc Cert.OprojReferenceIdeal.main_arg3) = m' ((c.tc : Thread Cert.OprojReferenceIdeal.nD Cert.OprojReferenceIdeal.τ).loc Cert.OprojReferenceIdeal.main_arg3)
          ∧ r.2.mem ((c.tc : Thread Cert.OprojReferenceIdeal.nD Cert.OprojReferenceIdeal.τ).loc Cert.OprojReferenceIdeal.main_arg4) = m' ((c.tc : Thread Cert.OprojReferenceIdeal.nD Cert.OprojReferenceIdeal.τ).loc Cert.OprojReferenceIdeal.main_arg4)
          ∧ r.2.mem ((c.tc : Thread Cert.OprojReferenceIdeal.nD Cert.OprojReferenceIdeal.τ).loc Cert.OprojReferenceIdeal.main_arg5) = m' ((c.tc : Thread Cert.OprojReferenceIdeal.nD Cert.OprojReferenceIdeal.τ).loc Cert.OprojReferenceIdeal.main_arg5)
          ∧ r.2.mem ((c.tc : Thread Cert.OprojReferenceIdeal.nD Cert.OprojReferenceIdeal.τ).loc Cert.OprojReferenceIdeal.main_arg6) = m' ((c.tc : Thread Cert.OprojReferenceIdeal.nD Cert.OprojReferenceIdeal.τ).loc Cert.OprojReferenceIdeal.main_arg6))

def preserves_Values_ValuesIdeal : Prop :=
  True

def algebraic_ValuesIdeal_ValuesReferenceIdeal [hValuesIdeal : Cert.ValuesIdeal.Facts] [hValuesReferenceIdeal : Cert.ValuesReferenceIdeal.Facts] : Prop :=
  ∀ (m : (ℓ : Loc Cert.ValuesIdeal.nD Cert.ValuesIdeal.τ Cert.ValuesIdeal.sig) → Buf (Elt Ideal) ℓ) (g : Dev Cert.ValuesIdeal.nD → PrngReg)
    (m' : (ℓ : Loc Cert.ValuesReferenceIdeal.nD Cert.ValuesReferenceIdeal.τ Cert.ValuesReferenceIdeal.sig) → Buf (Elt Ideal) ℓ) (g' : Dev Cert.ValuesReferenceIdeal.nD → PrngReg), Pre_ValuesIdeal m →
    (∀ c : Dev Cert.ValuesIdeal.nD,
      m' ((c.tc : Thread Cert.ValuesReferenceIdeal.nD Cert.ValuesReferenceIdeal.τ).loc Cert.ValuesReferenceIdeal.main_arg0) = m ((c.tc : Thread Cert.ValuesIdeal.nD Cert.ValuesIdeal.τ).loc Cert.ValuesIdeal.main_arg0)
      ∧ m' ((c.tc : Thread Cert.ValuesReferenceIdeal.nD Cert.ValuesReferenceIdeal.τ).loc Cert.ValuesReferenceIdeal.main_arg1) = m ((c.tc : Thread Cert.ValuesIdeal.nD Cert.ValuesIdeal.τ).loc Cert.ValuesIdeal.main_arg1)
      ∧ m' ((c.tc : Thread Cert.ValuesReferenceIdeal.nD Cert.ValuesReferenceIdeal.τ).loc Cert.ValuesReferenceIdeal.main_arg2) = m ((c.tc : Thread Cert.ValuesIdeal.nD Cert.ValuesIdeal.τ).loc Cert.ValuesIdeal.main_arg2)
      ∧ m' ((c.tc : Thread Cert.ValuesReferenceIdeal.nD Cert.ValuesReferenceIdeal.τ).loc Cert.ValuesReferenceIdeal.main_arg3) = m ((c.tc : Thread Cert.ValuesIdeal.nD Cert.ValuesIdeal.τ).loc Cert.ValuesIdeal.main_arg3)
      ∧ m' ((c.tc : Thread Cert.ValuesReferenceIdeal.nD Cert.ValuesReferenceIdeal.τ).loc Cert.ValuesReferenceIdeal.main_arg4) = m ((c.tc : Thread Cert.ValuesIdeal.nD Cert.ValuesIdeal.τ).loc Cert.ValuesIdeal.main_arg4)
      ∧ m' ((c.tc : Thread Cert.ValuesReferenceIdeal.nD Cert.ValuesReferenceIdeal.τ).loc Cert.ValuesReferenceIdeal.main_arg5) = m ((c.tc : Thread Cert.ValuesIdeal.nD Cert.ValuesIdeal.τ).loc Cert.ValuesIdeal.main_arg5)
      ∧ m' ((c.tc : Thread Cert.ValuesReferenceIdeal.nD Cert.ValuesReferenceIdeal.τ).loc Cert.ValuesReferenceIdeal.main_arg6) = m ((c.tc : Thread Cert.ValuesIdeal.nD Cert.ValuesIdeal.τ).loc Cert.ValuesIdeal.main_arg6)
      ∧ m' ((c.tc : Thread Cert.ValuesReferenceIdeal.nD Cert.ValuesReferenceIdeal.τ).loc Cert.ValuesReferenceIdeal.main_arg7) = m ((c.tc : Thread Cert.ValuesIdeal.nD Cert.ValuesIdeal.τ).loc Cert.ValuesIdeal.main_arg7)
      ∧ m' ((c.tc : Thread Cert.ValuesReferenceIdeal.nD Cert.ValuesReferenceIdeal.τ).loc Cert.ValuesReferenceIdeal.main_arg8) = m ((c.tc : Thread Cert.ValuesIdeal.nD Cert.ValuesIdeal.τ).loc Cert.ValuesIdeal.main_arg8)
      ∧ m' ((c.tc : Thread Cert.ValuesReferenceIdeal.nD Cert.ValuesReferenceIdeal.τ).loc Cert.ValuesReferenceIdeal.main_arg9) = m ((c.tc : Thread Cert.ValuesIdeal.nD Cert.ValuesIdeal.τ).loc Cert.ValuesIdeal.main_arg9)
      ∧ m' ((c.tc : Thread Cert.ValuesReferenceIdeal.nD Cert.ValuesReferenceIdeal.τ).loc Cert.ValuesReferenceIdeal.main_arg10) = m ((c.tc : Thread Cert.ValuesIdeal.nD Cert.ValuesIdeal.τ).loc Cert.ValuesIdeal.main_arg10)
      ∧ m' ((c.tc : Thread Cert.ValuesReferenceIdeal.nD Cert.ValuesReferenceIdeal.τ).loc Cert.ValuesReferenceIdeal.main_arg11) = m ((c.tc : Thread Cert.ValuesIdeal.nD Cert.ValuesIdeal.τ).loc Cert.ValuesIdeal.main_arg11)
      ∧ m' ((c.tc : Thread Cert.ValuesReferenceIdeal.nD Cert.ValuesReferenceIdeal.τ).loc Cert.ValuesReferenceIdeal.main_arg12) = m ((c.tc : Thread Cert.ValuesIdeal.nD Cert.ValuesIdeal.τ).loc Cert.ValuesIdeal.main_arg12)
      ∧ m' ((c.tc : Thread Cert.ValuesReferenceIdeal.nD Cert.ValuesReferenceIdeal.τ).loc Cert.ValuesReferenceIdeal.main_arg13) = m ((c.tc : Thread Cert.ValuesIdeal.nD Cert.ValuesIdeal.τ).loc Cert.ValuesIdeal.main_arg13)) →
    ∃ (v0 : (c : Dev Cert.ValuesIdeal.nD) → Buf (Elt Ideal) ((c.tc : Thread Cert.ValuesIdeal.nD Cert.ValuesIdeal.τ).loc Cert.ValuesIdeal.main_v42_2)),
      θ_run (Cert.ValuesIdeal.defs (F := Ideal)) (onTc (τ := Cert.ValuesIdeal.τ) (Cert.ValuesIdeal.main (F := Ideal))) ⟨m, fun _ => 0, g⟩ (fun r => ∀ c : Dev Cert.ValuesIdeal.nD,
          r.2.mem ((c.tc : Thread Cert.ValuesIdeal.nD Cert.ValuesIdeal.τ).loc Cert.ValuesIdeal.main_v42_2) = v0 c
          ∧ r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
          ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1)
          ∧ r.2.mem ((c.tc : Thread Cert.ValuesIdeal.nD Cert.ValuesIdeal.τ).loc Cert.ValuesIdeal.main_arg2) = m ((c.tc : Thread Cert.ValuesIdeal.nD Cert.ValuesIdeal.τ).loc Cert.ValuesIdeal.main_arg2)
          ∧ r.2.mem ((c.tc : Thread Cert.ValuesIdeal.nD Cert.ValuesIdeal.τ).loc Cert.ValuesIdeal.main_arg3) = m ((c.tc : Thread Cert.ValuesIdeal.nD Cert.ValuesIdeal.τ).loc Cert.ValuesIdeal.main_arg3)
          ∧ r.2.mem ((c.tc : Thread Cert.ValuesIdeal.nD Cert.ValuesIdeal.τ).loc Cert.ValuesIdeal.main_arg4) = m ((c.tc : Thread Cert.ValuesIdeal.nD Cert.ValuesIdeal.τ).loc Cert.ValuesIdeal.main_arg4)
          ∧ r.2.mem ((c.tc : Thread Cert.ValuesIdeal.nD Cert.ValuesIdeal.τ).loc Cert.ValuesIdeal.main_arg5) = m ((c.tc : Thread Cert.ValuesIdeal.nD Cert.ValuesIdeal.τ).loc Cert.ValuesIdeal.main_arg5)
          ∧ r.2.mem ((c.tc : Thread Cert.ValuesIdeal.nD Cert.ValuesIdeal.τ).loc Cert.ValuesIdeal.main_arg6) = m ((c.tc : Thread Cert.ValuesIdeal.nD Cert.ValuesIdeal.τ).loc Cert.ValuesIdeal.main_arg6)
          ∧ r.2.mem ((c.tc : Thread Cert.ValuesIdeal.nD Cert.ValuesIdeal.τ).loc Cert.ValuesIdeal.main_arg7) = m ((c.tc : Thread Cert.ValuesIdeal.nD Cert.ValuesIdeal.τ).loc Cert.ValuesIdeal.main_arg7)
          ∧ r.2.mem ((c.tc : Thread Cert.ValuesIdeal.nD Cert.ValuesIdeal.τ).loc Cert.ValuesIdeal.main_arg8) = m ((c.tc : Thread Cert.ValuesIdeal.nD Cert.ValuesIdeal.τ).loc Cert.ValuesIdeal.main_arg8)
          ∧ r.2.mem ((c.tc : Thread Cert.ValuesIdeal.nD Cert.ValuesIdeal.τ).loc Cert.ValuesIdeal.main_arg9) = m ((c.tc : Thread Cert.ValuesIdeal.nD Cert.ValuesIdeal.τ).loc Cert.ValuesIdeal.main_arg9)
          ∧ r.2.mem ((c.tc : Thread Cert.ValuesIdeal.nD Cert.ValuesIdeal.τ).loc Cert.ValuesIdeal.main_arg10) = m ((c.tc : Thread Cert.ValuesIdeal.nD Cert.ValuesIdeal.τ).loc Cert.ValuesIdeal.main_arg10)
          ∧ r.2.mem ((c.tc : Thread Cert.ValuesIdeal.nD Cert.ValuesIdeal.τ).loc Cert.ValuesIdeal.main_arg11) = m ((c.tc : Thread Cert.ValuesIdeal.nD Cert.ValuesIdeal.τ).loc Cert.ValuesIdeal.main_arg11)
          ∧ r.2.mem ((c.tc : Thread Cert.ValuesIdeal.nD Cert.ValuesIdeal.τ).loc Cert.ValuesIdeal.main_arg12) = m ((c.tc : Thread Cert.ValuesIdeal.nD Cert.ValuesIdeal.τ).loc Cert.ValuesIdeal.main_arg12)
          ∧ r.2.mem ((c.tc : Thread Cert.ValuesIdeal.nD Cert.ValuesIdeal.τ).loc Cert.ValuesIdeal.main_arg13) = m ((c.tc : Thread Cert.ValuesIdeal.nD Cert.ValuesIdeal.τ).loc Cert.ValuesIdeal.main_arg13))
      ∧ θ_run (Cert.ValuesReferenceIdeal.defs (F := Ideal)) (onTc (τ := Cert.ValuesReferenceIdeal.τ) (Cert.ValuesReferenceIdeal.main (F := Ideal))) ⟨m', fun _ => 0, g'⟩ (fun r => ∀ c : Dev Cert.ValuesReferenceIdeal.nD,
          r.2.mem ((c.tc : Thread Cert.ValuesReferenceIdeal.nD Cert.ValuesReferenceIdeal.τ).loc Cert.ValuesReferenceIdeal.main_v31) = v0 c
          ∧ r.2.mem ((c.tc : Thread Cert.ValuesReferenceIdeal.nD Cert.ValuesReferenceIdeal.τ).loc Cert.ValuesReferenceIdeal.main_arg0) = m' ((c.tc : Thread Cert.ValuesReferenceIdeal.nD Cert.ValuesReferenceIdeal.τ).loc Cert.ValuesReferenceIdeal.main_arg0)
          ∧ r.2.mem ((c.tc : Thread Cert.ValuesReferenceIdeal.nD Cert.ValuesReferenceIdeal.τ).loc Cert.ValuesReferenceIdeal.main_arg1) = m' ((c.tc : Thread Cert.ValuesReferenceIdeal.nD Cert.ValuesReferenceIdeal.τ).loc Cert.ValuesReferenceIdeal.main_arg1)
          ∧ r.2.mem ((c.tc : Thread Cert.ValuesReferenceIdeal.nD Cert.ValuesReferenceIdeal.τ).loc Cert.ValuesReferenceIdeal.main_arg2) = m' ((c.tc : Thread Cert.ValuesReferenceIdeal.nD Cert.ValuesReferenceIdeal.τ).loc Cert.ValuesReferenceIdeal.main_arg2)
          ∧ r.2.mem ((c.tc : Thread Cert.ValuesReferenceIdeal.nD Cert.ValuesReferenceIdeal.τ).loc Cert.ValuesReferenceIdeal.main_arg3) = m' ((c.tc : Thread Cert.ValuesReferenceIdeal.nD Cert.ValuesReferenceIdeal.τ).loc Cert.ValuesReferenceIdeal.main_arg3)
          ∧ r.2.mem ((c.tc : Thread Cert.ValuesReferenceIdeal.nD Cert.ValuesReferenceIdeal.τ).loc Cert.ValuesReferenceIdeal.main_arg4) = m' ((c.tc : Thread Cert.ValuesReferenceIdeal.nD Cert.ValuesReferenceIdeal.τ).loc Cert.ValuesReferenceIdeal.main_arg4)
          ∧ r.2.mem ((c.tc : Thread Cert.ValuesReferenceIdeal.nD Cert.ValuesReferenceIdeal.τ).loc Cert.ValuesReferenceIdeal.main_arg5) = m' ((c.tc : Thread Cert.ValuesReferenceIdeal.nD Cert.ValuesReferenceIdeal.τ).loc Cert.ValuesReferenceIdeal.main_arg5)
          ∧ r.2.mem ((c.tc : Thread Cert.ValuesReferenceIdeal.nD Cert.ValuesReferenceIdeal.τ).loc Cert.ValuesReferenceIdeal.main_arg6) = m' ((c.tc : Thread Cert.ValuesReferenceIdeal.nD Cert.ValuesReferenceIdeal.τ).loc Cert.ValuesReferenceIdeal.main_arg6)
          ∧ r.2.mem ((c.tc : Thread Cert.ValuesReferenceIdeal.nD Cert.ValuesReferenceIdeal.τ).loc Cert.ValuesReferenceIdeal.main_arg7) = m' ((c.tc : Thread Cert.ValuesReferenceIdeal.nD Cert.ValuesReferenceIdeal.τ).loc Cert.ValuesReferenceIdeal.main_arg7)
          ∧ r.2.mem ((c.tc : Thread Cert.ValuesReferenceIdeal.nD Cert.ValuesReferenceIdeal.τ).loc Cert.ValuesReferenceIdeal.main_arg8) = m' ((c.tc : Thread Cert.ValuesReferenceIdeal.nD Cert.ValuesReferenceIdeal.τ).loc Cert.ValuesReferenceIdeal.main_arg8)
          ∧ r.2.mem ((c.tc : Thread Cert.ValuesReferenceIdeal.nD Cert.ValuesReferenceIdeal.τ).loc Cert.ValuesReferenceIdeal.main_arg9) = m' ((c.tc : Thread Cert.ValuesReferenceIdeal.nD Cert.ValuesReferenceIdeal.τ).loc Cert.ValuesReferenceIdeal.main_arg9)
          ∧ r.2.mem ((c.tc : Thread Cert.ValuesReferenceIdeal.nD Cert.ValuesReferenceIdeal.τ).loc Cert.ValuesReferenceIdeal.main_arg10) = m' ((c.tc : Thread Cert.ValuesReferenceIdeal.nD Cert.ValuesReferenceIdeal.τ).loc Cert.ValuesReferenceIdeal.main_arg10)
          ∧ r.2.mem ((c.tc : Thread Cert.ValuesReferenceIdeal.nD Cert.ValuesReferenceIdeal.τ).loc Cert.ValuesReferenceIdeal.main_arg11) = m' ((c.tc : Thread Cert.ValuesReferenceIdeal.nD Cert.ValuesReferenceIdeal.τ).loc Cert.ValuesReferenceIdeal.main_arg11)
          ∧ r.2.mem ((c.tc : Thread Cert.ValuesReferenceIdeal.nD Cert.ValuesReferenceIdeal.τ).loc Cert.ValuesReferenceIdeal.main_arg12) = m' ((c.tc : Thread Cert.ValuesReferenceIdeal.nD Cert.ValuesReferenceIdeal.τ).loc Cert.ValuesReferenceIdeal.main_arg12)
          ∧ r.2.mem ((c.tc : Thread Cert.ValuesReferenceIdeal.nD Cert.ValuesReferenceIdeal.τ).loc Cert.ValuesReferenceIdeal.main_arg13) = m' ((c.tc : Thread Cert.ValuesReferenceIdeal.nD Cert.ValuesReferenceIdeal.τ).loc Cert.ValuesReferenceIdeal.main_arg13))

def preserves_Rope_RopeIdeal : Prop :=
  True

def algebraic_RopeIdeal_RopeReferenceIdeal [hRopeIdeal : Cert.RopeIdeal.Facts] [hRopeReferenceIdeal : Cert.RopeReferenceIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeReferenceIdeal.nD Cert.RopeReferenceIdeal.τ Cert.RopeReferenceIdeal.sig) → Buf (Elt Ideal) ℓ) (g' : Dev Cert.RopeReferenceIdeal.nD → PrngReg), Pre_RopeIdeal m →
    (∀ c : Dev Cert.RopeIdeal.nD,
      m' ((c.tc : Thread Cert.RopeReferenceIdeal.nD Cert.RopeReferenceIdeal.τ).loc Cert.RopeReferenceIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v19_0)) (v1 : (c : Dev Cert.RopeIdeal.nD) → Buf (Elt Ideal) ((c.tc : Thread Cert.RopeIdeal.nD Cert.RopeIdeal.τ).loc Cert.RopeIdeal.main_v19_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v19_0) = v0 c
          ∧ r.2.mem ((c.tc : Thread Cert.RopeIdeal.nD Cert.RopeIdeal.τ).loc Cert.RopeIdeal.main_v19_1) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeReferenceIdeal.defs (F := Ideal)) (onTc (τ := Cert.RopeReferenceIdeal.τ) (Cert.RopeReferenceIdeal.main (F := Ideal))) ⟨m', fun _ => 0, g'⟩ (fun r => ∀ c : Dev Cert.RopeReferenceIdeal.nD,
          r.2.mem ((c.tc : Thread Cert.RopeReferenceIdeal.nD Cert.RopeReferenceIdeal.τ).loc Cert.RopeReferenceIdeal.main_v17) = v0 c
          ∧ r.2.mem ((c.tc : Thread Cert.RopeReferenceIdeal.nD Cert.RopeReferenceIdeal.τ).loc Cert.RopeReferenceIdeal.main_v19) = v1 c
          ∧ r.2.mem ((c.tc : Thread Cert.RopeReferenceIdeal.nD Cert.RopeReferenceIdeal.τ).loc Cert.RopeReferenceIdeal.main_arg0) = m' ((c.tc : Thread Cert.RopeReferenceIdeal.nD Cert.RopeReferenceIdeal.τ).loc Cert.RopeReferenceIdeal.main_arg0))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hOproj : Cert.Oproj.Facts) (hOprojIdeal : Cert.OprojIdeal.Facts) (hOprojReferenceIdeal : Cert.OprojReferenceIdeal.Facts) (hValues : Cert.Values.Facts) (hValuesIdeal : Cert.ValuesIdeal.Facts) (hValuesReferenceIdeal : Cert.ValuesReferenceIdeal.Facts) (hRope : Cert.Rope.Facts) (hRopeIdeal : Cert.RopeIdeal.Facts) (hRopeReferenceIdeal : Cert.RopeReferenceIdeal.Facts) (hPre_finite_qk : Cert.Pre_finite_qk.Facts) (hPre_plan_in_range : Cert.Pre_plan_in_range.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Experts (hExperts := hExperts) (hPre_plan_in_range := hPre_plan_in_range)
    ∧ quiescent_ExpertsIdeal (hExpertsIdeal := hExpertsIdeal) (hPre_plan_in_range := hPre_plan_in_range)
    ∧ quiescent_ExpertsReferenceIdeal (hExpertsReferenceIdeal := hExpertsReferenceIdeal)
    ∧ quiescent_ExpertsReferenceIdeal_pre_plan_in_range (hExpertsReferenceIdeal := hExpertsReferenceIdeal) (hPre_plan_in_range := hPre_plan_in_range)
    ∧ quiescent_Oproj (hOproj := hOproj)
    ∧ quiescent_OprojIdeal (hOprojIdeal := hOprojIdeal)
    ∧ quiescent_OprojReferenceIdeal (hOprojReferenceIdeal := hOprojReferenceIdeal)
    ∧ quiescent_Values (hValues := hValues)
    ∧ quiescent_ValuesIdeal (hValuesIdeal := hValuesIdeal)
    ∧ quiescent_ValuesReferenceIdeal (hValuesReferenceIdeal := hValuesReferenceIdeal)
    ∧ quiescent_Rope (hRope := hRope)
    ∧ quiescent_RopeIdeal (hRopeIdeal := hRopeIdeal)
    ∧ quiescent_RopeReferenceIdeal (hRopeReferenceIdeal := hRopeReferenceIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Experts_ExpertsIdeal
    ∧ algebraic_ExpertsIdeal_ExpertsReferenceIdeal (hExpertsIdeal := hExpertsIdeal) (hExpertsReferenceIdeal := hExpertsReferenceIdeal) (hPre_plan_in_range := hPre_plan_in_range)
    ∧ preserves_Oproj_OprojIdeal
    ∧ algebraic_OprojIdeal_OprojReferenceIdeal (hOprojIdeal := hOprojIdeal) (hOprojReferenceIdeal := hOprojReferenceIdeal)
    ∧ preserves_Values_ValuesIdeal
    ∧ algebraic_ValuesIdeal_ValuesReferenceIdeal (hValuesIdeal := hValuesIdeal) (hValuesReferenceIdeal := hValuesReferenceIdeal)
    ∧ preserves_Rope_RopeIdeal
    ∧ algebraic_RopeIdeal_RopeReferenceIdeal (hRopeIdeal := hRopeIdeal) (hRopeReferenceIdeal := hRopeReferenceIdeal)
-- ==== Pre_finite_qk.lean ====
abbrev S8x32768x256 : Shape := ⟨3, ![8, 32768, 256]⟩
abbrev S8x32768x128 : Shape := ⟨3, ![8, 32768, 128]⟩
abbrev S_ : Shape := ⟨0, ![]⟩

class Facts : Prop where
  bitsLt_bf16_f32 : FTy.bits .bf16 < FTy.bits .f32
  bcast_S_S8x32768x256 : S_.BroadcastsInDim S8x32768x256 (![] : Fin 0 → Fin S8x32768x256.rank)
  reducesTo_S8x32768x256_S_d0_1_2 : S8x32768x256.ReducesTo [0, 1, 2] S_
  h_S_ : 0 < S_.numel

variable [Facts]

def fn {F : FTy → Type} [FloatOps F] (main_arg0 : FVec F S8x32768x256 .bf16) (main_arg1 : FVec F S8x32768x256 .bf16) (main_arg2 : FVec F S8x32768x128 .bf16) : IVec S_ 1 :=
  let main_v0 : FVec F S8x32768x256 .f32 := (extf .f32 · bitsLt_bf16_f32) main_arg0
  let main_v1 : FVec F S8x32768x256 .f32 := Host.absf main_v0
  let main_cst : FVec F S_ .f32 := constant S_ .f32 0x7F800000#32
  let main_v2 : FVec F S8x32768x256 .f32 := broadcastInDim S8x32768x256 ![] bcast_S_S8x32768x256 main_cst
  let main_v3 : IVec S8x32768x256 1 := cmpf .olt main_v1 main_v2
  let main_c : IVec S_ 1 := constantI S_ 1 1#1
  let main_v4 : IVec S_ 1 := (fun x v => Host.reduce IntOp.andi x v reducesTo_S8x32768x256_S_d0_1_2 h_S_) main_v3 main_c
  let main_v5 : FVec F S8x32768x256 .f32 := (extf .f32 · bitsLt_bf16_f32) main_arg1
  let main_v6 : FVec F S8x32768x256 .f32 := Host.absf main_v5
  let main_cst_0 : FVec F S_ .f32 := constant S_ .f32 0x7F800000#32
  let main_v7 : FVec F S8x32768x256 .f32 := broadcastInDim S8x32768x256 ![] bcast_S_S8x32768x256 main_cst_0
  let main_v8 : IVec S8x32768x256 1 := cmpf .olt main_v6 main_v7
  let main_c_1 : IVec S_ 1 := constantI S_ 1 1#1
  let main_v9 : IVec S_ 1 := (fun x v => Host.reduce IntOp.andi x v reducesTo_S8x32768x256_S_d0_1_2 h_S_) main_v8 main_c_1
  let main_v10 : IVec S_ 1 := andi main_v4 main_v9
  main_v10
-- ==== Pre_plan_in_range.lean ====
abbrev S288 : Shape := ⟨1, ![288]⟩
abbrev S1 : Shape := ⟨1, ![1]⟩
abbrev S288x1x256 : Shape := ⟨3, ![288, 1, 256]⟩
abbrev S32768x1024 : Shape := ⟨2, ![32768, 1024]⟩
abbrev S32x1024x1024 : Shape := ⟨3, ![32, 1024, 1024]⟩
abbrev S32x512x1024 : Shape := ⟨3, ![32, 512, 1024]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel
  bcast_S_S1 : S_.BroadcastsInDim S1 (![] : Fin 0 → Fin S1.rank)
  reducesTo_S1_S_d0 : S1.ReducesTo [0] S_
  bcast_S_S288x1x256 : S_.BroadcastsInDim S288x1x256 (![] : Fin 0 → Fin S288x1x256.rank)
  reducesTo_S288x1x256_S_d0_1_2 : S288x1x256.ReducesTo [0, 1, 2] S_

variable [Facts]

def fn_part1 {F : FTy → Type} [FloatOps F] (main_arg2 : IVec S288x1x256 32) (main_v14 : IVec S_ 1) (main_c_7 : IVec S_ 32) : IVec S_ 1 :=
  let main_v15 : IVec S288x1x256 32 := broadcastInDim S288x1x256 ![] bcast_S_S288x1x256 main_c_7
  let main_v16 : IVec S288x1x256 1 := cmpi .sge main_arg2 main_v15
  let main_c_8 : IVec S_ 1 := constantI S_ 1 1#1
  let main_v17 : IVec S_ 1 := (fun x v => Host.reduce IntOp.andi x v reducesTo_S288x1x256_S_d0_1_2 h_S_) main_v16 main_c_8
  let main_v18 : IVec S_ 1 := andi main_v14 main_v17
  let main_c_9 : IVec S_ 32 := constantI S_ 32 32768#32
  let main_v19 : IVec S288x1x256 32 := broadcastInDim S288x1x256 ![] bcast_S_S288x1x256 main_c_9
  let main_v20 : IVec S288x1x256 1 := cmpi .slt main_arg2 main_v19
  let main_c_10 : IVec S_ 1 := constantI S_ 1 1#1
  let main_v21 : IVec S_ 1 := (fun x v => Host.reduce IntOp.andi x v reducesTo_S288x1x256_S_d0_1_2 h_S_) main_v20 main_c_10
  let main_v22 : IVec S_ 1 := andi main_v18 main_v21
  main_v22

def fn {F : FTy → Type} [FloatOps F] (main_arg0 : IVec S288 32) (main_arg1 : IVec S1 32) (main_arg2 : IVec S288x1x256 32) (main_arg3 : FVec F S32768x1024 .f32) (main_arg4 : FVec F S32x1024x1024 .f32) (main_arg5 : FVec F S32x512x1024 .f32) : IVec S_ 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 1 := constantI S_ 1 1#1
  let main_v2 : IVec S_ 1 := (fun x v => Host.reduce IntOp.andi x v reducesTo_S288_S_d0 h_S_) main_v1 main_c_0
  let main_c_1 : IVec S_ 32 := constantI S_ 32 32#32
  let main_v3 : IVec S288 32 := broadcastInDim S288 ![] bcast_S_S288 main_c_1
  let main_v4 : IVec S288 1 := cmpi .slt main_arg0 main_v3
  let main_c_2 : IVec S_ 1 := constantI S_ 1 1#1
  let main_v5 : IVec S_ 1 := (fun x v => Host.reduce IntOp.andi x v reducesTo_S288_S_d0 h_S_) main_v4 main_c_2
  let main_v6 : IVec S_ 1 := andi main_v2 main_v5
  let main_c_3 : IVec S_ 32 := constantI S_ 32 1#32
  let main_v7 : IVec S1 32 := broadcastInDim S1 ![] bcast_S_S1 main_c_3
  let main_v8 : IVec S1 1 := cmpi .sge main_arg1 main_v7
  let main_c_4 : IVec S_ 1 := constantI S_ 1 1#1
  let main_v9 : IVec S_ 1 := (fun x v => Host.reduce IntOp.andi x v reducesTo_S1_S_d0 h_S_) main_v8 main_c_4
  let main_v10 : IVec S_ 1 := andi main_v6 main_v9
  let main_c_5 : IVec S_ 32 := constantI S_ 32 288#32
  let main_v11 : IVec S1 32 := broadcastInDim S1 ![] bcast_S_S1 main_c_5
  let main_v12 : IVec S1 1 := cmpi .sle main_arg1 main_v11
  let main_c_6 : IVec S_ 1 := constantI S_ 1 1#1
  let main_v13 : IVec S_ 1 := (fun x v => Host.reduce IntOp.andi x v reducesTo_S1_S_d0 h_S_) main_v12 main_c_6
  let main_v14 : IVec S_ 1 := andi main_v10 main_v13
  let main_c_7 : IVec S_ 32 := constantI S_ 32 0#32
  fn_part1 (F := F) main_arg2 main_v14 main_c_7
-- ==== Kernel.lean ====
abbrev S8x32768x256 : Shape := ⟨3, ![8, 32768, 256]⟩
abbrev S8x32768x128 : Shape := ⟨3, ![8, 32768, 128]⟩
abbrev S72 : Shape := ⟨1, ![72]⟩
abbrev S32768x1024 : Shape := ⟨2, ![32768, 1024]⟩
abbrev S8x1024x256 : Shape := ⟨3, ![8, 1024, 256]⟩
abbrev S1 : Shape := ⟨1, ![1]⟩
abbrev S8x512x256 : Shape := ⟨3, ![8, 512, 256]⟩
abbrev S8x512x128 : Shape := ⟨3, ![8, 512, 128]⟩
abbrev S1024x1024 : Shape := ⟨2, ![1024, 1024]⟩
abbrev S8x1024x128 : Shape := ⟨3, ![8, 1024, 128]⟩
abbrev S1x1024x256 : Shape := ⟨3, ![1, 1024, 256]⟩
abbrev S1024x256 : Shape := ⟨2, ![1024, 256]⟩
abbrev S1x512x256 : Shape := ⟨3, ![1, 512, 256]⟩
abbrev S512x256 : Shape := ⟨2, ![512, 256]⟩
abbrev S1024x512 : Shape := ⟨2, ![1024, 512]⟩
abbrev S1x1024x128 : Shape := ⟨3, ![1, 1024, 128]⟩
abbrev S1024x128 : Shape := ⟨2, ![1024, 128]⟩
abbrev S1024 : Shape := ⟨1, ![1024]⟩
abbrev S1024x1 : Shape := ⟨2, ![1024, 1]⟩
abbrev S512x512 : Shape := ⟨2, ![512, 512]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩

abbrev nBuf : Space → Nat
  | .hbm => 4
  | .vmem => 11
  | .smem => 2
  | _ => 0

abbrev bufTy : (tb : Table) → Fin (tcTables nBuf tb) → BufTy
  | .hbm, ⟨0, _⟩ => ⟨S8x32768x256, .bf16⟩
  | .hbm, ⟨1, _⟩ => ⟨S8x32768x256, .bf16⟩
  | .hbm, ⟨2, _⟩ => ⟨S8x32768x128, .bf16⟩
  | .hbm, ⟨3, _⟩ => ⟨S32768x1024, .bf16⟩
  | .local _ .vmem, ⟨0, _⟩ => ⟨S8x1024x256, .bf16⟩
  | .local _ .vmem, ⟨1, _⟩ => ⟨S8x1024x256, .bf16⟩
  | .local _ .vmem, ⟨2, _⟩ => ⟨S8x512x256, .bf16⟩
  | .local _ .vmem, ⟨3, _⟩ => ⟨S8x512x256, .bf16⟩
  | .local _ .vmem, ⟨4, _⟩ => ⟨S8x512x128, .bf16⟩
  | .local _ .vmem, ⟨5, _⟩ => ⟨S8x512x128, .bf16⟩
  | .local _ .vmem, ⟨6, _⟩ => ⟨S1024x1024, .bf16⟩
  | .local _ .vmem, ⟨7, _⟩ => ⟨S1024x1024, .bf16⟩
  | .local _ .vmem, ⟨8, _⟩ => ⟨S8x1024x128, .f32⟩
  | .local _ .vmem, ⟨9, _⟩ => ⟨S8x1024x256, .f32⟩
  | .local _ .vmem, ⟨10, _⟩ => ⟨S8x512x256, .bf16⟩
  | .local _ .smem, ⟨0, _⟩ => ⟨S72, .i32⟩
  | .local _ .smem, ⟨1, _⟩ => ⟨S72, .i32⟩
  | _, _ => ⟨S8x32768x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 72], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v1 : Index := Scalar.indexCast arg1
  ![v1.toNat]
def k0_cond5 (v1 : BitVec 32) (v3 : BitVec 32) : BitVec 1 :=
  let c512_i32 : BitVec 32 := 512#32
  let v4 : BitVec 32 := Scalar.muli v3 c512_i32
  let c1024_i32 : BitVec 32 := 1024#32
  let v5 : BitVec 32 := Scalar.muli v1 c1024_i32
  let v6 : BitVec 32 := Scalar.subi v4 v5
  let c512_i32_12 : BitVec 32 := 512#32
  let v23 : BitVec 32 := Scalar.addi v6 c512_i32_12
  let c1024_i32_13 : BitVec 32 := 1024#32
  let v24 : BitVec 1 := Scalar.cmpi .eq v23 c1024_i32_13
  let v25 : BitVec 32 := Scalar.extui v24
  let c0_i32_14 : BitVec 32 := 0#32
  let v26 : BitVec 1 := Scalar.cmpi .ne v25 c0_i32_14
  v26

def cc0_transform_0 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : Index := Scalar.indexCast arg1
  let v2 : BitVec 32 := pf.at 0 (Rect.unit (s := S72) ![v1.toNat] S1.size (k0_off1_inb i)) numel1_S1
  let v3 : BitVec 32 := Scalar.addi v0 v2
  let c0_i32 : BitVec 32 := 0#32
  let c0_i32_0 : BitVec 32 := 0#32
  let c0_i32_1 : BitVec 32 := 0#32
  ![c0_i32.toNat, v3.toNat, c0_i32_0.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : Index := Scalar.indexCast arg1
  let v2 : BitVec 32 := pf.at 1 (Rect.unit (s := S72) ![v1.toNat] S1.size (k0_off1_inb i)) numel1_S1
  let v3 : BitVec 32 := Scalar.addi v0 v2
  let c0_i32 : BitVec 32 := 0#32
  let c0_i32_0 : BitVec 32 := 0#32
  let c0_i32_1 : BitVec 32 := 0#32
  ![c0_i32.toNat, v3.toNat, c0_i32_0.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : Index := Scalar.indexCast arg1
  let v2 : BitVec 32 := pf.at 1 (Rect.unit (s := S72) ![v1.toNat] S1.size (k0_off1_inb i)) numel1_S1
  let v3 : BitVec 32 := Scalar.addi v0 v2
  let c0_i32 : BitVec 32 := 0#32
  let c0_i32_0 : BitVec 32 := 0#32
  let c0_i32_1 : BitVec 32 := 0#32
  ![c0_i32.toNat, v3.toNat, c0_i32_0.toNat]

def cc0_transform_3 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : Index := Scalar.indexCast arg1
  let v2 : BitVec 32 := pf.at 0 (Rect.unit (s := S72) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

abbrev stage0_0 : Fin 2 → Memref sig .tc .vmem S8x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x32768x256 : Shape := ⟨3, ![8, 32768, 256]⟩
abbrev S8x32768x128 : Shape := ⟨3, ![8, 32768, 128]⟩
abbrev S8x4x8192x256 : Shape := ⟨4, ![8, 4, 8192, 256]⟩
abbrev S8x4x8192x128 : Shape := ⟨4, ![8, 4, 8192, 128]⟩
abbrev S8192 : Shape := ⟨1, ![8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S8x4x8192x8192 : Shape := ⟨4, ![8, 4, 8192, 8192]⟩
abbrev S1x1x8192x8192 : Shape := ⟨4, ![1, 1, 8192, 8192]⟩
abbrev S8x4x8192 : Shape := ⟨3, ![8, 4, 8192]⟩
abbrev S8x4x8192x1 : Shape := ⟨4, ![8, 4, 8192, 1]⟩
abbrev S4x8x128x8192 : Shape := ⟨4, ![4, 8, 128, 8192]⟩
abbrev S4x8192x8x128 : Shape := ⟨4, ![4, 8192, 8, 128]⟩
abbrev S32768x1024 : Shape := ⟨2, ![32768, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8x32768x256, .bf16⟩
  | .hbm, ⟨1, _⟩ => ⟨S8x32768x256, .bf16⟩
  | .hbm, ⟨2, _⟩ => ⟨S8x32768x128, .bf16⟩
  | .hbm, ⟨3, _⟩ => ⟨S8x32768x256, .f32⟩
  | .hbm, ⟨4, _⟩ => ⟨S8x4x8192x256, .f32⟩
  | .hbm, ⟨5, _⟩ => ⟨S8x32768x256, .f32⟩
  | .hbm, ⟨6, _⟩ => ⟨S8x4x8192x256, .f32⟩
  | .hbm, ⟨7, _⟩ => ⟨S8x32768x128, .f32⟩
  | .hbm, ⟨8, _⟩ => ⟨S8x4x8192x128, .f32⟩
  | .hbm, ⟨9, _⟩ => ⟨S8192, .i32⟩
  | .hbm, ⟨10, _⟩ => ⟨S_, .i32⟩
  | .hbm, ⟨11, _⟩ => ⟨S_, .i32⟩
  | .hbm, ⟨12, _⟩ => ⟨S8192, .i32⟩
  | .hbm, ⟨13, _⟩ => ⟨S8192, .i32⟩
  | .hbm, ⟨14, _⟩ => ⟨S8192, .i32⟩
  | .hbm, ⟨15, _⟩ => ⟨S_, .i32⟩
  | .hbm, ⟨16, _⟩ => ⟨S8192, .i32⟩
  | .hbm, ⟨17, _⟩ => ⟨S8192, .i1⟩
  | .hbm, ⟨18, _⟩ => ⟨S8192, .i32⟩
  | .hbm, ⟨19, _⟩ => ⟨S8192, .i32⟩
  | .hbm, ⟨20, _⟩ => ⟨S_, .i32⟩
  | .hbm, ⟨21, _⟩ => ⟨S8192, .i32⟩
  | .hbm, ⟨22, _⟩ => ⟨S8192, .i1⟩
  | .hbm, ⟨23, _⟩ => ⟨S8192, .i1⟩
  | .hbm, ⟨24, _⟩ => ⟨S_, .i32⟩
  | .hbm, ⟨25, _⟩ => ⟨S8192, .i32⟩
  | .hbm, ⟨26, _⟩ => ⟨S8192, .i32⟩
  | .hbm, ⟨27, _⟩ => ⟨S8192, .i32⟩
  | .hbm, ⟨28, _⟩ => ⟨S1x8192, .i32⟩
  | .hbm, ⟨29, _⟩ => ⟨S8192x1, .i32⟩
  | .hbm, ⟨30, _⟩ => ⟨S8192x8192, .i32⟩
  | .hbm, ⟨31, _⟩ => ⟨S8192x8192, .i32⟩
  | .hbm, ⟨32, _⟩ => ⟨S8192x8192, .i1⟩
  | .hbm, ⟨33, _⟩ => ⟨S8x4x8192x8192, .f32⟩
  | .hbm, ⟨34, _⟩ => ⟨S1x1x8192x8192, .i1⟩
  | .hbm, ⟨35, _⟩ => ⟨S_, .f32⟩
  | .hbm, ⟨36, _⟩ => ⟨S_, .f32⟩
  | .hbm, ⟨37, _⟩ => ⟨S8x4x8192x8192, .i1⟩
  | .hbm, ⟨38, _⟩ => ⟨S8x4x8192x8192, .f32⟩
  | .hbm, ⟨39, _⟩ => ⟨S8x4x8192x8192, .f32⟩
  | .hbm, ⟨40, _⟩ => ⟨S_, .f32⟩
  | .hbm, ⟨41, _⟩ => ⟨S8x4x8192, .f32⟩
  | .hbm, ⟨42, _⟩ => ⟨S_, .f32⟩
  | .hbm, ⟨43, _⟩ => ⟨S8x4x8192, .f32⟩
  | .hbm, ⟨44, _⟩ => ⟨S8x4x8192, .f32⟩
  | .hbm, ⟨45, _⟩ => ⟨S8x4x8192x1, .f32⟩
  | .hbm, ⟨46, _⟩ => ⟨S8x4x8192x8192, .f32⟩
  | .hbm, ⟨47, _⟩ => ⟨S8x4x8192x8192, .f32⟩
  | .hbm, ⟨48, _⟩ => ⟨S8x4x8192x8192, .f32⟩
  | .hbm, ⟨49, _⟩ => ⟨S_, .f32⟩
  | .hbm, ⟨50, _⟩ => ⟨S8x4x8192, .f32⟩
  | .hbm, ⟨51, _⟩ => ⟨S8x4x8192x1, .f32⟩
  | .hbm, ⟨52, _⟩ => ⟨S8x4x8192x8192, .f32⟩
  | .hbm, ⟨53, _⟩ => ⟨S8x4x8192x8192, .f32⟩
  | .hbm, ⟨54, _⟩ => ⟨S4x8x128x8192, .f32⟩
  | .hbm, ⟨55, _⟩ => ⟨S4x8192x8x128, .f32⟩
  | .hbm, ⟨56, _⟩ => ⟨S32768x1024, .f32⟩
  | .hbm, ⟨57, _⟩ => ⟨S32768x1024, .bf16⟩
  | _, _ => ⟨S8x32768x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v15 : Ref sig .tc := ⟨.hbm, 39, rfl⟩
abbrev main_cst_0 : Ref sig .tc := ⟨.hbm, 40, rfl⟩
abbrev main_v16 : Ref sig .tc := ⟨.hbm, 41, rfl⟩
abbrev main_cst_1 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_2 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩

abbrev nD : Nat := 1
abbrev τ : Topo := Topo.v7x

variable {F : FTy → Type} [FloatOps F]
-- ==== Experts.lean ====
abbrev S288 : Shape := ⟨1, ![288]⟩
abbrev S1 : Shape := ⟨1, ![1]⟩
abbrev S288x1x256 : Shape := ⟨3, ![288, 1, 256]⟩
abbrev S32768x1024 : Shape := ⟨2, ![32768, 1024]⟩
abbrev S32x1024x1024 : Shape := ⟨3, ![32, 1024, 1024]⟩
abbrev S32x512x1024 : Shape := ⟨3, ![32, 512, 1024]⟩
abbrev S73728x1024 : Shape := ⟨2, ![73728, 1024]⟩
abbrev S1x1x256 : Shape := ⟨3, ![1, 1, 256]⟩
abbrev S1x1024x1024 : Shape := ⟨3, ![1, 1024, 1024]⟩
abbrev S1x512x1024 : Shape := ⟨3, ![1, 512, 1024]⟩
abbrev S256x1024 : Shape := ⟨2, ![256, 1024]⟩
abbrev S2x256x1024 : Shape := ⟨3, ![2, 256, 1024]⟩
abbrev S2 : Shape := ⟨1, ![2]⟩
abbrev S1024x1024 : Shape := ⟨2, ![1024, 1024]⟩
abbrev S512x1024 : Shape := ⟨2, ![512, 1024]⟩
abbrev S1x1x1 : Shape := ⟨3, ![1, 1, 1]⟩
abbrev S_ : Shape := ⟨0, ![]⟩
abbrev S1x256x1024 : Shape := ⟨3, ![1, 256, 1024]⟩
abbrev S1x1024 : Shape := ⟨2, ![1, 1024]⟩
abbrev S256x512 : Shape := ⟨2, ![256, 512]⟩

abbrev nBuf : Space → Nat
  | .hbm => 5
  | .vmem => 9
  | .smem => 6
  | _ => 0

abbrev bufTy : (tb : Table) → Fin (tcTables nBuf tb) → BufTy
  | .hbm, ⟨0, _⟩ => ⟨S288x1x256, .i32⟩
  | .hbm, ⟨1, _⟩ => ⟨S32768x1024, .f32⟩
  | .hbm, ⟨2, _⟩ => ⟨S32x1024x1024, .f32⟩
  | .hbm, ⟨3, _⟩ => ⟨S32x512x1024, .f32⟩
  | .hbm, ⟨4, _⟩ => ⟨S73728x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x512x1024, .f32⟩
  | .local _ .vmem, ⟨3, _⟩ => ⟨S1x512x1024, .f32⟩
  | .local _ .vmem, ⟨4, _⟩ => ⟨S256x1024, .f32⟩
  | .local _ .vmem, ⟨5, _⟩ => ⟨S256x1024, .f32⟩
  | .local _ .vmem, ⟨6, _⟩ => ⟨S2x256x1024, .f32⟩
  | .local _ .vmem, ⟨7, _⟩ => ⟨S1024x1024, .bf16⟩
  | .local _ .vmem, ⟨8, _⟩ => ⟨S512x1024, .bf16⟩
  | .local _ .smem, ⟨0, _⟩ => ⟨S288, .i32⟩
  | .local _ .smem, ⟨1, _⟩ => ⟨S1, .i32⟩
  | .local _ .smem, ⟨2, _⟩ => ⟨S1x1x256, .i32⟩
  | .local _ .smem, ⟨3, _⟩ => ⟨S1x1x256, .i32⟩
  | .local _ .smem, ⟨4, _⟩ => ⟨S1x1x256, .i32⟩
  | .local _ .smem, ⟨5, _⟩ => ⟨S1x1x256, .i32⟩
  | _, _ => ⟨S288x1x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_scratch0 : Ref sig .tc := ⟨.vmem, 6, rfl⟩
abbrev cc0_scratch2 : Ref sig .tc := ⟨.vmem, 7, rfl⟩
abbrev cc0_scratch3 : Ref sig .tc := ⟨.vmem, 8, rfl⟩
abbrev cc0_stg0_0 : Ref sig .tc := ⟨.smem, 2, rfl⟩
abbrev cc0_stg0_1 : Ref sig .tc := ⟨.smem, 3, rfl⟩
abbrev cc0_stg1_0 : Ref sig .tc := ⟨.smem, 4, rfl⟩
abbrev cc0_stg1_1 : Ref sig .tc := ⟨.smem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32_3 : BitVec 32 := 0#32
  let v11 : BitVec 1 := Scalar.cmpi .eq arg0 c0_i32_3
  let v12 : BitVec 32 := Scalar.extui v11
  let c0_i32_4 : BitVec 32 := 0#32
  let v13 : BitVec 1 := Scalar.cmpi .ne v12 c0_i32_4
  v13

@[reducible] def k0_t1_loop : Scf.Loop 32 :=
  let c0_i32_11 : BitVec 32 := 0#32
  let c256_i32 : BitVec 32 := 256#32
  let v24 : BitVec 32 := Scalar.addi c0_i32_11 c256_i32
  let c1_i32_12 : BitVec 32 := 1#32
  ⟨c0_i32_11, v24, c1_i32_12⟩
def k0_off2 (k0_t1 : Fin k0_t1_loop.trips) : Fin 3 → Nat :=
  let c0_14 : Index := 0#32
  let c0_15 : Index := 0#32
  let c0_i32_11 : BitVec 32 := 0#32
  let c1_i32_12 : BitVec 32 := 1#32
  let arg13 : BitVec 32 := Scf.iv c0_i32_11 c1_i32_12 k0_t1
  let v25 : Index := Scalar.indexCast arg13
  ![0, 0, v25.toNat]
def k0_off3 (k0_t1 : Fin k0_t1_loop.trips) : Fin 2 → Nat :=
  let c0_i32_11 : BitVec 32 := 0#32
  let c1_i32_12 : BitVec 32 := 1#32
  let arg13 : BitVec 32 := Scf.iv c0_i32_11 c1_i32_12 k0_t1
  let c0_i32_18 : BitVec 32 := 0#32
  ![arg13.toNat, 0]
def k0_off4 (v26 : BitVec 32) : Fin 2 → Nat :=
  let c0_i32_19 : BitVec 32 := 0#32
  ![v26.toNat, 0]

def k0_chk1 (i : grid0.Coords) (v26 : BitVec 32) : Prop :=
  (∀ (k0_h1 : k0_cond1 i = 1#1), ∀ a, (k0_off4 v26) a + S1x1024.size a ≤ S32768x1024.size a)
theorem k0_off4_inb : ∀ (i : grid0.Coords) (v26 : BitVec 32) (k0_hw1 : k0_chk1 i v26), ∀ (k0_h1 : k0_cond1 i = 1#1), ∀ a, (k0_off4 v26) a + S1x1024.size a ≤ S32768x1024.size a := fun i v26 k0_hw1 k0_h1 => k0_hw1 k0_h1

@[reducible] def k0_t2_loop : Scf.Loop 32 :=
  let c0_i32_11 : BitVec 32 := 0#32
  let c256_i32 : BitVec 32 := 256#32
  let v26 : BitVec 32 := Scalar.addi c0_i32_11 c256_i32
  let c1_i32_12 : BitVec 32 := 1#32
  ⟨c0_i32_11, v26, c1_i32_12⟩
def k0_off5 (k0_t2 : Fin k0_t2_loop.trips) : Fin 3 → Nat :=
  let c0_14 : Index := 0#32
  let c0_15 : Index := 0#32
  let c0_i32_11 : BitVec 32 := 0#32
  let c1_i32_12 : BitVec 32 := 1#32
  let arg13 : BitVec 32 := Scf.iv c0_i32_11 c1_i32_12 k0_t2
  let v27 : Index := Scalar.indexCast arg13
  ![0, 0, v27.toNat]
def k0_off6 (i : grid0.Coords) : Fin 1 → Nat :=
  let c1_i32_10 : BitVec 32 := 1#32
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v25 : BitVec 32 := Scalar.subi c1_i32_10 v10
  ![v25.toNat]
def k0_off7 (i : grid0.Coords) : Fin 3 → Nat :=
  let c1_i32_9 : BitVec 32 := 1#32
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v24 : BitVec 32 := Scalar.subi c1_i32_9 v10
  let c0_i32_16 : BitVec 32 := 0#32
  let c0_i32_17 : BitVec 32 := 0#32
  ![v24.toNat, 0, 0]
def k0_off8 (k0_t2 : Fin k0_t2_loop.trips) : Fin 2 → Nat :=
  let c0_i32_11 : BitVec 32 := 0#32
  let c1_i32_12 : BitVec 32 := 1#32
  let arg13 : BitVec 32 := Scf.iv c0_i32_11 c1_i32_12 k0_t2
  let c0_i32_18 : BitVec 32 := 0#32
  ![arg13.toNat, 0]
def k0_off9 (v28 : BitVec 32) : Fin 2 → Nat :=
  let c0_i32_19 : BitVec 32 := 0#32
  ![v28.toNat, 0]
def k0_cond2 (i : grid0.Coords) (v0 : BitVec 32) : BitVec 1 :=
  let arg0 : BitVec 32 := BitVec.ofNat 32 (i 0).val
  let c1_i32_5 : BitVec 32 := 1#32
  let v14 : BitVec 32 := Scalar.addi arg0 c1_i32_5
  let v15 : BitVec 1 := Scalar.cmpi .slt v14 v0
  let v16 : BitVec 32 := Scalar.extui v15
  let c0_i32_6 : BitVec 32 := 0#32
  let v17 : BitVec 1 := Scalar.cmpi .ne v16 c0_i32_6
  v17

def k0_chk2 (i : grid0.Coords) (v0 : BitVec 32) (v28 : BitVec 32) : Prop :=
  (∀ (k0_h2 : k0_cond2 i v0 = 1#1), ∀ a, (k0_off9 v28) a + S1x1024.size a ≤ S32768x1024.size a)
theorem k0_off9_inb : ∀ (i : grid0.Coords) (v0 : BitVec 32) (v28 : BitVec 32) (k0_hw2 : k0_chk2 i v0 v28), ∀ (k0_h2 : k0_cond2 i v0 = 1#1), ∀ a, (k0_off9 v28) a + S1x1024.size a ≤ S32768x1024.size a := fun i v0 v28 k0_hw2 k0_h2 => k0_hw2 k0_h2

def k0_off10 (i : grid0.Coords) : Fin 1 → Nat :=
  let arg0 : BitVec 32 := BitVec.ofNat 32 (i 0).val
  let c1_i32_9 : BitVec 32 := 1#32
  let v24 : BitVec 32 := Scalar.subi arg0 c1_i32_9
  let c0_i32_10 : BitVec 32 := 0#32
  let v25 : BitVec 32 := Scalar.maxsi v24 c0_i32_10
  let v26 : Index := Scalar.indexCast v25
  ![v26.toNat]
def k0_off11 (i : grid0.Coords) : Fin 1 → Nat :=
  let arg0 : BitVec 32 := BitVec.ofNat 32 (i 0).val
  let v29 : Index := Scalar.indexCast arg0
  ![v29.toNat]
@[reducible] def k0_t3_loop : Scf.Loop 32 :=
  let c0_i32_13 : BitVec 32 := 0#32
  let c256_i32 : BitVec 32 := 256#32
  let v35 : BitVec 32 := Scalar.addi c0_i32_13 c256_i32
  let c1_i32_14 : BitVec 32 := 1#32
  ⟨c0_i32_13, v35, c1_i32_14⟩
def k0_off12 (i : grid0.Coords) : Fin 1 → Nat :=
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  ![v10.toNat]
def k0_off13 (i : grid0.Coords) : Fin 3 → Nat :=
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c0_i32_25 : BitVec 32 := 0#32
  let c0_i32_26 : BitVec 32 := 0#32
  ![v10.toNat, 0, 0]
def k0_off14 (k0_t3 : Fin k0_t3_loop.trips) : Fin 2 → Nat :=
  let c0_i32_13 : BitVec 32 := 0#32
  let c1_i32_14 : BitVec 32 := 1#32
  let arg13 : BitVec 32 := Scf.iv c0_i32_13 c1_i32_14 k0_t3
  let c0_i32_27 : BitVec 32 := 0#32
  ![arg13.toNat, 0]
def k0_off15 (i : grid0.Coords) : Fin 3 → Nat :=
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v36 : Index := Scalar.indexCast v10
  let c0_16 : Index := 0#32
  let c0_17 : Index := 0#32
  ![v36.toNat, 0, 0]
def k0_cond3 (i : grid0.Coords) (v0 : BitVec 32) : BitVec 1 :=
  let arg0 : BitVec 32 := BitVec.ofNat 32 (i 0).val
  let v18 : BitVec 1 := Scalar.cmpi .slt arg0 v0
  let v19 : BitVec 32 := Scalar.extui v18
  let c0_i32_7 : BitVec 32 := 0#32
  let v20 : BitVec 1 := Scalar.cmpi .ne v19 c0_i32_7
  v20

def k0_cond5 (i : grid0.Coords) (v0 : BitVec 32) : BitVec 1 :=
  let arg0 : BitVec 32 := BitVec.ofNat 32 (i 0).val
  let v21 : BitVec 1 := Scalar.cmpi .sge arg0 v0
  let v22 : BitVec 32 := Scalar.extui v21
  let c0_i32_8 : BitVec 32 := 0#32
  let v23 : BitVec 1 := Scalar.cmpi .ne v22 c0_i32_8
  v23

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c287_i32 : BitVec 32 := 287#32
  let v1 : BitVec 32 := Scalar.minsi v0 c287_i32
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x1x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsReferenceIdeal.lean ====
abbrev S288 : Shape := ⟨1, ![288]⟩
abbrev S1 : Shape := ⟨1, ![1]⟩
abbrev S288x1x256 : Shape := ⟨3, ![288, 1, 256]⟩
abbrev S32768x1024 : Shape := ⟨2, ![32768, 1024]⟩
abbrev S32x1024x1024 : Shape := ⟨3, ![32, 1024, 1024]⟩
abbrev S32x512x1024 : Shape := ⟨3, ![32, 512, 1024]⟩
abbrev S288x256 : Shape := ⟨2, ![288, 256]⟩
abbrev S_ : Shape := ⟨0, ![]⟩
abbrev S288x256x1 : Shape := ⟨3, ![288, 256, 1]⟩
abbrev S288x256x1024 : Shape := ⟨3, ![288, 256, 1024]⟩
abbrev S288x1 : Shape := ⟨2, ![288, 1]⟩
abbrev S288x1024x1024 : Shape := ⟨3, ![288, 1024, 1024]⟩
abbrev S288x256x512 : Shape := ⟨3, ![288, 256, 512]⟩
abbrev S288x512x1024 : Shape := ⟨3, ![288, 512, 1024]⟩
abbrev S288x1x1 : Shape := ⟨3, ![288, 1, 1]⟩
abbrev S73728x1024 : Shape := ⟨2, ![73728, 1024]⟩

abbrev nBuf : Space → Nat
  | .hbm => 59
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S288x1x256, .i32⟩
  | .hbm, ⟨3, _⟩ => ⟨S32768x1024, .f32⟩
  | .hbm, ⟨4, _⟩ => ⟨S32x1024x1024, .f32⟩
  | .hbm, ⟨5, _⟩ => ⟨S32x512x1024, .f32⟩
  | .hbm, ⟨6, _⟩ => ⟨S288x256, .i32⟩
  | .hbm, ⟨7, _⟩ => ⟨S_, .i32⟩
  | .hbm, ⟨8, _⟩ => ⟨S288x256, .i32⟩
  | .hbm, ⟨9, _⟩ => ⟨S288x256, .i1⟩
  | .hbm, ⟨10, _⟩ => ⟨S_, .i32⟩
  | .hbm, ⟨11, _⟩ => ⟨S288x256, .i32⟩
  | .hbm, ⟨12, _⟩ => ⟨S288x256, .i32⟩
  | .hbm, ⟨13, _⟩ => ⟨S288x256, .i32⟩
  | .hbm, ⟨14, _⟩ => ⟨S288x256x1, .i32⟩
  | .hbm, ⟨15, _⟩ => ⟨S288x256x1024, .f32⟩
  | .hbm, ⟨16, _⟩ => ⟨S_, .i32⟩
  | .hbm, ⟨17, _⟩ => ⟨S288, .i32⟩
  | .hbm, ⟨18, _⟩ => ⟨S288, .i1⟩
  | .hbm, ⟨19, _⟩ => ⟨S_, .i32⟩
  | .hbm, ⟨20, _⟩ => ⟨S288, .i32⟩
  | .hbm, ⟨21, _⟩ => ⟨S288, .i32⟩
  | .hbm, ⟨22, _⟩ => ⟨S288, .i32⟩
  | .hbm, ⟨23, _⟩ => ⟨S288x1, .i32⟩
  | .hbm, ⟨24, _⟩ => ⟨S288x1024x1024, .f32⟩
  | .hbm, ⟨25, _⟩ => ⟨S288x256x1024, .f32⟩
  | .hbm, ⟨26, _⟩ => ⟨S288x256x512, .f32⟩
  | .hbm, ⟨27, _⟩ => ⟨S288x256x512, .f32⟩
  | .hbm, ⟨28, _⟩ => ⟨S288x256x512, .f32⟩
  | .hbm, ⟨29, _⟩ => ⟨S288x256x512, .f32⟩
  | .hbm, ⟨30, _⟩ => ⟨S_, .f32⟩
  | .hbm, ⟨31, _⟩ => ⟨S288x256x512, .f32⟩
  | .hbm, ⟨32, _⟩ => ⟨S288x256x512, .f32⟩
  | .hbm, ⟨33, _⟩ => ⟨S_, .f32⟩
  | .hbm, ⟨34, _⟩ => ⟨S288x256x512, .f32⟩
  | .hbm, ⟨35, _⟩ => ⟨S288x256x512, .f32⟩
  | .hbm, ⟨36, _⟩ => ⟨S288x256x512, .f32⟩
  | .hbm, ⟨37, _⟩ => ⟨S288x256x512, .f32⟩
  | .hbm, ⟨38, _⟩ => ⟨S_, .i32⟩
  | .hbm, ⟨39, _⟩ => ⟨S288, .i32⟩
  | .hbm, ⟨40, _⟩ => ⟨S288, .i1⟩
  | .hbm, ⟨41, _⟩ => ⟨S_, .i32⟩
  | .hbm, ⟨42, _⟩ => ⟨S288, .i32⟩
  | .hbm, ⟨43, _⟩ => ⟨S288, .i32⟩
  | .hbm, ⟨44, _⟩ => ⟨S288, .i32⟩
  | .hbm, ⟨45, _⟩ => ⟨S288x1, .i32⟩
  | .hbm, ⟨46, _⟩ => ⟨S288x512x1024, .f32⟩
  | .hbm, ⟨47, _⟩ => ⟨S288x256x1024, .f32⟩
  | .hbm, ⟨48, _⟩ => ⟨S288, .i32⟩
  | .hbm, ⟨49, _⟩ => ⟨S_, .i32⟩
  | .hbm, ⟨50, _⟩ => ⟨S288, .i32⟩
  | .hbm, ⟨51, _⟩ => ⟨S288, .i1⟩
  | .hbm, ⟨52, _⟩ => ⟨S288x1x1, .i1⟩
  | .hbm, ⟨53, _⟩ => ⟨S_, .f32⟩
  | .hbm, ⟨54, _⟩ => ⟨S_, .f32⟩
  | .hbm, ⟨55, _⟩ => ⟨S288x256x1024, .i1⟩
  | .hbm, ⟨56, _⟩ => ⟨S288x256x1024, .f32⟩
  | .hbm, ⟨57, _⟩ => ⟨S288x256x1024, .f32⟩
  | .hbm, ⟨58, _⟩ => ⟨S73728x1024, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v33 : Ref sig .tc := ⟨.hbm, 57, rfl⟩
abbrev main_v34 : Ref sig .tc := ⟨.hbm, 58, rfl⟩

abbrev nD : Nat := 1
abbrev τ : Topo := Topo.v7x

variable {F : FTy → Type} [FloatOps F]
-- ==== Oproj.lean ====
abbrev S32768x1024 : Shape := ⟨2, ![32768, 1024]⟩
abbrev S1024x1024 : Shape := ⟨2, ![1024, 1024]⟩
abbrev S1024 : Shape := ⟨1, ![1024]⟩
abbrev S1024x128 : Shape := ⟨2, ![1024, 128]⟩
abbrev S1x128 : Shape := ⟨2, ![1, 128]⟩
abbrev S1x1024 : Shape := ⟨2, ![1, 1024]⟩
abbrev S512x512 : Shape := ⟨2, ![512, 512]⟩
abbrev S128x128 : Shape := ⟨2, ![128, 128]⟩
abbrev S81920x1024 : Shape := ⟨2, ![81920, 1024]⟩
abbrev S32768x128 : Shape := ⟨2, ![32768, 128]⟩
abbrev S64x1x128 : Shape := ⟨3, ![64, 1, 128]⟩
abbrev S512x1024 : Shape := ⟨2, ![512, 1024]⟩
abbrev S1280x1024 : Shape := ⟨2, ![1280, 1024]⟩
abbrev S512x128 : Shape := ⟨2, ![512, 128]⟩
abbrev S1x1x128 : Shape := ⟨3, ![1, 1, 128]⟩
abbrev S512 : Shape := ⟨1, ![512]⟩
abbrev S512x1 : Shape := ⟨2, ![512, 1]⟩
abbrev S128 : Shape := ⟨1, ![128]⟩
abbrev S8x128 : Shape := ⟨2, ![8, 128]⟩
abbrev S128x512 : Shape := ⟨2, ![128, 512]⟩
abbrev S1280x512 : Shape := ⟨2, ![1280, 512]⟩
abbrev S1x512 : Shape := ⟨2, ![1, 512]⟩

abbrev nBuf : Space → Nat
  | .hbm => 22
  | .vmem => 19
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S1024x1024, .f32⟩
  | .hbm, ⟨3, _⟩ => ⟨S1024, .f32⟩
  | .hbm, ⟨4, _⟩ => ⟨S1024x128, .bf16⟩
  | .hbm, ⟨5, _⟩ => ⟨S1024x128, .bf16⟩
  | .hbm, ⟨6, _⟩ => ⟨S1x128, .f32⟩
  | .hbm, ⟨7, _⟩ => ⟨S1024x1024, .bf16⟩
  | .hbm, ⟨8, _⟩ => ⟨S1x1024, .f32⟩
  | .hbm, ⟨9, _⟩ => ⟨S512x512, .i32⟩
  | .hbm, ⟨10, _⟩ => ⟨S512x512, .i32⟩
  | .hbm, ⟨11, _⟩ => ⟨S512x512, .i1⟩
  | .hbm, ⟨12, _⟩ => ⟨S512x512, .bf16⟩
  | .hbm, ⟨13, _⟩ => ⟨S128x128, .i32⟩
  | .hbm, ⟨14, _⟩ => ⟨S128x128, .i32⟩
  | .hbm, ⟨15, _⟩ => ⟨S128x128, .i1⟩
  | .hbm, ⟨16, _⟩ => ⟨S128x128, .bf16⟩
  | .hbm, ⟨17, _⟩ => ⟨S128x128, .bf16⟩
  | .hbm, ⟨18, _⟩ => ⟨S32768x1024, .f32⟩
  | .hbm, ⟨19, _⟩ => ⟨S81920x1024, .f32⟩
  | .hbm, ⟨20, _⟩ => ⟨S32768x128, .f32⟩
  | .hbm, ⟨21, _⟩ => ⟨S64x1x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1024x128, .bf16⟩
  | .local _ .vmem, ⟨7, _⟩ => ⟨S1024x128, .bf16⟩
  | .local _ .vmem, ⟨8, _⟩ => ⟨S1x128, .f32⟩
  | .local _ .vmem, ⟨9, _⟩ => ⟨S512x512, .bf16⟩
  | .local _ .vmem, ⟨10, _⟩ => ⟨S128x128, .bf16⟩
  | .local _ .vmem, ⟨11, _⟩ => ⟨S512x1024, .f32⟩
  | .local _ .vmem, ⟨12, _⟩ => ⟨S512x1024, .f32⟩
  | .local _ .vmem, ⟨13, _⟩ => ⟨S1280x1024, .f32⟩
  | .local _ .vmem, ⟨14, _⟩ => ⟨S1280x1024, .f32⟩
  | .local _ .vmem, ⟨15, _⟩ => ⟨S512x128, .f32⟩
  | .local _ .vmem, ⟨16, _⟩ => ⟨S512x128, .f32⟩
  | .local _ .vmem, ⟨17, _⟩ => ⟨S1x1x128, .f32⟩
  | .local _ .vmem, ⟨18, _⟩ => ⟨S1x1x128, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1280x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== OprojReferenceIdeal.lean ====
abbrev S32768x1024 : Shape := ⟨2, ![32768, 1024]⟩
abbrev S1024x1024 : Shape := ⟨2, ![1024, 1024]⟩
abbrev S1024 : Shape := ⟨1, ![1024]⟩
abbrev S1024x128 : Shape := ⟨2, ![1024, 128]⟩
abbrev S1x128 : Shape := ⟨2, ![1, 128]⟩

abbrev nBuf : Space → Nat
  | .hbm => 10
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S1024x1024, .f32⟩
  | .hbm, ⟨3, _⟩ => ⟨S1024, .f32⟩
  | .hbm, ⟨4, _⟩ => ⟨S1024x128, .bf16⟩
  | .hbm, ⟨5, _⟩ => ⟨S1024x128, .bf16⟩
  | .hbm, ⟨6, _⟩ => ⟨S1x128, .f32⟩
  | .hbm, ⟨7, _⟩ => ⟨S32768x1024, .f32⟩
  | .hbm, ⟨8, _⟩ => ⟨S32768x1024, .f32⟩
  | .hbm, ⟨9, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩

abbrev nD : Nat := 1
abbrev τ : Topo := Topo.v7x

variable {F : FTy → Type} [FloatOps F]
-- ==== Values.lean ====
abbrev S32768x1024 : Shape := ⟨2, ![32768, 1024]⟩
abbrev S32768x128 : Shape := ⟨2, ![32768, 128]⟩
abbrev S1024 : Shape := ⟨1, ![1024]⟩
abbrev S1024x256 : Shape := ⟨2, ![1024, 256]⟩
abbrev S256 : Shape := ⟨1, ![256]⟩
abbrev S1024x64 : Shape := ⟨2, ![1024, 64]⟩
abbrev S256x2048 : Shape := ⟨2, ![256, 2048]⟩
abbrev S192 : Shape := ⟨1, ![192]⟩
abbrev S1024x384 : Shape := ⟨2, ![1024, 384]⟩
abbrev S384 : Shape := ⟨1, ![384]⟩
abbrev S384x1536 : Shape := ⟨2, ![384, 1536]⟩
abbrev S_ : Shape := ⟨0, ![]⟩
abbrev S1024x128 : Shape := ⟨2, ![1024, 128]⟩
abbrev S256x8x256 : Shape := ⟨3, ![256, 8, 256]⟩
abbrev S256x8x128 : Shape := ⟨3, ![256, 8, 128]⟩
abbrev S256x1024 : Shape := ⟨2, ![256, 1024]⟩
abbrev S384x8x192 : Shape := ⟨3, ![384, 8, 192]⟩
abbrev S384x8x128 : Shape := ⟨3, ![384, 8, 128]⟩
abbrev S384x1024 : Shape := ⟨2, ![384, 1024]⟩
abbrev S384x8x64 : Shape := ⟨3, ![384, 8, 64]⟩
abbrev S384x2048 : Shape := ⟨2, ![384, 2048]⟩
abbrev S1024x1 : Shape := ⟨2, ![1024, 1]⟩
abbrev S128 : Shape := ⟨1, ![128]⟩
abbrev S1x128 : Shape := ⟨2, ![1, 128]⟩
abbrev S128x1024 : Shape := ⟨2, ![128, 1024]⟩
abbrev S1x1024 : Shape := ⟨2, ![1, 1024]⟩
abbrev S1x256 : Shape := ⟨2, ![1, 256]⟩
abbrev S1x384 : Shape := ⟨2, ![1, 384]⟩
abbrev S8x32768x256 : Shape := ⟨3, ![8, 32768, 256]⟩
abbrev S8x32768x128 : Shape := ⟨3, ![8, 32768, 128]⟩
abbrev S512x1024 : Shape := ⟨2, ![512, 1024]⟩
abbrev S512x128 : Shape := ⟨2, ![512, 128]⟩
abbrev S8x512x256 : Shape := ⟨3, ![8, 512, 256]⟩
abbrev S8x512x128 : Shape := ⟨3, ![8, 512, 128]⟩
abbrev S512 : Shape := ⟨1, ![512]⟩
abbrev S512x1 : Shape := ⟨2, ![512, 1]⟩
abbrev S512x256 : Shape := ⟨2, ![512, 256]⟩
abbrev S1x512x128 : Shape := ⟨3, ![1, 512, 128]⟩
abbrev S512x384 : Shape := ⟨2, ![512, 384]⟩

abbrev nBuf : Space → Nat
  | .hbm => 90
  | .vmem => 26
  | .smem => 0
  | _ => 0

abbrev bufTy : (tb : Table) → Fin (tcTables nBuf tb) → BufTy
  | .hbm, ⟨0, _⟩ => ⟨S32768x1024, .f32⟩
  | .hbm, ⟨1, _⟩ => ⟨S32768x128, .f32⟩
  | .hbm, ⟨2, _⟩ => ⟨S32768x128, .f32⟩
  | .hbm, ⟨3, _⟩ => ⟨S1024, .f32⟩
  | .hbm, ⟨4, _⟩ => ⟨S1024x256, .f32⟩
  | .hbm, ⟨5, _⟩ => ⟨S256, .f32⟩
  | .hbm, ⟨6, _⟩ => ⟨S1024x64, .f32⟩
  | .hbm, ⟨7, _⟩ => ⟨S256x2048, .f32⟩
  | .hbm, ⟨8, _⟩ => ⟨S192, .f32⟩
  | .hbm, ⟨9, _⟩ => ⟨S1024, .f32⟩
  | .hbm, ⟨10, _⟩ => ⟨S1024x384, .f32⟩
  | .hbm, ⟨11, _⟩ => ⟨S384, .f32⟩
  | .hbm, ⟨12, _⟩ => ⟨S384x1536, .f32⟩
  | .hbm, ⟨13, _⟩ => ⟨S192, .f32⟩
  | .hbm, ⟨14, _⟩ => ⟨S_, .i32⟩
  | .hbm, ⟨15, _⟩ => ⟨S_, .f32⟩
  | .hbm, ⟨16, _⟩ => ⟨S1024x128, .f32⟩
  | .hbm, ⟨17, _⟩ => ⟨S1024x128, .bf16⟩
  | .hbm, ⟨18, _⟩ => ⟨S256x8x256, .f32⟩
  | .hbm, ⟨19, _⟩ => ⟨S256x8x128, .f32⟩
  | .hbm, ⟨20, _⟩ => ⟨S_, .i32⟩
  | .hbm, ⟨21, _⟩ => ⟨S_, .f32⟩
  | .hbm, ⟨22, _⟩ => ⟨S256x8x128, .f32⟩
  | .hbm, ⟨23, _⟩ => ⟨S256x1024, .f32⟩
  | .hbm, ⟨24, _⟩ => ⟨S256x1024, .bf16⟩
  | .hbm, ⟨25, _⟩ => ⟨S256x8x256, .f32⟩
  | .hbm, ⟨26, _⟩ => ⟨S256x8x128, .f32⟩
  | .hbm, ⟨27, _⟩ => ⟨S_, .i32⟩
  | .hbm, ⟨28, _⟩ => ⟨S_, .f32⟩
  | .hbm, ⟨29, _⟩ => ⟨S256x8x128, .f32⟩
  | .hbm, ⟨30, _⟩ => ⟨S256x1024, .f32⟩
  | .hbm, ⟨31, _⟩ => ⟨S256x1024, .bf16⟩
  | .hbm, ⟨32, _⟩ => ⟨S384x8x192, .f32⟩
  | .hbm, ⟨33, _⟩ => ⟨S384x8x128, .f32⟩
  | .hbm, ⟨34, _⟩ => ⟨S_, .i32⟩
  | .hbm, ⟨35, _⟩ => ⟨S_, .f32⟩
  | .hbm, ⟨36, _⟩ => ⟨S384x8x128, .f32⟩
  | .hbm, ⟨37, _⟩ => ⟨S384x1024, .f32⟩
  | .hbm, ⟨38, _⟩ => ⟨S384x8x192, .f32⟩
  | .hbm, ⟨39, _⟩ => ⟨S384x8x64, .f32⟩
  | .hbm, ⟨40, _⟩ => ⟨S_, .i32⟩
  | .hbm, ⟨41, _⟩ => ⟨S_, .f32⟩
  | .hbm, ⟨42, _⟩ => ⟨S384x8x128, .f32⟩
  | .hbm, ⟨43, _⟩ => ⟨S384x1024, .f32⟩
  | .hbm, ⟨44, _⟩ => ⟨S384x2048, .f32⟩
  | .hbm, ⟨45, _⟩ => ⟨S384x2048, .bf16⟩
  | .hbm, ⟨46, _⟩ => ⟨S1024, .i32⟩
  | .hbm, ⟨47, _⟩ => ⟨S_, .i32⟩
  | .hbm, ⟨48, _⟩ => ⟨S_, .i32⟩
  | .hbm, ⟨49, _⟩ => ⟨S1024, .i32⟩
  | .hbm, ⟨50, _⟩ => ⟨S1024, .i32⟩
  | .hbm, ⟨51, _⟩ => ⟨S1024, .i32⟩
  | .hbm, ⟨52, _⟩ => ⟨S_, .i32⟩
  | .hbm, ⟨53, _⟩ => ⟨S1024, .i32⟩
  | .hbm, ⟨54, _⟩ => ⟨S1024, .i1⟩
  | .hbm, ⟨55, _⟩ => ⟨S1024, .i32⟩
  | .hbm, ⟨56, _⟩ => ⟨S1024, .i32⟩
  | .hbm, ⟨57, _⟩ => ⟨S_, .i32⟩
  | .hbm, ⟨58, _⟩ => ⟨S1024, .i32⟩
  | .hbm, ⟨59, _⟩ => ⟨S1024, .i1⟩
  | .hbm, ⟨60, _⟩ => ⟨S1024, .i1⟩
  | .hbm, ⟨61, _⟩ => ⟨S_, .i32⟩
  | .hbm, ⟨62, _⟩ => ⟨S1024, .i32⟩
  | .hbm, ⟨63, _⟩ => ⟨S1024, .i32⟩
  | .hbm, ⟨64, _⟩ => ⟨S1024, .i32⟩
  | .hbm, ⟨65, _⟩ => ⟨S1024x1, .i32⟩
  | .hbm, ⟨66, _⟩ => ⟨S128, .i32⟩
  | .hbm, ⟨67, _⟩ => ⟨S1x128, .i32⟩
  | .hbm, ⟨68, _⟩ => ⟨S1024x128, .i32⟩
  | .hbm, ⟨69, _⟩ => ⟨S1024x128, .i32⟩
  | .hbm, ⟨70, _⟩ => ⟨S1024x128, .i1⟩
  | .hbm, ⟨71, _⟩ => ⟨S1024x128, .bf16⟩
  | .hbm, ⟨72, _⟩ => ⟨S128x1024, .bf16⟩
  | .hbm, ⟨73, _⟩ => ⟨S1x1024, .f32⟩
  | .hbm, ⟨74, _⟩ => ⟨S1024x256, .bf16⟩
  | .hbm, ⟨75, _⟩ => ⟨S1x256, .f32⟩
  | .hbm, ⟨76, _⟩ => ⟨S_, .i32⟩
  | .hbm, ⟨77, _⟩ => ⟨S_, .f32⟩
  | .hbm, ⟨78, _⟩ => ⟨S256, .f32⟩
  | .hbm, ⟨79, _⟩ => ⟨S1x256, .f32⟩
  | .hbm, ⟨80, _⟩ => ⟨S1x1024, .f32⟩
  | .hbm, ⟨81, _⟩ => ⟨S1024x384, .bf16⟩
  | .hbm, ⟨82, _⟩ => ⟨S1x384, .f32⟩
  | .hbm, ⟨83, _⟩ => ⟨S_, .i32⟩
  | .hbm, ⟨84, _⟩ => ⟨S_, .f32⟩
  | .hbm, ⟨85, _⟩ => ⟨S256, .f32⟩
  | .hbm, ⟨86, _⟩ => ⟨S1x256, .f32⟩
  | .hbm, ⟨87, _⟩ => ⟨S8x32768x256, .bf16⟩
  | .hbm, ⟨88, _⟩ => ⟨S8x32768x256, .bf16⟩
  | .hbm, ⟨89, _⟩ => ⟨S8x32768x128, .bf16⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x1024, .f32⟩
  | .local _ .vmem, ⟨7, _⟩ => ⟨S1024x256, .bf16⟩
  | .local _ .vmem, ⟨8, _⟩ => ⟨S1x256, .f32⟩
  | .local _ .vmem, ⟨9, _⟩ => ⟨S1024x128, .bf16⟩
  | .local _ .vmem, ⟨10, _⟩ => ⟨S256x1024, .bf16⟩
  | .local _ .vmem, ⟨11, _⟩ => ⟨S256x1024, .bf16⟩
  | .local _ .vmem, ⟨12, _⟩ => ⟨S1x256, .f32⟩
  | .local _ .vmem, ⟨13, _⟩ => ⟨S1x1024, .f32⟩
  | .local _ .vmem, ⟨14, _⟩ => ⟨S1024x384, .bf16⟩
  | .local _ .vmem, ⟨15, _⟩ => ⟨S1x384, .f32⟩
  | .local _ .vmem, ⟨16, _⟩ => ⟨S384x2048, .bf16⟩
  | .local _ .vmem, ⟨17, _⟩ => ⟨S1x256, .f32⟩
  | .local _ .vmem, ⟨18, _⟩ => ⟨S1024x128, .bf16⟩
  | .local _ .vmem, ⟨19, _⟩ => ⟨S128x1024, .bf16⟩
  | .local _ .vmem, ⟨20, _⟩ => ⟨S8x512x256, .bf16⟩
  | .local _ .vmem, ⟨21, _⟩ => ⟨S8x512x256, .bf16⟩
  | .local _ .vmem, ⟨22, _⟩ => ⟨S8x512x256, .bf16⟩
  | .local _ .vmem, ⟨23, _⟩ => ⟨S8x512x256, .bf16⟩
  | .local _ .vmem, ⟨24, _⟩ => ⟨S8x512x128, .bf16⟩
  | .local _ .vmem, ⟨25, _⟩ => ⟨S8x512x128, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_call0_v0 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c_0 : Ref sig .tc := ⟨.hbm, 20, rfl⟩
abbrev main_call1_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_c_1 : Ref sig .tc := ⟨.hbm, 27, rfl⟩
abbrev main_call2_v0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c_2 : Ref sig .tc := ⟨.hbm, 34, rfl⟩
abbrev main_call3_v0 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c_3 : Ref sig .tc := ⟨.hbm, 40, rfl⟩
abbrev main_call4_v0 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c_4 : Ref sig .tc := ⟨.hbm, 47, rfl⟩
abbrev main_call5_v0 : Ref sig .tc := ⟨.hbm, 48, rfl⟩
abbrev main_call5_v1 : Ref sig .tc := ⟨.hbm, 49, rfl⟩
abbrev main_call5_v2 : Ref sig .tc := ⟨.hbm, 50, rfl⟩
abbrev main_call5_v3 : Ref sig .tc := ⟨.hbm, 51, rfl⟩
abbrev main_call5_v4 : Ref sig .tc := ⟨.hbm, 52, rfl⟩
abbrev main_call5_v5 : Ref sig .tc := ⟨.hbm, 53, rfl⟩
abbrev main_call5_v6 : Ref sig .tc := ⟨.hbm, 54, rfl⟩
abbrev main_call5_v7 : Ref sig .tc := ⟨.hbm, 55, rfl⟩
abbrev main_call5_v8 : Ref sig .tc := ⟨.hbm, 56, rfl⟩
abbrev main_call5_c : Ref sig .tc := ⟨.hbm, 57, rfl⟩
abbrev main_call5_v9 : Ref sig .tc := ⟨.hbm, 58, rfl⟩
abbrev main_call5_v10 : Ref sig .tc := ⟨.hbm, 59, rfl⟩
abbrev main_call5_v11 : Ref sig .tc := ⟨.hbm, 60, rfl⟩
abbrev main_call5_c_0 : Ref sig .tc := ⟨.hbm, 61, rfl⟩
abbrev main_call5_v12 : Ref sig .tc := ⟨.hbm, 62, rfl⟩
abbrev main_call5_v13 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_c_5 : Ref sig .tc := ⟨.hbm, 76, rfl⟩
abbrev main_call6_v0 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_c_6 : Ref sig .tc := ⟨.hbm, 83, rfl⟩
abbrev main_call7_v0 : Ref sig .tc := ⟨.hbm, 84, rfl⟩
abbrev main_v40 : Ref sig .tc := ⟨.hbm, 85, rfl⟩
abbrev main_v41 : Ref sig .tc := ⟨.hbm, 86, rfl⟩
abbrev main_v42_0 : Ref sig .tc := ⟨.hbm, 87, rfl⟩
abbrev main_v42_1 : Ref sig .tc := ⟨.hbm, 88, rfl⟩
abbrev main_v42_2 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x384 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S384x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S8x512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x512x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S8x512x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== ValuesReferenceIdeal.lean ====
abbrev S32768x1024 : Shape := ⟨2, ![32768, 1024]⟩
abbrev S32768x128 : Shape := ⟨2, ![32768, 128]⟩
abbrev S1024 : Shape := ⟨1, ![1024]⟩
abbrev S1024x256 : Shape := ⟨2, ![1024, 256]⟩
abbrev S256 : Shape := ⟨1, ![256]⟩
abbrev S1024x64 : Shape := ⟨2, ![1024, 64]⟩
abbrev S256x2048 : Shape := ⟨2, ![256, 2048]⟩
abbrev S192 : Shape := ⟨1, ![192]⟩
abbrev S1024x384 : Shape := ⟨2, ![1024, 384]⟩
abbrev S384 : Shape := ⟨1, ![384]⟩
abbrev S384x1536 : Shape := ⟨2, ![384, 1536]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x256 : Shape := ⟨2, ![32768, 256]⟩
abbrev S1x256 : Shape := ⟨2, ![1, 256]⟩
abbrev S32768x2048 : Shape := ⟨2, ![32768, 2048]⟩
abbrev S32768x8x256 : Shape := ⟨3, ![32768, 8, 256]⟩
abbrev S32768x8x128 : Shape := ⟨3, ![32768, 8, 128]⟩
abbrev S8x32768x128 : Shape := ⟨3, ![8, 32768, 128]⟩

abbrev nBuf : Space → Nat
  | .hbm => 52
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x128, .f32⟩
  | .hbm, ⟨2, _⟩ => ⟨S32768x128, .f32⟩
  | .hbm, ⟨3, _⟩ => ⟨S1024, .f32⟩
  | .hbm, ⟨4, _⟩ => ⟨S1024x256, .f32⟩
  | .hbm, ⟨5, _⟩ => ⟨S256, .f32⟩
  | .hbm, ⟨6, _⟩ => ⟨S1024x64, .f32⟩
  | .hbm, ⟨7, _⟩ => ⟨S256x2048, .f32⟩
  | .hbm, ⟨8, _⟩ => ⟨S192, .f32⟩
  | .hbm, ⟨9, _⟩ => ⟨S1024, .f32⟩
  | .hbm, ⟨10, _⟩ => ⟨S1024x384, .f32⟩
  | .hbm, ⟨11, _⟩ => ⟨S384, .f32⟩
  | .hbm, ⟨12, _⟩ => ⟨S384x1536, .f32⟩
  | .hbm, ⟨13, _⟩ => ⟨S192, .f32⟩
  | .hbm, ⟨14, _⟩ => ⟨S32768x1024, .f32⟩
  | .hbm, ⟨15, _⟩ => ⟨S_, .f32⟩
  | .hbm, ⟨16, _⟩ => ⟨S32768, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S32768x1, .f32⟩
  | .hbm, ⟨25, _⟩ => ⟨S32768x1024, .f32⟩
  | .hbm, ⟨26, _⟩ => ⟨S32768x1024, .f32⟩
  | .hbm, ⟨27, _⟩ => ⟨S1x1024, .f32⟩
  | .hbm, ⟨28, _⟩ => ⟨S32768x1024, .f32⟩
  | .hbm, ⟨29, _⟩ => ⟨S32768x1024, .f32⟩
  | .hbm, ⟨30, _⟩ => ⟨S32768x256, .f32⟩
  | .hbm, ⟨31, _⟩ => ⟨S32768x256, .f32⟩
  | .hbm, ⟨32, _⟩ => ⟨S_, .f32⟩
  | .hbm, ⟨33, _⟩ => ⟨S32768, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S32768x1, .f32⟩
  | .hbm, ⟨42, _⟩ => ⟨S32768x256, .f32⟩
  | .hbm, ⟨43, _⟩ => ⟨S32768x256, .f32⟩
  | .hbm, ⟨44, _⟩ => ⟨S1x256, .f32⟩
  | .hbm, ⟨45, _⟩ => ⟨S32768x256, .f32⟩
  | .hbm, ⟨46, _⟩ => ⟨S32768x256, .f32⟩
  | .hbm, ⟨47, _⟩ => ⟨S32768x2048, .f32⟩
  | .hbm, ⟨48, _⟩ => ⟨S32768x8x256, .f32⟩
  | .hbm, ⟨49, _⟩ => ⟨S32768x8x128, .f32⟩
  | .hbm, ⟨50, _⟩ => ⟨S8x32768x128, .f32⟩
  | .hbm, ⟨51, _⟩ => ⟨S8x32768x128, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== Rope.lean ====
abbrev S4x8192 : Shape := ⟨2, ![4, 8192]⟩
abbrev S32 : Shape := ⟨1, ![32]⟩
abbrev S_ : Shape := ⟨0, ![]⟩
abbrev S32768 : Shape := ⟨1, ![32768]⟩
abbrev S32768x32 : Shape := ⟨2, ![32768, 32]⟩
abbrev S1048576 : Shape := ⟨1, ![1048576]⟩
abbrev S8192x128 : Shape := ⟨2, ![8192, 128]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S1024x128 : Shape := ⟨2, ![1024, 128]⟩

abbrev nBuf : Space → Nat
  | .hbm => 26
  | .vmem => 7
  | .smem => 0
  | _ => 0

abbrev bufTy : (tb : Table) → Fin (tcTables nBuf tb) → BufTy
  | .hbm, ⟨0, _⟩ => ⟨S4x8192, .i32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S32768, .i32⟩
  | .hbm, ⟨16, _⟩ => ⟨S32768, .f32⟩
  | .hbm, ⟨17, _⟩ => ⟨S32768x32, .f32⟩
  | .hbm, ⟨18, _⟩ => ⟨S1048576, .f32⟩
  | .hbm, ⟨19, _⟩ => ⟨S8192x128, .f32⟩
  | .hbm, ⟨20, _⟩ => ⟨S1x32, .f32⟩
  | .hbm, ⟨21, _⟩ => ⟨S4x32, .f32⟩
  | .hbm, ⟨22, _⟩ => ⟨S128, .f32⟩
  | .hbm, ⟨23, _⟩ => ⟨S1x128, .f32⟩
  | .hbm, ⟨24, _⟩ => ⟨S8192x128, .f32⟩
  | .hbm, ⟨25, _⟩ => ⟨S8192x128, .f32⟩
  | .local _ .vmem, ⟨0, _⟩ => ⟨S1024x128, .f32⟩
  | .local _ .vmem, ⟨1, _⟩ => ⟨S1024x128, .f32⟩
  | .local _ .vmem, ⟨2, _⟩ => ⟨S1x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S4x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19_0 : Ref sig .tc := ⟨.hbm, 24, rfl⟩
abbrev main_v19_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RopeReferenceIdeal.lean ====
abbrev S4x8192 : Shape := ⟨2, ![4, 8192]⟩
abbrev S32 : Shape := ⟨1, ![32]⟩
abbrev S_ : Shape := ⟨0, ![]⟩
abbrev S4x8192x1 : Shape := ⟨3, ![4, 8192, 1]⟩
abbrev S1x1x32 : Shape := ⟨3, ![1, 1, 32]⟩
abbrev S4x8192x32 : Shape := ⟨3, ![4, 8192, 32]⟩
abbrev S8192x128 : Shape := ⟨2, ![8192, 128]⟩

abbrev nBuf : Space → Nat
  | .hbm => 25
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S4x8192, .f32⟩
  | .hbm, ⟨16, _⟩ => ⟨S4x8192x1, .f32⟩
  | .hbm, ⟨17, _⟩ => ⟨S1x1x32, .f32⟩
  | .hbm, ⟨18, _⟩ => ⟨S4x8192x32, .f32⟩
  | .hbm, ⟨19, _⟩ => ⟨S4x8192x32, .f32⟩
  | .hbm, ⟨20, _⟩ => ⟨S4x8192x32, .f32⟩
  | .hbm, ⟨21, _⟩ => ⟨S4x8192x32, .f32⟩
  | .hbm, ⟨22, _⟩ => ⟨S8192x128, .f32⟩
  | .hbm, ⟨23, _⟩ => ⟨S4x8192x32, .f32⟩
  | .hbm, ⟨24, _⟩ => ⟨S8192x128, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== Proof.ExpertsIdeal.Slots.lean ====
module

public import proofs.«01_k».proof.Defs
public import proofs.«01_k».proof.Proof.Gen.ExpertsIdeal
public import proofs.«01_k».proof.Proof.Gen.ExpertsIdeal.Launch
public import proofs.«01_k».proof.Proof.Gen.ExpertsIdeal.Skeleton
public import Idealize.ShloMosaic.Lib.Pipeline.Kit
public import Idealize.ShloMosaic.Lib.Pipeline.Regions
public import Idealize.ShloMosaic.Lib.Pipeline.FrameBody
public import Idealize.ShloMosaic.Lib.Pipeline.Frame
public import Idealize.ShloMosaic.Lib.Writes
public import Idealize.ShloMosaic.Lib.Ring
public import Idealize.ShloMosaic.Lib.Batch
public import Idealize.ShloMosaic.Lib.Exec
public import Idealize.ShloMosaic.Lib.Tactic
public import Idealize.ShloMosaic.Lib.ValueLayout
public import Idealize.ShloMosaic.Lib.Pointwise
public import Idealize.ShloMosaic.Adequacy
public import Idealize.ShloMosaic.Init

@[expose] public section

set_option maxRecDepth 16384
set_option Elab.async false

noncomputable section

namespace Cert.ExpertsIdeal.Moe

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf UD)

variable {F : FTy → Type} [FloatOps F]

local notation "𝕄" => MT nD τ sig Unit (Elt F) ℕ (UD sig nD τ) ℕ

/-! ## The rows the copies move -/

/-- The activations, the double buffer of gathered rows. -/
abbrev xtM : Memref sig .tc .hbm S32768x1024 .f32 := Memref.whole main_arg3
abbrev bufM : Memref sig .tc .vmem S2x256x1024 .f32 := Memref.whole cc0_scratch0

theorem inbS (s : Fin 2) : ∀ a, (![s.val, 0, 0] : Fin 3 → ℕ) a + S1x256x1024.size a ≤ S2x256x1024.size a := by
  have := s.isLt; intro a; fin_cases a
  · show s.val + 1 ≤ 2; omega
  · show 0 + 256 ≤ 256; omega
  · show 0 + 1024 ≤ 1024; omega
theorem inbR (k : Fin 256) : ∀ a, (![k.val, 0] : Fin 2 → ℕ) a + S1x1024.size a ≤ S256x1024.size a := by
  have := k.isLt; intro a; fin_cases a
  · show k.val + 1 ≤ 256; omega
  · show 0 + 1024 ≤ 1024; omega
theorem inbX (r : Fin 32768) : ∀ a, (![r.val, 0] : Fin 2 → ℕ) a + S1x1024.size a ≤ S32768x1024.size a := by
  have := r.isLt; intro a; fin_cases a
  · show r.val + 1 ≤ 32768; omega
  · show 0 + 1024 ≤ 1024; omega
theorem inbC (s : Fin 2) : ∀ a, (![s.val] : Fin 1 → ℕ) a + S1.size a ≤ S2.size a := by
  have := s.isLt; intro a; fin_cases a
  show s.val + 1 ≤ 2; omega

/-- Row `k` of the buffer's half `s`, as the copies spell it; a row of the activations; the counter of half `s`. -/
def rowD (s : Fin 2) (k : Fin 256) : Memref sig .tc .vmem S1x1024 .f32 :=
  ((bufM.slice (Rect.unit (s := S2x256x1024) ![s.val, 0, 0] S1x256x1024.size (inbS s)) (fun _ => rfl)).squeeze S256x1024 squeezes_S1x256x1024_S256x1024).slice
    (Rect.unit (s := S256x1024) ![k.val, 0] S1x1024.size (inbR k)) (fun _ => rfl)
def rowX (r : Fin 32768) : Memref sig .tc .hbm S1x1024 .f32 :=
  xtM.slice (Rect.unit (s := S32768x1024) ![r.val, 0] S1x1024.size (inbX r)) (fun _ => rfl)
def cellD (s : Fin 2) : DmaSem sig :=
  ((cc0_scratch1.slice (Rect.unit (s := S2) ![s.val] S1.size (inbC s))).squeeze S_ squeezes_S1_S_).sem

theorem rowD_emb (s : Fin 2) (k : Fin 256) (x : S1x1024.Idx) : (rowD s k).view.emb x = (ix3 s k (x 1) : S2x256x1024.Idx) := by
  have h0 : (x 0).val < 1 := (x 0).isLt
  have h1 : (Rect.unit (s := S256x1024) ![k.val, 0] S1x1024.size (inbR k)).emb x = (ix2 k (x 1) : S256x1024.Idx) := by
    funext a; apply Fin.ext; rw [Rect.emb_apply]; fin_cases a
    · show k.val + 1 * (x 0).val = k.val; omega
    · show 0 + 1 * (x 1).val = (x 1).val; omega
  show (Rect.unit (s := S2x256x1024) ![s.val, 0, 0] S1x256x1024.size (inbS s)).emb
    (Shape.reshapeEquiv squeezes_S1x256x1024_S256x1024.numel_eq ((Rect.unit (s := S256x1024) ![k.val, 0] S1x1024.size (inbR k)).emb x)) = _
  have h2 := ValueIdx.reshapeEquiv_ix2_1ab squeezes_S1x256x1024_S256x1024.numel_eq k (x 1)
  rw [h1]
  refine (congrArg _ h2).trans ?_
  funext a; apply Fin.ext; rw [Rect.emb_apply]; fin_cases a
  · show s.val + 1 * 0 = s.val; omega
  · show 0 + 1 * k.val = k.val; omega
  · show 0 + 1 * (x 1).val = (x 1).val; omega

theorem rowX_emb (r : Fin 32768) (x : S1x1024.Idx) : (rowX r).view.emb x = (ix2 r (x 1) : S32768x1024.Idx) := by
  have h0 : (x 0).val < 1 := (x 0).isLt
  show (Rect.unit (s := S32768x1024) ![r.val, 0] S1x1024.size (inbX r)).emb x = _
  funext a; apply Fin.ext; rw [Rect.emb_apply]; fin_cases a
  · show r.val + 1 * (x 0).val = r.val; omega
  · show 0 + 1 * (x 1).val = (x 1).val; omega

/-- The elements of row `k` of half `s`, and of half `s`. -/
def rowSet (s : Fin 2) (k : Fin 256) : Finset S2x256x1024.Idx := Finset.univ.filter fun y => (y 0).val = s.val ∧ (y 1).val = k.val
def halfSet (s : Fin 2) : Finset S2x256x1024.Idx := Finset.univ.filter fun y => (y 0).val = s.val

theorem mem_rowSet (s : Fin 2) (k : Fin 256) (y : S2x256x1024.Idx) : y ∈ rowSet s k ↔ (y 0).val = s.val ∧ (y 1).val = k.val := by simp [rowSet]
theorem mem_halfSet (s : Fin 2) (y : S2x256x1024.Idx) : y ∈ halfSet s ↔ (y 0).val = s.val := by simp [halfSet]

theorem rowD_set (s : Fin 2) (k : Fin 256) : (rowD s k).view.set = rowSet s k := by
  apply Finset.ext; intro (y : S2x256x1024.Idx)
  refine Iff.trans ?_ (mem_rowSet s k y).symm
  constructor
  · intro h
    obtain ⟨x, -, rfl⟩ := Finset.mem_map.mp h
    rw [rowD_emb]; exact ⟨rfl, rfl⟩
  · rintro ⟨h0, h1⟩
    refine Finset.mem_map.mpr ⟨(ix2 (0 : Fin 1) (y 2) : S1x1024.Idx), Finset.mem_univ _, ?_⟩
    rw [rowD_emb]
    funext a; fin_cases a
    · exact Fin.ext h0.symm
    · exact Fin.ext h1.symm
    · rfl

theorem rowSet_disjoint (s : Fin 2) (k k' : Fin 256) (h : k ≠ k') : Disjoint (rowSet s k) (rowSet s k') := by
  rw [Finset.disjoint_left]; intro y hy hy'; rw [mem_rowSet] at hy hy'; exact h (Fin.ext (hy.2.symm.trans hy'.2))
theorem rowSet_cover (s : Fin 2) : Finset.univ.biUnion (rowSet s) = halfSet s := by
  ext y; simp only [Finset.mem_biUnion, Finset.mem_univ, true_and, mem_rowSet, mem_halfSet]
  exact ⟨fun ⟨_, h, _⟩ => h, fun h => ⟨y 1, h, rfl⟩⟩
theorem halfSet_disjoint (s s' : Fin 2) (h : s ≠ s') : Disjoint (halfSet s) (halfSet s') := by
  rw [Finset.disjoint_left]; intro y hy hy'; rw [mem_halfSet] at hy hy'; exact h (Fin.ext (hy.symm.trans hy'))
theorem halfSet_cover : Finset.univ.biUnion halfSet = Finset.univ := by
  ext y; simp only [Finset.mem_biUnion, Finset.mem_univ, true_and, mem_halfSet, iff_true]; exact ⟨y 0, rfl⟩

/-! ## What a copy of a row delivers -/

/-- The rows gathered by the row numbers `iv`, whichever the half. -/
def gat (x : S32768x1024.Idx → Elt F .f32) (iv : Fin 256 → Fin 32768) : S2x256x1024.Idx → Elt F .f32 :=
  fun y => x (ix2 (iv (y 1)) (y 2))

/-- The share of the activations kept for the copies into half `s`. -/
def hf (s : Fin 2) : PosShare TreeShare := if s = 0 then fullShare.left else fullShare.right

/-- A separating product over a set with one more member. -/
theorem bigSep_ins {I : Type} [DecidableEq I] {i : I} {s : Finset I} (h : i ∉ s) {Φ : I → sProp 𝕄} :
    bigSep (insert i s) Φ = iprop(Φ i ∗ bigSep s Φ) := BI.bigSep_insert h

section Names

variable (c : Dev nD)

/-- Row `r` of the activations lent under token `t` of half `s`; what is left of that token. -/
abbrev xRow (s : Fin 2) (x : S32768x1024.Idx → Elt F .f32) (r : Fin 32768) (t : ℕ) : sProp 𝕄 :=
  (rowX r).view.loc (c : Thread nD τ) ↦[(rowX r).view.set]{Transfers.shareTokN (hf s) t} x
abbrev xCompl (s : Fin 2) (x : S32768x1024.Idx → Elt F .f32) (r : Fin 32768) (t : ℕ) : sProp 𝕄 :=
  (rowX r).view.loc (c : Thread nD τ) ↦[Finset.univ \ (rowX r).view.set]{Transfers.shareTokN (hf s) t} x
abbrev xTok (s : Fin 2) (x : S32768x1024.Idx → Elt F .f32) (t : ℕ) : sProp 𝕄 :=
  xtM.view.loc (c : Thread nD τ) ↦{Transfers.shareTokN (hf s) t} x

/-- The deliveries of a batch into half `s`. -/
abbrev dlv (s : Fin 2) (x : S32768x1024.Idx → Elt F .f32) (iv : Fin 256 → Fin 32768) (t : Fin 256) : sProp 𝕄 :=
  iprop(((rowD s t).view.loc (c : Thread nD τ) ↦[(rowD s t).view.set]{fullShare} gat x iv) ∗ xRow c s x (iv t) t.val)

/-- One row's credit. -/
def NN : ℕ := (rowD 0 0).view.dmaCredit
theorem NN_pos : 0 < NN := View.dmaCredit_pos _ (by decide)
theorem rowD_credit (s : Fin 2) (k : Fin 256) : (rowD s k).view.dmaCredit = NN := rfl

abbrev batch (s : Fin 2) (x : S32768x1024.Idx → Elt F .f32) (iv : Fin 256 → Fin 32768) (j u : ℕ) : sProp 𝕄 :=
  Transfers.Batch (countersEmb (U := UD sig nD τ)) (c : Thread nD τ) (.dma (cellD s)) () NN (dlv c s x iv) j u

/-- What stays in hand after `k` issues: of the issued rows the rest of the token, of the others the token and the row. -/
def hold (s : Fin 2) (x : S32768x1024.Idx → Elt F .f32) (iv : Fin 256 → Fin 32768) (k : ℕ) : sProp 𝕄 :=
  bigSep Finset.univ fun t : Fin 256 =>
    if t.val < k then xCompl c s x (iv t) t.val
    else iprop(xTok c s x t.val ∗ ∃ f, (rowD s t).view.loc (c : Thread nD τ) ↦[(rowD s t).view.set]{fullShare} f)

theorem hold_step (s : Fin 2) (x : S32768x1024.Idx → Elt F .f32) (iv : Fin 256 → Fin 32768) (k : Fin 256) :
    hold c s x iv k.val ⊢ iprop(xRow c s x (iv k) k.val ∗ (∃ f, (rowD s k).view.loc (c : Thread nD τ) ↦[(rowD s k).view.set]{fullShare} f)
      ∗ hold c s x iv (k.val + 1)) := by
  unfold hold
  rw [show (Finset.univ : Finset (Fin 256)) = insert k (Finset.univ.erase k) from (Finset.insert_erase (Finset.mem_univ k)).symm,
    bigSep_ins (Finset.notMem_erase k _), bigSep_ins (Finset.notMem_erase k _), if_neg (lt_irrefl _), if_pos (Nat.lt_succ_self _)]
  have hr : bigSep (Finset.univ.erase k) (fun t : Fin 256 => if t.val < k.val then xCompl c s x (iv t) t.val
        else iprop(xTok c s x t.val ∗ ∃ f, (rowD s t).view.loc (c : Thread nD τ) ↦[(rowD s t).view.set]{fullShare} f))
      = bigSep (Finset.univ.erase k) (fun t : Fin 256 => if t.val < k.val + 1 then xCompl c s x (iv t) t.val
        else iprop(xTok c s x t.val ∗ ∃ f, (rowD s t).view.loc (c : Thread nD τ) ↦[(rowD s t).view.set]{fullShare} f)) := by
    refine bigSep_congr fun t ht => ?_
    have hne : t.val ≠ k.val := fun h => (Finset.ne_of_mem_erase ht) (Fin.ext h)
    by_cases h : t.val < k.val
    · rw [if_pos h, if_pos (by omega)]
    · rw [if_neg h, if_neg (by omega)]
  rw [hr]
  iintro ⟨⟨HT, HD⟩, HR⟩
  ihave HT' := (pointsTo_split_subset (Finset.subset_univ (rowX (iv k)).view.set)).1 $$ HT
  icases HT' with ⟨Hr, Hc⟩
  isplitl [Hr]; · iexact Hr
  isplitl [HD]; · iexact HD
  isplitl [Hc]; · iexact Hc
  iexact HR

/-- What lands in row `t` of half `s` is that row of the gathered rows. -/
theorem landed (s : Fin 2) (x : S32768x1024.Idx → Elt F .f32) (iv : Fin 256 → Fin 32768) (t : Fin 256) (fd : S2x256x1024.Idx → Elt F .f32) :
    ∀ y ∈ (rowD s t).view.set, (rowD s t).view.write (Elt F) fd (ReadAs.same.apply ((rowX (iv t)).view.read (Elt F) x)) Finset.univ y = gat x iv y := by
  intro y hy
  obtain ⟨z, -, rfl⟩ := Finset.mem_map.mp hy
  refine (View.write_emb_of_mem (v := (rowD s t).view) (Val := Elt F) _ _ (Finset.mem_univ z)).trans ?_
  show x ((rowX (iv t)).view.emb z) = gat x iv ((rowD s t).view.emb z)
  rw [rowX_emb, rowD_emb]; rfl

/-- A copy of row `iv k` of the activations into row `k` of half `s`, the batch's next. -/
theorem issue_one (s : Fin 2) (x : S32768x1024.Idx → Elt F .f32) (iv : Fin 256 → Fin 32768) (k : Fin 256)
    {hsrc : (rowX (iv k)).view.WordExact} {hdst : (rowD s k).view.WordExact} {hsem : DmaTarget.Typed (nD := nD) (τ := τ) (sig := sig) (p := .tc) .hbm (.dma (cellD s)) (.here (rowD s k))}
    {α : Type} {kk : PUnit → Prog (TpuEff nD τ sig (Elt F) Λ₀ .tc) α} {Q : α → sProp 𝕄} :
    iprop(hold c s x iv k.val ∗ batch c s x iv k.val 0)
      ⊢ iprop((iprop(hold c s x iv (k.val + 1) ∗ batch c s x iv (k.val + 1) 0) -∗ wp frame (wpE (defs₀ (F := F)) Variants.none (c : Thread nD τ) none) Set.univ (kk ⟨⟩) Q)
        -∗ wp frame (wpE (defs₀ (F := F)) Variants.none (c : Thread nD τ) none) Set.univ (.op (.enqueueDmaAs (rowX (iv k)) (.here (rowD s k)) .same (.dma (cellD s)) hsrc hdst hsem) kk) Q) := by
  iintro ⟨HH, HB⟩ Hk
  ihave HH' := (hold_step c s x iv k) $$ HH
  icases HH' with ⟨Hx, ⟨%f, Hd⟩, HH⟩
  have hc : ((rowD s k).view.loc (c : Thread nD τ) ↦[(rowD s k).view.set]{fullShare} (rowD s k).view.write (Elt F) f (ReadAs.same.apply ((rowX (iv k)).view.read (Elt F) x)) Finset.univ : sProp 𝕄)
      = ((rowD s k).view.loc (c : Thread nD τ) ↦[(rowD s k).view.set]{fullShare} gat x iv) := pointsTo_congr (landed s x iv k f)
  iapply (Transfers.wp_dmaBatch (countersEmb (U := UD sig nD τ)) Variants.none (c : Thread nD τ) none (D := dlv c s x iv) () NN (show (rowD s k).view.amount (.dma (cellD s)) = NN from rowD_credit s k) subset_rfl k.isLt (Nat.zero_le _)
    (by
      iintro ⟨H1, H2⟩
      isplitl [H1]
      · rw [← hc]; iexact H1
      iexact H2)) $$ [Hx Hd HB]
  · isplitl [Hx]; · iexact Hx
    isplitl [Hd]; · iexact Hd
    iexact HB
  iintro HB
  iapply Hk
  isplitl [HH]; · iexact HH
  iexact HB

end Names

end Cert.ExpertsIdeal.Moe

end
-- ==== Proof.ExpertsIdeal.Half.lean ====
module

public import proofs.«01_k».proof.Proof.ExpertsIdeal.Slots

@[expose] public section

set_option maxRecDepth 16384
set_option Elab.async false

noncomputable section

namespace Cert.ExpertsIdeal.Moe

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf UD)

variable {F : FTy → Type} [FloatOps F]

local notation "𝕄" => MT nD τ sig Unit (Elt F) ℕ (UD sig nD τ) ℕ

/-! ## A half of the buffer, free and filling -/

section Half

variable (c : Dev nD)

abbrev bufLoc : Loc nD τ sig := bufM.view.loc (c : Thread nD τ)
abbrev xtLoc : Loc nD τ sig := xtM.view.loc (c : Thread nD τ)

/-- Half `s` with no copy under way: its elements at anything, its counter at zero, its share of the activations. -/
def slotFree (s : Fin 2) (x : S32768x1024.Idx → Elt F .f32) : sProp 𝕄 :=
  iprop((∃ f, bufLoc c ↦[halfSet s]{fullShare} f) ∗ semVal ((c : Thread nD τ), SemLoc.dma (cellD s)) 0 ∗ (xtLoc c ↦{hf s} x))

/-- What is left of half `s`'s share of the activations after its tokens. -/
abbrev xLeft (s : Fin 2) (x : S32768x1024.Idx → Elt F .f32) : sProp 𝕄 := xtLoc c ↦{Transfers.shareDrop (hf s) 256} x

/-- Half `s` with the copies of the rows `iv` all issued and none waited for. -/
def slotBusy (s : Fin 2) (x : S32768x1024.Idx → Elt F .f32) (iv : Fin 256 → Fin 32768) : sProp 𝕄 :=
  iprop(hold c s x iv 256 ∗ batch c s x iv 256 0 ∗ xLeft c s x)

theorem toks (s : Fin 2) (x : S32768x1024.Idx → Elt F .f32) :
    (xtLoc c ↦{hf s} x : sProp 𝕄) ⊣⊢ iprop(xLeft c s x ∗ bigSep Finset.univ fun t : Fin 256 => xTok c s x t.val) :=
  Transfers.pointsTo_toks (hf s) 256

theorem row_eq (s : Fin 2) (t : Fin 256) (f : S2x256x1024.Idx → Elt F .f32) :
    (bufLoc c ↦[rowSet s t]{fullShare} f : sProp 𝕄) = ((rowD s t).view.loc (c : Thread nD τ) ↦[(rowD s t).view.set]{fullShare} f) := by
  rw [rowD_set]; exact rfl
theorem rows_of_half (s : Fin 2) (f : S2x256x1024.Idx → Elt F .f32) :
    (bufLoc c ↦[halfSet s]{fullShare} f : sProp 𝕄) = bigSep Finset.univ fun t : Fin 256 => (rowD s t).view.loc (c : Thread nD τ) ↦[(rowD s t).view.set]{fullShare} f := by
  refine (Ring.pointsTo_sub_blocks (ℓ := bufLoc c) (q := fullShare) (rowSet s) (rowSet_disjoint s) (halfSet s) (rowSet_cover s) f).trans ?_
  exact bigSep_congr fun t _ => row_eq c s t f

theorem pt_storable (ℓ : Loc nD τ sig) (S : Finset (Idx ℓ)) (q : PosShare TreeShare) (f : Buf (Elt F) ℓ) :
    Storable (upEmb : UEmb _ 𝕄) (ℓ ↦[S]{q} f : sProp 𝕄) := inferInstance
instance dlv_storable (s : Fin 2) (x : S32768x1024.Idx → Elt F .f32) (iv : Fin 256 → Fin 32768) (t : Fin 256) :
    Storable (upEmb : UEmb _ 𝕄) (dlv c s x iv t) := by
  have h1 : Storable (upEmb : UEmb _ 𝕄) (((rowD s t).view.loc (c : Thread nD τ) ↦[(rowD s t).view.set]{fullShare} gat x iv) : sProp 𝕄) := pt_storable _ _ _ _
  have h2 : Storable (upEmb : UEmb _ 𝕄) (xRow c s x (iv t) t.val : sProp 𝕄) := pt_storable _ _ _ _
  unfold dlv
  infer_instance

/-- A free half is ready for the first of its copies. -/
theorem slot_open (s : Fin 2) (x : S32768x1024.Idx → Elt F .f32) (iv : Fin 256 → Fin 32768) :
    slotFree c s x ⊢ iprop(|={Set.univ}=> (hold c s x iv 0 ∗ batch c s x iv 0 0 ∗ xLeft c s x)) := by
  unfold slotFree
  iintro ⟨⟨%f, Hb⟩, Hc, Hx⟩
  imod (Transfers.batch_alloc' (Lvl := ℕ) (countersEmb (U := UD sig nD τ)) (c : Thread nD τ) () NN (dlv c s x iv) (sm := .dma (cellD s)) (E := Set.univ)) $$ Hc with HB
  ihave Hx' := (toks c s x).1 $$ Hx
  icases Hx' with ⟨Hl, Ht⟩
  ihave Hb' := (Entails.of_eq (rows_of_half c s f)) $$ Hb
  imodintro
  isplitl [Ht Hb']
  · unfold hold
    iapply (show iprop(bigSep Finset.univ (fun t : Fin 256 => xTok c s x t.val)
        ∗ bigSep Finset.univ (fun t : Fin 256 => (rowD s t).view.loc (c : Thread nD τ) ↦[(rowD s t).view.set]{fullShare} f)) ⊢ _ from
      (Entails.of_eq (BI.bigSep_sep _ _ _).symm).trans (BI.bigSep_mono fun t _ => by
        rw [if_neg (Nat.not_lt_zero _)]
        show iprop(xTok c s x t.val ∗ ((rowD s t).view.loc (c : Thread nD τ) ↦[(rowD s t).view.set]{fullShare} f)) ⊢ _
        iintro ⟨H1, H2⟩
        isplitl [H1]; · iexact H1
        iexists f; iexact H2))
    isplitl [Ht]; · iexact Ht
    iexact Hb'
  isplitl [HB]; · iexact HB
  iexact Hl

/-- Once every delivery is in, half `s` holds the gathered rows and its share of the activations is whole. -/
theorem slot_close (s : Fin 2) (x : S32768x1024.Idx → Elt F .f32) (iv : Fin 256 → Fin 32768) :
    iprop(bigSep Finset.univ (dlv c s x iv) ∗ hold c s x iv 256 ∗ xLeft c s x)
      ⊢ iprop((bufLoc c ↦[halfSet s]{fullShare} gat x iv) ∗ (xtLoc c ↦{hf s} x)) := by
  iintro ⟨HD, HH, Hl⟩
  ihave HD' := (show bigSep Finset.univ (dlv c s x iv) ⊢ iprop(bigSep Finset.univ (fun t : Fin 256 => (rowD s t).view.loc (c : Thread nD τ) ↦[(rowD s t).view.set]{fullShare} gat x iv)
    ∗ bigSep Finset.univ (fun t : Fin 256 => xRow c s x (iv t) t.val)) from Entails.of_eq (BI.bigSep_sep _ _ _)) $$ HD
  icases HD' with ⟨Hb, Hr⟩
  isplitl [Hb]
  · iapply (Entails.of_eq (rows_of_half c s (gat x iv)).symm); iexact Hb
  iapply (toks c s x).2
  isplitl [Hl]; · iexact Hl
  iapply (show iprop(bigSep Finset.univ (fun t : Fin 256 => xRow c s x (iv t) t.val) ∗ hold c s x iv 256) ⊢ bigSep Finset.univ (fun t : Fin 256 => xTok c s x t.val) from by
    unfold hold
    refine (Entails.of_eq (BI.bigSep_sep _ _ _).symm).trans (BI.bigSep_mono fun t _ => ?_)
    rw [if_pos t.isLt]
    exact (pointsTo_split_subset (Finset.subset_univ (rowX (iv t)).view.set)).2)
  isplitl [Hr]; · iexact Hr
  iexact HH

end Half

/-! ## The rows a block of the table names -/

/-- The row numbers a block of 256 words names. -/
def ivOf (w : S1x1x256.Idx → BitVec 32) : Fin 256 → Fin 32768 := fun k => Fin.ofNat 32768 (w (ix3 (0 : Fin 1) (0 : Fin 1) k)).toNat

/-- Every word of the block names a row of the activations. -/
def InRows (w : S1x1x256.Idx → BitVec 32) : Prop := ∀ k : Fin 256, (w (ix3 (0 : Fin 1) (0 : Fin 1) k)).toNat < 32768

theorem ivOf_val {w : S1x1x256.Idx → BitVec 32} (hw : InRows w) (k : Fin 256) : (ivOf w k).val = (w (ix3 (0 : Fin 1) (0 : Fin 1) k)).toNat :=
  Nat.mod_eq_of_lt (hw k)

end Cert.ExpertsIdeal.Moe

end
-- ==== Proof.ExpertsIdeal.Trips.lean ====
module

public import proofs.«01_k».proof.Proof.ExpertsIdeal.Half
public import proofs.«01_k».proof.Proof.Gen.ExpertsIdeal.Loops

@[expose] public section

set_option maxRecDepth 16384
set_option Elab.async false

noncomputable section

namespace Cert.ExpertsIdeal.Moe

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf UD)

variable {F : FTy → Type} [FloatOps F]

local notation "𝕄" => MT nD τ sig Unit (Elt F) ℕ (UD sig nD τ) ℕ

/-! ## The offsets the loops compute -/

theorem trips1 : k0_t1_loop.trips = 256 := by decide +kernel
theorem trips2 : k0_t2_loop.trips = 256 := by decide +kernel
theorem trips3 : k0_t3_loop.trips = 256 := by decide +kernel

/-- A trip's number as a row number of a half. -/
abbrev r1 (k : Fin k0_t1_loop.trips) : Fin 256 := k.cast trips1
abbrev r2 (k : Fin k0_t2_loop.trips) : Fin 256 := k.cast trips2
abbrev r3 (k : Fin k0_t3_loop.trips) : Fin 256 := k.cast trips3

/-- A point's number, and the half its rows are in, and the other one. -/
abbrev num (i : grid0.Coords) : ℕ := (i 0).val
def cur (i : grid0.Coords) : Fin 2 := ⟨num i % 2, Nat.mod_lt _ (by decide)⟩
def oth (i : grid0.Coords) : Fin 2 := ⟨(num i + 1) % 2, Nat.mod_lt _ (by decide)⟩

theorem off2_eq : ∀ k : Fin k0_t1_loop.trips, k0_off2 k = ![0, 0, (r1 k).val] := by decide +kernel
theorem off3_eq : ∀ k : Fin k0_t1_loop.trips, k0_off3 k = ![(r1 k).val, 0] := by decide +kernel
theorem off5_eq : ∀ k : Fin k0_t2_loop.trips, k0_off5 k = ![0, 0, (r2 k).val] := by decide +kernel
theorem off8_eq : ∀ k : Fin k0_t2_loop.trips, k0_off8 k = ![(r2 k).val, 0] := by decide +kernel
theorem off14_eq : ∀ k : Fin k0_t3_loop.trips, k0_off14 k = ![(r3 k).val, 0] := by decide +kernel
theorem off6_eq : ∀ i : grid0.Coords, k0_off6 i = ![(oth i).val] := by decide +kernel
theorem off7_eq : ∀ i : grid0.Coords, k0_off7 i = ![(oth i).val, 0, 0] := by decide +kernel
theorem off12_eq : ∀ i : grid0.Coords, k0_off12 i = ![(cur i).val] := by decide +kernel
theorem off13_eq : ∀ i : grid0.Coords, k0_off13 i = ![(cur i).val, 0, 0] := by decide +kernel
theorem off15_eq : ∀ i : grid0.Coords, k0_off15 i = ![(cur i).val, 0, 0] := by decide +kernel
theorem off10_eq : ∀ i : grid0.Coords, k0_off10 i = ![num i - 1] := by decide +kernel
theorem off11_eq : ∀ i : grid0.Coords, k0_off11 i = ![num i] := by decide +kernel
theorem cond1_iff : ∀ i : grid0.Coords, k0_cond1 i = 1#1 ↔ num i = 0 := by decide +kernel

section Trips

variable (c : Dev nD)

/-- A copy whose views are spelled by offsets equal to the canonical ones. -/
theorem issue_at (s : Fin 2) (x : S32768x1024.Idx → Elt F .f32) (iv : Fin 256 → Fin 32768) (k : Fin 256)
    {oC : Fin 1 → ℕ} {oS : Fin 3 → ℕ} {oR oX : Fin 2 → ℕ} (hC : oC = ![s.val]) (hS : oS = ![s.val, 0, 0]) (hR : oR = ![k.val, 0]) (hX : oX = ![(iv k).val, 0])
    {iC : ∀ a, oC a + S1.size a ≤ S2.size a} {iS : ∀ a, oS a + S1x256x1024.size a ≤ S2x256x1024.size a}
    {iR : ∀ a, oR a + S1x1024.size a ≤ S256x1024.size a} {iX : ∀ a, oX a + S1x1024.size a ≤ S32768x1024.size a}
    {hsrc : (xtM.slice (Rect.unit (s := S32768x1024) oX S1x1024.size iX) (fun _ => rfl)).view.WordExact}
    {hdst : (((bufM.slice (Rect.unit (s := S2x256x1024) oS S1x256x1024.size iS) (fun _ => rfl)).squeeze S256x1024 squeezes_S1x256x1024_S256x1024).slice
      (Rect.unit (s := S256x1024) oR S1x1024.size iR) (fun _ => rfl)).view.WordExact}
    {hsem : DmaTarget.Typed (nD := nD) (τ := τ) (sig := sig) (p := .tc) .hbm (.dma ((cc0_scratch1.slice (Rect.unit (s := S2) oC S1.size iC)).squeeze S_ squeezes_S1_S_).sem)
      (.here (((bufM.slice (Rect.unit (s := S2x256x1024) oS S1x256x1024.size iS) (fun _ => rfl)).squeeze S256x1024 squeezes_S1x256x1024_S256x1024).slice
      (Rect.unit (s := S256x1024) oR S1x1024.size iR) (fun _ => rfl)))}
    {α : Type} {kk : PUnit → Prog (TpuEff nD τ sig (Elt F) Λ₀ .tc) α} {Q : α → sProp 𝕄} :
    iprop(hold c s x iv k.val ∗ batch c s x iv k.val 0)
      ⊢ iprop((iprop(hold c s x iv (k.val + 1) ∗ batch c s x iv (k.val + 1) 0) -∗ wp frame (wpE (defs₀ (F := F)) Variants.none (c : Thread nD τ) none) Set.univ (kk ⟨⟩) Q)
        -∗ wp frame (wpE (defs₀ (F := F)) Variants.none (c : Thread nD τ) none) Set.univ
          (.op (.enqueueDmaAs (xtM.slice (Rect.unit (s := S32768x1024) oX S1x1024.size iX) (fun _ => rfl))
            (.here (((bufM.slice (Rect.unit (s := S2x256x1024) oS S1x256x1024.size iS) (fun _ => rfl)).squeeze S256x1024 squeezes_S1x256x1024_S256x1024).slice
              (Rect.unit (s := S256x1024) oR S1x1024.size iR) (fun _ => rfl)))
            .same (.dma ((cc0_scratch1.slice (Rect.unit (s := S2) oC S1.size iC)).squeeze S_ squeezes_S1_S_).sem) hsrc hdst hsem) kk) Q) := by
  subst hC hS hR hX
  exact issue_one c s x iv k

variable (i : grid0.Coords) (arg1 : Memref sig .tc .smem S288 .i32) (harg1 : arg1.IsWhole) (arg2 : Memref sig .tc .smem S1 .i32) (harg2 : arg2.IsWhole)
  (arg3 : Memref sig .tc .smem S1x1x256 .i32) (harg3 : arg3.IsWhole) (arg4 : Memref sig .tc .smem S1x1x256 .i32) (harg4 : arg4.IsWhole)
  (arg6 : Memref sig .tc .vmem S1x1024x1024 .f32) (harg6 : arg6.IsWhole)
  (arg7 : Memref sig .tc .vmem S1x512x1024 .f32) (harg7 : arg7.IsWhole) (arg8 : Memref sig .tc .vmem S256x1024 .f32) (harg8 : arg8.IsWhole)
  (arg11 : Memref sig .tc .vmem S1024x1024 .bf16) (harg11 : arg11.IsWhole) (arg12 : Memref sig .tc .vmem S512x1024 .bf16) (harg12 : arg12.IsWhole)

/-- The word a trip loads from a block of the table. -/
theorem word_read (a : Memref sig .tc .smem S1x1x256 .i32) (w : S1x1x256.Idx → Elt F .i32) (k : Fin 256)
    {o : Fin 3 → ℕ} (ho : o = ![0, 0, k.val]) (h : ∀ z, o z + S1x1x1.size z ≤ S1x1x256.size z) (y : S1x1x1.Idx) :
    View.readAt (Elt F) a.view (Rect.unit (s := S1x1x256) o S1x1x1.size h).toLoadRect (a.view.rep w) y = w (ix3 (0 : Fin 1) (0 : Fin 1) k) := by
  subst ho
  rw [View.readAt_apply, View.read_rep]
  congr 1
  funext z; apply Fin.ext
  have h0 : (y 0).val < 1 := (y 0).isLt
  have h1 : (y 1).val < 1 := (y 1).isLt
  have h2 : (y 2).val < 1 := (y 2).isLt
  fin_cases z
  · show 0 + 1 * (y 0).val = 0; omega
  · show 0 + 1 * (y 1).val = 0; omega
  · show k.val + 1 * (y 2).val = k.val; omega

theorem row_fits (n : ℕ) (hn : n < 32768) : ∀ a, (![n, 0] : Fin 2 → ℕ) a + S1x1024.size a ≤ S32768x1024.size a := inbX ⟨n, hn⟩

/-- Before trip `k` of the first issue loop. -/
def inv1 (x : S32768x1024.Idx → Elt F .f32) (w : S1x1x256.Idx → Elt F .i32) (k : ℕ) (_ : Unit) : sProp 𝕄 :=
  iprop(hold c 0 x (ivOf w) k ∗ batch c 0 x (ivOf w) k 0 ∗ (arg3.view.loc (c : Thread nD τ) ↦[arg3.view.set]{fullShare} arg3.view.rep w))

theorem step1 (x : S32768x1024.Idx → Elt F .f32) (w : S1x1x256.Idx → Elt F .i32) (hw : InRows w) (h1 : k0_cond1 i = 1#1) (k : Fin k0_t1_loop.trips) (acc : Unit) :
    inv1 c arg3 x w k acc ⊢ wp frame (wpE (defs₀ (F := F)) Variants.none (c : Thread nD τ) none) Set.univ
      (k0_t1_body (F := F) i arg1 harg1 arg2 harg2 arg3 harg3 arg4 harg4 xtM (Memref.isWhole_whole _) arg6 harg6 arg7 harg7 arg8 harg8 bufM (Memref.isWhole_whole _) cc0_scratch1 arg11 harg11 arg12 harg12 h1 k acc)
      (inv1 c arg3 x w (k.val + 1)) := by
  unfold inv1
  iintro ⟨HH, HB, HT⟩
  dsimp only [k0_t1_body]
  sl_exec
  have hr : step1.sl.r i arg3 w h1 k = w (ix3 (0 : Fin 1) (0 : Fin 1) (r1 k)) := by
    unfold step1.sl.r; exact word_read arg3 w (r1 k) (off2_eq k) _ _
  have hX : k0_off4 (step1.sl.r i arg3 w h1 k) = ![(ivOf w (r1 k)).val, 0] := by
    rw [hr, ivOf_val hw]; rfl
  have hk : k0_chk1 i (step1.sl.r i arg3 w h1 k) := fun _ => hX ▸ inbX _
  iapply (wp_assume Variants.none (c : Thread nD τ) none Set.univ hk)
  iapply (issue_at c 0 x (ivOf w) (r1 k) (oC := ![0]) (oS := ![0, 0, 0]) rfl rfl (off3_eq k) hX) $$ [HH HB]
  · isplitl [HH]; · iexact HH
    iexact HB
  iintro ⟨HH, HB⟩
  dsimp only [Prog.bind]
  sl_step
  isplitl [HH]; · iexact HH
  isplitl [HB]; · iexact HB
  iexact HT

/-- Before trip `k` of the second issue loop. -/
def inv2 (x : S32768x1024.Idx → Elt F .f32) (w : S1x1x256.Idx → Elt F .i32) (k : ℕ) (_ : Unit) : sProp 𝕄 :=
  iprop(hold c (oth i) x (ivOf w) k ∗ batch c (oth i) x (ivOf w) k 0 ∗ (arg4.view.loc (c : Thread nD τ) ↦[arg4.view.set]{fullShare} arg4.view.rep w))

theorem step2 (x : S32768x1024.Idx → Elt F .f32) (w : S1x1x256.Idx → Elt F .i32) (hw : InRows w) (v0 : Elt F .i32) (h2 : k0_cond2 i v0 = 1#1) (k : Fin k0_t2_loop.trips) (acc : Unit) :
    inv2 c i arg4 x w k acc ⊢ wp frame (wpE (defs₀ (F := F)) Variants.none (c : Thread nD τ) none) Set.univ
      (k0_t2_body (F := F) i arg1 harg1 arg2 harg2 arg3 harg3 arg4 harg4 xtM (Memref.isWhole_whole _) arg6 harg6 arg7 harg7 arg8 harg8 bufM (Memref.isWhole_whole _) cc0_scratch1 arg11 harg11 arg12 harg12 v0 h2 k acc)
      (inv2 c i arg4 x w (k.val + 1)) := by
  unfold inv2
  iintro ⟨HH, HB, HT⟩
  dsimp only [k0_t2_body]
  sl_exec
  have hr : step2.sl.r arg4 w k = w (ix3 (0 : Fin 1) (0 : Fin 1) (r2 k)) := by
    unfold step2.sl.r; exact word_read arg4 w (r2 k) (off5_eq k) _ _
  have hX : k0_off9 (step2.sl.r arg4 w k) = ![(ivOf w (r2 k)).val, 0] := by
    rw [hr, ivOf_val hw]; rfl
  have hk : k0_chk2 i v0 (step2.sl.r arg4 w k) := fun _ => hX ▸ inbX _
  iapply (wp_assume Variants.none (c : Thread nD τ) none Set.univ hk)
  iapply (issue_at c (oth i) x (ivOf w) (r2 k) (off6_eq i) (off7_eq i) (off8_eq k) hX) $$ [HH HB]
  · isplitl [HH]; · iexact HH
    iexact HB
  iintro ⟨HH, HB⟩
  dsimp only [Prog.bind]
  sl_step
  isplitl [HH]; · iexact HH
  isplitl [HB]; · iexact HB
  iexact HT

/-! ## Waiting for a half's copies -/

/-- A wait for one row's credit, its views spelled by offsets equal to the canonical ones, all but the last; -/
theorem wait_at (s : Fin 2) (x : S32768x1024.Idx → Elt F .f32) (iv : Fin 256 → Fin 32768) (k : Fin 256) (u : ℕ) (hu : u + NN < NN * 256) (W : Waits sig Unit)
    {oC : Fin 1 → ℕ} {oS : Fin 3 → ℕ} {oR oX : Fin 2 → ℕ} (hC : oC = ![s.val]) (hS : oS = ![s.val, 0, 0]) (hR : oR = ![k.val, 0])
    {iC : ∀ a, oC a + S1.size a ≤ S2.size a} {iS : ∀ a, oS a + S1x256x1024.size a ≤ S2x256x1024.size a}
    {iR : ∀ a, oR a + S1x1024.size a ≤ S256x1024.size a} {iX : ∀ a, oX a + S1x1024.size a ≤ S32768x1024.size a}
    {hsrc : (xtM.slice (Rect.unit (s := S32768x1024) oX S1x1024.size iX) (fun _ => rfl)).view.WordExact}
    {hdst : (((bufM.slice (Rect.unit (s := S2x256x1024) oS S1x256x1024.size iS) (fun _ => rfl)).squeeze S256x1024 squeezes_S1x256x1024_S256x1024).slice
      (Rect.unit (s := S256x1024) oR S1x1024.size iR) (fun _ => rfl)).view.WordExact}
    {α : Type} {kk : PUnit → Prog (TpuEff nD τ sig (Elt F) Λ₀ .tc) α} {Q : α → sProp 𝕄} :
    iprop(batch c s x iv 256 u ∗ owes (c : Thread nD τ) 0 W)
      ⊢ iprop((iprop(batch c s x iv 256 (u + NN) ∗ owes (c : Thread nD τ) 0 (insert (SemLoc.dma (cellD s), ()) W)) -∗ wp frame (wpE (defs₀ (F := F)) Variants.none (c : Thread nD τ) none) Set.univ (kk ⟨⟩) Q)
        -∗ wp frame (wpE (defs₀ (F := F)) Variants.none (c : Thread nD τ) none) Set.univ
          (.op (.waitDma2 ((cc0_scratch1.slice (Rect.unit (s := S2) oC S1.size iC)).squeeze S_ squeezes_S1_S_).sem
            (xtM.slice (Rect.unit (s := S32768x1024) oX S1x1024.size iX) (fun _ => rfl))
            (((bufM.slice (Rect.unit (s := S2x256x1024) oS S1x256x1024.size iS) (fun _ => rfl)).squeeze S256x1024 squeezes_S1x256x1024_S256x1024).slice
              (Rect.unit (s := S256x1024) oR S1x1024.size iR) (fun _ => rfl)) hsrc hdst) kk) Q) := by
  subst hC hS hR
  exact Transfers.wp_waitBatch (countersEmb (U := UD sig nD τ)) Variants.none (c : Thread nD τ) none (D := dlv c s x iv) () (rowD_credit s k) hu

/-- and the last, which hands over every delivery and the counter at zero. -/
theorem wait_last (s : Fin 2) (x : S32768x1024.Idx → Elt F .f32) (iv : Fin 256 → Fin 32768) (k : Fin 256) (u : ℕ) (hu : u + NN = NN * 256) (W : Waits sig Unit)
    {oC : Fin 1 → ℕ} {oS : Fin 3 → ℕ} {oR oX : Fin 2 → ℕ} (hC : oC = ![s.val]) (hS : oS = ![s.val, 0, 0]) (hR : oR = ![k.val, 0])
    {iC : ∀ a, oC a + S1.size a ≤ S2.size a} {iS : ∀ a, oS a + S1x256x1024.size a ≤ S2x256x1024.size a}
    {iR : ∀ a, oR a + S1x1024.size a ≤ S256x1024.size a} {iX : ∀ a, oX a + S1x1024.size a ≤ S32768x1024.size a}
    {hsrc : (xtM.slice (Rect.unit (s := S32768x1024) oX S1x1024.size iX) (fun _ => rfl)).view.WordExact}
    {hdst : (((bufM.slice (Rect.unit (s := S2x256x1024) oS S1x256x1024.size iS) (fun _ => rfl)).squeeze S256x1024 squeezes_S1x256x1024_S256x1024).slice
      (Rect.unit (s := S256x1024) oR S1x1024.size iR) (fun _ => rfl)).view.WordExact}
    {α : Type} {kk : PUnit → Prog (TpuEff nD τ sig (Elt F) Λ₀ .tc) α} {Q : α → sProp 𝕄} :
    iprop(batch c s x iv 256 u ∗ owes (c : Thread nD τ) 0 W)
      ⊢ iprop((iprop(bigSep Finset.univ (dlv c s x iv) ∗ semVal ((c : Thread nD τ), SemLoc.dma (cellD s)) 0 ∗ owes (c : Thread nD τ) 0 (insert (SemLoc.dma (cellD s), ()) W)) -∗ wp frame (wpE (defs₀ (F := F)) Variants.none (c : Thread nD τ) none) Set.univ (kk ⟨⟩) Q)
        -∗ wp frame (wpE (defs₀ (F := F)) Variants.none (c : Thread nD τ) none) Set.univ
          (.op (.waitDma2 ((cc0_scratch1.slice (Rect.unit (s := S2) oC S1.size iC)).squeeze S_ squeezes_S1_S_).sem
            (xtM.slice (Rect.unit (s := S32768x1024) oX S1x1024.size iX) (fun _ => rfl))
            (((bufM.slice (Rect.unit (s := S2x256x1024) oS S1x256x1024.size iS) (fun _ => rfl)).squeeze S256x1024 squeezes_S1x256x1024_S256x1024).slice
              (Rect.unit (s := S256x1024) oR S1x1024.size iR) (fun _ => rfl)) hsrc hdst) kk) Q) := by
  subst hC hS hR
  exact Transfers.wp_waitBatchLast (countersEmb (U := UD sig nD τ)) Variants.none (c : Thread nD τ) none (D := dlv c s x iv) () (rowD_credit s k) NN_pos hu

/-- Before trip `k` of the waiting loop: the batch with `k` rows' credit consumed; after the last, the deliveries. -/
def inv3 (x : S32768x1024.Idx → Elt F .f32) (iv : Fin 256 → Fin 32768) (k : ℕ) (_ : Unit) : sProp 𝕄 :=
  iprop((∃ W, owes (c : Thread nD τ) 0 W) ∗ if k < 256 then batch c (cur i) x iv 256 (k * NN)
    else iprop(bigSep Finset.univ (dlv c (cur i) x iv) ∗ semVal ((c : Thread nD τ), SemLoc.dma (cellD (cur i))) 0))

theorem step3 (x : S32768x1024.Idx → Elt F .f32) (iv : Fin 256 → Fin 32768) (k : Fin k0_t3_loop.trips) (acc : Unit) :
    inv3 c i x iv k acc ⊢ wp frame (wpE (defs₀ (F := F)) Variants.none (c : Thread nD τ) none) Set.univ
      (k0_t3_body (F := F) i arg1 harg1 arg2 harg2 arg3 harg3 arg4 harg4 xtM (Memref.isWhole_whole _) arg6 harg6 arg7 harg7 arg8 harg8 bufM (Memref.isWhole_whole _) cc0_scratch1 arg11 harg11 arg12 harg12 k acc)
      (inv3 c i x iv (k.val + 1)) := by
  have hk : k.val < 256 := (r3 k).isLt
  have hm : k.val * NN + NN = (k.val + 1) * NN := by ring
  unfold inv3
  rw [if_pos hk]
  iintro ⟨⟨%W, HO⟩, HB⟩
  dsimp only [k0_t3_body]
  rcases Nat.lt_or_ge (k.val + 1) 256 with h | h
  · rw [if_pos h]
    have hu : k.val * NN + NN < NN * 256 := by
      rw [hm, Nat.mul_comm NN]; exact Nat.mul_lt_mul_of_pos_right h NN_pos
    iapply (wait_at c (cur i) x iv (r3 k) (k.val * NN) hu W (oX := ![0, 0]) (off12_eq i) (off13_eq i) (off14_eq k)) $$ [HB HO]
    · isplitl [HB]; · iexact HB
      iexact HO
    iintro ⟨HB, HO⟩
    dsimp only [Prog.bind]
    sl_step
    isplitl [HO]; · iexists _; iexact HO
    rw [← hm]; iexact HB
  · rw [if_neg (Nat.not_lt.mpr h)]
    have hu : k.val * NN + NN = NN * 256 := by
      rw [hm, Nat.mul_comm NN, show k.val + 1 = 256 by omega]
    iapply (wait_last c (cur i) x iv (r3 k) (k.val * NN) hu W (oX := ![0, 0]) (off12_eq i) (off13_eq i) (off14_eq k)) $$ [HB HO]
    · isplitl [HB]; · iexact HB
      iexact HO
    iintro ⟨HD, HC, HO⟩
    dsimp only [Prog.bind]
    sl_step
    isplitl [HO]; · iexists _; iexact HO
    isplitl [HD]; · iexact HD
    iexact HC

end Trips

end Cert.ExpertsIdeal.Moe

end
-- ==== Proof.ExpertsIdeal.Fetch.lean ====
module

public import proofs.«01_k».proof.Proof.ExpertsIdeal.Trips

@[expose] public section

set_option maxRecDepth 16384
set_option Elab.async false

noncomputable section

namespace Cert.ExpertsIdeal.Moe

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf UD)

variable {F : FTy → Type} [FloatOps F]

local notation "𝕄" => MT nD τ sig Unit (Elt F) ℕ (UD sig nD τ) ℕ

section Loops

variable (c : Dev nD)
variable (i : grid0.Coords) (arg1 : Memref sig .tc .smem S288 .i32) (harg1 : arg1.IsWhole) (arg2 : Memref sig .tc .smem S1 .i32) (harg2 : arg2.IsWhole)
  (arg3 : Memref sig .tc .smem S1x1x256 .i32) (harg3 : arg3.IsWhole) (arg4 : Memref sig .tc .smem S1x1x256 .i32) (harg4 : arg4.IsWhole)
  (arg6 : Memref sig .tc .vmem S1x1024x1024 .f32) (harg6 : arg6.IsWhole)
  (arg7 : Memref sig .tc .vmem S1x512x1024 .f32) (harg7 : arg7.IsWhole) (arg8 : Memref sig .tc .vmem S256x1024 .f32) (harg8 : arg8.IsWhole)
  (arg11 : Memref sig .tc .vmem S1024x1024 .bf16) (harg11 : arg11.IsWhole) (arg12 : Memref sig .tc .vmem S512x1024 .bf16) (harg12 : arg12.IsWhole)

/-- The first issue loop turns a free half 0 into a busy one, and the program goes on from there. -/
theorem loop1 (x : S32768x1024.Idx → Elt F .f32) (w : S1x1x256.Idx → Elt F .i32) (hw : InRows w) (h1 : k0_cond1 i = 1#1)
    {β : Type} (kk : Unit → Prog (TpuEff nD τ sig (Elt F) Λ₀ .tc) β) (Q : β → sProp 𝕄) :
    iprop(slotFree c 0 x ∗ (arg3.view.loc (c : Thread nD τ) ↦[arg3.view.set]{fullShare} arg3.view.rep w)) ⊢ iprop(((slotBusy c 0 x (ivOf w) ∗ (arg3.view.loc (c : Thread nD τ) ↦[arg3.view.set]{fullShare} arg3.view.rep w)) -∗ wp frame (wpE (defs₀ (F := F)) Variants.none (c : Thread nD τ) none) Set.univ (kk ⟨⟩) Q)
      -∗ wp frame (wpE (defs₀ (F := F)) Variants.none (c : Thread nD τ) none) Set.univ
        (Scf.for k0_t1_loop.lb k0_t1_loop.ub k0_t1_loop.st (k0_t1_ok i h1) () (k0_t1_body (F := F) i arg1 harg1 arg2 harg2 arg3 harg3 arg4 harg4 xtM (Memref.isWhole_whole _) arg6 harg6 arg7 harg7 arg8 harg8 bufM (Memref.isWhole_whole _) cc0_scratch1 arg11 harg11 arg12 harg12 h1) >>= kk) Q) := by
  iintro ⟨HS, HT⟩ HK
  iapply (fupd_wp _ _ _ _ _)
  imod (slot_open c 0 x (ivOf w)) $$ HS with ⟨HH, HB, HL⟩
  imodintro
  iapply (Scf.wp_for_bind frame (wpE (defs₀ (F := F)) Variants.none (c : Thread nD τ) none) Set.univ _ _ _ (k0_t1_ok i h1) () _ (inv1 c arg3 x w)
    (step1 c i arg1 harg1 arg2 harg2 arg3 harg3 arg4 harg4 arg6 harg6 arg7 harg7 arg8 harg8 arg11 harg11 arg12 harg12 x w hw h1)) $$ [HH HB HT]
  · unfold inv1
    isplitl [HH]; · iexact HH
    isplitl [HB]; · iexact HB
    iexact HT
  iintro %acc HI
  ihave HI' := (show inv1 c arg3 x w (Scf.trips k0_t1_loop.lb k0_t1_loop.ub k0_t1_loop.st) acc ⊢ inv1 c arg3 x w 256 acc from
    Entails.of_eq (congrArg (fun n => inv1 c arg3 x w n acc) trips1)) $$ HI
  unfold inv1
  icases HI' with ⟨HH, HB, HT⟩
  iapply HK
  isplitl [HH HB HL]
  · unfold slotBusy
    isplitl [HH]; · iexact HH
    isplitl [HB]; · iexact HB
    iexact HL
  iexact HT

/-- The second issue loop does so with the other half. -/
theorem loop2 (x : S32768x1024.Idx → Elt F .f32) (w : S1x1x256.Idx → Elt F .i32) (hw : InRows w) (v0 : Elt F .i32) (h2 : k0_cond2 i v0 = 1#1)
    {β : Type} (kk : Unit → Prog (TpuEff nD τ sig (Elt F) Λ₀ .tc) β) (Q : β → sProp 𝕄) :
    iprop(slotFree c (oth i) x ∗ (arg4.view.loc (c : Thread nD τ) ↦[arg4.view.set]{fullShare} arg4.view.rep w)) ⊢ iprop(((slotBusy c (oth i) x (ivOf w) ∗ (arg4.view.loc (c : Thread nD τ) ↦[arg4.view.set]{fullShare} arg4.view.rep w)) -∗ wp frame (wpE (defs₀ (F := F)) Variants.none (c : Thread nD τ) none) Set.univ (kk ⟨⟩) Q)
      -∗ wp frame (wpE (defs₀ (F := F)) Variants.none (c : Thread nD τ) none) Set.univ
        (Scf.for k0_t2_loop.lb k0_t2_loop.ub k0_t2_loop.st k0_t2_ok () (k0_t2_body (F := F) i arg1 harg1 arg2 harg2 arg3 harg3 arg4 harg4 xtM (Memref.isWhole_whole _) arg6 harg6 arg7 harg7 arg8 harg8 bufM (Memref.isWhole_whole _) cc0_scratch1 arg11 harg11 arg12 harg12 v0 h2) >>= kk) Q) := by
  iintro ⟨HS, HT⟩ HK
  iapply (fupd_wp _ _ _ _ _)
  imod (slot_open c (oth i) x (ivOf w)) $$ HS with ⟨HH, HB, HL⟩
  imodintro
  iapply (Scf.wp_for_bind frame (wpE (defs₀ (F := F)) Variants.none (c : Thread nD τ) none) Set.univ _ _ _ k0_t2_ok () _ (inv2 c i arg4 x w)
    (step2 c i arg1 harg1 arg2 harg2 arg3 harg3 arg4 harg4 arg6 harg6 arg7 harg7 arg8 harg8 arg11 harg11 arg12 harg12 x w hw v0 h2)) $$ [HH HB HT]
  · unfold inv2
    isplitl [HH]; · iexact HH
    isplitl [HB]; · iexact HB
    iexact HT
  iintro %acc HI
  ihave HI' := (show inv2 c i arg4 x w (Scf.trips k0_t2_loop.lb k0_t2_loop.ub k0_t2_loop.st) acc ⊢ inv2 c i arg4 x w 256 acc from
    Entails.of_eq (congrArg (fun n => inv2 c i arg4 x w n acc) trips2)) $$ HI
  unfold inv2
  icases HI' with ⟨HH, HB, HT⟩
  iapply HK
  isplitl [HH HB HL]
  · unfold slotBusy
    isplitl [HH]; · iexact HH
    isplitl [HB]; · iexact HB
    iexact HL
  iexact HT

/-- The wait loop turns the point's busy half into its gathered rows. -/
theorem loop3 (x : S32768x1024.Idx → Elt F .f32) (iv : Fin 256 → Fin 32768)
    {β : Type} (kk : Unit → Prog (TpuEff nD τ sig (Elt F) Λ₀ .tc) β) (Q : β → sProp 𝕄) :
    iprop((∃ W, owes (c : Thread nD τ) 0 W) ∗ slotBusy c (cur i) x iv) ⊢ iprop((((∃ W, owes (c : Thread nD τ) 0 W) ∗ (bufLoc c ↦[halfSet (cur i)]{fullShare} gat x iv) ∗ semVal ((c : Thread nD τ), SemLoc.dma (cellD (cur i))) 0 ∗ (xtLoc c ↦{hf (cur i)} x)) -∗ wp frame (wpE (defs₀ (F := F)) Variants.none (c : Thread nD τ) none) Set.univ (kk ⟨⟩) Q)
      -∗ wp frame (wpE (defs₀ (F := F)) Variants.none (c : Thread nD τ) none) Set.univ
        (Scf.for k0_t3_loop.lb k0_t3_loop.ub k0_t3_loop.st k0_t3_ok () (k0_t3_body (F := F) i arg1 harg1 arg2 harg2 arg3 harg3 arg4 harg4 xtM (Memref.isWhole_whole _) arg6 harg6 arg7 harg7 arg8 harg8 bufM (Memref.isWhole_whole _) cc0_scratch1 arg11 harg11 arg12 harg12) >>= kk) Q) := by
  unfold slotBusy
  iintro ⟨HO, HH, HB, HL⟩ HK
  iapply (Scf.wp_for_bind frame (wpE (defs₀ (F := F)) Variants.none (c : Thread nD τ) none) Set.univ _ _ _ k0_t3_ok () _ (inv3 c i x iv)
    (step3 c i arg1 harg1 arg2 harg2 arg3 harg3 arg4 harg4 arg6 harg6 arg7 harg7 arg8 harg8 arg11 harg11 arg12 harg12 x iv)) $$ [HO HB]
  · unfold inv3
    rw [if_pos (by decide : 0 < 256), Nat.zero_mul]
    isplitl [HO]; · iexact HO
    iexact HB
  iintro %acc HI
  ihave HI' := (show inv3 c i x iv (Scf.trips k0_t3_loop.lb k0_t3_loop.ub k0_t3_loop.st) acc ⊢ iprop((∃ W, owes (c : Thread nD τ) 0 W)
      ∗ bigSep Finset.univ (dlv c (cur i) x iv) ∗ semVal ((c : Thread nD τ), SemLoc.dma (cellD (cur i))) 0) from
    Entails.of_eq ((congrArg (fun n => inv3 c i x iv n acc) trips3).trans (by unfold inv3; rw [if_neg (by decide : ¬ 256 < 256)]))) $$ HI
  icases HI' with ⟨HO, HD, HC⟩
  ihave HG := (slot_close c (cur i) x iv) $$ [HD HH HL]
  · isplitl [HD]; · iexact HD
    isplitl [HH]; · iexact HH
    iexact HL
  icases HG with ⟨HG, HX⟩
  iapply HK
  isplitl [HO]; · iexact HO
  isplitl [HG]; · iexact HG
  isplitl [HC]; · iexact HC
  iexact HX

end Loops

end Cert.ExpertsIdeal.Moe

end
-- ==== Proof.ExpertsIdeal.Point.lean ====
module

public import proofs.«01_k».proof.Proof.ExpertsIdeal.Fetch
public import Idealize.ShloMosaic.Lib.VecWindow

@[expose] public section

set_option maxRecDepth 16384
set_option Elab.async false

noncomputable section

namespace Cert.ExpertsIdeal.Moe

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf UD)

variable {F : FTy → Type} [FloatOps F]

local notation "𝕄" => MT nD τ sig Unit (Elt F) ℕ (UD sig nD τ) ℕ

/-- The tables, and the scratch for the expert's weights, whole. -/
abbrev teM : Memref sig .tc .smem S288 .i32 := Memref.whole main_arg0
abbrev nuM : Memref sig .tc .smem S1 .i32 := Memref.whole main_arg1
abbrev wgM : Memref sig .tc .vmem S1024x1024 .bf16 := Memref.whole cc0_scratch2
abbrev wdM : Memref sig .tc .vmem S512x1024 .bf16 := Memref.whole cc0_scratch3

/-- The count of used tiles, the expert of the tile before and the tile's own expert, as the body reads them. -/
abbrev vN (nu : S1.Idx → Elt F .i32) : BitVec 32 :=
  View.readAt (Elt F) nuM.view (Rect.unit (s := S1) ![0] S1.size inb_S1_S1_0).toLoadRect nu (Shape.Idx.first (numel1_S1.symm ▸ Nat.one_pos))
abbrev vP (te : S288.Idx → Elt F .i32) (i : grid0.Coords) (h : ∀ z, k0_off10 i z + S1.size z ≤ S288.size z) : BitVec 32 :=
  View.readAt (Elt F) teM.view (Rect.unit (s := S288) (k0_off10 i) S1.size h).toLoadRect te (Shape.Idx.first (numel1_S1.symm ▸ Nat.one_pos))
abbrev vE (te : S288.Idx → Elt F .i32) (i : grid0.Coords) (h : ∀ z, k0_off11 i z + S1.size z ≤ S288.size z) : BitVec 32 :=
  View.readAt (Elt F) teM.view (Rect.unit (s := S288) (k0_off11 i) S1.size h).toLoadRect te (Shape.Idx.first (numel1_S1.symm ▸ Nat.one_pos))

/-- The condition under which the body loads the tile's expert: the first tile, or another expert than the tile before. -/
abbrev Loads (te : S288.Idx → Elt F .i32) (i : grid0.Coords) : Prop :=
  Scalar.cmpi CmpIPredicate.ne (Scalar.extui (Scalar.ori (Scalar.cmpi CmpIPredicate.eq (BitVec.ofNat 32 (i 0).val) 0#32)
    (Scalar.cmpi CmpIPredicate.ne (vE te i (k0_off11_inb i)) (vP te i (k0_off10_inb i))))) 0#32 = 1#1

/-- The rows a block of the table names, as one tile. -/
def rowsOf (x : S32768x1024.Idx → Elt F .f32) (iv : Fin 256 → Fin 32768) : S1x256x1024.Idx → Elt F .f32 := fun y => x (ix2 (iv (y 1)) (y 2))

/-- The tile read back from the half it was gathered into. -/
theorem tile_read (i : grid0.Coords) (x : S32768x1024.Idx → Elt F .f32) (iv : Fin 256 → Fin 32768) (h : ∀ z, k0_off15 i z + S1x256x1024.size z ≤ S2x256x1024.size z) :
    View.readAt (Elt F) bufM.view (Rect.unit (s := S2x256x1024) (k0_off15 i) S1x256x1024.size h).toLoadRect (gat x iv) = rowsOf x iv := by
  funext y
  rw [View.readAt_apply]
  have e := off15_eq i
  show x (ix2 (iv ((Rect.unit (s := S2x256x1024) (k0_off15 i) S1x256x1024.size h).toLoadRect.idx y 1)) ((Rect.unit (s := S2x256x1024) (k0_off15 i) S1x256x1024.size h).toLoadRect.idx y 2)) = x (ix2 (iv (y 1)) (y 2))
  have h1 : (Rect.unit (s := S2x256x1024) (k0_off15 i) S1x256x1024.size h).toLoadRect.idx y 1 = y 1 := Fin.ext (by
    have e1 : k0_off15 i 1 = 0 := congrFun e 1
    show k0_off15 i 1 + 1 * (y 1).val = (y 1).val
    omega)
  have h2 : (Rect.unit (s := S2x256x1024) (k0_off15 i) S1x256x1024.size h).toLoadRect.idx y 2 = y 2 := Fin.ext (by
    have e2 : k0_off15 i 2 = 0 := congrFun e 2
    show k0_off15 i 2 + 1 * (y 2).val = (y 2).val
    omega)
  rw [h1, h2]

theorem tile_set (i : grid0.Coords) (h : ∀ z, k0_off15 i z + S1x256x1024.size z ≤ S2x256x1024.size z) :
    bufM.view.setOn (Rect.unit (s := S2x256x1024) (k0_off15 i) S1x256x1024.size h).toLoadRect.set ⊆ halfSet (cur i) := by
  intro (y : S2x256x1024.Idx) hy
  obtain ⟨z, hz, rfl⟩ := Finset.mem_map.mp hy
  obtain ⟨j, hj, e⟩ := (LoadRect.mem_set _).mp hz 0
  refine (mem_halfSet _ _).mpr ?_
  have e' := off15_eq i
  show (z 0).val = (cur i).val
  have hj' : j < 1 := hj
  have e2 : (z 0 : ℕ) = k0_off15 i 0 + 1 * j := e
  rw [e', show (![(cur i).val, 0, 0] : Fin 3 → ℕ) 0 = (cur i).val from rfl] at e2
  omega

/-- What the scratch for the gate and up weights holds once the tile's expert is there, loaded now or before. -/
theorem wg_read (p : Prop) [Decidable p] (g : Buf (Elt F) (wgM.view.loc ((0 : Dev nD) : Thread nD τ))) (a : Memref sig .tc .vmem S1x1024x1024 .f32) (Wg : S1x1024x1024.Idx → Elt F .f32)
    (hr : ¬ p → wgM.view.read (Elt F) g = k0_pay1 (F := F) Wg) :
    wgM.view.read (Elt F) (if hc : p then wgM.view.writes (Elt F) g [⟨Rect.unit ![0, 0] S1024x1024.size inb_S1024x1024_S1024x1024_0_0,
        k0_pay1 (F := F) (View.readAt (Elt F) a.view (Rect.unit ![0, 0, 0] S1x1024x1024.size inb_S1x1024x1024_S1x1024x1024_0_0_0).toLoadRect (a.view.rep Wg))⟩] else g)
      = k0_pay1 (F := F) Wg := by
  split
  · rw [View.read_writes_full, View.readAt_rep_full]
  · exact hr ‹_›

theorem wd_read (p : Prop) [Decidable p] (g : Buf (Elt F) (wdM.view.loc ((0 : Dev nD) : Thread nD τ))) (a : Memref sig .tc .vmem S1x512x1024 .f32) (Wd : S1x512x1024.Idx → Elt F .f32)
    (hr : ¬ p → wdM.view.read (Elt F) g = k0_pay2 (F := F) Wd) :
    wdM.view.read (Elt F) (if hc : p then wdM.view.writes (Elt F) g [⟨Rect.unit ![0, 0] S512x1024.size inb_S512x1024_S512x1024_0_0,
        k0_pay2 (F := F) (View.readAt (Elt F) a.view (Rect.unit ![0, 0, 0] S1x512x1024.size inb_S1x512x1024_S1x512x1024_0_0_0).toLoadRect (a.view.rep Wd))⟩] else g)
      = k0_pay2 (F := F) Wd := by
  split
  · rw [View.read_writes_full, View.readAt_rep_full]
  · exact hr ‹_›

section Whole

variable (c : Dev nD)
variable (i : grid0.Coords)
  (arg3 : Memref sig .tc .smem S1x1x256 .i32) (harg3 : arg3.IsWhole) (arg4 : Memref sig .tc .smem S1x1x256 .i32) (harg4 : arg4.IsWhole)
  (arg6 : Memref sig .tc .vmem S1x1024x1024 .f32) (harg6 : arg6.IsWhole)
  (arg7 : Memref sig .tc .vmem S1x512x1024 .f32) (harg7 : arg7.IsWhole) (arg8 : Memref sig .tc .vmem S256x1024 .f32) (harg8 : arg8.IsWhole)
variable (te : S288.Idx → Elt F .i32) (nu : S1.Idx → Elt F .i32) (x : S32768x1024.Idx → Elt F .f32)
    (w0 w1 : S1x1x256.Idx → Elt F .i32) (Wg : S1x1024x1024.Idx → Elt F .f32) (Wd : S1x512x1024.Idx → Elt F .f32)
    (g2 : Buf (Elt F) (wgM.view.loc (c : Thread nD τ))) (g3 : Buf (Elt F) (wdM.view.loc (c : Thread nD τ)))

/-- What the body holds at a point: the tables, its blocks, the output's buffer `o`, the weights' scratch, the two halves
    and its account of waits. -/
def Held (o : sProp 𝕄) (g d : sProp 𝕄) (sc so : sProp 𝕄) : sProp 𝕄 :=
  iprop((teM.view.loc (c : Thread nD τ) ↦{fullShare.right} te) ∗ (nuM.view.loc (c : Thread nD τ) ↦{fullShare.right} nu)
       ∗ (arg3.view.loc (c : Thread nD τ) ↦[arg3.view.set]{fullShare} arg3.view.rep w0) ∗ (arg4.view.loc (c : Thread nD τ) ↦[arg4.view.set]{fullShare} arg4.view.rep w1)
       ∗ (arg6.view.loc (c : Thread nD τ) ↦[arg6.view.set]{fullShare} arg6.view.rep Wg) ∗ (arg7.view.loc (c : Thread nD τ) ↦[arg7.view.set]{fullShare} arg7.view.rep Wd)
       ∗ o ∗ g ∗ d
       ∗ sc ∗ so ∗ (∃ W, owes (c : Thread nD τ) 0 W))

/-- The output's buffer at a value, at any; a scratch at a value. -/
abbrev outAt (v : S256x1024.Idx → Elt F .f32) : sProp 𝕄 := iprop(∃ f, ⌜arg8.view.read (Elt F) f = v⌝ ∗ (arg8.view.loc (c : Thread nD τ) ↦[arg8.view.set]{fullShare} f))
abbrev outAny : sProp 𝕄 := iprop(∃ f, (arg8.view.loc (c : Thread nD τ) ↦[arg8.view.set]{fullShare} f))
abbrev wgAt (v : S1024x1024.Idx → Elt F .bf16) : sProp 𝕄 := iprop(∃ g, ⌜wgM.view.read (Elt F) g = v⌝ ∗ (wgM.view.loc (c : Thread nD τ) ↦{fullShare} g))
abbrev wdAt (v : S512x1024.Idx → Elt F .bf16) : sProp 𝕄 := iprop(∃ g, ⌜wdM.view.read (Elt F) g = v⌝ ∗ (wdM.view.loc (c : Thread nD τ) ↦{fullShare} g))

theorem wgIf (p : Prop) [Decidable p] (hr : ¬ p → wgM.view.read (Elt F) g2 = k0_pay1 (F := F) Wg) :
    (wgM.view.loc (c : Thread nD τ) ↦{fullShare} (if hc : p then wgM.view.writes (Elt F) g2 [⟨Rect.unit ![0, 0] S1024x1024.size inb_S1024x1024_S1024x1024_0_0,
        k0_pay1 (F := F) (View.readAt (Elt F) arg6.view (Rect.unit ![0, 0, 0] S1x1024x1024.size inb_S1x1024x1024_S1x1024x1024_0_0_0).toLoadRect (arg6.view.rep Wg))⟩] else g2) : sProp 𝕄)
      ⊢ wgAt c (k0_pay1 (F := F) Wg) := by
  iintro H
  iexists _; isplitr; rotate_left; · iexact H
  ipureintro
  exact wg_read p g2 arg6 Wg hr

theorem wdIf (p : Prop) [Decidable p] (hr : ¬ p → wdM.view.read (Elt F) g3 = k0_pay2 (F := F) Wd) :
    (wdM.view.loc (c : Thread nD τ) ↦{fullShare} (if hc : p then wdM.view.writes (Elt F) g3 [⟨Rect.unit ![0, 0] S512x1024.size inb_S512x1024_S512x1024_0_0,
        k0_pay2 (F := F) (View.readAt (Elt F) arg7.view (Rect.unit ![0, 0, 0] S1x512x1024.size inb_S1x512x1024_S1x512x1024_0_0_0).toLoadRect (arg7.view.rep Wd))⟩] else g3) : sProp 𝕄)
      ⊢ wdAt c (k0_pay2 (F := F) Wd) := by
  iintro H
  iexists _; isplitr; rotate_left; · iexact H
  ipureintro
  exact wd_read p g3 arg7 Wd hr

/-- The tile the body stores at a used point. -/
abbrev tileOut (iv : Fin 256 → Fin 32768) : S256x1024.Idx → Elt F .f32 := k0_pay3 (F := F) (rowsOf x iv) (k0_pay1 (F := F) Wg) (k0_pay2 (F := F) Wd)

set_option maxHeartbeats 4000000 in
/-- At the first point, more tiles used: its rows are issued and drained, the next tile's issued. -/
theorem run_first (hw0 : InRows w0) (hw1 : InRows w1)
    (hr : ¬ Loads te i → wgM.view.read (Elt F) g2 = k0_pay1 (F := F) Wg ∧ wdM.view.read (Elt F) g3 = k0_pay2 (F := F) Wd)
    (h1 : k0_cond1 i = 1#1) (h2 : k0_cond2 i (vN nu) = 1#1) (h3 : k0_cond3 i (vN nu) = 1#1) (h5 : ¬ k0_cond5 i (vN nu) = 1#1) (K : PUnit → sProp 𝕄) :
    iprop(Held c arg3 arg4 arg6 arg7 te nu w0 w1 Wg Wd (outAny c arg8) (wgM.view.loc (c : Thread nD τ) ↦{fullShare} g2) (wdM.view.loc (c : Thread nD τ) ↦{fullShare} g3) (slotFree c (cur i) x) (slotFree c (oth i) x)
      ∗ ((Held c arg3 arg4 arg6 arg7 te nu w0 w1 Wg Wd (outAt c arg8 (tileOut x Wg Wd (ivOf w0))) (wgAt c (k0_pay1 (F := F) Wg)) (wdAt c (k0_pay2 (F := F) Wd)) (slotFree c (cur i) x) (slotBusy c (oth i) x (ivOf w1))) -∗ K ⟨⟩)) ⊢ wp frame (wpE (defs₀ (F := F)) Variants.none (c : Thread nD τ) none) Set.univ
     (cc0_moe_experts (F := F) i teM (Memref.isWhole_whole _) nuM (Memref.isWhole_whole _) arg3 harg3 arg4 harg4 xtM (Memref.isWhole_whole _) arg6 harg6 arg7 harg7 arg8 harg8 bufM (Memref.isWhole_whole _) cc0_scratch1 wgM (Memref.isWhole_whole _) wdM (Memref.isWhole_whole _)) K := by
  rw [cc0_moe_experts_eq_skeleton]
  unfold cc0_moe_experts_skel Held
  iintro ⟨⟨H1, H2, H3, H4, H6, H7, ⟨%f8, H8⟩, HG, HD, HSC, HSO, HO⟩, HK⟩
  have hT0 : teM.IsWhole := Memref.isWhole_whole _
  have hT1 : nuM.IsWhole := Memref.isWhole_whole _
  have hS2 : wgM.IsWhole := Memref.isWhole_whole _
  have hS3 : wdM.IsWhole := Memref.isWhole_whole _
  sl_exec (disch := first | sl_exact h1 | sl_exact h2 | sl_exact h3 | sl_exact h5)
  have hc0 : cur i = 0 := Fin.ext (by show num i % 2 = 0; rw [(cond1_iff i).mp h1])
  ihave HSC0 := (Entails.of_eq (congrArg (fun s => slotFree c s x) hc0)) $$ HSC
  iapply (loop1 c i teM (Memref.isWhole_whole _) nuM (Memref.isWhole_whole _) arg3 harg3 arg4 harg4 arg6 harg6 arg7 harg7 arg8 harg8 wgM (Memref.isWhole_whole _) wdM (Memref.isWhole_whole _) x w0 hw0 h1) $$ [HSC0 H3]
  · isplitl [HSC0]; · iexact HSC0
    iexact H3
  iintro ⟨HSC1, H3⟩
  ihave HSC := (Entails.of_eq (congrArg (fun s => slotBusy c s x (ivOf w0)) hc0.symm)) $$ HSC1
  sl_exec (disch := first | sl_exact h1 | sl_exact h2 | sl_exact h3 | sl_exact h5)
  iapply (loop2 c i teM (Memref.isWhole_whole _) nuM (Memref.isWhole_whole _) arg3 harg3 arg4 harg4 arg6 harg6 arg7 harg7 arg8 harg8 wgM (Memref.isWhole_whole _) wdM (Memref.isWhole_whole _) x w1 hw1 (vN nu) h2) $$ [HSO H4]
  · isplitl [HSO]; · iexact HSO
    iexact H4
  iintro ⟨HSO, H4⟩
  sl_exec (disch := first | sl_exact h1 | sl_exact h2 | sl_exact h3 | sl_exact h5)
  ihave HG1 := (wgIf c arg6 Wg g2 (run_first.sl.v34 i te = 1#1) fun h => (hr h).1) $$ HG
  icases HG1 with ⟨%G2, %e2, HG⟩
  ihave HD1 := (wdIf c arg7 Wd g3 (run_first.sl.v34 i te = 1#1) fun h => (hr h).2) $$ HD
  icases HD1 with ⟨%G3, %e3, HD⟩
  iapply (loop3 c i teM (Memref.isWhole_whole _) nuM (Memref.isWhole_whole _) arg3 harg3 arg4 harg4 arg6 harg6 arg7 harg7 arg8 harg8 wgM (Memref.isWhole_whole _) wdM (Memref.isWhole_whole _) x (ivOf w0)) $$ [HO HSC]
  · isplitl [HO]; · iexact HO
    iexact HSC
  iintro ⟨HO, HB, HC, HX⟩
  iapply (wp_load Variants.none (c : Thread nD τ) none Set.univ (tile_set i _)) $$ HB
  iintro HB
  rw [Prog.bind]
  sl_exec (disch := first | sl_exact h1 | sl_exact h2 | sl_exact h3 | sl_exact h5)
  sl_step
  iapply HK
  isplitl [H1]; · iexact H1
  isplitl [H2]; · iexact H2
  isplitl [H3]; · iexact H3
  isplitl [H4]; · iexact H4
  isplitl [H6]; · iexact H6
  isplitl [H7]; · iexact H7
  isplitl [H8]
  · iexists _; isplitr; rotate_left; · iexact H8
    ipureintro
    rw [View.read_writes_full, tile_read, View.readAt_full, View.readAt_full]
    rw [e2, e3]
  isplitl [HG]
  · iexists _; isplitr; rotate_left; · iexact HG
    ipureintro
    exact e2
  isplitl [HD]
  · iexists _; isplitr; rotate_left; · iexact HD
    ipureintro
    exact e3
  isplitl [HB HC HX]
  · unfold slotFree
    isplitl [HB]; · iexists _; iexact HB
    isplitl [HC]; · iexact HC
    iexact HX
  isplitl [HSO]; · iexact HSO
  iexact HO

set_option maxHeartbeats 4000000 in
/-- At the first point, the only used one: its rows are issued and drained. -/
theorem run_only (hw0 : InRows w0)
    (hr : ¬ Loads te i → wgM.view.read (Elt F) g2 = k0_pay1 (F := F) Wg ∧ wdM.view.read (Elt F) g3 = k0_pay2 (F := F) Wd)
    (h1 : k0_cond1 i = 1#1) (h2 : ¬ k0_cond2 i (vN nu) = 1#1) (h3 : k0_cond3 i (vN nu) = 1#1) (h5 : ¬ k0_cond5 i (vN nu) = 1#1) (K : PUnit → sProp 𝕄) :
    iprop(Held c arg3 arg4 arg6 arg7 te nu w0 w1 Wg Wd (outAny c arg8) (wgM.view.loc (c : Thread nD τ) ↦{fullShare} g2) (wdM.view.loc (c : Thread nD τ) ↦{fullShare} g3) (slotFree c (cur i) x) (slotFree c (oth i) x)
      ∗ ((Held c arg3 arg4 arg6 arg7 te nu w0 w1 Wg Wd (outAt c arg8 (tileOut x Wg Wd (ivOf w0))) (wgAt c (k0_pay1 (F := F) Wg)) (wdAt c (k0_pay2 (F := F) Wd)) (slotFree c (cur i) x) (slotFree c (oth i) x)) -∗ K ⟨⟩)) ⊢ wp frame (wpE (defs₀ (F := F)) Variants.none (c : Thread nD τ) none) Set.univ
     (cc0_moe_experts (F := F) i teM (Memref.isWhole_whole _) nuM (Memref.isWhole_whole _) arg3 harg3 arg4 harg4 xtM (Memref.isWhole_whole _) arg6 harg6 arg7 harg7 arg8 harg8 bufM (Memref.isWhole_whole _) cc0_scratch1 wgM (Memref.isWhole_whole _) wdM (Memref.isWhole_whole _)) K := by
  rw [cc0_moe_experts_eq_skeleton]
  unfold cc0_moe_experts_skel Held
  iintro ⟨⟨H1, H2, H3, H4, H6, H7, ⟨%f8, H8⟩, HG, HD, HSC, HSO, HO⟩, HK⟩
  have hT0 : teM.IsWhole := Memref.isWhole_whole _
  have hT1 : nuM.IsWhole := Memref.isWhole_whole _
  have hS2 : wgM.IsWhole := Memref.isWhole_whole _
  have hS3 : wdM.IsWhole := Memref.isWhole_whole _
  sl_exec (disch := first | sl_exact h1 | sl_exact h2 | sl_exact h3 | sl_exact h5)
  have hc0 : cur i = 0 := Fin.ext (by show num i % 2 = 0; rw [(cond1_iff i).mp h1])
  ihave HSC0 := (Entails.of_eq (congrArg (fun s => slotFree c s x) hc0)) $$ HSC
  iapply (loop1 c i teM (Memref.isWhole_whole _) nuM (Memref.isWhole_whole _) arg3 harg3 arg4 harg4 arg6 harg6 arg7 harg7 arg8 harg8 wgM (Memref.isWhole_whole _) wdM (Memref.isWhole_whole _) x w0 hw0 h1) $$ [HSC0 H3]
  · isplitl [HSC0]; · iexact HSC0
    iexact H3
  iintro ⟨HSC1, H3⟩
  ihave HSC := (Entails.of_eq (congrArg (fun s => slotBusy c s x (ivOf w0)) hc0.symm)) $$ HSC1
  sl_exec (disch := first | sl_exact h1 | sl_exact h2 | sl_exact h3 | sl_exact h5)
  ihave HG1 := (wgIf c arg6 Wg g2 (run_only.sl.v34 i te = 1#1) fun h => (hr h).1) $$ HG
  icases HG1 with ⟨%G2, %e2, HG⟩
  ihave HD1 := (wdIf c arg7 Wd g3 (run_only.sl.v34 i te = 1#1) fun h => (hr h).2) $$ HD
  icases HD1 with ⟨%G3, %e3, HD⟩
  iapply (loop3 c i teM (Memref.isWhole_whole _) nuM (Memref.isWhole_whole _) arg3 harg3 arg4 harg4 arg6 harg6 arg7 harg7 arg8 harg8 wgM (Memref.isWhole_whole _) wdM (Memref.isWhole_whole _) x (ivOf w0)) $$ [HO HSC]
  · isplitl [HO]; · iexact HO
    iexact HSC
  iintro ⟨HO, HB, HC, HX⟩
  iapply (wp_load Variants.none (c : Thread nD τ) none Set.univ (tile_set i _)) $$ HB
  iintro HB
  rw [Prog.bind]
  sl_exec (disch := first | sl_exact h1 | sl_exact h2 | sl_exact h3 | sl_exact h5)
  sl_step
  iapply HK
  isplitl [H1]; · iexact H1
  isplitl [H2]; · iexact H2
  isplitl [H3]; · iexact H3
  isplitl [H4]; · iexact H4
  isplitl [H6]; · iexact H6
  isplitl [H7]; · iexact H7
  isplitl [H8]
  · iexists _; isplitr; rotate_left; · iexact H8
    ipureintro
    rw [View.read_writes_full, tile_read, View.readAt_full, View.readAt_full]
    rw [e2, e3]
  isplitl [HG]
  · iexists _; isplitr; rotate_left; · iexact HG
    ipureintro
    exact e2
  isplitl [HD]
  · iexists _; isplitr; rotate_left; · iexact HD
    ipureintro
    exact e3
  isplitl [HB HC HX]
  · unfold slotFree
    isplitl [HB]; · iexists _; iexact HB
    isplitl [HC]; · iexact HC
    iexact HX
  isplitl [HSO]; · iexact HSO
  iexact HO

set_option maxHeartbeats 4000000 in
/-- At a later used point that is not the last used one: the next tile's rows are issued, its own drained. -/
theorem run_mid (iv : Fin 256 → Fin 32768) (hw1 : InRows w1)
    (hr : ¬ Loads te i → wgM.view.read (Elt F) g2 = k0_pay1 (F := F) Wg ∧ wdM.view.read (Elt F) g3 = k0_pay2 (F := F) Wd)
    (h1 : ¬ k0_cond1 i = 1#1) (h2 : k0_cond2 i (vN nu) = 1#1) (h3 : k0_cond3 i (vN nu) = 1#1) (h5 : ¬ k0_cond5 i (vN nu) = 1#1) (K : PUnit → sProp 𝕄) :
    iprop(Held c arg3 arg4 arg6 arg7 te nu w0 w1 Wg Wd (outAny c arg8) (wgM.view.loc (c : Thread nD τ) ↦{fullShare} g2) (wdM.view.loc (c : Thread nD τ) ↦{fullShare} g3) (slotBusy c (cur i) x iv) (slotFree c (oth i) x)
      ∗ ((Held c arg3 arg4 arg6 arg7 te nu w0 w1 Wg Wd (outAt c arg8 (tileOut x Wg Wd iv)) (wgAt c (k0_pay1 (F := F) Wg)) (wdAt c (k0_pay2 (F := F) Wd)) (slotFree c (cur i) x) (slotBusy c (oth i) x (ivOf w1))) -∗ K ⟨⟩)) ⊢ wp frame (wpE (defs₀ (F := F)) Variants.none (c : Thread nD τ) none) Set.univ
     (cc0_moe_experts (F := F) i teM (Memref.isWhole_whole _) nuM (Memref.isWhole_whole _) arg3 harg3 arg4 harg4 xtM (Memref.isWhole_whole _) arg6 harg6 arg7 harg7 arg8 harg8 bufM (Memref.isWhole_whole _) cc0_scratch1 wgM (Memref.isWhole_whole _) wdM (Memref.isWhole_whole _)) K := by
  rw [cc0_moe_experts_eq_skeleton]
  unfold cc0_moe_experts_skel Held
  iintro ⟨⟨H1, H2, H3, H4, H6, H7, ⟨%f8, H8⟩, HG, HD, HSC, HSO, HO⟩, HK⟩
  have hT0 : teM.IsWhole := Memref.isWhole_whole _
  have hT1 : nuM.IsWhole := Memref.isWhole_whole _
  have hS2 : wgM.IsWhole := Memref.isWhole_whole _
  have hS3 : wdM.IsWhole := Memref.isWhole_whole _
  sl_exec (disch := first | sl_exact h1 | sl_exact h2 | sl_exact h3 | sl_exact h5)
  iapply (loop2 c i teM (Memref.isWhole_whole _) nuM (Memref.isWhole_whole _) arg3 harg3 arg4 harg4 arg6 harg6 arg7 harg7 arg8 harg8 wgM (Memref.isWhole_whole _) wdM (Memref.isWhole_whole _) x w1 hw1 (vN nu) h2) $$ [HSO H4]
  · isplitl [HSO]; · iexact HSO
    iexact H4
  iintro ⟨HSO, H4⟩
  sl_exec (disch := first | sl_exact h1 | sl_exact h2 | sl_exact h3 | sl_exact h5)
  ihave HG1 := (wgIf c arg6 Wg g2 (run_mid.sl.v34 i te = 1#1) fun h => (hr h).1) $$ HG
  icases HG1 with ⟨%G2, %e2, HG⟩
  ihave HD1 := (wdIf c arg7 Wd g3 (run_mid.sl.v34 i te = 1#1) fun h => (hr h).2) $$ HD
  icases HD1 with ⟨%G3, %e3, HD⟩
  iapply (loop3 c i teM (Memref.isWhole_whole _) nuM (Memref.isWhole_whole _) arg3 harg3 arg4 harg4 arg6 harg6 arg7 harg7 arg8 harg8 wgM (Memref.isWhole_whole _) wdM (Memref.isWhole_whole _) x iv) $$ [HO HSC]
  · isplitl [HO]; · iexact HO
    iexact HSC
  iintro ⟨HO, HB, HC, HX⟩
  iapply (wp_load Variants.none (c : Thread nD τ) none Set.univ (tile_set i _)) $$ HB
  iintro HB
  rw [Prog.bind]
  sl_exec (disch := first | sl_exact h1 | sl_exact h2 | sl_exact h3 | sl_exact h5)
  sl_step
  iapply HK
  isplitl [H1]; · iexact H1
  isplitl [H2]; · iexact H2
  isplitl [H3]; · iexact H3
  isplitl [H4]; · iexact H4
  isplitl [H6]; · iexact H6
  isplitl [H7]; · iexact H7
  isplitl [H8]
  · iexists _; isplitr; rotate_left; · iexact H8
    ipureintro
    rw [View.read_writes_full, tile_read, View.readAt_full, View.readAt_full]
    rw [e2, e3]
  isplitl [HG]
  · iexists _; isplitr; rotate_left; · iexact HG
    ipureintro
    exact e2
  isplitl [HD]
  · iexists _; isplitr; rotate_left; · iexact HD
    ipureintro
    exact e3
  isplitl [HB HC HX]
  · unfold slotFree
    isplitl [HB]; · iexists _; iexact HB
    isplitl [HC]; · iexact HC
    iexact HX
  isplitl [HSO]; · iexact HSO
  iexact HO

set_option maxHeartbeats 4000000 in
/-- At the last used point, not the first: its rows are drained. -/
theorem run_last (iv : Fin 256 → Fin 32768)
    (hr : ¬ Loads te i → wgM.view.read (Elt F) g2 = k0_pay1 (F := F) Wg ∧ wdM.view.read (Elt F) g3 = k0_pay2 (F := F) Wd)
    (h1 : ¬ k0_cond1 i = 1#1) (h2 : ¬ k0_cond2 i (vN nu) = 1#1) (h3 : k0_cond3 i (vN nu) = 1#1) (h5 : ¬ k0_cond5 i (vN nu) = 1#1) (K : PUnit → sProp 𝕄) :
    iprop(Held c arg3 arg4 arg6 arg7 te nu w0 w1 Wg Wd (outAny c arg8) (wgM.view.loc (c : Thread nD τ) ↦{fullShare} g2) (wdM.view.loc (c : Thread nD τ) ↦{fullShare} g3) (slotBusy c (cur i) x iv) (slotFree c (oth i) x)
      ∗ ((Held c arg3 arg4 arg6 arg7 te nu w0 w1 Wg Wd (outAt c arg8 (tileOut x Wg Wd iv)) (wgAt c (k0_pay1 (F := F) Wg)) (wdAt c (k0_pay2 (F := F) Wd)) (slotFree c (cur i) x) (slotFree c (oth i) x)) -∗ K ⟨⟩)) ⊢ wp frame (wpE (defs₀ (F := F)) Variants.none (c : Thread nD τ) none) Set.univ
     (cc0_moe_experts (F := F) i teM (Memref.isWhole_whole _) nuM (Memref.isWhole_whole _) arg3 harg3 arg4 harg4 xtM (Memref.isWhole_whole _) arg6 harg6 arg7 harg7 arg8 harg8 bufM (Memref.isWhole_whole _) cc0_scratch1 wgM (Memref.isWhole_whole _) wdM (Memref.isWhole_whole _)) K := by
  rw [cc0_moe_experts_eq_skeleton]
  unfold cc0_moe_experts_skel Held
  iintro ⟨⟨H1, H2, H3, H4, H6, H7, ⟨%f8, H8⟩, HG, HD, HSC, HSO, HO⟩, HK⟩
  have hT0 : teM.IsWhole := Memref.isWhole_whole _
  have hT1 : nuM.IsWhole := Memref.isWhole_whole _
  have hS2 : wgM.IsWhole := Memref.isWhole_whole _
  have hS3 : wdM.IsWhole := Memref.isWhole_whole _
  sl_exec (disch := first | sl_exact h1 | sl_exact h2 | sl_exact h3 | sl_exact h5)
  ihave HG1 := (wgIf c arg6 Wg g2 (run_last.sl.v34 i te = 1#1) fun h => (hr h).1) $$ HG
  icases HG1 with ⟨%G2, %e2, HG⟩
  ihave HD1 := (wdIf c arg7 Wd g3 (run_last.sl.v34 i te = 1#1) fun h => (hr h).2) $$ HD
  icases HD1 with ⟨%G3, %e3, HD⟩
  iapply (loop3 c i teM (Memref.isWhole_whole _) nuM (Memref.isWhole_whole _) arg3 harg3 arg4 harg4 arg6 harg6 arg7 harg7 arg8 harg8 wgM (Memref.isWhole_whole _) wdM (Memref.isWhole_whole _) x iv) $$ [HO HSC]
  · isplitl [HO]; · iexact HO
    iexact HSC
  iintro ⟨HO, HB, HC, HX⟩
  iapply (wp_load Variants.none (c : Thread nD τ) none Set.univ (tile_set i _)) $$ HB
  iintro HB
  rw [Prog.bind]
  sl_exec (disch := first | sl_exact h1 | sl_exact h2 | sl_exact h3 | sl_exact h5)
  sl_step
  iapply HK
  isplitl [H1]; · iexact H1
  isplitl [H2]; · iexact H2
  isplitl [H3]; · iexact H3
  isplitl [H4]; · iexact H4
  isplitl [H6]; · iexact H6
  isplitl [H7]; · iexact H7
  isplitl [H8]
  · iexists _; isplitr; rotate_left; · iexact H8
    ipureintro
    rw [View.read_writes_full, tile_read, View.readAt_full, View.readAt_full]
    rw [e2, e3]
  isplitl [HG]
  · iexists _; isplitr; rotate_left; · iexact HG
    ipureintro
    exact e2
  isplitl [HD]
  · iexists _; isplitr; rotate_left; · iexact HD
    ipureintro
    exact e3
  isplitl [HB HC HX]
  · unfold slotFree
    isplitl [HB]; · iexists _; iexact HB
    isplitl [HC]; · iexact HC
    iexact HX
  isplitl [HSO]; · iexact HSO
  iexact HO

set_option maxHeartbeats 4000000 in
/-- At an unused point: zeros are stored. -/
theorem run_idle
    (h1 : ¬ k0_cond1 i = 1#1) (h2 : ¬ k0_cond2 i (vN nu) = 1#1) (h3 : ¬ k0_cond3 i (vN nu) = 1#1) (h5 : k0_cond5 i (vN nu) = 1#1) (K : PUnit → sProp 𝕄) :
    iprop(Held c arg3 arg4 arg6 arg7 te nu w0 w1 Wg Wd (outAny c arg8) (wgM.view.loc (c : Thread nD τ) ↦{fullShare} g2) (wdM.view.loc (c : Thread nD τ) ↦{fullShare} g3) (slotFree c (cur i) x) (slotFree c (oth i) x)
      ∗ ((Held c arg3 arg4 arg6 arg7 te nu w0 w1 Wg Wd (outAt c arg8 (k0_pay4 (F := F))) (wgM.view.loc (c : Thread nD τ) ↦{fullShare} g2) (wdM.view.loc (c : Thread nD τ) ↦{fullShare} g3) (slotFree c (cur i) x) (slotFree c (oth i) x)) -∗ K ⟨⟩)) ⊢ wp frame (wpE (defs₀ (F := F)) Variants.none (c : Thread nD τ) none) Set.univ
     (cc0_moe_experts (F := F) i teM (Memref.isWhole_whole _) nuM (Memref.isWhole_whole _) arg3 harg3 arg4 harg4 xtM (Memref.isWhole_whole _) arg6 harg6 arg7 harg7 arg8 harg8 bufM (Memref.isWhole_whole _) cc0_scratch1 wgM (Memref.isWhole_whole _) wdM (Memref.isWhole_whole _)) K := by
  rw [cc0_moe_experts_eq_skeleton]
  unfold cc0_moe_experts_skel Held
  iintro ⟨⟨H1, H2, H3, H4, H6, H7, ⟨%f8, H8⟩, HG, HD, HSC, HSO, HO⟩, HK⟩
  have hT0 : teM.IsWhole := Memref.isWhole_whole _
  have hT1 : nuM.IsWhole := Memref.isWhole_whole _
  have hS2 : wgM.IsWhole := Memref.isWhole_whole _
  have hS3 : wdM.IsWhole := Memref.isWhole_whole _
  sl_exec (disch := first | sl_exact h1 | sl_exact h2 | sl_exact h3 | sl_exact h5)
  sl_step
  iapply HK
  isplitl [H1]; · iexact H1
  isplitl [H2]; · iexact H2
  isplitl [H3]; · iexact H3
  isplitl [H4]; · iexact H4
  isplitl [H6]; · iexact H6
  isplitl [H7]; · iexact H7
  isplitl [H8]
  · iexists _; isplitr; rotate_left; · iexact H8
    ipureintro
    rw [View.read_writes_full]
  isplitl [HG]; · iexact HG
  isplitl [HD]; · iexact HD
  isplitl [HSC]; · iexact HSC
  isplitl [HSO]; · iexact HSO
  iexact HO

end Whole

end Cert.ExpertsIdeal.Moe

end
-- ==== Proof.ExpertsIdeal.Plan.lean ====
module

public import proofs.«01_k».proof.Proof.ExpertsIdeal.Point
public import proofs.«01_k».proof.Defs
public import proofs.«01_k».proof.Proof.Gen.Pre_plan_in_range
public import Idealize.ShloMosaic.Lib.ReduceAll

@[expose] public section

set_option maxRecDepth 16384
set_option Elab.async false

noncomputable section

namespace Cert.ExpertsIdeal.Moe

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf UD)

variable {F : FTy → Type} [FloatOps F]

local notation "𝕄" => MT nD τ sig Unit (Elt F) ℕ (UD sig nD τ) ℕ

/-! ## What the precondition says of the plan -/

/-- The plan's tables are in range: an expert per tile, between one and all tiles used, a row of the activations per slot. -/
structure Plan (te : S288.Idx → BitVec 32) (nu : S1.Idx → BitVec 32) (inv : S288x1x256.Idx → BitVec 32) : Prop where
  te_lt : ∀ y, (te y).toNat < 32
  nu_pos : ∀ y, 1 ≤ (nu y).toNat
  nu_le : ∀ y, (nu y).toNat ≤ 288
  inv_lt : ∀ y, (inv y).toNat < 32768

theorem and_ones : ∀ a b : BitVec 1, a &&& b = 1#1 → a = 1#1 ∧ b = 1#1 := by decide

instance : Subsingleton Cert.Pre_plan_in_range.S_.Idx := ⟨fun a b => funext fun i => i.elim0⟩

theorem bit_one (b : Bool) (h : BitVec.ofBool b = 1#1) : b = true := by cases b <;> simp_all

/-- A word at least `a` and below `b`, both small, as a number. -/
theorem word_lt (v : BitVec 32) (a b : ℕ) (ha : a < 2 ^ 31) (hb : b < 2 ^ 31) (h1 : IntOp.cmpi .sge v (BitVec.ofNat 32 a) = 1#1) (h2 : IntOp.cmpi .slt v (BitVec.ofNat 32 b) = 1#1) :
    a ≤ v.toNat ∧ v.toNat < b := by
  have e1 : (BitVec.ofNat 32 a).toNat = a := by rw [BitVec.toNat_ofNat]; exact Nat.mod_eq_of_lt (by omega)
  have e2 : (BitVec.ofNat 32 b).toNat = b := by rw [BitVec.toNat_ofNat]; exact Nat.mod_eq_of_lt (by omega)
  have h1' : (BitVec.ofNat 32 a).sle v = true := bit_one _ h1
  have h2' : v.slt (BitVec.ofNat 32 b) = true := bit_one _ h2
  rw [BitVec.sle_eq_decide, decide_eq_true_eq, BitVec.toInt_eq_toNat_cond, BitVec.toInt_eq_toNat_cond] at h1'
  rw [BitVec.slt_eq_decide, decide_eq_true_eq, BitVec.toInt_eq_toNat_cond, BitVec.toInt_eq_toNat_cond] at h2'
  rw [e1] at h1'; rw [e2] at h2'
  have := v.isLt
  split at h1' <;> split at h1' <;> split at h2' <;> omega

theorem word_le (v : BitVec 32) (a b : ℕ) (ha : a < 2 ^ 31) (hb : b < 2 ^ 31) (h1 : IntOp.cmpi .sge v (BitVec.ofNat 32 a) = 1#1) (h2 : IntOp.cmpi .sle v (BitVec.ofNat 32 b) = 1#1) :
    a ≤ v.toNat ∧ v.toNat ≤ b := by
  have e1 : (BitVec.ofNat 32 a).toNat = a := by rw [BitVec.toNat_ofNat]; exact Nat.mod_eq_of_lt (by omega)
  have e2 : (BitVec.ofNat 32 b).toNat = b := by rw [BitVec.toNat_ofNat]; exact Nat.mod_eq_of_lt (by omega)
  have h1' : (BitVec.ofNat 32 a).sle v = true := bit_one _ h1
  have h2' : v.sle (BitVec.ofNat 32 b) = true := bit_one _ h2
  rw [BitVec.sle_eq_decide, decide_eq_true_eq, BitVec.toInt_eq_toNat_cond, BitVec.toInt_eq_toNat_cond] at h1'
  rw [BitVec.sle_eq_decide, decide_eq_true_eq, BitVec.toInt_eq_toNat_cond, BitVec.toInt_eq_toNat_cond] at h2'
  rw [e1] at h1'; rw [e2] at h2'
  have := v.isLt
  split at h1' <;> split at h1' <;> split at h2' <;> omega

open Cert.Pre_plan_in_range.Gen in
theorem plan_of_fn (te : IVec S288 32) (nu : IVec S1 32) (inv : IVec S288x1x256 32) (x : FVec F S32768x1024 .f32) (wg : FVec F S32x1024x1024 .f32) (wd : FVec F S32x512x1024 .f32)
    (h : Cert.Pre_plan_in_range.fn (F := F) te nu inv x wg wd = fun _ => 1#1) : Plan te nu inv := by
  have h0 := congrFun h (fun a => a.elim0)
  obtain ⟨h6, hA⟩ := and_ones _ _ h0
  obtain ⟨h5, hB⟩ := and_ones _ _ h6
  obtain ⟨h4, hC⟩ := and_ones _ _ h5
  obtain ⟨h3, hD⟩ := and_ones _ _ h4
  obtain ⟨hF, hE⟩ := and_ones _ _ h3
  exact {
    te_lt := fun y => (word_lt (te y) 0 32 (by decide) (by decide) (Host.reduce_andi_all _ _ _ _ _ hF y) (Host.reduce_andi_all _ _ _ _ _ hE y)).2
    nu_pos := fun y => (word_le (nu y) 1 288 (by decide) (by decide) (Host.reduce_andi_all _ _ _ _ _ hD y) (Host.reduce_andi_all _ _ _ _ _ hC y)).1
    nu_le := fun y => (word_le (nu y) 1 288 (by decide) (by decide) (Host.reduce_andi_all _ _ _ _ _ hD y) (Host.reduce_andi_all _ _ _ _ _ hC y)).2
    inv_lt := fun y => (word_lt (inv y) 0 32768 (by decide) (by decide) (Host.reduce_andi_all _ _ _ _ _ hB y) (Host.reduce_andi_all _ _ _ _ _ hA y)).2 }

/-! ## The conditions, as comparisons of numbers -/

/-- The count of used tiles as a number. -/
abbrev used (nu : S1.Idx → BitVec 32) : ℕ := (nu (ix1 (0 : Fin 1))).toNat

theorem one_idx (y : S1.Idx) : y = ix1 (0 : Fin 1) := funext fun a => Fin.ext (by fin_cases a; have : (y 0).val < 1 := (y 0).isLt; show (y 0).val = 0; omega)

theorem vN_eq (nu : S1.Idx → Elt F .i32) : vN nu = nu (ix1 (0 : Fin 1)) := congrArg nu (one_idx _)

theorem flag (b : Bool) : Scalar.cmpi .ne (Scalar.extui (BitVec.ofBool b) : BitVec 32) 0#32 = 1#1 ↔ b = true := by cases b <;> decide

theorem slt_num (n k : ℕ) (hn : n < 1000) (v : BitVec 32) (hv : v.toNat = k) (hk : k < 1000) : (BitVec.ofNat 32 n).slt v = true ↔ n < k := by
  have e1 : (BitVec.ofNat 32 n).toNat = n := by rw [BitVec.toNat_ofNat]; exact Nat.mod_eq_of_lt (by omega)
  rw [BitVec.slt_eq_decide, decide_eq_true_eq, BitVec.toInt_eq_toNat_cond, BitVec.toInt_eq_toNat_cond, e1, hv]
  rw [if_pos (by omega), if_pos (by omega)]; omega

theorem cond2_iff (i : grid0.Coords) (v : BitVec 32) (hv : v.toNat ≤ 288) : k0_cond2 i v = 1#1 ↔ num i + 1 < v.toNat := by
  have hn : num i < 288 := (i 0).isLt
  have e : (Scalar.addi (BitVec.ofNat 32 (num i)) 1#32 : BitVec 32) = BitVec.ofNat 32 (num i + 1) := by
    apply BitVec.eq_of_toNat_eq
    show (BitVec.ofNat 32 (num i) + 1#32).toNat = _
    rw [BitVec.toNat_add, BitVec.toNat_ofNat, BitVec.toNat_ofNat, BitVec.toNat_ofNat]; omega
  show Scalar.cmpi .ne (Scalar.extui (BitVec.ofBool ((Scalar.addi (BitVec.ofNat 32 (num i)) 1#32 : BitVec 32).slt v)) : BitVec 32) 0#32 = 1#1 ↔ _
  rw [flag, e]; exact slt_num _ _ (by omega) v rfl (by omega)

theorem cond3_iff (i : grid0.Coords) (v : BitVec 32) (hv : v.toNat ≤ 288) : k0_cond3 i v = 1#1 ↔ num i < v.toNat := by
  have hn : num i < 288 := (i 0).isLt
  show Scalar.cmpi .ne (Scalar.extui (BitVec.ofBool ((BitVec.ofNat 32 (num i)).slt v)) : BitVec 32) 0#32 = 1#1 ↔ _
  rw [flag]; exact slt_num _ _ (by omega) v rfl (by omega)

theorem cond5_iff (i : grid0.Coords) (v : BitVec 32) (hv : v.toNat ≤ 288) : k0_cond5 i v = 1#1 ↔ v.toNat ≤ num i := by
  have hn : num i < 288 := (i 0).isLt
  show Scalar.cmpi .ne (Scalar.extui (BitVec.ofBool (v.sle (BitVec.ofNat 32 (num i)))) : BitVec 32) 0#32 = 1#1 ↔ _
  rw [flag]
  have e1 : (BitVec.ofNat 32 (num i)).toNat = num i := by rw [BitVec.toNat_ofNat]; exact Nat.mod_eq_of_lt (by omega)
  rw [BitVec.sle_eq_decide, decide_eq_true_eq, BitVec.toInt_eq_toNat_cond, BitVec.toInt_eq_toNat_cond, e1]
  rw [if_pos (by omega), if_pos (by omega)]; omega

/-! ## The tables' words -/

theorem te_word (te : S288.Idx → Elt F .i32) {o : Fin 1 → ℕ} (n : Fin 288) (ho : o = ![n.val]) (h : ∀ z, o z + S1.size z ≤ S288.size z) (y : S1.Idx) :
    View.readAt (Elt F) teM.view (Rect.unit (s := S288) o S1.size h).toLoadRect te y = te (ix1 n) := by
  subst ho
  refine congrArg te (funext fun a => Fin.ext ?_)
  fin_cases a
  have h0 : (y 0).val < 1 := (y 0).isLt
  show n.val + 1 * (y 0).val = n.val; omega

/-- Where the body does not load the expert, it is not the first point and the expert is the one of the point before. -/
theorem kept (te : S288.Idx → Elt F .i32) (i : grid0.Coords) (h : ¬ Loads te i) (n' : Fin 288) (hn : n'.val = num i - 1) :
    num i ≠ 0 ∧ te (ix1 (⟨num i, (i 0).isLt⟩ : Fin 288)) = te (ix1 n') := by
  have key : ∀ a b : BitVec 1, ¬ (Scalar.cmpi .ne (Scalar.extui (Scalar.ori a b) : BitVec 32) 0#32 = 1#1) → a = 0#1 ∧ b = 0#1 := by decide
  obtain ⟨ha, hb⟩ := key _ _ h
  have zb : ∀ b : Bool, BitVec.ofBool b = 0#1 → b = false := by decide
  have hn0 : num i < 288 := (i 0).isLt
  constructor
  · intro h0
    have := zb _ ha
    revert this
    show ¬ ((BitVec.ofNat 32 (num i) == 0#32) = false)
    rw [h0]; decide
  · have h1 := zb _ hb
    have h2 : vE te i (k0_off11_inb i) = vP te i (k0_off10_inb i) := by
      by_contra hne
      revert h1
      show ¬ ((vE te i (k0_off11_inb i) != vP te i (k0_off10_inb i)) = false)
      simp [hne]
    have e1 : vE te i (k0_off11_inb i) = te (ix1 (⟨num i, (i 0).isLt⟩ : Fin 288)) := te_word te _ (off11_eq i) _ _
    have e2 : vP te i (k0_off10_inb i) = te (ix1 n') := te_word te n' ((off10_eq i).trans (by rw [hn])) _ _
    exact e1.symm.trans (h2.trans e2)

end Cert.ExpertsIdeal.Moe

end
-- ==== Proof.ExpertsIdeal.Data.lean ====
module

public import proofs.«01_k».proof.Proof.ExpertsIdeal.Plan
public import proofs.«01_k».proof.Proof.Gen.ExpertsIdeal.Launch
public import Idealize.ShloMosaic.Lib.Pipeline.Frame
public import Idealize.ShloMosaic.Lib.Pipeline.Kit
public import Idealize.ShloMosaic.Lib.Pipeline.Regions
public import Idealize.ShloMosaic.Lib.Pipeline.TableIdle
public import Idealize.ShloMosaic.Lib.Pipeline.FrameBody
public import Idealize.ShloMosaic.Lib.Pipeline.FrameTail

@[expose] public section

set_option maxRecDepth 16384
set_option Elab.async false

noncomputable section

namespace Cert.ExpertsIdeal.Moe

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf UD)

variable {F : FTy → Type} [FloatOps F]

local notation "𝕄" => MT nD τ sig Unit (Elt F) ℕ (UD sig nD τ) ℕ

variable (m : (ℓ : Loc nD τ sig) → Buf (Elt F) ℓ)

/-! ## The arguments, the tables the pipeline runs at -/

/-- The arguments' contents: the experts of the tiles, the count of used tiles, the rows of the slots, the activations, the weights. -/
abbrev TE : S288.Idx → BitVec 32 := m (((0 : Dev nD).tc : Thread nD τ).loc main_arg0)
abbrev NU : S1.Idx → BitVec 32 := m (((0 : Dev nD).tc : Thread nD τ).loc main_arg1)
abbrev INV : S288x1x256.Idx → BitVec 32 := m (((0 : Dev nD).tc : Thread nD τ).loc main_arg2)
abbrev XT : S32768x1024.Idx → Elt F .f32 := m (((0 : Dev nD).tc : Thread nD τ).loc main_arg3)
abbrev WGU : S32x1024x1024.Idx → Elt F .f32 := m (((0 : Dev nD).tc : Thread nD τ).loc main_arg4)
abbrev WDN : S32x512x1024.Idx → Elt F .f32 := m (((0 : Dev nD).tc : Thread nD τ).loc main_arg5)

set_option backward.proofsInPublic true in
/-- The tables' contents the pipeline runs at. -/
def pf : pre0.Contents (Elt F) := fun | ⟨0, _⟩ => TE m | ⟨1, _⟩ => NU m | ⟨_ + 2, h⟩ => absurd h (by simp)

variable (hP : Plan (TE m) (NU m) (INV m))

/-- A point's number as one of the 288. -/
abbrev nu288 (i : grid0.Coords) : Fin 288 := ⟨num i, (i 0).isLt⟩

theorem off1_eq : ∀ i : grid0.Coords, k0_off1 i = ![num i] := by decide +kernel

theorem ix_3 (i : grid0.Coords) : cc0_transform_3 k0_off1_inb numel1_S1 (pf m) i = ![(TE m (ix1 (nu288 i))).toNat, 0, 0] := by
  have h : (pf m).at 0 (Rect.unit (s := S288) (k0_off1 i) S1.size (k0_off1_inb i)) numel1_S1 = TE m (ix1 (nu288 i)) :=
    te_word (F := F) (TE m) (nu288 i) (off1_eq i) (k0_off1_inb i) (Shape.Idx.first (numel1_S1.symm ▸ Nat.one_pos))
  show ![((pf m).at 0 (Rect.unit (s := S288) (k0_off1 i) S1.size (k0_off1_inb i)) numel1_S1).toNat, 0, 0] = _
  rw [h]

theorem ix_4 (i : grid0.Coords) : cc0_transform_4 k0_off1_inb numel1_S1 (pf m) i = ![(TE m (ix1 (nu288 i))).toNat, 0, 0] := ix_3 m i

theorem ix_0 : ∀ i : grid0.Coords, cc0_transform_0 i = ![num i, 0, 0] := by decide +kernel
theorem ix_1 : ∀ i : grid0.Coords, cc0_transform_1 i = ![min (num i + 1) 287, 0, 0] := by decide +kernel
theorem ix_5 : ∀ i : grid0.Coords, cc0_transform_5 i = ![num i, 0] := by decide +kernel

include hP in
/-- At the plan's tables every window's block lies inside its array. -/
theorem ok_pf : ok0 (F := F) (pf m) := by
  refine ⟨fun i => ⟨fun a => ?_, Or.inl rfl⟩, fun i => ⟨fun a => ?_, Or.inl rfl⟩⟩
  · have h := hP.te_lt (ix1 (nu288 i))
    rw [ix_3 m i]; fin_cases a
    · show ((TE m (ix1 (nu288 i))).toNat + 1) * 1 ≤ 32; omega
    · show (0 + 1) * 1024 ≤ 1024; omega
    · show (0 + 1) * 1024 ≤ 1024; omega
  · have h := hP.te_lt (ix1 (nu288 i))
    rw [ix_4 m i]; fin_cases a
    · show ((TE m (ix1 (nu288 i))).toNat + 1) * 1 ≤ 32; omega
    · show (0 + 1) * 512 ≤ 512; omega
    · show (0 + 1) * 1024 ≤ 1024; omega

/-- The admissible contents, and the pipeline at them. -/
def adm : (pcfg0 (F := F)).Adm := ⟨pf m, ok_pf m hP⟩
abbrev cfgA : Pipeline.Cfg sig Λ₀ := cfg0 (F := F) (adm m hP)

abbrev crd (t : Fin (cfgA m hP).N) : (cfgA m hP).grid.Coords := (cfgA m hP).grid.coords t

theorem num_crd (t : Fin (cfgA m hP).N) : num (crd m hP t) = t.val := by
  have h := Pipeline.Grid.coords_val (G := grid0) t 0 (S := 1) (B := 288) (by decide) (by decide)
  have ht : t.val < 288 := t.isLt
  refine h.trans ?_; omega

/-- Each window's current staging memref at point `t`, and its wholeness. -/
abbrev ms0 (t : Fin (cfgA m hP).N) : Memref sig .tc .smem S1x1x256 .i32 := spec0_0.stage ((cfgA m hP).slots t (0 : Fin 5))
abbrev hs0 (t : Fin (cfgA m hP).N) : (ms0 m hP t).IsWhole := hstage0_0 (((cfgA m hP).slots t (0 : Fin 5)).cast nbuf0_0)
abbrev ms1 (t : Fin (cfgA m hP).N) : Memref sig .tc .smem S1x1x256 .i32 := spec0_1.stage ((cfgA m hP).slots t (1 : Fin 5))
abbrev hs1 (t : Fin (cfgA m hP).N) : (ms1 m hP t).IsWhole := hstage0_1 (((cfgA m hP).slots t (1 : Fin 5)).cast nbuf0_1)
abbrev ms2 (t : Fin (cfgA m hP).N) : Memref sig .tc .vmem S1x1024x1024 .f32 := spec0_2.stage ((cfgA m hP).slots t (2 : Fin 5))
abbrev hs2 (t : Fin (cfgA m hP).N) : (ms2 m hP t).IsWhole := hstage0_2 (((cfgA m hP).slots t (2 : Fin 5)).cast nbuf0_2)
abbrev ms3 (t : Fin (cfgA m hP).N) : Memref sig .tc .vmem S1x512x1024 .f32 := spec0_3.stage ((cfgA m hP).slots t (3 : Fin 5))
abbrev hs3 (t : Fin (cfgA m hP).N) : (ms3 m hP t).IsWhole := hstage0_3 (((cfgA m hP).slots t (3 : Fin 5)).cast nbuf0_3)
abbrev ms4 (t : Fin (cfgA m hP).N) : Memref sig .tc .vmem S256x1024 .f32 := spec0_4.stage ((cfgA m hP).slots t (4 : Fin 5))
abbrev hs4 (t : Fin (cfgA m hP).N) : (ms4 m hP t).IsWhole := hstage0_4 (((cfgA m hP).slots t (4 : Fin 5)).cast nbuf0_4)

/-- The block of window `w`'s array at point `t`. -/
def iblk (c : Dev nD) (w : Fin (cfgA m hP).W) (t : Fin (cfgA m hP).N) : (((cfgA m hP).win w).xblock (crd m hP t)).Idx → Elt F ((cfgA m hP).win w).elt :=
  (((cfgA m hP).win w).blk t).view.read (Elt F) (m (((cfgA m hP).win w).arr.view.loc (c : Thread nD τ)))

/-! ## The blocks, element by element -/

/-- The slots' rows of tile `n`. -/
def invN (n : ℕ) : S1x1x256.Idx → BitVec 32 := fun y => INV m (ix3 (⟨n % 288, Nat.mod_lt _ (by decide)⟩ : Fin 288) (0 : Fin 1) (y 2))
/-- The weights of tile `t`'s expert. -/
def wguE (e : ℕ) : S1x1024x1024.Idx → Elt F .f32 := fun y => WGU m (ix3 (⟨e % 32, Nat.mod_lt _ (by decide)⟩ : Fin 32) (y 1) (y 2))
def wdnE (e : ℕ) : S1x512x1024.Idx → Elt F .f32 := fun y => WDN m (ix3 (⟨e % 32, Nat.mod_lt _ (by decide)⟩ : Fin 32) (y 1) (y 2))
/-- The expert of tile `n`. -/
def exN (n : ℕ) : ℕ := (TE m (ix1 (⟨n % 288, Nat.mod_lt _ (by decide)⟩ : Fin 288))).toNat

theorem iblk_0 (c : Dev nD) (t : Fin (cfgA m hP).N) : iblk m hP c (0 : Fin 5) t = invN m t.val := by
  obtain rfl : c = 0 := Subsingleton.elim _ _
  have ht : t.val < 288 := t.isLt
  have hn := num_crd m hP t
  have e := ix_0 (crd m hP t)
  funext (y : S1x1x256.Idx)
  have h0 : (y 0).val < 1 := (y 0).isLt
  have h1 : (y 1).val < 1 := (y 1).isLt
  refine congrArg (INV m) (funext fun a => Fin.ext ?_)
  fin_cases a
  · show cc0_transform_0 (crd m hP t) 0 * 1 + 1 * (y 0).val = t.val % 288
    rw [e]; show num (crd m hP t) * 1 + 1 * (y 0).val = _; omega
  · show cc0_transform_0 (crd m hP t) 1 * 1 + 1 * (y 1).val = 0
    rw [e]; show 0 * 1 + 1 * (y 1).val = _; omega
  · show cc0_transform_0 (crd m hP t) 2 * 256 + 1 * (y 2).val = (y 2).val
    rw [e]; show 0 * 256 + 1 * (y 2).val = _; omega

theorem iblk_1 (c : Dev nD) (t : Fin (cfgA m hP).N) : iblk m hP c (1 : Fin 5) t = invN m (min (t.val + 1) 287) := by
  obtain rfl : c = 0 := Subsingleton.elim _ _
  have ht : t.val < 288 := t.isLt
  have hn := num_crd m hP t
  have e := ix_1 (crd m hP t)
  funext (y : S1x1x256.Idx)
  have h0 : (y 0).val < 1 := (y 0).isLt
  have h1 : (y 1).val < 1 := (y 1).isLt
  refine congrArg (INV m) (funext fun a => Fin.ext ?_)
  fin_cases a
  · show cc0_transform_1 (crd m hP t) 0 * 1 + 1 * (y 0).val = min (t.val + 1) 287 % 288
    rw [e]; show min (num (crd m hP t) + 1) 287 * 1 + 1 * (y 0).val = _; omega
  · show cc0_transform_1 (crd m hP t) 1 * 1 + 1 * (y 1).val = 0
    rw [e]; show 0 * 1 + 1 * (y 1).val = _; omega
  · show cc0_transform_1 (crd m hP t) 2 * 256 + 1 * (y 2).val = (y 2).val
    rw [e]; show 0 * 256 + 1 * (y 2).val = _; omega

theorem te_num (t : Fin (cfgA m hP).N) : (TE m (ix1 (nu288 (crd m hP t)))).toNat = exN m t.val := by
  have ht : t.val < 288 := t.isLt
  unfold exN
  refine congrArg (fun z : Fin 288 => (TE m (ix1 z)).toNat) (Fin.ext ?_)
  show num (crd m hP t) = t.val % 288
  rw [num_crd]; omega

theorem iblk_2 (c : Dev nD) (t : Fin (cfgA m hP).N) : iblk m hP c (2 : Fin 5) t = wguE m (exN m t.val) := by
  obtain rfl : c = 0 := Subsingleton.elim _ _
  have hl := hP.te_lt (ix1 (nu288 (crd m hP t)))
  have e := ix_3 m (crd m hP t)
  rw [te_num] at e hl
  funext (y : S1x1024x1024.Idx)
  have h0 : (y 0).val < 1 := (y 0).isLt
  refine congrArg (WGU m) (funext fun a => Fin.ext ?_)
  fin_cases a
  · show cc0_transform_3 k0_off1_inb numel1_S1 (pf m) (crd m hP t) 0 * 1 + 1 * (y 0).val = exN m t.val % 32
    rw [e]; show exN m t.val * 1 + 1 * (y 0).val = _; omega
  · show cc0_transform_3 k0_off1_inb numel1_S1 (pf m) (crd m hP t) 1 * 1024 + 1 * (y 1).val = (y 1).val
    rw [e]; show 0 * 1024 + 1 * (y 1).val = _; omega
  · show cc0_transform_3 k0_off1_inb numel1_S1 (pf m) (crd m hP t) 2 * 1024 + 1 * (y 2).val = (y 2).val
    rw [e]; show 0 * 1024 + 1 * (y 2).val = _; omega

theorem iblk_3 (c : Dev nD) (t : Fin (cfgA m hP).N) : iblk m hP c (3 : Fin 5) t = wdnE m (exN m t.val) := by
  obtain rfl : c = 0 := Subsingleton.elim _ _
  have hl := hP.te_lt (ix1 (nu288 (crd m hP t)))
  have e := ix_4 m (crd m hP t)
  rw [te_num] at e hl
  funext (y : S1x512x1024.Idx)
  have h0 : (y 0).val < 1 := (y 0).isLt
  refine congrArg (WDN m) (funext fun a => Fin.ext ?_)
  fin_cases a
  · show cc0_transform_4 k0_off1_inb numel1_S1 (pf m) (crd m hP t) 0 * 1 + 1 * (y 0).val = exN m t.val % 32
    rw [e]; show exN m t.val * 1 + 1 * (y 0).val = _; omega
  · show cc0_transform_4 k0_off1_inb numel1_S1 (pf m) (crd m hP t) 1 * 512 + 1 * (y 1).val = (y 1).val
    rw [e]; show 0 * 512 + 1 * (y 1).val = _; omega
  · show cc0_transform_4 k0_off1_inb numel1_S1 (pf m) (crd m hP t) 2 * 1024 + 1 * (y 2).val = (y 2).val
    rw [e]; show 0 * 1024 + 1 * (y 2).val = _; omega

include hP in
theorem invN_rows (n : ℕ) : InRows (invN m n) := fun k => hP.inv_lt _

/-! ## The invariant and the proof data -/

/-- The tile of output the kernel leaves at point `n`: the expert's result on its rows while tiles are used, zeros after. -/
def tileN (n : ℕ) : S256x1024.Idx → Elt F .f32 :=
  if n < used (NU m) then tileOut (XT m) (wguE m (exN m n)) (wdnE m (exN m n)) (ivOf (invN m n)) else k0_pay4 (F := F)

/-- The half of the row buffer a tile's rows come to. -/
abbrev par (n : ℕ) : Fin 2 := ⟨n % 2, Nat.mod_lt _ (by decide)⟩

/-- The halves before point `n`: the tile's rows on their way to its half between the first point and the last used one, otherwise both free. -/
def Halves (c : Dev nD) (n : ℕ) : sProp 𝕄 :=
  if 0 < n ∧ n < used (NU m) then iprop(slotBusy c (par n) (XT m) (ivOf (invN m n)) ∗ slotFree c (par (n + 1)) (XT m))
  else iprop(slotFree c (par n) (XT m) ∗ slotFree c (par (n + 1)) (XT m))

/-- The weights' scratch before point `n`: those of the point before's expert, if that point was used. -/
def Scratch (c : Dev nD) (n : ℕ) : sProp 𝕄 :=
  iprop(∃ g2 g3, ⌜0 < n → n ≤ used (NU m) → wgM.view.read (Elt F) g2 = k0_pay1 (F := F) (wguE m (exN m (n - 1))) ∧ wdM.view.read (Elt F) g3 = k0_pay2 (F := F) (wdnE m (exN m (n - 1)))⌝
    ∗ (wgM.view.loc (c : Thread nD τ) ↦{fullShare} g2) ∗ (wdM.view.loc (c : Thread nD τ) ↦{fullShare} g3))

/-- What the body keeps between points. -/
def Phi (c : Dev nD) (n : ℕ) : sProp 𝕄 :=
  iprop((teM.view.loc (c : Thread nD τ) ↦{fullShare.right} TE m) ∗ (nuM.view.loc (c : Thread nD τ) ↦{fullShare.right} NU m)
    ∗ Scratch m c n ∗ Halves m c n ∗ (∃ r, prngReg c r))

/-- Inputs keep their blocks; the output is at `tileN`. -/
def dats (_ : Fin 1) (c : Dev nD) : Dat τ (Elt F) Unit ℕ (UD sig nD τ) ℕ (cfgA m hP) c where
  A w := m (((cfgA m hP).win w).arr.view.loc (c : Thread nD τ))
  after w t := match w with
    | ⟨0, _⟩ => iblk m hP c (0 : Fin 5) t
    | ⟨1, _⟩ => iblk m hP c (1 : Fin 5) t
    | ⟨2, _⟩ => iblk m hP c (2 : Fin 5) t
    | ⟨3, _⟩ => iblk m hP c (3 : Fin 5) t
    | ⟨4, _⟩ => tileN m t.val
  Φ t := Phi m c t.val
  q w := Pipeline.shareOf (cfgA m hP).spec w
  owed _ := 0
  recorded _ := Set.univ

theorem after_0 (c : Dev nD) (t : Fin (cfgA m hP).N) : (dats m hP 0 c).after (0 : Fin 5) t = iblk m hP c (0 : Fin 5) t := rfl
theorem after_1 (c : Dev nD) (t : Fin (cfgA m hP).N) : (dats m hP 0 c).after (1 : Fin 5) t = iblk m hP c (1 : Fin 5) t := rfl
theorem after_2 (c : Dev nD) (t : Fin (cfgA m hP).N) : (dats m hP 0 c).after (2 : Fin 5) t = iblk m hP c (2 : Fin 5) t := rfl
theorem after_3 (c : Dev nD) (t : Fin (cfgA m hP).N) : (dats m hP 0 c).after (3 : Fin 5) t = iblk m hP c (3 : Fin 5) t := rfl
theorem after_4 (c : Dev nD) (t : Fin (cfgA m hP).N) : (dats m hP 0 c).after (4 : Fin 5) t = tileN m t.val := rfl

set_option maxHeartbeats 4000000 in
theorem before_0 (c : Dev nD) (t : Fin (cfgA m hP).N) (d) : (dats m hP 0 c).before (0 : Fin 5) t d = iblk m hP c (0 : Fin 5) t :=
  ((dats m hP 0 c).before_in_eq_fetched (0 : Fin 5) rfl (fun _ => rfl) (fun _ _ _ => rfl) (fun t => by rw [after_0]; unfold Dat.blockOf iblk; rfl) t d).trans
    (by unfold Dat.fetched Dat.blockOf iblk; rfl)

set_option maxHeartbeats 4000000 in
theorem before_1 (c : Dev nD) (t : Fin (cfgA m hP).N) (d) : (dats m hP 0 c).before (1 : Fin 5) t d = iblk m hP c (1 : Fin 5) t :=
  ((dats m hP 0 c).before_in_eq_fetched (1 : Fin 5) rfl (fun _ => rfl) (fun _ _ _ => rfl) (fun t => by rw [after_1]; unfold Dat.blockOf iblk; rfl) t d).trans
    (by unfold Dat.fetched Dat.blockOf iblk; rfl)

set_option maxHeartbeats 4000000 in
theorem before_2 (c : Dev nD) (t : Fin (cfgA m hP).N) (d) : (dats m hP 0 c).before (2 : Fin 5) t d = iblk m hP c (2 : Fin 5) t :=
  ((dats m hP 0 c).before_in_eq_fetched (2 : Fin 5) rfl (fun _ => rfl) (fun _ _ _ => rfl) (fun t => by rw [after_2]; unfold Dat.blockOf iblk; rfl) t d).trans
    (by unfold Dat.fetched Dat.blockOf iblk; rfl)

set_option maxHeartbeats 4000000 in
theorem before_3 (c : Dev nD) (t : Fin (cfgA m hP).N) (d) : (dats m hP 0 c).before (3 : Fin 5) t d = iblk m hP c (3 : Fin 5) t :=
  ((dats m hP 0 c).before_in_eq_fetched (3 : Fin 5) rfl (fun _ => rfl) (fun _ _ _ => rfl) (fun t => by rw [after_3]; unfold Dat.blockOf iblk; rfl) t d).trans
    (by unfold Dat.fetched Dat.blockOf iblk; rfl)

/-- No point is idle for the output: the body stores to it whether or not the tile is used. -/
theorem out_live (i : (cfgA m hP).grid.Coords) : (cfgA m hP).idle (4 : Fin 5) i = false := by
  have key : ∀ v : BitVec 32, (!(k0_cond3 i v == 1#1) && !(k0_cond5 i v == 1#1)) = false := by
    intro v
    by_cases h : (BitVec.ofNat 32 (num i)).slt v = true
    · have : k0_cond3 i v = 1#1 := by
        show Scalar.cmpi .ne (Scalar.extui (BitVec.ofBool ((BitVec.ofNat 32 (num i)).slt v)) : BitVec 32) 0#32 = 1#1
        rw [flag]; exact h
      rw [this]; rfl
    · have : k0_cond5 i v = 1#1 := by
        show Scalar.cmpi .ne (Scalar.extui (BitVec.ofBool (v.sle (BitVec.ofNat 32 (num i)))) : BitVec 32) 0#32 = 1#1
        rw [flag, BitVec.sle_eq_decide, decide_eq_true_eq]
        rw [BitVec.slt_eq_decide, decide_eq_true_eq] at h; omega
      rw [this]; simp
  exact key _

end Cert.ExpertsIdeal.Moe

end
-- ==== Proof.ExpertsIdeal.Body.lean ====
module

public import proofs.«01_k».proof.Proof.ExpertsIdeal.Data

@[expose] public section

set_option maxRecDepth 16384
set_option Elab.async false

noncomputable section

namespace Cert.ExpertsIdeal.Moe

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf UD)

variable {F : FTy → Type} [FloatOps F]

local notation "𝕄" => MT nD τ sig Unit (Elt F) ℕ (UD sig nD τ) ℕ

variable (m : (ℓ : Loc nD τ sig) → Buf (Elt F) ℓ) (hP : Plan (TE m) (NU m) (INV m))

/-! ## The body at a point -/

/-- The body's call at point `t`. -/
abbrev bodyAt (t : Fin (cfgA m hP).N) : Prog (TpuEff nD τ sig (Elt F) Λ₀ .tc) PUnit :=
  cc0_moe_experts (F := F) (crd m hP t) teM (Memref.isWhole_whole _) nuM (Memref.isWhole_whole _) (ms0 m hP t) (hs0 m hP t) (ms1 m hP t) (hs1 m hP t) xtM (Memref.isWhole_whole _)
    (ms2 m hP t) (hs2 m hP t) (ms3 m hP t) (hs3 m hP t) (ms4 m hP t) (hs4 m hP t) bufM (Memref.isWhole_whole _) cc0_scratch1 wgM (Memref.isWhole_whole _) wdM (Memref.isWhole_whole _)

theorem cur_crd (t : Fin (cfgA m hP).N) : cur (crd m hP t) = par t.val := Fin.ext (by show num (crd m hP t) % 2 = t.val % 2; rw [num_crd])
theorem oth_crd (t : Fin (cfgA m hP).N) : oth (crd m hP t) = par (t.val + 1) := Fin.ext (by show (num (crd m hP t) + 1) % 2 = (t.val + 1) % 2; rw [num_crd])
theorem par_two (n : ℕ) : par (n + 1 + 1) = par n := Fin.ext (by show (n + 1 + 1) % 2 = n % 2; omega)

/-- The halves where no rows are on their way. -/
theorem halves_free (c : Dev nD) (t : Fin (cfgA m hP).N) (h : ¬ (0 < t.val ∧ t.val < used (NU m))) :
    Halves m c t.val = iprop(slotFree c (cur (crd m hP t)) (XT m) ∗ slotFree c (oth (crd m hP t)) (XT m)) := by
  rw [cur_crd, oth_crd]; unfold Halves; rw [if_neg h]
theorem halves_busy (c : Dev nD) (t : Fin (cfgA m hP).N) (h : 0 < t.val ∧ t.val < used (NU m)) :
    Halves m c t.val = iprop(slotBusy c (cur (crd m hP t)) (XT m) (ivOf (invN m t.val)) ∗ slotFree c (oth (crd m hP t)) (XT m)) := by
  rw [cur_crd, oth_crd]; unfold Halves; rw [if_pos h]
theorem halves_next_free (c : Dev nD) (t : Fin (cfgA m hP).N) (h : ¬ t.val + 1 < used (NU m)) :
    Halves m c (t.val + 1) = iprop(slotFree c (oth (crd m hP t)) (XT m) ∗ slotFree c (cur (crd m hP t)) (XT m)) := by
  rw [cur_crd, oth_crd]; unfold Halves; rw [if_neg (fun h' => h h'.2), par_two]
theorem halves_next_busy (c : Dev nD) (t : Fin (cfgA m hP).N) (h : t.val + 1 < used (NU m)) :
    Halves m c (t.val + 1) = iprop(slotBusy c (oth (crd m hP t)) (XT m) (ivOf (invN m (t.val + 1))) ∗ slotFree c (cur (crd m hP t)) (XT m)) := by
  rw [cur_crd, oth_crd]; unfold Halves; rw [if_pos ⟨Nat.succ_pos _, h⟩, par_two]

/-- Where the body does not load its expert's weights, the expert is the point before's. -/
theorem ex_kept (t : Fin (cfgA m hP).N) (h : ¬ Loads (F := F) (TE m) (crd m hP t)) : 0 < t.val ∧ exN m (t.val - 1) = exN m t.val := by
  have ht : t.val < 288 := t.isLt
  have hn := num_crd m hP t
  obtain ⟨h0, he⟩ := kept (TE m) (crd m hP t) h (⟨(t.val - 1) % 288, Nat.mod_lt _ (by decide)⟩ : Fin 288) (by show (t.val - 1) % 288 = _; rw [hn]; omega)
  refine ⟨by omega, ?_⟩
  rw [← te_num m hP t]
  exact (congrArg BitVec.toNat he).symm

/-- What the body holds at point `t`, and what it leaves. -/
def PreP (c : Dev nD) (t : Fin (cfgA m hP).N) : sProp 𝕄 :=
  iprop(Phi m c t.val ∗ (∃ W, owes (c : Thread nD τ) 0 W) ∗ owns (c : Thread nD τ) (ms0 m hP t) fullShare (invN m t.val) ∗ owns (c : Thread nD τ) (ms1 m hP t) fullShare (invN m (min (t.val + 1) 287))
    ∗ owns (c : Thread nD τ) (ms2 m hP t) fullShare (wguE m (exN m t.val)) ∗ owns (c : Thread nD τ) (ms3 m hP t) fullShare (wdnE m (exN m t.val))
    ∗ (∃ d, owns (c : Thread nD τ) (ms4 m hP t) fullShare d))
def PostP (c : Dev nD) (t : Fin (cfgA m hP).N) : sProp 𝕄 :=
  iprop(Phi m c (t.val + 1) ∗ (∃ W, owes (c : Thread nD τ) 0 W) ∗ owns (c : Thread nD τ) (ms0 m hP t) fullShare (invN m t.val) ∗ owns (c : Thread nD τ) (ms1 m hP t) fullShare (invN m (min (t.val + 1) 287))
    ∗ owns (c : Thread nD τ) (ms2 m hP t) fullShare (wguE m (exN m t.val)) ∗ owns (c : Thread nD τ) (ms3 m hP t) fullShare (wdnE m (exN m t.val))
    ∗ owns (c : Thread nD τ) (ms4 m hP t) fullShare (tileN m t.val))

/-- The weights' scratch, spelt out. -/
theorem scratch_eq (c : Dev nD) (n : ℕ) : (Scratch m c n : sProp 𝕄) = iprop(∃ g2 g3, ⌜0 < n → n ≤ used (NU m) → wgM.view.read (Elt F) g2 = k0_pay1 (F := F) (wguE m (exN m (n - 1))) ∧ wdM.view.read (Elt F) g3 = k0_pay2 (F := F) (wdnE m (exN m (n - 1)))⌝
    ∗ (wgM.view.loc (c : Thread nD τ) ↦{fullShare} g2) ∗ (wdM.view.loc (c : Thread nD τ) ↦{fullShare} g3)) := rfl

theorem out_at (c : Dev nD) (a : Memref sig .tc .vmem S256x1024 .f32) (v : S256x1024.Idx → Elt F .f32) : (outAt c a v : sProp 𝕄) ⊢ owns (c : Thread nD τ) a fullShare v := by
  unfold owns
  iintro H
  iexact H

/-- A buffer held at a value is held. -/
theorem out_any (c : Dev nD) (a : Memref sig .tc .vmem S256x1024 .f32) (d : S256x1024.Idx → Elt F .f32) : owns (c : Thread nD τ) a fullShare d ⊢ (outAny c a : sProp 𝕄) := by
  unfold owns
  iintro ⟨%f, -, H⟩
  iexists f; iexact H

set_option maxHeartbeats 4000000 in
/-- The body from its run at point `t`: the run from the halves `SC`, `SF` to `SC'`, `SO'`, leaving the scratch `G`, `D`. -/
theorem body_glue (c : Dev nD) (t : Fin (cfgA m hP).N) (SC SF SC' SO' : sProp 𝕄)
    (G : Buf (Elt F) (wgM.view.loc (c : Thread nD τ)) → sProp 𝕄) (D : Buf (Elt F) (wdM.view.loc (c : Thread nD τ)) → sProp 𝕄)
    (hrun : ∀ g2 g3, (¬ Loads (F := F) (TE m) (crd m hP t) → t.val ≤ used (NU m) → wgM.view.read (Elt F) g2 = k0_pay1 (F := F) (wguE m (exN m t.val)) ∧ wdM.view.read (Elt F) g3 = k0_pay2 (F := F) (wdnE m (exN m t.val))) →
      ∀ K : PUnit → sProp 𝕄, iprop(Held c (ms0 m hP t) (ms1 m hP t) (ms2 m hP t) (ms3 m hP t) (TE m) (NU m) (invN m t.val) (invN m (min (t.val + 1) 287)) (wguE m (exN m t.val)) (wdnE m (exN m t.val)) (outAny c (ms4 m hP t)) (wgM.view.loc (c : Thread nD τ) ↦{fullShare} g2) (wdM.view.loc (c : Thread nD τ) ↦{fullShare} g3) SC SF
        ∗ ((Held c (ms0 m hP t) (ms1 m hP t) (ms2 m hP t) (ms3 m hP t) (TE m) (NU m) (invN m t.val) (invN m (min (t.val + 1) 287)) (wguE m (exN m t.val)) (wdnE m (exN m t.val)) (outAt c (ms4 m hP t) (tileN m t.val)) (G g2) (D g3) SC' SO') -∗ K ⟨⟩)) ⊢ wp frame (wpE (defs₀ (F := F)) Variants.none (c : Thread nD τ) none) Set.univ (bodyAt m hP t) K)
    (hin : Halves m c t.val = iprop(SC ∗ SF)) (hout : Halves m c (t.val + 1) = iprop(SO' ∗ SC'))
    (hscr : ∀ g2 g3, iprop(G g2 ∗ D g3) ⊢ Scratch m c (t.val + 1)) :
    PreP m hP c t ⊢ wp frame (wpE (defs₀ (F := F)) Variants.none (c : Thread nD τ) none) Set.univ (bodyAt m hP t) fun _ => PostP m hP c t := by
  unfold PreP PostP Phi
  rw [hin, hout, scratch_eq m c t.val]
  iintro ⟨⟨HT0, HT1, ⟨%g2, %g3, %hg, HG, HD⟩, ⟨HSC, HSF⟩, HP⟩, HO, H0, H1, H2, H3, ⟨%d, H4⟩⟩
  have hr : ¬ Loads (F := F) (TE m) (crd m hP t) → t.val ≤ used (NU m) → wgM.view.read (Elt F) g2 = k0_pay1 (F := F) (wguE m (exN m t.val)) ∧ wdM.view.read (Elt F) g3 = k0_pay2 (F := F) (wdnE m (exN m t.val)) := by
    intro hL hu
    obtain ⟨h0, he⟩ := ex_kept m hP t hL
    have := hg h0 hu
    rwa [he] at this
  iapply (hrun g2 g3 hr _)
  isplitl [HT0 HT1 HG HD HSC HSF HO H0 H1 H2 H3 H4]
  · unfold Held
    isplitl [HT0]; · iexact HT0
    isplitl [HT1]; · iexact HT1
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply (out_any c (ms4 m hP t) d); iexact H4
    isplitl [HG]; · iexact HG
    isplitl [HD]; · iexact HD
    isplitl [HSC]; · iexact HSC
    isplitl [HSF]; · iexact HSF
    iexact HO
  unfold Held
  iintro ⟨HT0, HT1, H0, H1, H2, H3, H4, HG, HD, HSC, HSO, HO⟩
  isplitl [HT0 HT1 HG HD HSC HSO HP]
  · isplitl [HT0]; · iexact HT0
    isplitl [HT1]; · iexact HT1
    isplitl [HG HD]
    · iapply (hscr g2 g3)
      isplitl [HG]; · iexact HG
      iexact HD
    isplitl [HSC HSO]
    · isplitl [HSO]; · iexact HSO
      iexact HSC
    iexact HP
  isplitl [HO]; · iexact HO
  isplitl [H0]; · iapply owns_of_rep; iexact H0
  isplitl [H1]; · iapply owns_of_rep; iexact H1
  isplitl [H2]; · iapply owns_of_rep; iexact H2
  isplitl [H3]; · iapply owns_of_rep; iexact H3
  iapply (out_at c (ms4 m hP t) (tileN m t.val)); iexact H4

/-- The scratch after a used point: its expert's weights. -/
theorem scratch_used (c : Dev nD) (n : ℕ) (_ : Buf (Elt F) (wgM.view.loc (c : Thread nD τ))) (_ : Buf (Elt F) (wdM.view.loc (c : Thread nD τ))) :
    iprop(wgAt c (k0_pay1 (F := F) (wguE m (exN m n))) ∗ wdAt c (k0_pay2 (F := F) (wdnE m (exN m n)))) ⊢ Scratch m c (n + 1) := by
  unfold Scratch
  iintro ⟨⟨%g2, %e2, HG⟩, ⟨%g3, %e3, HD⟩⟩
  iexists g2; iexists g3
  isplitr; · ipureintro; intro _ _; exact ⟨e2, e3⟩
  isplitl [HG]; · iexact HG
  iexact HD

/-- After an unused point nothing is said of the scratch. -/
theorem scratch_idle (c : Dev nD) (n : ℕ) (h : used (NU m) ≤ n) (g2 : Buf (Elt F) (wgM.view.loc (c : Thread nD τ))) (g3 : Buf (Elt F) (wdM.view.loc (c : Thread nD τ))) :
    iprop((wgM.view.loc (c : Thread nD τ) ↦{fullShare} g2) ∗ (wdM.view.loc (c : Thread nD τ) ↦{fullShare} g3)) ⊢ (Scratch m c (n + 1) : sProp 𝕄) := by
  unfold Scratch
  iintro ⟨HG, HD⟩
  iexists g2; iexists g3
  isplitr; · ipureintro; intro _ h'; omega
  isplitl [HG]; · iexact HG
  iexact HD

include hP in
theorem vN_le : (vN (F := F) (NU m)).toNat ≤ 288 := by rw [vN_eq]; exact hP.nu_le _

theorem tile_used (n : ℕ) (h : n < used (NU m)) : tileN m n = tileOut (XT m) (wguE m (exN m n)) (wdnE m (exN m n)) (ivOf (invN m n)) := by unfold tileN; rw [if_pos h]
theorem tile_idle (n : ℕ) (h : ¬ n < used (NU m)) : tileN m n = k0_pay4 (F := F) := by unfold tileN; rw [if_neg h]

set_option maxHeartbeats 4000000 in
/-- The body at any point. -/
theorem body_point (c : Dev nD) (t : Fin (cfgA m hP).N) :
    PreP m hP c t ⊢ wp frame (wpE (defs₀ (F := F)) Variants.none (c : Thread nD τ) none) Set.univ (bodyAt m hP t) fun _ => PostP m hP c t := by
  have hle := vN_le m hP
  have hu : (vN (F := F) (NU m)).toNat = used (NU m) := by rw [vN_eq]
  have hn := num_crd m hP t
  have ht : t.val < 288 := t.isLt
  have hpos : 1 ≤ used (NU m) := hP.nu_pos _
  have hle' : used (NU m) ≤ 288 := hP.nu_le _
  have hr0 := invN_rows m hP t.val
  have hr1 := invN_rows m hP (min (t.val + 1) 287)
  have c1 := cond1_iff (crd m hP t)
  have c2 := cond2_iff (crd m hP t) (vN (F := F) (NU m)) hle
  have c3 := cond3_iff (crd m hP t) (vN (F := F) (NU m)) hle
  have c5 := cond5_iff (crd m hP t) (vN (F := F) (NU m)) hle
  rw [hn] at c1; rw [hn, hu] at c2 c3 c5
  by_cases h3 : t.val < used (NU m)
  · have hmin : t.val + 1 < used (NU m) → min (t.val + 1) 287 = t.val + 1 := fun h => by omega
    by_cases h1 : t.val = 0 <;> by_cases h2 : t.val + 1 < used (NU m)
    · refine body_glue m hP c t (slotFree c (cur (crd m hP t)) (XT m)) (slotFree c (oth (crd m hP t)) (XT m)) (slotFree c (cur (crd m hP t)) (XT m)) (slotBusy c (oth (crd m hP t)) (XT m) (ivOf (invN m (min (t.val + 1) 287))))
        (fun _ => wgAt c (k0_pay1 (F := F) (wguE m (exN m t.val)))) (fun _ => wdAt c (k0_pay2 (F := F) (wdnE m (exN m t.val)))) (fun g2 g3 hr K => ?_)
        (halves_free m hP c t (by omega)) ((halves_next_busy m hP c t h2).trans (by rw [hmin h2])) (scratch_used m c t.val)
      rw [tile_used m _ h3]
      exact run_first c (crd m hP t) (ms0 m hP t) (hs0 m hP t) (ms1 m hP t) (hs1 m hP t) (ms2 m hP t) (hs2 m hP t) (ms3 m hP t) (hs3 m hP t) (ms4 m hP t) (hs4 m hP t) (TE m) (NU m) (XT m) (invN m t.val) (invN m (min (t.val + 1) 287)) (wguE m (exN m t.val)) (wdnE m (exN m t.val)) g2 g3 hr0 hr1 (fun hL => hr hL (by omega)) (c1.mpr h1) (c2.mpr h2) (c3.mpr h3) (fun h => by have := c5.mp h; omega) K
    · refine body_glue m hP c t (slotFree c (cur (crd m hP t)) (XT m)) (slotFree c (oth (crd m hP t)) (XT m)) (slotFree c (cur (crd m hP t)) (XT m)) (slotFree c (oth (crd m hP t)) (XT m))
        (fun _ => wgAt c (k0_pay1 (F := F) (wguE m (exN m t.val)))) (fun _ => wdAt c (k0_pay2 (F := F) (wdnE m (exN m t.val)))) (fun g2 g3 hr K => ?_)
        (halves_free m hP c t (by omega)) (halves_next_free m hP c t h2) (scratch_used m c t.val)
      rw [tile_used m _ h3]
      exact run_only c (crd m hP t) (ms0 m hP t) (hs0 m hP t) (ms1 m hP t) (hs1 m hP t) (ms2 m hP t) (hs2 m hP t) (ms3 m hP t) (hs3 m hP t) (ms4 m hP t) (hs4 m hP t) (TE m) (NU m) (XT m) (invN m t.val) (invN m (min (t.val + 1) 287)) (wguE m (exN m t.val)) (wdnE m (exN m t.val)) g2 g3 hr0 (fun hL => hr hL (by omega)) (c1.mpr h1) (fun h => h2 (c2.mp h)) (c3.mpr h3) (fun h => by have := c5.mp h; omega) K
    · refine body_glue m hP c t (slotBusy c (cur (crd m hP t)) (XT m) (ivOf (invN m t.val))) (slotFree c (oth (crd m hP t)) (XT m)) (slotFree c (cur (crd m hP t)) (XT m)) (slotBusy c (oth (crd m hP t)) (XT m) (ivOf (invN m (min (t.val + 1) 287))))
        (fun _ => wgAt c (k0_pay1 (F := F) (wguE m (exN m t.val)))) (fun _ => wdAt c (k0_pay2 (F := F) (wdnE m (exN m t.val)))) (fun g2 g3 hr K => ?_)
        (halves_busy m hP c t (by omega)) ((halves_next_busy m hP c t h2).trans (by rw [hmin h2])) (scratch_used m c t.val)
      rw [tile_used m _ h3]
      exact run_mid c (crd m hP t) (ms0 m hP t) (hs0 m hP t) (ms1 m hP t) (hs1 m hP t) (ms2 m hP t) (hs2 m hP t) (ms3 m hP t) (hs3 m hP t) (ms4 m hP t) (hs4 m hP t) (TE m) (NU m) (XT m) (invN m t.val) (invN m (min (t.val + 1) 287)) (wguE m (exN m t.val)) (wdnE m (exN m t.val)) g2 g3 (ivOf (invN m t.val)) hr1 (fun hL => hr hL (by omega)) (fun h => h1 (c1.mp h)) (c2.mpr h2) (c3.mpr h3) (fun h => by have := c5.mp h; omega) K
    · refine body_glue m hP c t (slotBusy c (cur (crd m hP t)) (XT m) (ivOf (invN m t.val))) (slotFree c (oth (crd m hP t)) (XT m)) (slotFree c (cur (crd m hP t)) (XT m)) (slotFree c (oth (crd m hP t)) (XT m))
        (fun _ => wgAt c (k0_pay1 (F := F) (wguE m (exN m t.val)))) (fun _ => wdAt c (k0_pay2 (F := F) (wdnE m (exN m t.val)))) (fun g2 g3 hr K => ?_)
        (halves_busy m hP c t (by omega)) (halves_next_free m hP c t h2) (scratch_used m c t.val)
      rw [tile_used m _ h3]
      exact run_last c (crd m hP t) (ms0 m hP t) (hs0 m hP t) (ms1 m hP t) (hs1 m hP t) (ms2 m hP t) (hs2 m hP t) (ms3 m hP t) (hs3 m hP t) (ms4 m hP t) (hs4 m hP t) (TE m) (NU m) (XT m) (invN m t.val) (invN m (min (t.val + 1) 287)) (wguE m (exN m t.val)) (wdnE m (exN m t.val)) g2 g3 (ivOf (invN m t.val)) (fun hL => hr hL (by omega)) (fun h => h1 (c1.mp h)) (fun h => h2 (c2.mp h)) (c3.mpr h3) (fun h => by have := c5.mp h; omega) K
  · refine body_glue m hP c t (slotFree c (cur (crd m hP t)) (XT m)) (slotFree c (oth (crd m hP t)) (XT m)) (slotFree c (cur (crd m hP t)) (XT m)) (slotFree c (oth (crd m hP t)) (XT m))
      (fun g2 => (wgM.view.loc (c : Thread nD τ) ↦{fullShare} g2)) (fun g3 => (wdM.view.loc (c : Thread nD τ) ↦{fullShare} g3)) (fun g2 g3 hr K => ?_)
      (halves_free m hP c t (by omega)) (halves_next_free m hP c t (by omega)) (scratch_idle m c t.val (by omega))
    rw [tile_idle m _ h3]
    exact run_idle c (crd m hP t) (ms0 m hP t) (hs0 m hP t) (ms1 m hP t) (hs1 m hP t) (ms2 m hP t) (hs2 m hP t) (ms3 m hP t) (hs3 m hP t) (ms4 m hP t) (hs4 m hP t) (TE m) (NU m) (XT m) (invN m t.val) (invN m (min (t.val + 1) 287)) (wguE m (exN m t.val)) (wdnE m (exN m t.val)) g2 g3 (fun h => by have := c1.mp h; omega) (fun h => by have := c2.mp h; omega) (fun h => h3 (c3.mp h)) (c5.mpr (by omega)) K

set_option maxHeartbeats 4000000 in
/-- The body at a point, its windows held one by one. -/
theorem sound_body (c : Dev nD) (t : Fin (cfgA m hP).N) :
    iprop((dats m hP 0 c).Φ t.castSucc ∗ (dats m hP 0 c).owesAt () t.castSucc
      ∗ (∃ d, owns (c : Thread nD τ) (ms0 m hP t) fullShare ((dats m hP 0 c).before (0 : Fin 5) t d))
      ∗ (∃ d, owns (c : Thread nD τ) (ms1 m hP t) fullShare ((dats m hP 0 c).before (1 : Fin 5) t d))
      ∗ (∃ d, owns (c : Thread nD τ) (ms2 m hP t) fullShare ((dats m hP 0 c).before (2 : Fin 5) t d))
      ∗ (∃ d, owns (c : Thread nD τ) (ms3 m hP t) fullShare ((dats m hP 0 c).before (3 : Fin 5) t d))
      ∗ (∃ d, owns (c : Thread nD τ) (ms4 m hP t) fullShare ((dats m hP 0 c).before (4 : Fin 5) t d)))
    ⊢ wp frame (wpE (defs₀ (F := F)) Variants.none c none) Set.univ (bodyAt m hP t) fun _ =>
        iprop((dats m hP 0 c).Φ t.succ ∗ (dats m hP 0 c).owesAt () t.succ
          ∗ bigSep Finset.univ fun w : Fin (cfgA m hP).W =>
              match (cfgA m hP).idle w ((cfgA m hP).grid.coords t) with
              | true => match ((cfgA m hP).win w).flush t with
                | false => iprop(∃ d, owns (c : Thread nD τ) (((cfgA m hP).win w).stage ((cfgA m hP).slots t w)) fullShare ((dats m hP 0 c).before w t d))
                | true => owns (c : Thread nD τ) (((cfgA m hP).win w).stage ((cfgA m hP).slots t w)) fullShare ((dats m hP 0 c).after w t)
              | false => owns (c : Thread nD τ) (((cfgA m hP).win w).stage ((cfgA m hP).slots t w)) fullShare ((dats m hP 0 c).after w t)) := by
  rw [bigSep_W0]
  have hp : (dats m hP 0 c).Φ t.castSucc = Phi m c t.val := rfl
  have hs : (dats m hP 0 c).Φ t.succ = Phi m c (t.val + 1) := rfl
  rw [hp, hs]
  have hl : (cfgA m hP).idle (4 : Fin 5) ((cfgA m hP).grid.coords t) = false := out_live m hP _
  rw [hl]
  simp only [before_0, before_1, before_2, before_3, after_0, after_1, after_2, after_3, after_4, iblk_0, iblk_1, iblk_2, iblk_3]
  have hb := body_point m hP c t
  unfold PreP PostP at hb
  iintro ⟨HΦ, ⟨%W, %hW, HO⟩, ⟨%d0, H0⟩, ⟨%d1, H1⟩, ⟨%d2, H2⟩, ⟨%d3, H3⟩, ⟨%d4, H4⟩⟩
  iapply (wp_wand_r _ _ _)
  isplitl [HΦ HO H0 H1 H2 H3 H4]
  · iapply hb
    isplitl [HΦ]; · iexact HΦ
    isplitl [HO]; · iexists W; iexact HO
    isplitl [H0]; · iexact H0
    isplitl [H1]; · iexact H1
    isplitl [H2]; · iexact H2
    isplitl [H3]; · iexact H3
    iexists _; iexact H4
  iintro %_ ⟨HΦ, ⟨%W', HO⟩, H0, H1, H2, H3, H4⟩
  isplitl [HΦ]; · iexact HΦ
  isplitl [HO]
  · iexists W'
    isplitr; · ipureintro; intro x _; exact Or.inl (Set.mem_univ _)
    iexact HO
  isplitl [H0]; · iexact H0
  isplitl [H1]; · iexact H1
  isplitl [H2]; · iexact H2
  isplitl [H3]; · iexact H3
  iexact H4

theorem body_obligation (c : Dev nD) : BodyObligation (dats m hP 0 c) (defs₀ (F := F)) Variants.none () Set.univ := fun t => by
  rw [bigSep_W0]
  exact sound_body m hP c t

end Cert.ExpertsIdeal.Moe

end
-- ==== Proof.ExpertsIdeal.Launched.lean ====
module

public import proofs.«01_k».proof.Proof.ExpertsIdeal.Body
public import Idealize.ShloMosaic.Lib.Pipeline.Quiescent
public import Idealize.ShloMosaic.Lib.Pipeline.Frame
public import Idealize.ShloMosaic.Lib.Claim

@[expose] public section

set_option maxRecDepth 16384
set_option Elab.async false

noncomputable section

namespace Cert.ExpertsIdeal.Moe

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf UD)

variable {F : FTy → Type} [FloatOps F]

local notation "𝕄" => MT nD τ sig Unit (Elt F) ℕ (UD sig nD τ) ℕ

variable (m : (ℓ : Loc nD τ sig) → Buf (Elt F) ℓ) (hP : Plan (TE m) (NU m) (INV m)) (ρ : Dev nD → PrngReg)

/-! ## The launch -/

/-- The kernel's own semaphores: one per half of the row buffer. -/
abbrev osem : Fin 2 → SemLoc sig := fun s => SemLoc.dma (cellD s)

theorem osem_facts : Pipeline.OwnSemFacts spec0 osem := by decide

/-- The two tables held, one by one. -/
theorem prefHeld_two (c : Dev nD) (q : Fin 2 → PosShare TreeShare) (v : pre0.Contents (Elt F)) :
    (Pipeline.prefHeld (Ix := Unit) (Name := ℕ) (U := UD sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide, bigSep_insert (by decide), bigSep_singleton]
  rfl

/-- The two counters at zero, one by one. -/
theorem sems_two (c : Dev nD) :
    (Pipeline.ownSems0 (Ix := Unit) (Name := ℕ) (U := UD sig nD τ) (Lvl := ℕ) (Val := Elt F) (τ := τ) osem c : sProp 𝕄)
      = iprop(semVal ((c : Thread nD τ), SemLoc.dma (cellD 0)) 0 ∗ semVal ((c : Thread nD τ), SemLoc.dma (cellD 1)) 0) := by
  unfold Pipeline.ownSems0
  rw [show (Finset.univ : Finset (Fin 2)) = insert (0 : Fin 2) {(1 : Fin 2)} from by decide, bigSep_insert (by decide), bigSep_singleton]
  rfl

/-- The row buffer whole is its two halves. -/
theorem halves_split (c : Dev nD) (f : Buf (Elt F) (bufLoc c)) :
    (bufLoc c ↦{fullShare} f : sProp 𝕄) ⊢ iprop((bufLoc c ↦[halfSet 0]{fullShare} f) ∗ (bufLoc c ↦[halfSet 1]{fullShare} f)) := by
  refine Entails.of_eq ((Ring.pointsTo_blocks (ℓ := bufLoc c) halfSet halfSet_disjoint halfSet_cover f).trans ?_)
  rw [show (Finset.univ : Finset (Fin 2)) = insert (0 : Fin 2) {(1 : Fin 2)} from by decide, bigSep_insert (by decide), bigSep_singleton]
  rfl

theorem halves_join (c : Dev nD) (f₀ : Buf (Elt F) (bufLoc c)) :
    iprop((∃ f, bufLoc c ↦[halfSet 0]{fullShare} f) ∗ (∃ f, bufLoc c ↦[halfSet 1]{fullShare} f)) ⊢ (iprop(∃ g, bufLoc c ↦{fullShare} g) : sProp 𝕄) := by
  have h := Ring.pointsTo_blocks_join_exists (ℓ := bufLoc c) (q := fullShare) (Ix := Unit) (Name := ℕ) (U := UD sig nD τ) (Lvl := ℕ) halfSet halfSet_disjoint halfSet_cover f₀
  rw [show (Finset.univ : Finset (Fin 2)) = insert (0 : Fin 2) {(1 : Fin 2)} from by decide, bigSep_insert (by decide), bigSep_singleton] at h
  exact h

/-- The activations whole are the two halves' shares of them. -/
theorem shares_split (c : Dev nD) (x : S32768x1024.Idx → Elt F .f32) :
    (xtLoc c ↦{fullShare} x : sProp 𝕄) ⊣⊢ iprop((xtLoc c ↦{hf 0} x) ∗ (xtLoc c ↦{hf 1} x)) := pointsTo_share (PosShare.mem_left_op_right fullShare)

/-- The contents the region starts from. -/
abbrev V₀ (c : Dev nD) (b : Ref sig .tc) : Buf (Elt F) ((c.tc : Thread nD τ).loc b) := m ((c.tc : Thread nD τ).loc b)

/-- The invariant before the first point. -/
theorem phi_first (c : Dev nD) :
    iprop(Pipeline.ΦD osem spec0 {main_arg3} (V₀ m) c ∗ Pipeline.prefHeld pre0 c (fun _ => fullShare.right) (adm m hP).1) ⊢ (dats m hP 0 c).Φ 0 := by
  obtain rfl : c = 0 := Subsingleton.elim _ _
  rw [prefHeld_two, Pipeline.ΦD_eq, scopedRest0_eq, sems_two, bigSep_singleton, show (dats m hP 0 (0 : Dev nD)).Φ 0 = Phi m 0 0 from rfl]
  unfold Phi Halves Scratch
  rw [if_neg (fun h => absurd h.1 (lt_irrefl 0))]
  unfold slotFree
  iintro ⟨⟨⟨⟨%a0, HS0⟩, ⟨%a1, HS1⟩, ⟨%a2, HS2⟩⟩, HP, ⟨HC0, HC1⟩, HX⟩, HT0, HT1⟩
  isplitl [HT0]; · iexact HT0
  isplitl [HT1]; · iexact HT1
  isplitl [HS1 HS2]
  · iexists a1; iexists a2
    isplitr; · ipureintro; intro h; exact absurd h (lt_irrefl 0)
    isplitl [HS1]; · iexact HS1
    iexact HS2
  isplitr [HP]
  · ihave HB := (halves_split (0 : Dev nD) a0) $$ HS0
    icases HB with ⟨HB0, HB1⟩
    ihave HX2 := (shares_split (0 : Dev nD) (XT m)).1 $$ HX
    icases HX2 with ⟨HX0, HX1⟩
    isplitl [HB0 HC0 HX0]
    · isplitl [HB0]; · iexists a0; iexact HB0
      isplitl [HC0]; · iexact HC0
      iexact HX0
    isplitl [HB1]; · iexists a0; iexact HB1
    isplitl [HC1]; · iexact HC1
    iexact HX1
  iexact HP

/-- After the last point everything is given back. -/
theorem phi_last (c : Dev nD) : (dats m hP 0 c).Φ (Fin.last (cfgA m hP).N) ⊢ Pipeline.ΦD osem spec0 {main_arg3} (V₀ m) c := by
  obtain rfl : c = 0 := Subsingleton.elim _ _
  have hle : used (NU m) ≤ 288 := hP.nu_le _
  rw [Pipeline.ΦD_eq, scopedRest0_eq, sems_two, bigSep_singleton, show (dats m hP 0 (0 : Dev nD)).Φ (Fin.last (cfgA m hP).N) = Phi m 0 288 from rfl]
  unfold Phi Halves Scratch
  rw [if_neg (fun h => by omega)]
  rw [show par 288 = 0 from rfl, show par (288 + 1) = 1 from rfl]
  unfold slotFree
  iintro ⟨-, -, ⟨%a1, %a2, -, HS1, HS2⟩, ⟨⟨⟨%f0, HB0⟩, HC0, HX0⟩, ⟨⟨%f1, HB1⟩, HC1, HX1⟩⟩, HP⟩
  isplitl [HB0 HB1 HS1 HS2]
  · isplitl [HB0 HB1]
    · iapply (halves_join (0 : Dev nD) f0)
      isplitl [HB0]; · iexists f0; iexact HB0
      iexists f1; iexact HB1
    isplitl [HS1]; · iexists a1; iexact HS1
    iexists a2; iexact HS2
  isplitl [HP]; · iexact HP
  isplitl [HC0 HC1]
  · isplitl [HC0]; · iexact HC0
    iexact HC1
  iapply (shares_split (0 : Dev nD) (XT m)).2
  isplitl [HX0]; · iexact HX0
  iexact HX1

theorem V₀_tab (c : Dev nD) : ∀ k : Fin 2, V₀ m c (pre0.ref k) = (adm m hP).1 k := by
  obtain rfl : c = 0 := Subsingleton.elim _ _
  intro k; fin_cases k <;> rfl

set_option backward.isDefEq.respectTransparency.types false in
set_option maxHeartbeats 4000000 in
/-- From any memory with an admissible plan and zero counters, every weakly fair execution of the launch ends with each array at
    the contents the proof data says, every other buffer as it was, and every counter at zero. -/
theorem run_main : θ_run (defs (F := F)) (onTc (τ := τ) (main (F := F))) ⟨m, fun _ => 0, ρ⟩ (fun r =>
      (∀ c : Dev nD, (∀ w : Fin (cfgA m hP).W, r.2.mem (((cfgA m hP).win w).arr.view.loc (c : Thread nD τ)) = (dats m hP 0 c).arrAt w (cfgA m hP).N)
        ∧ ∀ b ∈ Pipeline.restRefs sig spec0, r.2.mem ((c.tc : Thread nD τ).loc b) = V₀ m c b) ∧ r.2.sem = fun _ => 0) :=
  Pipeline.θ_run_frameP_dma_shared (pcfgs (F := F)) (fun _ => adm m hP) (dats m hP) (0 : Fin 1) launch₀0 osem (defs₀ (F := F)) Variants.none
    (ho := osem_facts) (H := {main_arg3}) (hH := show {main_arg3} ⊆ Pipeline.restRefsP sig pre0 spec0 from by decide) (m := m) (g := ρ) (main := main)
    (hbody := fun c => (body_obligation m hP c).loose)
    (hq := fun _ _ _ => rfl) (howed := fun _ _ => rfl)
    (V := V₀ m)
    (hmain := Pipeline.hmainP_region (pcfgs (F := F)) (0 : Fin 1) (defs₀ (F := F)) Variants.none m main (fun _ => rfl))
    (hA := fun _ _ => rfl)
    (hpf := V₀_tab m hP)
    (hin := phi_first m hP)
    (hout := phi_last m hP)
    (Q' := _) (hQ' := fun r h => h)

/-- The launch's result: the output array at the computed contents, the arguments unchanged, every counter at zero. -/
theorem run_result : θ_run (defs (F := F)) (onTc (τ := τ) (main (F := F))) ⟨m, fun _ => 0, ρ⟩ (fun r =>
      (∀ c : Dev nD, r.2.mem ((c.tc : Thread nD τ).loc main_v0) = (dats m hP 0 c).arrAt (4 : Fin 5) (cfgA m hP).N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)) ∧ r.2.sem = fun _ => 0) :=
  (θ_run defs _ _).mono (fun _ h => ⟨fun c => ⟨(h.1 c).1 (4 : Fin 5),
    (h.1 c).2 main_arg0 (by decide), (h.1 c).2 main_arg1 (by decide),
    ((h.1 c).1 (0 : Fin 5)).trans ((dats m hP 0 c).arrAt_in (0 : Fin 5) rfl _),
    (h.1 c).2 main_arg3 (by decide),
    ((h.1 c).1 (2 : Fin 5)).trans ((dats m hP 0 c).arrAt_in (2 : Fin 5) rfl _),
    ((h.1 c).1 (3 : Fin 5)).trans ((dats m hP 0 c).arrAt_in (3 : Fin 5) rfl _)⟩, h.2⟩) (run_main m hP ρ)

end Cert.ExpertsIdeal.Moe

end
-- ==== Proof.Experts.lean ====
/-
  The experts' call as printed and as idealized are one text over two readings of the floats: no operation was rewritten and
  no constant named. So the run proved for the idealized text at any reading is the printed call's, at the words.
-/
module

public import proofs.«01_k».proof.Proof.ExpertsIdeal.Launched
public import proofs.«01_k».proof.Proof.Gen.Experts

@[expose] public section

noncomputable section

namespace Cert.Experts.Moe

open Idealize.ShloMosaic Idealize.ShloMosaic.TcCoe Idealize.SL.Sem

set_option maxHeartbeats 4000000 in
/-- The two texts have one kernel. -/
theorem bodies_eq : @Cert.Experts.defs₀ Bits _ Cert.Experts.Gen.facts = @Cert.ExpertsIdeal.defs₀ Bits _ Cert.ExpertsIdeal.Gen.facts := by
  refine congrArg (Defs.onTc (sig := Cert.ExpertsIdeal.sig)) ?_
  funext l a
  match l, a with
  | 0, (t, s) => rfl
  | ⟨n + 1, h⟩, _ => exact absurd h (Nat.not_lt.2 (Nat.le_add_left _ _))

set_option maxHeartbeats 4000000 in
/-- And one launch of it. -/
theorem defs_eq : @Cert.Experts.defs Bits _ Cert.Experts.Gen.facts = @Cert.ExpertsIdeal.defs Bits _ Cert.ExpertsIdeal.Gen.facts :=
  congrArg (Pipeline.defs (@Cert.ExpertsIdeal.pcfgs Bits _ Cert.ExpertsIdeal.Gen.facts)) bodies_eq

set_option maxHeartbeats 8000000 in
/-- The printed call's run, from a memory whose plan is in range. -/
theorem frame (m : (ℓ : Loc Cert.ExpertsIdeal.nD Cert.ExpertsIdeal.τ Cert.ExpertsIdeal.sig) → Buf (Elt Bits) ℓ) (g : Dev Cert.ExpertsIdeal.nD → PrngReg)
    (hP : Cert.ExpertsIdeal.Moe.Plan (Cert.ExpertsIdeal.Moe.TE m) (Cert.ExpertsIdeal.Moe.NU m) (Cert.ExpertsIdeal.Moe.INV m)) :
    @θ_run Cert.ExpertsIdeal.nD Cert.ExpertsIdeal.τ Cert.ExpertsIdeal.sig (Elt Bits) _ (@Cert.Experts.defs Bits _ Cert.Experts.Gen.facts)
      (onTc (τ := Cert.ExpertsIdeal.τ) (@Cert.ExpertsIdeal.main Bits _ Cert.ExpertsIdeal.Gen.facts)) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0) := by
  rw [defs_eq]
  exact (θ_run _ _ _).mono (fun _ h => ⟨fun c => (h.1 c).2, h.2⟩) (Cert.ExpertsIdeal.Moe.run_result m hP g)

end Cert.Experts.Moe

end
-- ==== Proof.ExpertsIdeal.Final.lean ====
module

public import proofs.«01_k».proof.Proof.ExpertsIdeal.Launched
public import Idealize.ShloMosaic.Lib.Pipeline.ValueKit.Basic
public import Idealize.ShloMosaic.Lib.Pointwise.Tactic
public import Idealize.ShloMosaic.Lib.Pointwise

@[expose] public section

set_option maxRecDepth 16384
set_option Elab.async false

noncomputable section

namespace Cert.ExpertsIdeal.Moe

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf UD)

/-- The resource model of the run, at the instance's values. -/
local notation "𝕄" => MT nD τ sig Unit (Elt Ideal) ℕ (UD sig nD τ) ℕ

variable (m : (ℓ : Loc nD τ sig) → Buf (Elt Ideal) ℓ) (hP : Plan (TE m) (NU m) (INV m))

/-- The result: the tiles one under another. -/
def tiles : S73728x1024.Idx → EReal := fun i =>
  tileN m ((i 0).val / 256) (ix2 (⟨(i 0).val % 256, Nat.mod_lt _ (by decide)⟩ : Fin 256) (⟨(i 1).val, (i 1).isLt⟩ : Fin 1024))

/-- The tile a point writes is its own. -/
theorem index_4 (t : Fin (cfgA m hP).N) : ((cfgA m hP).win (4 : Fin 5)).index t = ![t.val, 0] :=
  (ix_5 (crd m hP t)).trans (by rw [num_crd])

/-- Every point writes its tile back. -/
theorem flush_4 (t : Fin (cfgA m hP).N) : ((cfgA m hP).win (4 : Fin 5)).flush t = true := by
  rw [Pipeline.Window.flush_eq_flushOf]
  show (true && (t.val + 1 = (cfgA m hP).grid.N || decide (∃ h : t.val + 1 < (cfgA m hP).grid.N, _ ≠ _))) = true
  rw [Bool.true_and, Bool.or_eq_true]
  by_cases h : t.val + 1 = (cfgA m hP).grid.N
  · exact Or.inl (decide_eq_true h)
  · have hl : t.val < (cfgA m hP).grid.N := t.isLt
    refine Or.inr (decide_eq_true ⟨by omega, fun e => ?_⟩)
    have e0 : (![t.val + 1, 0] : Fin 2 → ℕ) 0 = (![t.val, 0] : Fin 2 → ℕ) 0 := by
      rw [← index_4 m hP t, ← index_4 m hP ⟨t.val + 1, by show t.val + 1 < (cfgA m hP).grid.N; omega⟩]
      exact congrFun e 0
    have e1 : t.val + 1 = t.val := e0
    omega

/-- What a point writes back is its block of `tiles`. -/
theorem flushed_eq (c : Dev nD) (t : Fin (cfgA m hP).N) (hf : ((cfgA m hP).win (4 : Fin 5)).flush t = true) :
    (dats m hP 0 c).flushed (4 : Fin 5) t = (((cfgA m hP).win (4 : Fin 5)).blk t).view.read (Elt Ideal) (tiles m) := by
  show ((cfgA m hP).win (4 : Fin 5)).cut (crd m hP t) ((dats m hP 0 c).after (4 : Fin 5) t) = _
  rw [after_4]
  funext y
  show tileN m t.val y = tiles m ((((cfgA m hP).win (4 : Fin 5)).rect t).emb y)
  have e0 : (((((cfgA m hP).win (4 : Fin 5)).rect t).emb y : S73728x1024.Idx) 0).val = t.val * 256 + (y 0).val :=
    (Pipeline.Window.rect_emb_val ((cfgA m hP).win (4 : Fin 5)) t y 0 rfl).trans (by rw [index_4]; rfl)
  have e1 : (((((cfgA m hP).win (4 : Fin 5)).rect t).emb y : S73728x1024.Idx) 1).val = (y 1).val :=
    (Pipeline.Window.rect_emb_val ((cfgA m hP).win (4 : Fin 5)) t y 1 rfl).trans (by rw [index_4]; exact Nat.zero_add _)
  have h0 : (y 0).val < 256 := (y 0).isLt
  have h1 : (y 1).val < 1024 := (y 1).isLt
  have key : ∀ (N E : ℕ) (hE : E < 1024), N = t.val * 256 + (y 0).val → E = (y 1).val →
      tileN m t.val (ix2 (⟨(y 0).val, h0⟩ : Fin 256) (⟨(y 1).val, h1⟩ : Fin 1024)) = tileN m (N / 256) (ix2 (⟨N % 256, Nat.mod_lt _ (by decide)⟩ : Fin 256) (⟨E, hE⟩ : Fin 1024)) := by
    rintro N E hE rfl rfl
    have a0 : (t.val * 256 + (y 0).val) / 256 = t.val := by omega
    have a1 : (t.val * 256 + (y 0).val) % 256 = (y 0).val := by omega
    simp only [a0, a1]
  refine Eq.trans (congrArg (tileN m t.val) ?_) (key _ _ (by rw [e1]; exact h1) e0 e1)
  funext a
  match a with
  | ⟨0, _⟩ => rfl
  | ⟨1, _⟩ => rfl

/-- The blocks written back tile the result. -/
theorem cover (i : S73728x1024.Idx) : ∃ t : Fin (cfgA m hP).N, ((cfgA m hP).win (4 : Fin 5)).flush t = true ∧ i ∈ (((cfgA m hP).win (4 : Fin 5)).blk t).view.set := by
  have h0 : (i 0).val < 73728 := (i 0).isLt
  have h1 : (i 1).val < 1024 := (i 1).isLt
  have ht : (i 0).val / 256 < (cfgA m hP).N := by
    show _ < 288
    omega
  refine ⟨⟨_, ht⟩, flush_4 m hP _, ?_⟩
  show i ∈ ((View.whole main_v0).slice (((cfgA m hP).win (4 : Fin 5)).rect ⟨_, ht⟩)).set
  erw [View.set_slice_whole]
  refine (Pipeline.Window.mem_rect_iff ((cfgA m hP).win (4 : Fin 5)) ⟨_, ht⟩ i rfl).mpr fun a => ?_
  rw [index_4]
  fin_cases a
  · show (i 0).val / 256 * 256 ≤ (i 0).val ∧ (i 0).val < (i 0).val / 256 * 256 + 256
    omega
  · show 0 * 1024 ≤ (i 1).val ∧ (i 1).val < 0 * 1024 + 1024
    omega

/-- The result array ends holding the tiles. -/
theorem final_o (c : Dev nD) : (dats m hP 0 c).arrAt (4 : Fin 5) (cfgA m hP).N = tiles m :=
  (dats m hP 0 c).arrAt_eq_of_cover (4 : Fin 5) (tiles m) (fun t hf => flushed_eq m hP c t hf) (cover m hP)

/-! ## One element of a tile -/

/-- An element of the first product: row `r` of the gathered rows against column `f` of the expert's gate and up weights. -/
def upE (x : S32768x1024.Idx → EReal) (W : S1x1024x1024.Idx → EReal) (n : Fin 32768) (f : Fin 1024) : EReal :=
  Finset.univ.sum fun d : Fin 1024 => x (ix2 n d) * W (ix3 (0 : Fin 1) d f)

/-- The gated product of the two halves. -/
def actE (x : S32768x1024.Idx → EReal) (W : S1x1024x1024.Idx → EReal) (n : Fin 32768) (f : Fin 512) : EReal :=
  upE x W n ⟨f.val, by omega⟩ * Ideal.logistic (upE x W n ⟨f.val, by omega⟩) * upE x W n ⟨512 + f.val, by omega⟩

/-- An element of the expert's result on row `n` of the activations. -/
def outE (x : S32768x1024.Idx → EReal) (W : S1x1024x1024.Idx → EReal) (D : S1x512x1024.Idx → EReal) (n : Fin 32768) (e : Fin 1024) : EReal :=
  Finset.univ.sum fun f : Fin 512 => actE x W n f * D (ix3 (0 : Fin 1) f e)

theorem pay3_at (x : S32768x1024.Idx → EReal) (W : S1x1024x1024.Idx → EReal) (D : S1x512x1024.Idx → EReal) (iv : Fin 256 → Fin 32768) (r : Fin 256) (e : Fin 1024) :
    tileOut (F := Ideal) x W D iv (ix2 r e) = outE x W D (iv r) e := by
  unfold tileOut k0_pay3
  pointwise [k0_pay1, k0_pay2, rowsOf, outE, actE, upE]

end Cert.ExpertsIdeal.Moe

end
-- ==== Proof.ExpertsIdeal.Reference.lean ====
/-
  The reference of the experts' call, read at an index: the rows and the weights it gathers, its gated product and its
  result, which is the tiles the kernel's side states.
-/
module

public import proofs.«01_k».proof.Proof.Gen.ExpertsReferenceIdeal.Run
public import proofs.«01_k».proof.Proof.ExpertsIdeal.Final
public import Idealize.ShloMosaic.Lib.Pointwise.Tactic
public import Idealize.ShloMosaic.Lib.Pointwise
public import Idealize.ShloMosaic.Lib.IdealHost

@[expose] public section

set_option maxRecDepth 16384

noncomputable section

namespace Cert.ExpertsReferenceIdeal.Moe

open Cert.ExpertsReferenceIdeal Cert.ExpertsReferenceIdeal.Gen Cert.ExpertsReferenceIdeal.Value
open Idealize.ShloMosaic
open Idealize.ShloMosaic.TcCoe
open Cert.ExpertsIdeal.Moe (upE actE outE)

/-! ## Two gathers read at an index -/

section Gathers
variable {α : Type}

/-- Dimension numbers that pick, for each entry of an array `[T, R, 1]`, a row of `[N, C]`. -/
abbrev rowDims (N C T R : ℕ) (wf : GatherDims.WF ⟨2, ![N, C]⟩ ⟨3, ![T, R, 1]⟩ ⟨3, ![T, R, C]⟩ [2] [0] [] [0] [] 2 ![1, C]) :
    GatherDims ⟨2, ![N, C]⟩ ⟨3, ![T, R, 1]⟩ ⟨3, ![T, R, C]⟩ where
  offsetDims := [2]
  collapsedSliceDims := [0]
  operandBatchingDims := []
  startIndicesBatchingDims := []
  startIndexMap := [0]
  indexVectorDim := 2
  sliceSizes := ![1, C]
  wf := wf

/-- A picked row's element: the operand's, at the clamped row. -/
theorem gather_rows {N C T R w : ℕ} (hN : 0 < N) (wf) (x : (⟨2, ![N, C]⟩ : Shape).Idx → α) (idx : IVec ⟨3, ![T, R, 1]⟩ w) (t : Fin T) (r : Fin R) (d : Fin C) :
    Host.gather (rowDims N C T R wf) x idx (ix3 t r d) = x (ix2 (⟨min (idx (ix3 t r 0)).toInt.toNat (N - 1), by omega⟩ : Fin N) d) := by
  unfold Host.gather
  refine congrArg x (funext fun a => Fin.ext ?_)
  show (rowDims N C T R wf).start (ix3 t r d) idx a + (rowDims N C T R wf).batchCoord (ix3 t r d) a + (rowDims N C T R wf).offCoord (ix3 t r d) a = _
  rw [GatherDims.batchCoord_eq_zero _ _ _ List.not_mem_nil, Nat.add_zero]
  match a with
  | ⟨0, _⟩ =>
    refine (congrArg₂ (· + ·) ?_ (GatherDims.offCoord_eq_zero _ _ _ (fun h => ((GatherDims.mem_sKept _ _).mp h).1 (List.mem_singleton.mpr rfl)))).trans (Nat.add_zero _)
    unfold GatherDims.start
    refine (dif_pos (show (0 : Fin 2) ∈ [(0 : Fin 2)] from List.mem_singleton.mpr rfl)).trans ?_
    refine congrArg (fun z => min (idx z).toInt.toNat (N - 1)) (funext fun b => Fin.ext ?_)
    match b with
    | ⟨0, _⟩ => rfl
    | ⟨1, _⟩ => rfl
    | ⟨2, _⟩ => rfl
  | ⟨1, _⟩ =>
    refine (congrArg₂ (· + ·) ?_ ?_).trans (Nat.zero_add _)
    · unfold GatherDims.start
      exact dif_neg (show ¬ (1 : Fin 2) ∈ [(0 : Fin 2)] by decide)
    · unfold GatherDims.offCoord
      exact (dif_pos ((GatherDims.mem_sKept _ _).mpr ⟨(by decide : ¬ (1 : Fin 2) ∈ [(0 : Fin 2)]), List.not_mem_nil⟩)).trans rfl

/-- Dimension numbers that pick, for each entry of an array `[T, 1]`, a matrix of `[N, A, B]`. -/
abbrev matDims (N A B T : ℕ) (wf : GatherDims.WF ⟨3, ![N, A, B]⟩ ⟨2, ![T, 1]⟩ ⟨3, ![T, A, B]⟩ [1, 2] [0] [] [0] [] 1 ![1, A, B]) :
    GatherDims ⟨3, ![N, A, B]⟩ ⟨2, ![T, 1]⟩ ⟨3, ![T, A, B]⟩ where
  offsetDims := [1, 2]
  collapsedSliceDims := [0]
  operandBatchingDims := []
  startIndicesBatchingDims := []
  startIndexMap := [0]
  indexVectorDim := 1
  sliceSizes := ![1, A, B]
  wf := wf

/-- A picked matrix's element: the operand's, in the clamped matrix. -/
theorem gather_mats {N A B T w : ℕ} (hN : 0 < N) (wf) (x : (⟨3, ![N, A, B]⟩ : Shape).Idx → α) (idx : IVec ⟨2, ![T, 1]⟩ w) (t : Fin T) (p : Fin A) (q : Fin B) :
    Host.gather (matDims N A B T wf) x idx (ix3 t p q) = x (ix3 (⟨min (idx (ix2 t 0)).toInt.toNat (N - 1), by omega⟩ : Fin N) p q) := by
  unfold Host.gather
  refine congrArg x (funext fun a => Fin.ext ?_)
  show (matDims N A B T wf).start (ix3 t p q) idx a + (matDims N A B T wf).batchCoord (ix3 t p q) a + (matDims N A B T wf).offCoord (ix3 t p q) a = _
  rw [GatherDims.batchCoord_eq_zero _ _ _ List.not_mem_nil, Nat.add_zero]
  match a with
  | ⟨0, _⟩ =>
    refine (congrArg₂ (· + ·) ?_ (GatherDims.offCoord_eq_zero _ _ _ (fun h => ((GatherDims.mem_sKept _ _).mp h).1 (List.mem_singleton.mpr rfl)))).trans (Nat.add_zero _)
    unfold GatherDims.start
    refine (dif_pos (show (0 : Fin 3) ∈ [(0 : Fin 3)] from List.mem_singleton.mpr rfl)).trans ?_
    refine congrArg (fun z => min (idx z).toInt.toNat (N - 1)) (funext fun b => Fin.ext ?_)
    match b with
    | ⟨0, _⟩ => rfl
    | ⟨1, _⟩ => rfl
  | ⟨1, _⟩ =>
    refine (congrArg₂ (· + ·) ?_ ?_).trans (Nat.zero_add _)
    · unfold GatherDims.start
      exact dif_neg (show ¬ (1 : Fin 3) ∈ [(0 : Fin 3)] by decide)
    · unfold GatherDims.offCoord
      exact (dif_pos ((GatherDims.mem_sKept _ _).mpr ⟨(by decide : ¬ (1 : Fin 3) ∈ [(0 : Fin 3)]), List.not_mem_nil⟩)).trans rfl
  | ⟨2, _⟩ =>
    refine (congrArg₂ (· + ·) ?_ ?_).trans (Nat.zero_add _)
    · unfold GatherDims.start
      exact dif_neg (show ¬ (2 : Fin 3) ∈ [(0 : Fin 3)] by decide)
    · unfold GatherDims.offCoord
      exact (dif_pos ((GatherDims.mem_sKept _ _).mpr ⟨(by decide : ¬ (2 : Fin 3) ∈ [(0 : Fin 3)]), List.not_mem_nil⟩)).trans rfl

end Gathers

/-! ## The reference's stages -/

/-- The row each slot names, a negative one counted from the end. -/
def slotRow (inv : IVec S288x1x256 32) : IVec S288x256x1 32 :=
  broadcastInDim S288x256x1 ![0, 1] bcast_S288x256_S288x256x1_0_1 (select (cmpi .slt (shapeCast _ inv shapeCasts_S288x1x256_S288x256) (broadcastInDim S288x256 ![] bcast_S_S288x256 (constantI S_ 32 0#32))) (addi (shapeCast _ inv shapeCasts_S288x1x256_S288x256) (broadcastInDim S288x256 ![] bcast_S_S288x256 (constantI S_ 32 32768#32))) (shapeCast _ inv shapeCasts_S288x1x256_S288x256))

/-- The expert each tile names, a negative one counted from the end. -/
def tileExp (te : IVec S288 32) : IVec S288x1 32 :=
  broadcastInDim S288x1 ![0] bcast_S288_S288x1_0 (select (cmpi .slt te (broadcastInDim S288 ![] bcast_S_S288 (constantI S_ 32 0#32))) (addi te (broadcastInDim S288 ![] bcast_S_S288 (constantI S_ 32 32#32))) te)

/-- Which tiles are used. -/
def inUse (nu : IVec S1 32) : IVec S288 1 := cmpi .slt (iotaInDim S288 32 0) (broadcastInDim S288 ![] bcast_S_S288 (shapeCast _ nu shapeCasts_S1_S_))

/-- The gathered rows, and the gathered weights. -/
def rowsR (x : FVec Ideal S32768x1024 .f32) (inv : IVec S288x1x256 32) : FVec Ideal S288x256x1024 .f32 :=
  Host.gather gather_S32768x1024_S288x256x1_S288x256x1024_2_0_n_n_0_2_11024 x (slotRow inv)
def guR (w : FVec Ideal S32x1024x1024 .f32) (te : IVec S288 32) : FVec Ideal S288x1024x1024 .f32 :=
  Host.gather gather_S32x1024x1024_S288x1_S288x1024x1024_12_0_n_n_0_1_110241024 w (tileExp te)
def dnR (w : FVec Ideal S32x512x1024 .f32) (te : IVec S288 32) : FVec Ideal S288x512x1024 .f32 :=
  Host.gather gather_S32x512x1024_S288x1_S288x512x1024_12_0_n_n_0_1_15121024 w (tileExp te)

/-- The first product. -/
def upR (x : FVec Ideal S288x256x1024 .f32) (w : FVec Ideal S288x1024x1024 .f32) : FVec Ideal S288x256x1024 .f32 :=
  Host.dotGeneral dot_S288x256x1024_S288x1024x1024_S288x256x1024_2_1_1_2_0_0 none x w

/-- The gated product of its two halves. -/
def actR (h : FVec Ideal S288x256x1024 .f32) : FVec Ideal S288x256x512 .f32 :=
  mulf (mulf (extractStridedSlice S288x256x512 ![0, 0, 0] h slices_S288x256x1024_S288x256x512_0_0_0)
    (Host.divf (broadcastInDim S288x256x512 ![] bcast_S_S288x256x512 (constant S_ .f32 0x3F800000#32)) (addf (broadcastInDim S288x256x512 ![] bcast_S_S288x256x512 (constant S_ .f32 0x3F800000#32)) (Host.exp (Host.negf (extractStridedSlice S288x256x512 ![0, 0, 0] h slices_S288x256x1024_S288x256x512_0_0_0))))))
    (extractStridedSlice S288x256x512 ![0, 0, 512] h slices_S288x256x1024_S288x256x512_0_0_512)

/-- The second product where a tile is used, zero elsewhere, one tile under another. -/
def outR (u : IVec S288 1) (g : FVec Ideal S288x256x512 .f32) (w : FVec Ideal S288x512x1024 .f32) : FVec Ideal S73728x1024 .f32 :=
  shapeCast _ (select (broadcastInDim S288x256x1024 ![0, 1, 2] bcast_S288x1x1_S288x256x1024_0_1_2 (broadcastInDim S288x1x1 ![0] bcast_S288_S288x1x1_0 u))
    (Host.dotGeneral dot_S288x256x512_S288x512x1024_S288x256x1024_2_1_1_2_0_0 none g w) (broadcastInDim S288x256x1024 ![] bcast_S_S288x256x1024 (id (constant S_ .f32 0x00000000#32)))) shapeCasts_S288x256x1024_S73728x1024

variable (m : (ℓ : Loc nD τ sig) → Buf (Elt Ideal) ℓ)

/-- The reference's result as those stages composed. -/
theorem res_eq (c : Dev nD) :
    res_main_v34 m c = outR (inUse (m ((c.tc : Thread nD τ).loc main_arg1))) (actR (upR (rowsR (m ((c.tc : Thread nD τ).loc main_arg3)) (m ((c.tc : Thread nD τ).loc main_arg2))) (guR (m ((c.tc : Thread nD τ).loc main_arg4)) (m ((c.tc : Thread nD τ).loc main_arg0)))))
      (dnR (m ((c.tc : Thread nD τ).loc main_arg5)) (m ((c.tc : Thread nD τ).loc main_arg0))) := rfl

/-! ## The stages at an index -/

/-- A word below 2^31 is not negative, and its signed value is its number. -/
theorem keep {n : ℕ} (hn : n ≤ 2147483648) (v z : BitVec 32) (h : v.toNat < n) :
    Scalar.select (IntOp.cmpi .slt v 0#32) z v = v := by
  have e : IntOp.cmpi .slt v 0#32 = 0#1 := by
    show BitVec.ofBool (v.slt 0#32) = 0#1
    have : v.slt 0#32 = false := by
      rw [BitVec.slt_eq_decide, decide_eq_false_iff_not, BitVec.toInt_eq_toNat_of_lt (by omega)]
      show ¬ (v.toNat : ℤ) < 0
      omega
    rw [this]; rfl
  rw [e]; rfl

theorem toInt_nat (v : BitVec 32) (h : v.toNat < 2147483648) : v.toInt.toNat = v.toNat := by
  rw [BitVec.toInt_eq_toNat_of_lt (by omega)]; rfl

theorem slotRow_at (inv : IVec S288x1x256 32) (h : ∀ y, (inv y).toNat < 32768) (t : Fin 288) (r : Fin 256) :
    slotRow inv (ix3 t r 0) = inv (ix3 t 0 r) := by
  have e : slotRow inv (ix3 t r 0) = Scalar.select (IntOp.cmpi .slt (inv (ix3 t 0 r)) 0#32) (IntOp.addi (inv (ix3 t 0 r)) 32768#32) (inv (ix3 t 0 r)) := by
    pointwise [slotRow]
  rw [e]
  exact keep (n := 32768) (by omega) _ _ (h _)

theorem tileExp_at (te : IVec S288 32) (h : ∀ y, (te y).toNat < 32) (t : Fin 288) : tileExp te (ix2 t 0) = te (ix1 t) := by
  have e : tileExp te (ix2 t 0) = Scalar.select (IntOp.cmpi .slt (te (ix1 t)) 0#32) (IntOp.addi (te (ix1 t)) 32#32) (te (ix1 t)) := by
    pointwise [tileExp]
  rw [e]
  exact keep (n := 32) (by omega) _ _ (h _)

theorem rowsR_at (x : FVec Ideal S32768x1024 .f32) (inv : IVec S288x1x256 32) (h : ∀ y, (inv y).toNat < 32768) (t : Fin 288) (r : Fin 256) (d : Fin 1024) :
    rowsR x inv (ix3 t r d) = x (ix2 (⟨(inv (ix3 t 0 r)).toNat, h _⟩ : Fin 32768) d) := by
  refine (gather_rows (by decide) _ x (slotRow inv) t r d).trans (congrArg (fun n => x (ix2 n d)) (Fin.ext ?_))
  have hl := h (ix3 t 0 r)
  show min (slotRow inv (ix3 t r 0)).toInt.toNat 32767 = _
  rw [slotRow_at inv h, toInt_nat _ (by omega)]
  exact Nat.min_eq_left (by omega)

theorem guR_at (w : FVec Ideal S32x1024x1024 .f32) (te : IVec S288 32) (h : ∀ y, (te y).toNat < 32) (t : Fin 288) (p q : Fin 1024) :
    guR w te (ix3 t p q) = w (ix3 (⟨(te (ix1 t)).toNat, h _⟩ : Fin 32) p q) := by
  refine (gather_mats (by decide) _ w (tileExp te) t p q).trans (congrArg (fun n => w (ix3 n p q)) (Fin.ext ?_))
  have hl := h (ix1 t)
  show min (tileExp te (ix2 t 0)).toInt.toNat 31 = _
  rw [tileExp_at te h, toInt_nat _ (by omega)]
  exact Nat.min_eq_left (by omega)

theorem dnR_at (w : FVec Ideal S32x512x1024 .f32) (te : IVec S288 32) (h : ∀ y, (te y).toNat < 32) (t : Fin 288) (p : Fin 512) (q : Fin 1024) :
    dnR w te (ix3 t p q) = w (ix3 (⟨(te (ix1 t)).toNat, h _⟩ : Fin 32) p q) := by
  refine (gather_mats (by decide) _ w (tileExp te) t p q).trans (congrArg (fun n => w (ix3 n p q)) (Fin.ext ?_))
  have hl := h (ix1 t)
  show min (tileExp te (ix2 t 0)).toInt.toNat 31 = _
  rw [tileExp_at te h, toInt_nat _ (by omega)]
  exact Nat.min_eq_left (by omega)

theorem upR_at (x : FVec Ideal S288x256x1024 .f32) (w : FVec Ideal S288x1024x1024 .f32) (t : Fin 288) (r : Fin 256) (f : Fin 1024) :
    upR x w (ix3 t r f) = Finset.univ.sum fun d : Fin 1024 => x (ix3 t r d) * w (ix3 t d f) := by
  pointwise [upR]

theorem actR_at (h : FVec Ideal S288x256x1024 .f32) (t : Fin 288) (r : Fin 256) (f : Fin 512) :
    actR h (ix3 t r f) = h (ix3 t r (⟨f.val, by omega⟩ : Fin 1024)) * Ideal.logistic (h (ix3 t r (⟨f.val, by omega⟩ : Fin 1024))) * h (ix3 t r (⟨512 + f.val, by omega⟩ : Fin 1024)) := by
  pointwise [actR, Ideal.logistic]

theorem outR_at (u : IVec S288 1) (g : FVec Ideal S288x256x512 .f32) (w : FVec Ideal S288x512x1024 .f32) (i : Fin 73728) (e : Fin 1024) :
    outR u g w (ix2 i e) = Scalar.select (u (ix1 (⟨i.val / 256, by omega⟩ : Fin 288)))
      (Finset.univ.sum fun f : Fin 512 => g (ix3 (⟨i.val / 256, by omega⟩ : Fin 288) (⟨i.val % 256, by omega⟩ : Fin 256) f) * w (ix3 (⟨i.val / 256, by omega⟩ : Fin 288) f e)) 0 := by
  pointwise [outR]
  exact congrArg (Scalar.select _ _) Ideal.ofBits_zero_f32

theorem inUse_at (nu : IVec S1 32) (t : Fin 288) : inUse nu (ix1 t) = BitVec.ofBool ((BitVec.ofNat 32 t.val).slt (nu (ix1 0))) := by
  pointwise [inUse]
  rfl

open Cert.ExpertsIdeal.Moe (Plan TE NU INV XT WGU WDN wguE wdnE exN invN ivOf tileN tileOut tiles used slt_num pay3_at)

section Tiles

variable (m : (ℓ : Loc Cert.ExpertsIdeal.nD Cert.ExpertsIdeal.τ Cert.ExpertsIdeal.sig) → Buf (Elt Ideal) ℓ) (hP : Plan (TE m) (NU m) (INV m))

include hP in
/-- The expert of a tile, as a number below 32. -/
theorem exp_fin (t : Fin 288) : (⟨exN m t.val % 32, Nat.mod_lt _ (by decide)⟩ : Fin 32) = ⟨(TE m (ix1 t)).toNat, hP.te_lt _⟩ := by
  refine Fin.ext ?_
  show (TE m (ix1 (⟨t.val % 288, _⟩ : Fin 288))).toNat % 32 = (TE m (ix1 t)).toNat
  rw [show (⟨t.val % 288, Nat.mod_lt _ (by decide)⟩ : Fin 288) = t from Fin.ext (Nat.mod_eq_of_lt t.isLt)]
  exact Nat.mod_eq_of_lt (hP.te_lt _)

include hP in
/-- The row of a slot of a tile. -/
theorem row_fin (t : Fin 288) (r : Fin 256) : ivOf (invN m t.val) r = ⟨(INV m (ix3 t (0 : Fin 1) r)).toNat, hP.inv_lt _⟩ := by
  refine Fin.ext ?_
  show (INV m (ix3 (⟨t.val % 288, _⟩ : Fin 288) (0 : Fin 1) r)).toNat % 32768 = (INV m (ix3 t (0 : Fin 1) r)).toNat
  rw [show (⟨t.val % 288, Nat.mod_lt _ (by decide)⟩ : Fin 288) = t from Fin.ext (Nat.mod_eq_of_lt t.isLt)]
  exact Nat.mod_eq_of_lt (hP.inv_lt _)

include hP in
theorem wgu_at (t : Fin 288) (d f : Fin 1024) : wguE m (exN m t.val) (ix3 (0 : Fin 1) d f) = guR (WGU m) (TE m) (ix3 t d f) := by
  rw [guR_at _ _ hP.te_lt]
  exact congrArg (fun n => WGU m (ix3 n d f)) (exp_fin m hP t)

include hP in
theorem wdn_at (t : Fin 288) (d : Fin 512) (f : Fin 1024) : wdnE m (exN m t.val) (ix3 (0 : Fin 1) d f) = dnR (WDN m) (TE m) (ix3 t d f) := by
  rw [dnR_at _ _ hP.te_lt]
  exact congrArg (fun n => WDN m (ix3 n d f)) (exp_fin m hP t)

include hP in
theorem x_at (t : Fin 288) (r : Fin 256) (d : Fin 1024) : XT m (ix2 (ivOf (invN m t.val) r) d) = rowsR (XT m) (INV m) (ix3 t r d) := by
  rw [rowsR_at _ _ hP.inv_lt]
  exact congrArg (fun n => XT m (ix2 n d)) (row_fin m hP t r)

include hP in
/-- The first product of a tile's slot is the reference's. -/
theorem up_eq (t : Fin 288) (r : Fin 256) (f : Fin 1024) :
    upE (XT m) (wguE m (exN m t.val)) (ivOf (invN m t.val) r) f = upR (rowsR (XT m) (INV m)) (guR (WGU m) (TE m)) (ix3 t r f) := by
  rw [upR_at]
  unfold upE
  exact Finset.sum_congr rfl fun d _ => congrArg₂ (· * ·) (x_at m hP t r d) (wgu_at m hP t d f)

include hP in
/-- A used tile's element is the reference's second product there. -/
theorem tile_eq (t : Fin 288) (r : Fin 256) (e : Fin 1024) :
    tileOut (XT m) (wguE m (exN m t.val)) (wdnE m (exN m t.val)) (ivOf (invN m t.val)) (ix2 r e)
      = Finset.univ.sum fun f : Fin 512 => actR (upR (rowsR (XT m) (INV m)) (guR (WGU m) (TE m))) (ix3 t r f) * dnR (WDN m) (TE m) (ix3 t f e) := by
  rw [pay3_at]
  unfold outE
  refine Finset.sum_congr rfl fun f _ => congrArg₂ (· * ·) ?_ (wdn_at m hP t f e)
  unfold actE
  rw [actR_at, up_eq m hP, up_eq m hP]

include hP in
/-- The reference's mask is the count's. -/
theorem mask_iff (t : Fin 288) : inUse (NU m) (ix1 t) = if t.val < used (NU m) then 1#1 else 0#1 := by
  have hl := t.isLt
  have hu : (BitVec.ofNat 32 t.val).slt (NU m (ix1 0)) = true ↔ t.val < used (NU m) :=
    slt_num _ _ (by omega) (NU m (ix1 0)) rfl (by have := hP.nu_le (ix1 0); unfold used; omega)
  rw [inUse_at]
  by_cases h : t.val < used (NU m)
  · rw [if_pos h, hu.mpr h]; rfl
  · rw [if_neg h, show (BitVec.ofNat 32 t.val).slt (NU m (ix1 0)) = false from by rw [← Bool.not_eq_true]; exact fun k => h (hu.mp k)]; rfl

theorem sel_one {α : Type} (a b : α) : Scalar.select 1#1 a b = a := rfl
theorem sel_zero {α : Type} (a b : α) : Scalar.select 0#1 a b = b := rfl

include hP in
/-- The reference's stages on the arguments are the tiles. -/
theorem stages_eq :
    outR (inUse (NU m)) (actR (upR (rowsR (XT m) (INV m)) (guR (WGU m) (TE m)))) (dnR (WDN m) (TE m)) = tiles m := by
  funext i
  obtain ⟨p, e, rfl⟩ : ∃ (p : Fin 73728) (e : Fin 1024), i = ix2 p e := ⟨i 0, i 1, by funext a; match a with | ⟨0, _⟩ => rfl | ⟨1, _⟩ => rfl⟩
  have hp := p.isLt
  rw [outR_at, mask_iff m hP, ← tile_eq m hP]
  unfold tiles tileN
  by_cases h : p.val / 256 < used (NU m)
  · rw [if_pos h, sel_one]
    exact (congrFun (if_pos h) _).symm
  · rw [if_neg h, sel_zero]
    refine Eq.symm (Eq.trans (congrFun (if_neg h) _) ?_)
    exact Ideal.ofBits_zero_f32

end Tiles

/-- From argument arrays that agree, the reference's result is the tiles. -/
theorem res_tiles (m' : (ℓ : Loc Cert.ExpertsIdeal.nD Cert.ExpertsIdeal.τ Cert.ExpertsIdeal.sig) → Buf (Elt Ideal) ℓ) (hP : Plan (TE m') (NU m') (INV m')) (c : Dev nD)
    (h0 : m ((c.tc : Thread nD τ).loc main_arg0) = TE m') (h1 : m ((c.tc : Thread nD τ).loc main_arg1) = NU m') (h2 : m ((c.tc : Thread nD τ).loc main_arg2) = INV m')
    (h3 : m ((c.tc : Thread nD τ).loc main_arg3) = XT m') (h4 : m ((c.tc : Thread nD τ).loc main_arg4) = WGU m') (h5 : m ((c.tc : Thread nD τ).loc main_arg5) = WDN m') :
    res_main_v34 m c = tiles m' := by
  rw [res_eq, h0, h1, h2, h3, h4, h5]
  exact stages_eq m' hP

end Cert.ExpertsReferenceIdeal.Moe

end
-- ==== Proof.Kernel.Tables.lean ====
module

public import proofs.«01_k».proof.Defs
public import proofs.«01_k».proof.Proof.Gen.Kernel
public import proofs.«01_k».proof.Proof.Gen.Kernel.Launch
public import Idealize.ShloMosaic.Lib.Pipeline.Kit
public import Idealize.ShloMosaic.Lib.Pipeline.Regions
public import Idealize.ShloMosaic.Lib.Pipeline.TableIdle
public import Idealize.ShloMosaic.Lib.Pipeline.FrameBody
public import Idealize.ShloMosaic.Lib.Pipeline.FrameTail
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource model of the run, at the instance's values. -/
local notation "𝕄" => MT nD τ sig Unit (Elt Bits) ℕ (UR sig nD τ) ℕ

/-! ## The two prefetched tables, the pipeline at them, a point's words and the control's decisions -/

/-- The tables and the scratch buffers the kernel is handed, whole. -/
abbrev tabQ : Memref sig .tc .smem S72 .i32 := Memref.whole main_c
abbrev tabK : Memref sig .tc .smem S72 .i32 := Memref.whole main_c_0
abbrev scM : Memref sig .tc .vmem S8x1024x128 .f32 := Memref.whole cc0_scratch0
abbrev scA : Memref sig .tc .vmem S8x1024x256 .f32 := Memref.whole cc0_scratch1
abbrev scV : Memref sig .tc .vmem S8x512x256 .bf16 := Memref.whole cc0_scratch2

/-- The table of query tiles, as the host writes it. -/
def TQ : S72.Idx → BitVec 32 := fun i => lit0 (S72.rowMajor i)
/-- The table of key tiles, as the host writes it. -/
def TK : S72.Idx → BitVec 32 := fun i => lit1 (S72.rowMajor i)

set_option backward.proofsInPublic true in
/-- The tables' contents the pipeline runs at. -/
def pf : pre0.Contents (Elt Bits) := fun | ⟨0, _⟩ => TQ | ⟨1, _⟩ => TK | ⟨_ + 2, h⟩ => absurd h (by simp)

theorem inb0 : ∀ i : grid0.Coords, ∀ a, (cc0_transform_0 k0_off1_inb numel1_S1 pf i a + 1) * S8x1024x256.size a ≤ S8x32768x256.size a := by decide +kernel
theorem inb1 : ∀ i : grid0.Coords, ∀ a, (cc0_transform_1 k0_off1_inb numel1_S1 pf i a + 1) * S8x512x256.size a ≤ S8x32768x256.size a := by decide +kernel
theorem inb2 : ∀ i : grid0.Coords, ∀ a, (cc0_transform_2 k0_off1_inb numel1_S1 pf i a + 1) * S8x512x128.size a ≤ S8x32768x128.size a := by decide +kernel
theorem inb3 : ∀ i : grid0.Coords, ∀ a, (cc0_transform_3 k0_off1_inb numel1_S1 pf i a + 1) * S1024x1024.size a ≤ S32768x1024.size a := by decide +kernel

/-- At these tables every window's block lies inside its array and is made of whole words. -/
theorem ok_pf : ok0 (F := Bits) pf :=
  ⟨fun i => ⟨inb0 i, .inr (Affine.block_words_dvd (s := S8x32768x256) (p := EltTy.packing .bf16) (by decide) (by decide))⟩,
   fun i => ⟨inb1 i, .inr (Affine.block_words_dvd (s := S8x32768x256) (p := EltTy.packing .bf16) (by decide) (by decide))⟩,
   fun i => ⟨inb2 i, .inr (Affine.block_words_dvd (s := S8x32768x128) (p := EltTy.packing .bf16) (by decide) (by decide))⟩,
   fun i => ⟨inb3 i, .inr (Affine.block_words_dvd (s := S32768x1024) (p := EltTy.packing .bf16) (by decide) (by decide))⟩⟩

/-- The admissible contents, and the pipeline at them. -/
def adm : (pcfg0 (F := Bits)).Adm := ⟨pf, ok_pf⟩
abbrev cfgA : Pipeline.Cfg sig Λ₀ := cfg0 (F := Bits) adm
abbrev pcs : Fin 1 → Pipeline.Cfg sig Λ₀ := Pipeline.pin (pcfgs (F := Bits)) fun _ => adm

/-- Point `t`'s coordinates. -/
abbrev crd (t : Fin cfgA.N) : cfgA.grid.Coords := cfgA.grid.coords t

/-- Each window's current staging memref at point `t`, and its wholeness. -/
abbrev ms0 (t : Fin cfgA.N) : Memref sig .tc .vmem S8x1024x256 .bf16 := spec0_0.stage (cfgA.slots t (0 : Fin 4))
abbrev hs0 (t : Fin cfgA.N) : (ms0 t).IsWhole := hstage0_0 ((cfgA.slots t (0 : Fin 4)).cast nbuf0_0)
abbrev ms1 (t : Fin cfgA.N) : Memref sig .tc .vmem S8x512x256 .bf16 := spec0_1.stage (cfgA.slots t (1 : Fin 4))
abbrev hs1 (t : Fin cfgA.N) : (ms1 t).IsWhole := hstage0_1 ((cfgA.slots t (1 : Fin 4)).cast nbuf0_1)
abbrev ms2 (t : Fin cfgA.N) : Memref sig .tc .vmem S8x512x128 .bf16 := spec0_2.stage (cfgA.slots t (2 : Fin 4))
abbrev hs2 (t : Fin cfgA.N) : (ms2 t).IsWhole := hstage0_2 ((cfgA.slots t (2 : Fin 4)).cast nbuf0_2)
abbrev ms3 (t : Fin cfgA.N) : Memref sig .tc .vmem S1024x1024 .bf16 := spec0_3.stage (cfgA.slots t (3 : Fin 4))
abbrev hs3 (t : Fin cfgA.N) : (ms3 t).IsWhole := hstage0_3 ((cfgA.slots t (3 : Fin 4)).cast nbuf0_3)

/-- The word of the query-tile table, and of the key-tile table, that the body reads at coordinates `i`. -/
abbrev wQ (T : S72.Idx → Elt Bits .i32) (i : grid0.Coords) : BitVec 32 :=
  View.readAt (Elt Bits) (tabQ).view (Rect.unit (s := S72) (k0_off1 i) S1.size (k0_off1_inb i)).toLoadRect T (Shape.Idx.first (numel1_S1.symm ▸ Nat.one_pos))
abbrev wK (T : S72.Idx → Elt Bits .i32) (i : grid0.Coords) : BitVec 32 :=
  View.readAt (Elt Bits) (tabK).view (Rect.unit (s := S72) (k0_off1 i) S1.size (k0_off1_inb i)).toLoadRect T (Shape.Idx.first (numel1_S1.symm ▸ Nat.one_pos))

/-- The key tile is the first. -/
abbrev C0 (a b : BitVec 32) : Prop := Scalar.cmpi .ne (Scalar.extui (Scalar.cmpi .eq b 0#32)) 0#32 = 1#1
/-- The key tile lies below the query tile. -/
abbrev C1 (a b : BitVec 32) : Prop := Scalar.cmpi .ne (Scalar.extui (Scalar.cmpi .slt (Scalar.subi (Scalar.muli b 512#32) (Scalar.muli a 1024#32)) 0#32)) 0#32 = 1#1
/-- The key tile starts where the query tile does. -/
abbrev C2 (a b : BitVec 32) : Prop := Scalar.cmpi .ne (Scalar.extui (Scalar.cmpi .eq (Scalar.subi (Scalar.muli b 512#32) (Scalar.muli a 1024#32)) 0#32)) 0#32 = 1#1
/-- The key tile starts halfway up the query tile. -/
abbrev C3 (a b : BitVec 32) : Prop := Scalar.cmpi .ne (Scalar.extui (Scalar.cmpi .eq (Scalar.subi (Scalar.muli b 512#32) (Scalar.muli a 1024#32)) 512#32)) 0#32 = 1#1
/-- The key tile ends where the query tile does. -/
abbrev C4 (a b : BitVec 32) : Prop := k0_cond5 a b = 1#1

end Cert.Kernel.Attn

end
-- ==== Proof.Kernel.Run.lean ====
module

public import proofs.«01_k».proof.Proof.Kernel.Body
public import Idealize.ShloMosaic.Lib.Pipeline.Quiescent
public import Idealize.ShloMosaic.Lib.Pipeline.Frame
public import Idealize.ShloMosaic.Lib.Claim

@[expose] public section

set_option maxRecDepth 16384
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource model of the run, at the instance's values. -/
local notation "𝕄" => MT nD τ sig Unit (Elt Bits) ℕ (UR sig nD τ) ℕ

variable (m : (ℓ : Loc nD τ sig) → Buf (Elt Bits) ℓ) (ρ : Dev nD → PrngReg)

/-! ## The launch: the host writes the tables, then the region runs at them -/

/-- The resource algebra's embedding. -/
abbrev EP : Emb (UR sig nD τ) 𝕄 := emb₁

/-- The rounds library's launch element. -/
def u₀ : UR sig nD τ :=
  initOf (Pipeline.cells pcs ((launch0 (F := Bits)).cellOf_inj fun _ => adm)) (Pipeline.launchToks pcs ((launch0 (F := Bits)).cellOf_inj fun _ => adm))

theorem share_eq (c : Dev nD) (w : Fin cfgA.W) : (dats m 0 c).share w = fullShare := by unfold Dat.share; split <;> rfl

/-- The two tables held, one by one. -/
theorem prefHeld_two (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide, bigSep_insert (by decide), bigSep_singleton]
  rfl

/-- The invariant before the first point. -/
theorem phi_first (c : Dev nD) :
    iprop(BI.emp ∗ Pipeline.prefHeld pre0 c (fun _ => fullShare.right) adm.1 ∗ Pipeline.scopedRest spec0 c) ⊢ (dats m 0 c).Φ 0 := by
  rw [prefHeld_two, scopedRest0_eq, show (dats m 0 c).Φ 0 = Phi m c 0 from rfl]
  unfold Phi
  iintro ⟨-, ⟨HT0, HT1⟩, ⟨%a0, HS0⟩, ⟨%a1, HS1⟩, ⟨%a2, HS2⟩⟩
  iexists ((a0, a1, a2) : St c)
  isplitr; · ipureintro; intro h; exact absurd rfl h
  isplitl [HS0]; · iexact HS0
  isplitl [HS1]; · iexact HS1
  isplitl [HS2]; · iexact HS2
  isplitl [HT0]; · iexact HT0
  iexact HT1

/-- After the last point the scratch is given back. -/
theorem phi_last (c : Dev nD) : (dats m 0 c).Φ (Fin.last cfgA.N) ⊢ iprop(BI.emp ∗ Pipeline.scopedRest spec0 c) := by
  rw [scopedRest0_eq, show (dats m 0 c).Φ (Fin.last cfgA.N) = Phi m c cfgA.N from rfl]
  unfold Phi
  iintro ⟨%s, -, HS0, HS1, HS2, -, -⟩
  isplitr; · iempintro
  isplitl [HS0]
  · iexists _; iexact HS0
  isplitl [HS1]
  · iexists _; iexact HS1
  iexists _; iexact HS2

/-- The contents the region starts from: the launch's, with the tables written. -/
abbrev V₁ (c : Dev nD) (b : Ref sig .tc) : Buf (Elt Bits) ((c.tc : Thread nD τ).loc b) :=
  StableHlo.after (hostOps0 (F := Bits)) (fun b => m (c, b)) b

theorem V₁_arr (c : Dev nD) : ∀ w : Fin cfgA.W, m ((cfgA.win w).arr.view.loc (c : Thread nD τ)) = V₁ m c (Pipeline.arrRef cfgA.spec w) := by
  intro w; fin_cases w
  · show m (c.tc.loc main_arg0) = StableHlo.after (hostOps0 (F := Bits)) (fun b => m (c, b)) main_arg0
    after_results
  · show m (c.tc.loc main_arg1) = StableHlo.after (hostOps0 (F := Bits)) (fun b => m (c, b)) main_arg1
    after_results
  · show m (c.tc.loc main_arg2) = StableHlo.after (hostOps0 (F := Bits)) (fun b => m (c, b)) main_arg2
    after_results
  · show m (c.tc.loc main_v0) = StableHlo.after (hostOps0 (F := Bits)) (fun b => m (c, b)) main_v0
    after_results

theorem V₁_tab (c : Dev nD) : ∀ k : Fin 2, V₁ m c (pre0.ref k) = adm.1 k := by
  intro k; fin_cases k
  · show StableHlo.after (hostOps0 (F := Bits)) (fun b => m (c, b)) main_c = TQ
    after_results; rfl
  · show StableHlo.after (hostOps0 (F := Bits)) (fun b => m (c, b)) main_c_0 = TK
    after_results; rfl

set_option backward.isDefEq.respectTransparency.types false in
set_option maxHeartbeats 4000000 in
/-- From any memory with zero counters, every weakly fair execution of the launch ends with each array at the contents
    the proof data says, and with every counter at zero. -/
theorem run_main : θ_run (defs (F := Bits)) (onTc (τ := τ) (main (F := Bits))) ⟨m, fun _ => 0, ρ⟩ (fun r =>
      (∀ c : Dev nD, ∀ w : Fin cfgA.W, r.2.mem ((cfgA.win w).arr.view.loc (c : Thread nD τ)) = (dats m 0 c).arrAt w cfgA.N) ∧ r.2.sem = fun _ => 0) :=
  Pipeline.θ_run_region_noSem_pf_quiescent pcfgs (fun _ => adm) (dats m) () ((launch0 (F := Bits)).cellOf_inj fun _ => adm) (0 : Fin 1)
    (launch0 (F := Bits)).win.to₀ (launch0 (F := Bits)).pre EP defs₀ Variants.none m ρ main
    (hbody := fun c => (body_obligation m c).loose) (hne := (launch0 (F := Bits)).block_pos)
    (harr := (launch0 (F := Bits)).arr_whole) (hstage := (launch0 (F := Bits)).stage_whole) (howed := fun _ _ => rfl)
    (u₀ := u₀) (hu₀ := .rfl)
    (V := V₁ m)
    (hmain := Pipeline.hmainP_prefix pcfgs (0 : Fin 1) defs₀ Variants.none m main hostOps0 hostOps0_sub ⟨rfl, rfl⟩ main_chain)
    (hsplit := fun c => Pipeline.arrays_split pcs (dats m) 0 (launch0 (F := Bits)).win.arr_inj c (launch0 (F := Bits)).arr_whole
      (share_eq m c) _ _ (V₁_arr m c))
    (hpf := V₁_tab m)
    (X := fun _ => iprop(emp)) (Y := fun _ => iprop(emp)) (Z := fun _ => iprop(emp))
    (hX := fun c => by rw [unscopedRestP0_eq]; iintro -; isplitr <;> iempintro)
    (hin := phi_first m)
    (hout := phi_last m)
    (QY := fun _ _ => True)
    (hY := fun c s' => by
      iintro ⟨-, -, HSI⟩; imodintro
      isplitr; · ipureintro; trivial
      iexact HSI)
    (hQ := fun _ h hz => ⟨fun c => (h c).1, hz⟩)

/-- The launch's result: the output array at the computed contents, the arguments unchanged, every counter at zero. -/
theorem run_result : θ_run (defs (F := Bits)) (onTc (τ := τ) (main (F := Bits))) ⟨m, fun _ => 0, ρ⟩ (fun r =>
      (∀ c : Dev nD, r.2.mem ((c.tc : Thread nD τ).loc main_v0) = (dats m 0 c).arrAt (3 : Fin 4) cfgA.N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0) :=
  (θ_run defs _ _).mono (fun _ h => ⟨fun c => ⟨h.1 c (3 : Fin 4),
    (h.1 c (0 : Fin 4)).trans ((dats m 0 c).arrAt_in (0 : Fin 4) rfl _),
    (h.1 c (1 : Fin 4)).trans ((dats m 0 c).arrAt_in (1 : Fin 4) rfl _),
    (h.1 c (2 : Fin 4)).trans ((dats m 0 c).arrAt_in (2 : Fin 4) rfl _)⟩, h.2⟩) (run_main m ρ)

end Cert.Kernel.Attn

end
-- ==== Proof.KernelIdeal.Tables.lean ====
module

public import proofs.«01_k».proof.Defs
public import proofs.«01_k».proof.Proof.Gen.KernelIdeal
public import proofs.«01_k».proof.Proof.Gen.KernelIdeal.Launch
public import Idealize.ShloMosaic.Lib.Pipeline.Kit
public import Idealize.ShloMosaic.Lib.Pipeline.Regions
public import Idealize.ShloMosaic.Lib.Pipeline.TableIdle
public import Idealize.ShloMosaic.Lib.Pipeline.FrameBody
public import Idealize.ShloMosaic.Lib.Pipeline.FrameTail
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource model of the run, at the instance's values. -/
local notation "𝕄" => MT nD τ sig Unit (Elt Ideal) ℕ (UR sig nD τ) ℕ

/-! ## The two prefetched tables, the pipeline at them, a point's words and the control's decisions -/

/-- The tables and the scratch buffers the kernel is handed, whole. -/
abbrev tabQ : Memref sig .tc .smem S72 .i32 := Memref.whole main_c
abbrev tabK : Memref sig .tc .smem S72 .i32 := Memref.whole main_c_0
abbrev scM : Memref sig .tc .vmem S8x1024x128 .f32 := Memref.whole cc0_scratch0
abbrev scA : Memref sig .tc .vmem S8x1024x256 .f32 := Memref.whole cc0_scratch1
abbrev scV : Memref sig .tc .vmem S8x512x256 .bf16 := Memref.whole cc0_scratch2

/-- The table of query tiles, as the host writes it. -/
def TQ : S72.Idx → BitVec 32 := fun i => lit0 (S72.rowMajor i)
/-- The table of key tiles, as the host writes it. -/
def TK : S72.Idx → BitVec 32 := fun i => lit1 (S72.rowMajor i)

set_option backward.proofsInPublic true in
/-- The tables' contents the pipeline runs at. -/
def pf : pre0.Contents (Elt Ideal) := fun | ⟨0, _⟩ => TQ | ⟨1, _⟩ => TK | ⟨_ + 2, h⟩ => absurd h (by simp)

theorem inb0 : ∀ i : grid0.Coords, ∀ a, (cc0_transform_0 k0_off1_inb numel1_S1 pf i a + 1) * S8x1024x256.size a ≤ S8x32768x256.size a := by decide +kernel
theorem inb1 : ∀ i : grid0.Coords, ∀ a, (cc0_transform_1 k0_off1_inb numel1_S1 pf i a + 1) * S8x512x256.size a ≤ S8x32768x256.size a := by decide +kernel
theorem inb2 : ∀ i : grid0.Coords, ∀ a, (cc0_transform_2 k0_off1_inb numel1_S1 pf i a + 1) * S8x512x128.size a ≤ S8x32768x128.size a := by decide +kernel
theorem inb3 : ∀ i : grid0.Coords, ∀ a, (cc0_transform_3 k0_off1_inb numel1_S1 pf i a + 1) * S1024x1024.size a ≤ S32768x1024.size a := by decide +kernel

/-- At these tables every window's block lies inside its array and is made of whole words. -/
theorem ok_pf : ok0 (F := Ideal) pf :=
  ⟨fun i => ⟨inb0 i, .inr (Affine.block_words_dvd (s := S8x32768x256) (p := EltTy.packing .bf16) (by decide) (by decide))⟩,
   fun i => ⟨inb1 i, .inr (Affine.block_words_dvd (s := S8x32768x256) (p := EltTy.packing .bf16) (by decide) (by decide))⟩,
   fun i => ⟨inb2 i, .inr (Affine.block_words_dvd (s := S8x32768x128) (p := EltTy.packing .bf16) (by decide) (by decide))⟩,
   fun i => ⟨inb3 i, .inr (Affine.block_words_dvd (s := S32768x1024) (p := EltTy.packing .bf16) (by decide) (by decide))⟩⟩

/-- The admissible contents, and the pipeline at them. -/
def adm : (pcfg0 (F := Ideal)).Adm := ⟨pf, ok_pf⟩
abbrev cfgA : Pipeline.Cfg sig Λ₀ := cfg0 (F := Ideal) adm
abbrev pcs : Fin 1 → Pipeline.Cfg sig Λ₀ := Pipeline.pin (pcfgs (F := Ideal)) fun _ => adm

/-- Point `t`'s coordinates. -/
abbrev crd (t : Fin cfgA.N) : cfgA.grid.Coords := cfgA.grid.coords t

/-- Each window's current staging memref at point `t`, and its wholeness. -/
abbrev ms0 (t : Fin cfgA.N) : Memref sig .tc .vmem S8x1024x256 .bf16 := spec0_0.stage (cfgA.slots t (0 : Fin 4))
abbrev hs0 (t : Fin cfgA.N) : (ms0 t).IsWhole := hstage0_0 ((cfgA.slots t (0 : Fin 4)).cast nbuf0_0)
abbrev ms1 (t : Fin cfgA.N) : Memref sig .tc .vmem S8x512x256 .bf16 := spec0_1.stage (cfgA.slots t (1 : Fin 4))
abbrev hs1 (t : Fin cfgA.N) : (ms1 t).IsWhole := hstage0_1 ((cfgA.slots t (1 : Fin 4)).cast nbuf0_1)
abbrev ms2 (t : Fin cfgA.N) : Memref sig .tc .vmem S8x512x128 .bf16 := spec0_2.stage (cfgA.slots t (2 : Fin 4))
abbrev hs2 (t : Fin cfgA.N) : (ms2 t).IsWhole := hstage0_2 ((cfgA.slots t (2 : Fin 4)).cast nbuf0_2)
abbrev ms3 (t : Fin cfgA.N) : Memref sig .tc .vmem S1024x1024 .bf16 := spec0_3.stage (cfgA.slots t (3 : Fin 4))
abbrev hs3 (t : Fin cfgA.N) : (ms3 t).IsWhole := hstage0_3 ((cfgA.slots t (3 : Fin 4)).cast nbuf0_3)

/-- The word of the query-tile table, and of the key-tile table, that the body reads at coordinates `i`. -/
abbrev wQ (T : S72.Idx → Elt Ideal .i32) (i : grid0.Coords) : BitVec 32 :=
  View.readAt (Elt Ideal) (tabQ).view (Rect.unit (s := S72) (k0_off1 i) S1.size (k0_off1_inb i)).toLoadRect T (Shape.Idx.first (numel1_S1.symm ▸ Nat.one_pos))
abbrev wK (T : S72.Idx → Elt Ideal .i32) (i : grid0.Coords) : BitVec 32 :=
  View.readAt (Elt Ideal) (tabK).view (Rect.unit (s := S72) (k0_off1 i) S1.size (k0_off1_inb i)).toLoadRect T (Shape.Idx.first (numel1_S1.symm ▸ Nat.one_pos))

/-- The key tile is the first. -/
abbrev C0 (a b : BitVec 32) : Prop := Scalar.cmpi .ne (Scalar.extui (Scalar.cmpi .eq b 0#32)) 0#32 = 1#1
/-- The key tile lies below the query tile. -/
abbrev C1 (a b : BitVec 32) : Prop := Scalar.cmpi .ne (Scalar.extui (Scalar.cmpi .slt (Scalar.subi (Scalar.muli b 512#32) (Scalar.muli a 1024#32)) 0#32)) 0#32 = 1#1
/-- The key tile starts where the query tile does. -/
abbrev C2 (a b : BitVec 32) : Prop := Scalar.cmpi .ne (Scalar.extui (Scalar.cmpi .eq (Scalar.subi (Scalar.muli b 512#32) (Scalar.muli a 1024#32)) 0#32)) 0#32 = 1#1
/-- The key tile starts halfway up the query tile. -/
abbrev C3 (a b : BitVec 32) : Prop := Scalar.cmpi .ne (Scalar.extui (Scalar.cmpi .eq (Scalar.subi (Scalar.muli b 512#32) (Scalar.muli a 1024#32)) 512#32)) 0#32 = 1#1
/-- The key tile ends where the query tile does. -/
abbrev C4 (a b : BitVec 32) : Prop := k0_cond5 a b = 1#1

end Cert.KernelIdeal.Attn

end
-- ==== Proof.KernelIdeal.Facts.lean ====
module

public import proofs.«01_k».proof.Proof.KernelIdeal.Tables

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource model of the run, at the instance's values. -/
local notation "𝕄" => MT nD τ sig Unit (Elt Ideal) ℕ (UR sig nD τ) ℕ

/-! ## Which path each grid point takes, and the schedule there -/

/-- First key tile, at the query tile's own start. -/
abbrev IsA (a b : BitVec 32) : Prop := C0 a b ∧ ¬ C1 a b ∧ C2 a b ∧ ¬ C3 a b ∧ ¬ C4 a b
/-- First key tile, below the query tile. -/
abbrev IsC (a b : BitVec 32) : Prop := C0 a b ∧ C1 a b ∧ ¬ C2 a b ∧ ¬ C3 a b ∧ ¬ C4 a b
/-- Later key tile, below the query tile. -/
abbrev IsD (a b : BitVec 32) : Prop := ¬ C0 a b ∧ C1 a b ∧ ¬ C2 a b ∧ ¬ C3 a b ∧ ¬ C4 a b
/-- Later key tile, at the query tile's start. -/
abbrev IsE (a b : BitVec 32) : Prop := ¬ C0 a b ∧ ¬ C1 a b ∧ C2 a b ∧ ¬ C3 a b ∧ ¬ C4 a b
/-- The last key tile of the query tile, in its upper half. -/
abbrev IsB (a b : BitVec 32) : Prop := ¬ C0 a b ∧ ¬ C1 a b ∧ ¬ C2 a b ∧ C3 a b ∧ C4 a b

/-- The words read at point `t`. -/
abbrev qw (t : Fin cfgA.N) : BitVec 32 := wQ TQ (crd t)
abbrev kw (t : Fin cfgA.N) : BitVec 32 := wK TK (crd t)

/-- Every point takes one of the five paths. -/
theorem path_at : ∀ t : Fin cfgA.N, IsA (qw t) (kw t) ∨ IsC (qw t) (kw t) ∨ IsD (qw t) (kw t) ∨ IsE (qw t) (kw t) ∨ IsB (qw t) (kw t) := by decide +kernel
/-- Off the last path the output window is idle and not written back; -/
theorem out_idle : ∀ t : Fin cfgA.N, ¬ C4 (qw t) (kw t) → cfgA.idle (3 : Fin 4) (crd t) = true ∧ (cfgA.win (3 : Fin 4)).flush t = false := by decide +kernel
/-- on it the window is live and written back. -/
theorem out_live : ∀ t : Fin cfgA.N, C4 (qw t) (kw t) → cfgA.idle (3 : Fin 4) (crd t) = false ∧ (cfgA.win (3 : Fin 4)).flush t = true := by decide +kernel
/-- The first point initialises. -/
theorem init_first : ∀ t : Fin cfgA.N, t.val = 0 → C0 (qw t) (kw t) := by decide +kernel

/-- The output's staging buffer holds nothing of an earlier point at any point: it is written back wherever it is stored. -/
theorem out_fresh (t : Fin cfgA.N) : cfgA.fresh (3 : Fin 4) t.val = true :=
  Pipeline.Cfg.fresh_tab cfgA (3 : Fin 4) (fun _ => true) rfl
    (fun t => by
      by_cases h : C4 (qw t) (kw t)
      · rw [(out_live t h).2]; rfl
      · rw [(out_idle t h).1, (out_idle t h).2]; rfl)
    t.val (Nat.le_of_lt t.isLt)

end Cert.KernelIdeal.Attn

end
-- ==== Proof.KernelIdeal.RunA.lean ====
module

public import proofs.«01_k».proof.Proof.Gen.KernelIdeal.Skeleton
public import proofs.«01_k».proof.Proof.KernelIdeal.Tables

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource model of the run, at the instance's values. -/
local notation "𝕄" => MT nD τ sig Unit (Elt Ideal) ℕ (UR sig nD τ) ℕ

set_option backward.proofsInPublic true in
set_option maxHeartbeats 8000000 in
/-- What the body leaves at a point of the path "the first key tile, at the query tile's own start: the scratch is initialised and the masked lower half step taken" — the scratch's contents —, with the proof
    that on whole staging memrefs it runs to a continuation that holds them. -/
def runA (c : Dev nD) (i : grid0.Coords) (arg4 : Memref sig .tc .vmem S8x1024x256 .bf16) (harg4 : arg4.IsWhole) (arg5 : Memref sig .tc .vmem S8x512x256 .bf16) (harg5 : arg5.IsWhole) (arg6 : Memref sig .tc .vmem S8x512x128 .bf16) (harg6 : arg6.IsWhole) (arg7 : Memref sig .tc .vmem S1024x1024 .bf16) (harg7 : arg7.IsWhole)
    (T0 T1 : S72.Idx → Elt Ideal .i32) (x0 : S8x1024x256.Idx → Elt Ideal .bf16) (x1 : S8x512x256.Idx → Elt Ideal .bf16) (x2 : S8x512x128.Idx → Elt Ideal .bf16)
    (hc0 : C0 (wQ T0 i) (wK T1 i))
    (hc1 : ¬ C1 (wQ T0 i) (wK T1 i))
    (hc2 : C2 (wQ T0 i) (wK T1 i))
    (hc3 : ¬ C3 (wQ T0 i) (wK T1 i))
    (hc4 : ¬ C4 (wQ T0 i) (wK T1 i)) :
    Σ' (outM : Buf (Elt Ideal) ((c : Thread nD τ).loc cc0_scratch0)) (outA : Buf (Elt Ideal) ((c : Thread nD τ).loc cc0_scratch1)), { outV : Buf (Elt Ideal) ((c : Thread nD τ).loc cc0_scratch2) //
      ∀ (y3 : S1024x1024.Idx → Elt Ideal .bf16) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tabQ.view.loc (c : Thread nD τ) ↦{fullShare.right} T0)
          ∗ (tabK.view.loc (c : Thread nD τ) ↦{fullShare.right} T1)
          ∗ owns (c : Thread nD τ) arg7 fullShare y3
          ∗ (scM.view.loc (c : Thread nD τ) ↦{fullShare} xa0)
          ∗ (scA.view.loc (c : Thread nD τ) ↦{fullShare} xa1)
          ∗ (scV.view.loc (c : Thread nD τ) ↦{fullShare} xa2)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tabQ.view.loc (c : Thread nD τ) ↦{fullShare.right} T0)
          ∗ (tabK.view.loc (c : Thread nD τ) ↦{fullShare.right} T1)
          ∗ owns (c : Thread nD τ) arg7 fullShare y3
          ∗ (scM.view.loc (c : Thread nD τ) ↦{fullShare} outM)
          ∗ (scA.view.loc (c : Thread nD τ) ↦{fullShare} outA)
          ∗ (scV.view.loc (c : Thread nD τ) ↦{fullShare} outV)) -∗ K ⟨⟩))
          ⊢ wp frame (wpE (defs₀ (F := Ideal)) Variants.none c none) Set.univ (cc0_attention i tabQ (Memref.isWhole_whole _) tabK (Memref.isWhole_whole _) arg4 harg4 arg5 harg5 arg6 harg6 arg7 harg7 scM (Memref.isWhole_whole _) scA (Memref.isWhole_whole _) scV (Memref.isWhole_whole _)) K } :=
  ⟨_, _, _, fun y3 xa0 xa1 xa2 K => by
    unfold owns
    rw [cc0_attention_eq_skeleton]; unfold cc0_attention_skel
    iintro ⟨H0, H1, H2, HT0, HT1, ⟨%f3, %hf3, HO3⟩, HS0, HS1, HS2, Hk⟩
    obtain rfl := harg7.eq_unread hf3
    have hS0 : scM.IsWhole := Memref.isWhole_whole _
    have hS1 : scA.IsWhole := Memref.isWhole_whole _
    have hS2 : scV.IsWhole := Memref.isWhole_whole _
    have hT0 : tabQ.IsWhole := Memref.isWhole_whole _
    have hT1 : tabK.IsWhole := Memref.isWhole_whole _
    sl_exec! (disch := first | (guard_target = Scalar.cmpi = _; exact hc0) | (guard_target = ¬(Scalar.cmpi = _); exact hc1) | (guard_target = Scalar.cmpi = _; exact hc2) | (guard_target = ¬(Scalar.cmpi = _); exact hc3) | (guard_target = ¬(k0_cond5 _ _ = _); exact hc4))
    sl_step
    iapply Hk
    isplitl [H0]; · iexact H0
    isplitl [H1]; · iexact H1
    isplitl [H2]; · iexact H2
    isplitl [HT0]; · iexact HT0
    isplitl [HT1]; · iexact HT1
    isplitl [HO3]
    · iexists _; isplitr; · ipureintro; exact harg7.read_unread _
      iexact HO3
    isplitl [HS0]; · iexact HS0
    isplitl [HS1]; · iexact HS1
    iexact HS2⟩

end Cert.KernelIdeal.Attn

end
-- ==== Proof.KernelIdeal.RunB.lean ====
module

public import proofs.«01_k».proof.Proof.Gen.KernelIdeal.Skeleton
public import proofs.«01_k».proof.Proof.KernelIdeal.Tables

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource model of the run, at the instance's values. -/
local notation "𝕄" => MT nD τ sig Unit (Elt Ideal) ℕ (UR sig nD τ) ℕ

set_option backward.proofsInPublic true in
set_option maxHeartbeats 8000000 in
/-- What the body leaves at a point of the path "the key tile in the upper half of the query tile: the masked step on the upper half of the rows, then the result is stored" — the scratch's contents and the pieces stored in the output —, with the proof
    that on whole staging memrefs it runs to a continuation that holds them. -/
def runB (c : Dev nD) (i : grid0.Coords) (arg4 : Memref sig .tc .vmem S8x1024x256 .bf16) (harg4 : arg4.IsWhole) (arg5 : Memref sig .tc .vmem S8x512x256 .bf16) (harg5 : arg5.IsWhole) (arg6 : Memref sig .tc .vmem S8x512x128 .bf16) (harg6 : arg6.IsWhole) (arg7 : Memref sig .tc .vmem S1024x1024 .bf16) (harg7 : arg7.IsWhole)
    (T0 T1 : S72.Idx → Elt Ideal .i32) (x0 : S8x1024x256.Idx → Elt Ideal .bf16) (x1 : S8x512x256.Idx → Elt Ideal .bf16) (x2 : S8x512x128.Idx → Elt Ideal .bf16)
    (xa0 : Buf (Elt Ideal) ((c : Thread nD τ).loc cc0_scratch0)) (xa1 : Buf (Elt Ideal) ((c : Thread nD τ).loc cc0_scratch1)) (xa2 : Buf (Elt Ideal) ((c : Thread nD τ).loc cc0_scratch2))
    (hc0 : ¬ C0 (wQ T0 i) (wK T1 i))
    (hc1 : ¬ C1 (wQ T0 i) (wK T1 i))
    (hc2 : ¬ C2 (wQ T0 i) (wK T1 i))
    (hc3 : C3 (wQ T0 i) (wK T1 i))
    (hc4 : C4 (wQ T0 i) (wK T1 i)) :
    Σ' (outO : List (View.Piece (Elt Ideal) S1024x1024 .bf16)) (outM : Buf (Elt Ideal) ((c : Thread nD τ).loc cc0_scratch0)) (outA : Buf (Elt Ideal) ((c : Thread nD τ).loc cc0_scratch1)), { outV : Buf (Elt Ideal) ((c : Thread nD τ).loc cc0_scratch2) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tabQ.view.loc (c : Thread nD τ) ↦{fullShare.right} T0)
          ∗ (tabK.view.loc (c : Thread nD τ) ↦{fullShare.right} T1)
          ∗ (∃ d, owns (c : Thread nD τ) arg7 fullShare d)
          ∗ (scM.view.loc (c : Thread nD τ) ↦{fullShare} xa0)
          ∗ (scA.view.loc (c : Thread nD τ) ↦{fullShare} xa1)
          ∗ (scV.view.loc (c : Thread nD τ) ↦{fullShare} xa2)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tabQ.view.loc (c : Thread nD τ) ↦{fullShare.right} T0)
          ∗ (tabK.view.loc (c : Thread nD τ) ↦{fullShare.right} T1)
          ∗ (∃ f, arg7.view.loc (c : Thread nD τ) ↦[arg7.view.set]{fullShare} arg7.view.writes (Elt Ideal) f outO)
          ∗ (scM.view.loc (c : Thread nD τ) ↦{fullShare} outM)
          ∗ (scA.view.loc (c : Thread nD τ) ↦{fullShare} outA)
          ∗ (scV.view.loc (c : Thread nD τ) ↦{fullShare} outV)) -∗ K ⟨⟩))
          ⊢ wp frame (wpE (defs₀ (F := Ideal)) Variants.none c none) Set.univ (cc0_attention i tabQ (Memref.isWhole_whole _) tabK (Memref.isWhole_whole _) arg4 harg4 arg5 harg5 arg6 harg6 arg7 harg7 scM (Memref.isWhole_whole _) scA (Memref.isWhole_whole _) scV (Memref.isWhole_whole _)) K } :=
  ⟨_, _, _, _, fun K => by
    unfold owns
    rw [cc0_attention_eq_skeleton]; unfold cc0_attention_skel
    iintro ⟨H0, H1, H2, HT0, HT1, ⟨%d3, %f3, -, HO3⟩, HS0, HS1, HS2, Hk⟩
    have hS0 : scM.IsWhole := Memref.isWhole_whole _
    have hS1 : scA.IsWhole := Memref.isWhole_whole _
    have hS2 : scV.IsWhole := Memref.isWhole_whole _
    have hT0 : tabQ.IsWhole := Memref.isWhole_whole _
    have hT1 : tabK.IsWhole := Memref.isWhole_whole _
    sl_exec! (disch := first | (guard_target = ¬(Scalar.cmpi = _); exact hc0) | (guard_target = ¬(Scalar.cmpi = _); exact hc1) | (guard_target = ¬(Scalar.cmpi = _); exact hc2) | (guard_target = Scalar.cmpi = _; exact hc3) | (guard_target = k0_cond5 _ _ = _; exact hc4))
    sl_step
    iapply Hk
    isplitl [H0]; · iexact H0
    isplitl [H1]; · iexact H1
    isplitl [H2]; · iexact H2
    isplitl [HT0]; · iexact HT0
    isplitl [HT1]; · iexact HT1
    isplitl [HO3]; · iexists _; iexact HO3
    isplitl [HS0]; · iexact HS0
    isplitl [HS1]; · iexact HS1
    iexact HS2⟩

end Cert.KernelIdeal.Attn

end
-- ==== Proof.KernelIdeal.RunC.lean ====
module

public import proofs.«01_k».proof.Proof.Gen.KernelIdeal.Skeleton
public import proofs.«01_k».proof.Proof.KernelIdeal.Tables

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource model of the run, at the instance's values. -/
local notation "𝕄" => MT nD τ sig Unit (Elt Ideal) ℕ (UR sig nD τ) ℕ

set_option backward.proofsInPublic true in
set_option maxHeartbeats 8000000 in
/-- What the body leaves at a point of the path "the first key tile, below the query tile: the scratch is initialised and the unmasked step taken" — the scratch's contents —, with the proof
    that on whole staging memrefs it runs to a continuation that holds them. -/
def runC (c : Dev nD) (i : grid0.Coords) (arg4 : Memref sig .tc .vmem S8x1024x256 .bf16) (harg4 : arg4.IsWhole) (arg5 : Memref sig .tc .vmem S8x512x256 .bf16) (harg5 : arg5.IsWhole) (arg6 : Memref sig .tc .vmem S8x512x128 .bf16) (harg6 : arg6.IsWhole) (arg7 : Memref sig .tc .vmem S1024x1024 .bf16) (harg7 : arg7.IsWhole)
    (T0 T1 : S72.Idx → Elt Ideal .i32) (x0 : S8x1024x256.Idx → Elt Ideal .bf16) (x1 : S8x512x256.Idx → Elt Ideal .bf16) (x2 : S8x512x128.Idx → Elt Ideal .bf16)
    (hc0 : C0 (wQ T0 i) (wK T1 i))
    (hc1 : C1 (wQ T0 i) (wK T1 i))
    (hc2 : ¬ C2 (wQ T0 i) (wK T1 i))
    (hc3 : ¬ C3 (wQ T0 i) (wK T1 i))
    (hc4 : ¬ C4 (wQ T0 i) (wK T1 i)) :
    Σ' (outM : Buf (Elt Ideal) ((c : Thread nD τ).loc cc0_scratch0)) (outA : Buf (Elt Ideal) ((c : Thread nD τ).loc cc0_scratch1)), { outV : Buf (Elt Ideal) ((c : Thread nD τ).loc cc0_scratch2) //
      ∀ (y3 : S1024x1024.Idx → Elt Ideal .bf16) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tabQ.view.loc (c : Thread nD τ) ↦{fullShare.right} T0)
          ∗ (tabK.view.loc (c : Thread nD τ) ↦{fullShare.right} T1)
          ∗ owns (c : Thread nD τ) arg7 fullShare y3
          ∗ (scM.view.loc (c : Thread nD τ) ↦{fullShare} xa0)
          ∗ (scA.view.loc (c : Thread nD τ) ↦{fullShare} xa1)
          ∗ (scV.view.loc (c : Thread nD τ) ↦{fullShare} xa2)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tabQ.view.loc (c : Thread nD τ) ↦{fullShare.right} T0)
          ∗ (tabK.view.loc (c : Thread nD τ) ↦{fullShare.right} T1)
          ∗ owns (c : Thread nD τ) arg7 fullShare y3
          ∗ (scM.view.loc (c : Thread nD τ) ↦{fullShare} outM)
          ∗ (scA.view.loc (c : Thread nD τ) ↦{fullShare} outA)
          ∗ (scV.view.loc (c : Thread nD τ) ↦{fullShare} outV)) -∗ K ⟨⟩))
          ⊢ wp frame (wpE (defs₀ (F := Ideal)) Variants.none c none) Set.univ (cc0_attention i tabQ (Memref.isWhole_whole _) tabK (Memref.isWhole_whole _) arg4 harg4 arg5 harg5 arg6 harg6 arg7 harg7 scM (Memref.isWhole_whole _) scA (Memref.isWhole_whole _) scV (Memref.isWhole_whole _)) K } :=
  ⟨_, _, _, fun y3 xa0 xa1 xa2 K => by
    unfold owns
    rw [cc0_attention_eq_skeleton]; unfold cc0_attention_skel
    iintro ⟨H0, H1, H2, HT0, HT1, ⟨%f3, %hf3, HO3⟩, HS0, HS1, HS2, Hk⟩
    obtain rfl := harg7.eq_unread hf3
    have hS0 : scM.IsWhole := Memref.isWhole_whole _
    have hS1 : scA.IsWhole := Memref.isWhole_whole _
    have hS2 : scV.IsWhole := Memref.isWhole_whole _
    have hT0 : tabQ.IsWhole := Memref.isWhole_whole _
    have hT1 : tabK.IsWhole := Memref.isWhole_whole _
    sl_exec! (disch := first | (guard_target = Scalar.cmpi = _; exact hc0) | (guard_target = Scalar.cmpi = _; exact hc1) | (guard_target = ¬(Scalar.cmpi = _); exact hc2) | (guard_target = ¬(Scalar.cmpi = _); exact hc3) | (guard_target = ¬(k0_cond5 _ _ = _); exact hc4))
    sl_step
    iapply Hk
    isplitl [H0]; · iexact H0
    isplitl [H1]; · iexact H1
    isplitl [H2]; · iexact H2
    isplitl [HT0]; · iexact HT0
    isplitl [HT1]; · iexact HT1
    isplitl [HO3]
    · iexists _; isplitr; · ipureintro; exact harg7.read_unread _
      iexact HO3
    isplitl [HS0]; · iexact HS0
    isplitl [HS1]; · iexact HS1
    iexact HS2⟩

end Cert.KernelIdeal.Attn

end
-- ==== Proof.KernelIdeal.RunD.lean ====
module

public import proofs.«01_k».proof.Proof.Gen.KernelIdeal.Skeleton
public import proofs.«01_k».proof.Proof.KernelIdeal.Tables

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource model of the run, at the instance's values. -/
local notation "𝕄" => MT nD τ sig Unit (Elt Ideal) ℕ (UR sig nD τ) ℕ

set_option backward.proofsInPublic true in
set_option maxHeartbeats 8000000 in
/-- What the body leaves at a point of the path "a later key tile below the query tile: the unmasked step" — the scratch's contents —, with the proof
    that on whole staging memrefs it runs to a continuation that holds them. -/
def runD (c : Dev nD) (i : grid0.Coords) (arg4 : Memref sig .tc .vmem S8x1024x256 .bf16) (harg4 : arg4.IsWhole) (arg5 : Memref sig .tc .vmem S8x512x256 .bf16) (harg5 : arg5.IsWhole) (arg6 : Memref sig .tc .vmem S8x512x128 .bf16) (harg6 : arg6.IsWhole) (arg7 : Memref sig .tc .vmem S1024x1024 .bf16) (harg7 : arg7.IsWhole)
    (T0 T1 : S72.Idx → Elt Ideal .i32) (x0 : S8x1024x256.Idx → Elt Ideal .bf16) (x1 : S8x512x256.Idx → Elt Ideal .bf16) (x2 : S8x512x128.Idx → Elt Ideal .bf16)
    (xa0 : Buf (Elt Ideal) ((c : Thread nD τ).loc cc0_scratch0)) (xa1 : Buf (Elt Ideal) ((c : Thread nD τ).loc cc0_scratch1)) (xa2 : Buf (Elt Ideal) ((c : Thread nD τ).loc cc0_scratch2))
    (hc0 : ¬ C0 (wQ T0 i) (wK T1 i))
    (hc1 : C1 (wQ T0 i) (wK T1 i))
    (hc2 : ¬ C2 (wQ T0 i) (wK T1 i))
    (hc3 : ¬ C3 (wQ T0 i) (wK T1 i))
    (hc4 : ¬ C4 (wQ T0 i) (wK T1 i)) :
    Σ' (outM : Buf (Elt Ideal) ((c : Thread nD τ).loc cc0_scratch0)) (outA : Buf (Elt Ideal) ((c : Thread nD τ).loc cc0_scratch1)), { outV : Buf (Elt Ideal) ((c : Thread nD τ).loc cc0_scratch2) //
      ∀ (y3 : S1024x1024.Idx → Elt Ideal .bf16) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tabQ.view.loc (c : Thread nD τ) ↦{fullShare.right} T0)
          ∗ (tabK.view.loc (c : Thread nD τ) ↦{fullShare.right} T1)
          ∗ owns (c : Thread nD τ) arg7 fullShare y3
          ∗ (scM.view.loc (c : Thread nD τ) ↦{fullShare} xa0)
          ∗ (scA.view.loc (c : Thread nD τ) ↦{fullShare} xa1)
          ∗ (scV.view.loc (c : Thread nD τ) ↦{fullShare} xa2)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tabQ.view.loc (c : Thread nD τ) ↦{fullShare.right} T0)
          ∗ (tabK.view.loc (c : Thread nD τ) ↦{fullShare.right} T1)
          ∗ owns (c : Thread nD τ) arg7 fullShare y3
          ∗ (scM.view.loc (c : Thread nD τ) ↦{fullShare} outM)
          ∗ (scA.view.loc (c : Thread nD τ) ↦{fullShare} outA)
          ∗ (scV.view.loc (c : Thread nD τ) ↦{fullShare} outV)) -∗ K ⟨⟩))
          ⊢ wp frame (wpE (defs₀ (F := Ideal)) Variants.none c none) Set.univ (cc0_attention i tabQ (Memref.isWhole_whole _) tabK (Memref.isWhole_whole _) arg4 harg4 arg5 harg5 arg6 harg6 arg7 harg7 scM (Memref.isWhole_whole _) scA (Memref.isWhole_whole _) scV (Memref.isWhole_whole _)) K } :=
  ⟨_, _, _, fun y3 K => by
    unfold owns
    rw [cc0_attention_eq_skeleton]; unfold cc0_attention_skel
    iintro ⟨H0, H1, H2, HT0, HT1, ⟨%f3, %hf3, HO3⟩, HS0, HS1, HS2, Hk⟩
    obtain rfl := harg7.eq_unread hf3
    have hS0 : scM.IsWhole := Memref.isWhole_whole _
    have hS1 : scA.IsWhole := Memref.isWhole_whole _
    have hS2 : scV.IsWhole := Memref.isWhole_whole _
    have hT0 : tabQ.IsWhole := Memref.isWhole_whole _
    have hT1 : tabK.IsWhole := Memref.isWhole_whole _
    sl_exec! (disch := first | (guard_target = ¬(Scalar.cmpi = _); exact hc0) | (guard_target = Scalar.cmpi = _; exact hc1) | (guard_target = ¬(Scalar.cmpi = _); exact hc2) | (guard_target = ¬(Scalar.cmpi = _); exact hc3) | (guard_target = ¬(k0_cond5 _ _ = _); exact hc4))
    sl_step
    iapply Hk
    isplitl [H0]; · iexact H0
    isplitl [H1]; · iexact H1
    isplitl [H2]; · iexact H2
    isplitl [HT0]; · iexact HT0
    isplitl [HT1]; · iexact HT1
    isplitl [HO3]
    · iexists _; isplitr; · ipureintro; exact harg7.read_unread _
      iexact HO3
    isplitl [HS0]; · iexact HS0
    isplitl [HS1]; · iexact HS1
    iexact HS2⟩

end Cert.KernelIdeal.Attn

end
-- ==== Proof.KernelIdeal.RunE.lean ====
module

public import proofs.«01_k».proof.Proof.Gen.KernelIdeal.Skeleton
public import proofs.«01_k».proof.Proof.KernelIdeal.Tables

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource model of the run, at the instance's values. -/
local notation "𝕄" => MT nD τ sig Unit (Elt Ideal) ℕ (UR sig nD τ) ℕ

set_option backward.proofsInPublic true in
set_option maxHeartbeats 8000000 in
/-- What the body leaves at a point of the path "a later key tile at the query tile's start: the masked step over the whole query tile" — the scratch's contents —, with the proof
    that on whole staging memrefs it runs to a continuation that holds them. -/
def runE (c : Dev nD) (i : grid0.Coords) (arg4 : Memref sig .tc .vmem S8x1024x256 .bf16) (harg4 : arg4.IsWhole) (arg5 : Memref sig .tc .vmem S8x512x256 .bf16) (harg5 : arg5.IsWhole) (arg6 : Memref sig .tc .vmem S8x512x128 .bf16) (harg6 : arg6.IsWhole) (arg7 : Memref sig .tc .vmem S1024x1024 .bf16) (harg7 : arg7.IsWhole)
    (T0 T1 : S72.Idx → Elt Ideal .i32) (x0 : S8x1024x256.Idx → Elt Ideal .bf16) (x1 : S8x512x256.Idx → Elt Ideal .bf16) (x2 : S8x512x128.Idx → Elt Ideal .bf16)
    (xa0 : Buf (Elt Ideal) ((c : Thread nD τ).loc cc0_scratch0)) (xa1 : Buf (Elt Ideal) ((c : Thread nD τ).loc cc0_scratch1)) (xa2 : Buf (Elt Ideal) ((c : Thread nD τ).loc cc0_scratch2))
    (hc0 : ¬ C0 (wQ T0 i) (wK T1 i))
    (hc1 : ¬ C1 (wQ T0 i) (wK T1 i))
    (hc2 : C2 (wQ T0 i) (wK T1 i))
    (hc3 : ¬ C3 (wQ T0 i) (wK T1 i))
    (hc4 : ¬ C4 (wQ T0 i) (wK T1 i)) :
    Σ' (outM : Buf (Elt Ideal) ((c : Thread nD τ).loc cc0_scratch0)) (outA : Buf (Elt Ideal) ((c : Thread nD τ).loc cc0_scratch1)), { outV : Buf (Elt Ideal) ((c : Thread nD τ).loc cc0_scratch2) //
      ∀ (y3 : S1024x1024.Idx → Elt Ideal .bf16) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tabQ.view.loc (c : Thread nD τ) ↦{fullShare.right} T0)
          ∗ (tabK.view.loc (c : Thread nD τ) ↦{fullShare.right} T1)
          ∗ owns (c : Thread nD τ) arg7 fullShare y3
          ∗ (scM.view.loc (c : Thread nD τ) ↦{fullShare} xa0)
          ∗ (scA.view.loc (c : Thread nD τ) ↦{fullShare} xa1)
          ∗ (scV.view.loc (c : Thread nD τ) ↦{fullShare} xa2)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tabQ.view.loc (c : Thread nD τ) ↦{fullShare.right} T0)
          ∗ (tabK.view.loc (c : Thread nD τ) ↦{fullShare.right} T1)
          ∗ owns (c : Thread nD τ) arg7 fullShare y3
          ∗ (scM.view.loc (c : Thread nD τ) ↦{fullShare} outM)
          ∗ (scA.view.loc (c : Thread nD τ) ↦{fullShare} outA)
          ∗ (scV.view.loc (c : Thread nD τ) ↦{fullShare} outV)) -∗ K ⟨⟩))
          ⊢ wp frame (wpE (defs₀ (F := Ideal)) Variants.none c none) Set.univ (cc0_attention i tabQ (Memref.isWhole_whole _) tabK (Memref.isWhole_whole _) arg4 harg4 arg5 harg5 arg6 harg6 arg7 harg7 scM (Memref.isWhole_whole _) scA (Memref.isWhole_whole _) scV (Memref.isWhole_whole _)) K } :=
  ⟨_, _, _, fun y3 K => by
    unfold owns
    rw [cc0_attention_eq_skeleton]; unfold cc0_attention_skel
    iintro ⟨H0, H1, H2, HT0, HT1, ⟨%f3, %hf3, HO3⟩, HS0, HS1, HS2, Hk⟩
    obtain rfl := harg7.eq_unread hf3
    have hS0 : scM.IsWhole := Memref.isWhole_whole _
    have hS1 : scA.IsWhole := Memref.isWhole_whole _
    have hS2 : scV.IsWhole := Memref.isWhole_whole _
    have hT0 : tabQ.IsWhole := Memref.isWhole_whole _
    have hT1 : tabK.IsWhole := Memref.isWhole_whole _
    sl_exec! (disch := first | (guard_target = ¬(Scalar.cmpi = _); exact hc0) | (guard_target = ¬(Scalar.cmpi = _); exact hc1) | (guard_target = Scalar.cmpi = _; exact hc2) | (guard_target = ¬(Scalar.cmpi = _); exact hc3) | (guard_target = ¬(k0_cond5 _ _ = _); exact hc4))
    sl_step
    iapply Hk
    isplitl [H0]; · iexact H0
    isplitl [H1]; · iexact H1
    isplitl [H2]; · iexact H2
    isplitl [HT0]; · iexact HT0
    isplitl [HT1]; · iexact HT1
    isplitl [HO3]
    · iexists _; isplitr; · ipureintro; exact harg7.read_unread _
      iexact HO3
    isplitl [HS0]; · iexact HS0
    isplitl [HS1]; · iexact HS1
    iexact HS2⟩

end Cert.KernelIdeal.Attn

end
-- ==== Proof.KernelIdeal.Traj.lean ====
module

public import proofs.«01_k».proof.Proof.KernelIdeal.Facts
public import proofs.«01_k».proof.Proof.KernelIdeal.RunA
public import proofs.«01_k».proof.Proof.KernelIdeal.RunB
public import proofs.«01_k».proof.Proof.KernelIdeal.RunC
public import proofs.«01_k».proof.Proof.KernelIdeal.RunD
public import proofs.«01_k».proof.Proof.KernelIdeal.RunE

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource model of the run, at the instance's values. -/
local notation "𝕄" => MT nD τ sig Unit (Elt Ideal) ℕ (UR sig nD τ) ℕ

variable (m : (ℓ : Loc nD τ sig) → Buf (Elt Ideal) ℓ) (ρ : Dev nD → PrngReg)

/-! ## What the scratch holds after each point -/

/-- The block of window `w` at point `t`, as the launch memory has it. -/
def iblk (c : Dev nD) (w : Fin cfgA.W) (t : Fin cfgA.N) : ((cfgA.win w).xblock (crd t)).Idx → Elt Ideal (cfgA.win w).elt :=
  ((cfgA.win w).blk t).view.read (Elt Ideal) (m ((cfgA.win w).arr.view.loc (c : Thread nD τ)))

/-- The contents of the three scratch buffers. -/
abbrev St (c : Dev nD) : Type :=
  Buf (Elt Ideal) ((c : Thread nD τ).loc cc0_scratch0) × Buf (Elt Ideal) ((c : Thread nD τ).loc cc0_scratch1) × Buf (Elt Ideal) ((c : Thread nD τ).loc cc0_scratch2)

/-- The run of path A at point `t`. -/
abbrev atA (c : Dev nD) (t : Fin cfgA.N) (h : IsA (qw t) (kw t)) :=
  runA c (crd t) (ms0 t) (hs0 t) (ms1 t) (hs1 t) (ms2 t) (hs2 t) (ms3 t) (hs3 t) TQ TK (iblk m c (0 : Fin 4) t) (iblk m c (1 : Fin 4) t) (iblk m c (2 : Fin 4) t) h.1 h.2.1 h.2.2.1 h.2.2.2.1 h.2.2.2.2

/-- The run of path C at point `t`. -/
abbrev atC (c : Dev nD) (t : Fin cfgA.N) (h : IsC (qw t) (kw t)) :=
  runC c (crd t) (ms0 t) (hs0 t) (ms1 t) (hs1 t) (ms2 t) (hs2 t) (ms3 t) (hs3 t) TQ TK (iblk m c (0 : Fin 4) t) (iblk m c (1 : Fin 4) t) (iblk m c (2 : Fin 4) t) h.1 h.2.1 h.2.2.1 h.2.2.2.1 h.2.2.2.2

/-- The run of path D at point `t`. -/
abbrev atD (c : Dev nD) (t : Fin cfgA.N) (s : St c) (h : IsD (qw t) (kw t)) :=
  runD c (crd t) (ms0 t) (hs0 t) (ms1 t) (hs1 t) (ms2 t) (hs2 t) (ms3 t) (hs3 t) TQ TK (iblk m c (0 : Fin 4) t) (iblk m c (1 : Fin 4) t) (iblk m c (2 : Fin 4) t) s.1 s.2.1 s.2.2 h.1 h.2.1 h.2.2.1 h.2.2.2.1 h.2.2.2.2

/-- The run of path E at point `t`. -/
abbrev atE (c : Dev nD) (t : Fin cfgA.N) (s : St c) (h : IsE (qw t) (kw t)) :=
  runE c (crd t) (ms0 t) (hs0 t) (ms1 t) (hs1 t) (ms2 t) (hs2 t) (ms3 t) (hs3 t) TQ TK (iblk m c (0 : Fin 4) t) (iblk m c (1 : Fin 4) t) (iblk m c (2 : Fin 4) t) s.1 s.2.1 s.2.2 h.1 h.2.1 h.2.2.1 h.2.2.2.1 h.2.2.2.2

/-- The run of path B at point `t`. -/
abbrev atB (c : Dev nD) (t : Fin cfgA.N) (s : St c) (h : IsB (qw t) (kw t)) :=
  runB c (crd t) (ms0 t) (hs0 t) (ms1 t) (hs1 t) (ms2 t) (hs2 t) (ms3 t) (hs3 t) TQ TK (iblk m c (0 : Fin 4) t) (iblk m c (1 : Fin 4) t) (iblk m c (2 : Fin 4) t) s.1 s.2.1 s.2.2 h.1 h.2.1 h.2.2.1 h.2.2.2.1 h.2.2.2.2

/-- One point's effect on the scratch. -/
def step (c : Dev nD) (t : Fin cfgA.N) (s : St c) : St c :=
  if h : IsA (qw t) (kw t) then ((atA m c t h).1, (atA m c t h).2.1, (atA m c t h).2.2.1) else
  if h : IsC (qw t) (kw t) then ((atC m c t h).1, (atC m c t h).2.1, (atC m c t h).2.2.1) else
  if h : IsD (qw t) (kw t) then ((atD m c t s h).1, (atD m c t s h).2.1, (atD m c t s h).2.2.1) else
  if h : IsE (qw t) (kw t) then ((atE m c t s h).1, (atE m c t s h).2.1, (atE m c t s h).2.2.1) else
  if h : IsB (qw t) (kw t) then ((atB m c t s h).2.1, (atB m c t s h).2.2.1, (atB m c t s h).2.2.2.1)
  else s

theorem step_A (c : Dev nD) (t : Fin cfgA.N) (s : St c) (h : IsA (qw t) (kw t)) :
    step m c t s = ((atA m c t h).1, (atA m c t h).2.1, (atA m c t h).2.2.1) :=
  dif_pos h

theorem step_C (c : Dev nD) (t : Fin cfgA.N) (s : St c) (h : IsC (qw t) (kw t)) :
    step m c t s = ((atC m c t h).1, (atC m c t h).2.1, (atC m c t h).2.2.1) :=
  (dif_neg (fun q => q.2.1 h.2.1)).trans <| dif_pos h

theorem step_D (c : Dev nD) (t : Fin cfgA.N) (s : St c) (h : IsD (qw t) (kw t)) :
    step m c t s = ((atD m c t s h).1, (atD m c t s h).2.1, (atD m c t s h).2.2.1) :=
  (dif_neg (fun q => h.1 q.1)).trans <| (dif_neg (fun q => h.1 q.1)).trans <| dif_pos h

theorem step_E (c : Dev nD) (t : Fin cfgA.N) (s : St c) (h : IsE (qw t) (kw t)) :
    step m c t s = ((atE m c t s h).1, (atE m c t s h).2.1, (atE m c t s h).2.2.1) :=
  (dif_neg (fun q => h.1 q.1)).trans <| (dif_neg (fun q => h.1 q.1)).trans <| (dif_neg (fun q => h.2.1 q.2.1)).trans <| dif_pos h

theorem step_B (c : Dev nD) (t : Fin cfgA.N) (s : St c) (h : IsB (qw t) (kw t)) :
    step m c t s = ((atB m c t s h).2.1, (atB m c t s h).2.2.1, (atB m c t s h).2.2.2.1) :=
  (dif_neg (fun q => h.1 q.1)).trans <| (dif_neg (fun q => h.1 q.1)).trans <| (dif_neg (fun q => h.2.1 q.2.1)).trans <| (dif_neg (fun q => h.2.2.1 q.2.2.1)).trans <| dif_pos h

/-- The scratch's contents before position `n`: arbitrary before the first point. -/
def traj (c : Dev nD) : ℕ → St c
  | 0 => (default, default, default)
  | n + 1 => if h : n < cfgA.N then step m c ⟨n, h⟩ (traj c n) else traj c n

theorem traj_succ (c : Dev nD) (t : Fin cfgA.N) : traj m c (t.val + 1) = step m c t (traj m c t.val) := by
  rw [traj, dif_pos t.isLt]

/-- The output buffer's view, the same for either staging slot's contents. -/
abbrev VO : View sig .tc .vmem S1024x1024 .bf16 := (Memref.whole cc0_stg3_0).view

/-- The block the last path stores, from the pieces its run stores: they cover the block. -/
def outBlk (c : Dev nD) (t : Fin cfgA.N) (s : St c) (h : IsB (qw t) (kw t)) : S1024x1024.Idx → Elt Ideal .bf16 :=
  VO.read (Elt Ideal) (VO.writes (Elt Ideal) VO.junk (atB m c t s h).1)

set_option maxHeartbeats 4000000 in
theorem out_cover (c : Dev nD) (t : Fin cfgA.N) (s : St c) (h : IsB (qw t) (kw t)) (y : S1024x1024.Idx) : ∃ pc ∈ (atB m c t s h).1, y ∈ pc.1.set :=
  View.cover_of_tiledL (atB m c t s h).1 S1024x128.size (by sl_kernel_rfl) y

/-- What the output's staging buffer holds after point `t`. -/
def outAt (c : Dev nD) (t : Fin cfgA.N) : S1024x1024.Idx → Elt Ideal .bf16 :=
  if h : IsB (qw t) (kw t) then outBlk m c t (traj m c t.val) h else default

theorem outAt_B (c : Dev nD) (t : Fin cfgA.N) (h : IsB (qw t) (kw t)) : outAt m c t = outBlk m c t (traj m c t.val) h := dif_pos h

attribute [irreducible] outAt

/-! ## The pipeline's proof data -/

/-- Before point `t` the scratch is at the trajectory (at anything before the first point), and the body holds its half
    of the tables. -/
def Phi (c : Dev nD) (n : ℕ) : sProp 𝕄 :=
  iprop(∃ s : St c, ⌜n ≠ 0 → s = traj m c n⌝ ∗ (scM.view.loc (c : Thread nD τ) ↦{fullShare} s.1) ∗ (scA.view.loc (c : Thread nD τ) ↦{fullShare} s.2.1)
    ∗ (scV.view.loc (c : Thread nD τ) ↦{fullShare} s.2.2) ∗ (tabQ.view.loc (c : Thread nD τ) ↦{fullShare.right} TQ) ∗ (tabK.view.loc (c : Thread nD τ) ↦{fullShare.right} TK))

/-- Inputs keep their blocks; the output is at `outAt`. -/
def dats (_ : Fin 1) (c : Dev nD) : Dat τ (Elt Ideal) Unit ℕ (UR sig nD τ) ℕ cfgA c where
  A w := m ((cfgA.win w).arr.view.loc (c : Thread nD τ))
  after w t := match w with
    | ⟨0, _⟩ => iblk m c (0 : Fin 4) t
    | ⟨1, _⟩ => iblk m c (1 : Fin 4) t
    | ⟨2, _⟩ => iblk m c (2 : Fin 4) t
    | ⟨3, _⟩ => outAt m c t
  Φ t := Phi m c t.val
  q _ := fullShare
  owed _ := 0

theorem after_0 (c : Dev nD) (t : Fin cfgA.N) : (dats m 0 c).after (0 : Fin 4) t = iblk m c (0 : Fin 4) t := rfl
theorem after_1 (c : Dev nD) (t : Fin cfgA.N) : (dats m 0 c).after (1 : Fin 4) t = iblk m c (1 : Fin 4) t := rfl
theorem after_2 (c : Dev nD) (t : Fin cfgA.N) : (dats m 0 c).after (2 : Fin 4) t = iblk m c (2 : Fin 4) t := rfl
theorem after_3 (c : Dev nD) (t : Fin cfgA.N) : (dats m 0 c).after (3 : Fin 4) t = outAt m c t := rfl

set_option maxHeartbeats 4000000 in
theorem before_0 (c : Dev nD) (t : Fin cfgA.N) (d) : (dats m 0 c).before (0 : Fin 4) t d = iblk m c (0 : Fin 4) t :=
  ((dats m 0 c).before_in_eq_fetched (0 : Fin 4) rfl (fun _ => rfl) (fun _ _ _ => rfl) (fun t => by rw [after_0]; unfold Dat.blockOf iblk; rfl) t d).trans
    (by unfold Dat.fetched Dat.blockOf iblk; rfl)
set_option maxHeartbeats 4000000 in
theorem before_1 (c : Dev nD) (t : Fin cfgA.N) (d) : (dats m 0 c).before (1 : Fin 4) t d = iblk m c (1 : Fin 4) t :=
  ((dats m 0 c).before_in_eq_fetched (1 : Fin 4) rfl (fun _ => rfl) (fun _ _ _ => rfl) (fun t => by rw [after_1]; unfold Dat.blockOf iblk; rfl) t d).trans
    (by unfold Dat.fetched Dat.blockOf iblk; rfl)
set_option maxHeartbeats 4000000 in
theorem before_2 (c : Dev nD) (t : Fin cfgA.N) (d) : (dats m 0 c).before (2 : Fin 4) t d = iblk m c (2 : Fin 4) t :=
  ((dats m 0 c).before_in_eq_fetched (2 : Fin 4) rfl (fun _ => rfl) (fun _ _ _ => rfl) (fun t => by rw [after_2]; unfold Dat.blockOf iblk; rfl) t d).trans
    (by unfold Dat.fetched Dat.blockOf iblk; rfl)

theorem before_3 (c : Dev nD) (t : Fin cfgA.N) (d) : (dats m 0 c).before (3 : Fin 4) t d = d := by
  rw [(dats m 0 c).before_out_traj (3 : Fin 4) rfl (fun _ _ => rfl)
    (fun t _ _ hf => absurd (hf.symm.trans (out_fresh t)) Bool.false_ne_true) t.val t rfl d]
  rw [if_pos (out_fresh t)]

end Cert.KernelIdeal.Attn

end
-- ==== Proof.KernelIdeal.Body.lean ====
module

public import proofs.«01_k».proof.Proof.KernelIdeal.Traj

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource model of the run, at the instance's values. -/
local notation "𝕄" => MT nD τ sig Unit (Elt Ideal) ℕ (UR sig nD τ) ℕ

variable (m : (ℓ : Loc nD τ sig) → Buf (Elt Ideal) ℓ) (ρ : Dev nD → PrngReg)

/-! ## The body at a generic point -/

/-- What the body is handed at point `t`: the invariant, the inputs' blocks, the output's buffer at anything. -/
abbrev Pre (c : Dev nD) (t : Fin cfgA.N) : sProp 𝕄 :=
  iprop(Phi m c t.val ∗ owns (c : Thread nD τ) (ms0 t) fullShare (iblk m c (0 : Fin 4) t) ∗ owns (c : Thread nD τ) (ms1 t) fullShare (iblk m c (1 : Fin 4) t)
    ∗ owns (c : Thread nD τ) (ms2 t) fullShare (iblk m c (2 : Fin 4) t) ∗ (∃ d, owns (c : Thread nD τ) (ms3 t) fullShare d))

/-- What it leaves: the invariant at the next point, the inputs' blocks, and of the output `O`. -/
abbrev Post (c : Dev nD) (t : Fin cfgA.N) (O : sProp 𝕄) : sProp 𝕄 :=
  iprop(Phi m c (t.val + 1) ∗ owns (c : Thread nD τ) (ms0 t) fullShare (iblk m c (0 : Fin 4) t) ∗ owns (c : Thread nD τ) (ms1 t) fullShare (iblk m c (1 : Fin 4) t)
    ∗ owns (c : Thread nD τ) (ms2 t) fullShare (iblk m c (2 : Fin 4) t) ∗ O)

/-- The body on point `t`'s staging memrefs. -/
abbrev bodyAt (t : Fin cfgA.N) : Prog (TpuEff nD τ sig (Elt Ideal) Λ₀ .tc) PUnit :=
  cc0_attention (crd t) tabQ (Memref.isWhole_whole _) tabK (Memref.isWhole_whole _) (ms0 t) (hs0 t) (ms1 t) (hs1 t) (ms2 t) (hs2 t) (ms3 t) (hs3 t)
    scM (Memref.isWhole_whole _) scA (Memref.isWhole_whole _) scV (Memref.isWhole_whole _)

set_option maxHeartbeats 4000000 in
/-- The body at a point of path A. -/
theorem body_A (c : Dev nD) (t : Fin cfgA.N) (h : IsA (qw t) (kw t)) :
    Pre m c t ⊢ wp frame (wpE (defs₀ (F := Ideal)) Variants.none c none) Set.univ (bodyAt t) fun _ => Post m c t iprop(∃ d, owns (c : Thread nD τ) (ms3 t) fullShare d) := by
  unfold Pre Post Phi
  iintro ⟨⟨%s, %hs, HS0, HS1, HS2, HT0, HT1⟩, H0, H1, H2, ⟨%d3, H3⟩⟩
  iapply ((atA m c t h).2.2.2 d3 _ _ _ _)
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [H3]; · iexact H3
  isplitl [HS0]; · iexact HS0
  isplitl [HS1]; · iexact HS1
  isplitl [HS2]; · iexact HS2
  iintro ⟨H0, H1, H2, HT0, HT1, H3, HS0, HS1, HS2⟩
  isplitl [HS0 HS1 HS2 HT0 HT1]
  · iexists (step m c t (traj m c t.val))
    isplitr; · ipureintro; intro _; rw [traj_succ]
    rw [step_A m c t _ h]
    isplitl [HS0]; · iexact HS0
    isplitl [HS1]; · iexact HS1
    isplitl [HS2]; · iexact HS2
    isplitl [HT0]; · iexact HT0
    iexact HT1
  isplitl [H0]; · iapply owns_of_rep; iexact H0
  isplitl [H1]; · iapply owns_of_rep; iexact H1
  isplitl [H2]; · iapply owns_of_rep; iexact H2
  iexists d3; iexact H3

set_option maxHeartbeats 4000000 in
/-- The body at a point of path C. -/
theorem body_C (c : Dev nD) (t : Fin cfgA.N) (h : IsC (qw t) (kw t)) :
    Pre m c t ⊢ wp frame (wpE (defs₀ (F := Ideal)) Variants.none c none) Set.univ (bodyAt t) fun _ => Post m c t iprop(∃ d, owns (c : Thread nD τ) (ms3 t) fullShare d) := by
  unfold Pre Post Phi
  iintro ⟨⟨%s, %hs, HS0, HS1, HS2, HT0, HT1⟩, H0, H1, H2, ⟨%d3, H3⟩⟩
  iapply ((atC m c t h).2.2.2 d3 _ _ _ _)
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [H3]; · iexact H3
  isplitl [HS0]; · iexact HS0
  isplitl [HS1]; · iexact HS1
  isplitl [HS2]; · iexact HS2
  iintro ⟨H0, H1, H2, HT0, HT1, H3, HS0, HS1, HS2⟩
  isplitl [HS0 HS1 HS2 HT0 HT1]
  · iexists (step m c t (traj m c t.val))
    isplitr; · ipureintro; intro _; rw [traj_succ]
    rw [step_C m c t _ h]
    isplitl [HS0]; · iexact HS0
    isplitl [HS1]; · iexact HS1
    isplitl [HS2]; · iexact HS2
    isplitl [HT0]; · iexact HT0
    iexact HT1
  isplitl [H0]; · iapply owns_of_rep; iexact H0
  isplitl [H1]; · iapply owns_of_rep; iexact H1
  isplitl [H2]; · iapply owns_of_rep; iexact H2
  iexists d3; iexact H3

set_option maxHeartbeats 4000000 in
/-- The body at a point of path D. -/
theorem body_D (c : Dev nD) (t : Fin cfgA.N) (h : IsD (qw t) (kw t)) :
    Pre m c t ⊢ wp frame (wpE (defs₀ (F := Ideal)) Variants.none c none) Set.univ (bodyAt t) fun _ => Post m c t iprop(∃ d, owns (c : Thread nD τ) (ms3 t) fullShare d) := by
  unfold Pre Post Phi
  have h0 : t.val ≠ 0 := fun h0 => h.1 (init_first t h0)
  iintro ⟨⟨%s, %hs, HS0, HS1, HS2, HT0, HT1⟩, H0, H1, H2, ⟨%d3, H3⟩⟩
  obtain rfl := hs h0
  iapply ((atD m c t (traj m c t.val) h).2.2.2 d3 _)
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [H3]; · iexact H3
  isplitl [HS0]; · iexact HS0
  isplitl [HS1]; · iexact HS1
  isplitl [HS2]; · iexact HS2
  iintro ⟨H0, H1, H2, HT0, HT1, H3, HS0, HS1, HS2⟩
  isplitl [HS0 HS1 HS2 HT0 HT1]
  · iexists (step m c t (traj m c t.val))
    isplitr; · ipureintro; intro _; rw [traj_succ]
    rw [step_D m c t _ h]
    isplitl [HS0]; · iexact HS0
    isplitl [HS1]; · iexact HS1
    isplitl [HS2]; · iexact HS2
    isplitl [HT0]; · iexact HT0
    iexact HT1
  isplitl [H0]; · iapply owns_of_rep; iexact H0
  isplitl [H1]; · iapply owns_of_rep; iexact H1
  isplitl [H2]; · iapply owns_of_rep; iexact H2
  iexists d3; iexact H3

set_option maxHeartbeats 4000000 in
/-- The body at a point of path E. -/
theorem body_E (c : Dev nD) (t : Fin cfgA.N) (h : IsE (qw t) (kw t)) :
    Pre m c t ⊢ wp frame (wpE (defs₀ (F := Ideal)) Variants.none c none) Set.univ (bodyAt t) fun _ => Post m c t iprop(∃ d, owns (c : Thread nD τ) (ms3 t) fullShare d) := by
  unfold Pre Post Phi
  have h0 : t.val ≠ 0 := fun h0 => h.1 (init_first t h0)
  iintro ⟨⟨%s, %hs, HS0, HS1, HS2, HT0, HT1⟩, H0, H1, H2, ⟨%d3, H3⟩⟩
  obtain rfl := hs h0
  iapply ((atE m c t (traj m c t.val) h).2.2.2 d3 _)
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [H3]; · iexact H3
  isplitl [HS0]; · iexact HS0
  isplitl [HS1]; · iexact HS1
  isplitl [HS2]; · iexact HS2
  iintro ⟨H0, H1, H2, HT0, HT1, H3, HS0, HS1, HS2⟩
  isplitl [HS0 HS1 HS2 HT0 HT1]
  · iexists (step m c t (traj m c t.val))
    isplitr; · ipureintro; intro _; rw [traj_succ]
    rw [step_E m c t _ h]
    isplitl [HS0]; · iexact HS0
    isplitl [HS1]; · iexact HS1
    isplitl [HS2]; · iexact HS2
    isplitl [HT0]; · iexact HT0
    iexact HT1
  isplitl [H0]; · iapply owns_of_rep; iexact H0
  isplitl [H1]; · iapply owns_of_rep; iexact H1
  isplitl [H2]; · iapply owns_of_rep; iexact H2
  iexists d3; iexact H3

set_option maxHeartbeats 4000000 in
/-- The body at a point of path B. -/
theorem body_B (c : Dev nD) (t : Fin cfgA.N) (h : IsB (qw t) (kw t)) :
    Pre m c t ⊢ wp frame (wpE (defs₀ (F := Ideal)) Variants.none c none) Set.univ (bodyAt t) fun _ => Post m c t (owns (c : Thread nD τ) (ms3 t) fullShare (outAt m c t)) := by
  unfold Pre Post Phi
  have h0 : t.val ≠ 0 := fun h0 => h.1 (init_first t h0)
  iintro ⟨⟨%s, %hs, HS0, HS1, HS2, HT0, HT1⟩, H0, H1, H2, ⟨%d3, H3⟩⟩
  obtain rfl := hs h0
  iapply ((atB m c t (traj m c t.val) h).2.2.2.2 _)
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [H3]; · iexists _; iexact H3
  isplitl [HS0]; · iexact HS0
  isplitl [HS1]; · iexact HS1
  isplitl [HS2]; · iexact HS2
  iintro ⟨H0, H1, H2, HT0, HT1, ⟨%e3, H3⟩, HS0, HS1, HS2⟩
  isplitl [HS0 HS1 HS2 HT0 HT1]
  · iexists (step m c t (traj m c t.val))
    isplitr; · ipureintro; intro _; rw [traj_succ]
    rw [step_B m c t _ h]
    isplitl [HS0]; · iexact HS0
    isplitl [HS1]; · iexact HS1
    isplitl [HS2]; · iexact HS2
    isplitl [HT0]; · iexact HT0
    iexact HT1
  isplitl [H0]; · iapply owns_of_rep; iexact H0
  isplitl [H1]; · iapply owns_of_rep; iexact H1
  isplitl [H2]; · iapply owns_of_rep; iexact H2
  rw [outAt_B m c t h]
  unfold owns; iexists _; isplitr; swap
  · iexact H3
  · ipureintro; exact View.read_writes_of_cover _ _ _ _ _ (out_cover m c t _ h)

set_option maxHeartbeats 4000000 in
/-- The body's obligation at point `t`: by the path the point takes. -/
theorem sound_body (c : Dev nD) (t : Fin cfgA.N) :
    iprop((dats m 0 c).Φ t.castSucc ∗ (dats m 0 c).owesAt () t.castSucc
        ∗ (∃ d, owns (c : Thread nD τ) (ms0 t) fullShare ((dats m 0 c).before (0 : Fin 4) t d))
        ∗ (∃ d, owns (c : Thread nD τ) (ms1 t) fullShare ((dats m 0 c).before (1 : Fin 4) t d))
        ∗ (∃ d, owns (c : Thread nD τ) (ms2 t) fullShare ((dats m 0 c).before (2 : Fin 4) t d))
        ∗ (∃ d, owns (c : Thread nD τ) (ms3 t) fullShare ((dats m 0 c).before (3 : Fin 4) t d)))
      ⊢ wp frame (wpE (defs₀ (F := Ideal)) Variants.none c none) Set.univ (bodyAt t) fun _ =>
          iprop((dats m 0 c).Φ t.succ ∗ (dats m 0 c).owesAt () t.succ
            ∗ bigSep Finset.univ fun w : Fin cfgA.W =>
                match cfgA.idle w (cfgA.grid.coords t) with
                | true =>
                  match (cfgA.win w).flush t with
                  | false => iprop(∃ d, owns (c : Thread nD τ) ((cfgA.win w).stage (cfgA.slots t w)) fullShare ((dats m 0 c).before w t d))
                  | true => owns (c : Thread nD τ) ((cfgA.win w).stage (cfgA.slots t w)) fullShare ((dats m 0 c).after w t)
                | false => owns (c : Thread nD τ) ((cfgA.win w).stage (cfgA.slots t w)) fullShare ((dats m 0 c).after w t)) := by
  rw [bigSep_W0]
  have hp : (dats m 0 c).Φ t.castSucc = Phi m c t.val := rfl
  have hq : (dats m 0 c).Φ t.succ = Phi m c (t.val + 1) := rfl
  have ho : (dats m 0 c).owesAt () t.succ = (dats m 0 c).owesAt () t.castSucc := rfl
  by_cases h4 : C4 (qw t) (kw t)
  · have h : IsB (qw t) (kw t) := by
      rcases path_at t with h | h | h | h | h
      · exact absurd h4 h.2.2.2.2
      · exact absurd h4 h.2.2.2.2
      · exact absurd h4 h.2.2.2.2
      · exact absurd h4 h.2.2.2.2
      · exact h
    rewrite [(out_live t h4).1, ho, hp, hq]
    simp only [before_0, before_1, before_2, before_3, after_0, after_1, after_2, after_3]
    iintro ⟨HP, Ho, ⟨%d0, H0⟩, ⟨%d1, H1⟩, ⟨%d2, H2⟩, H3⟩
    iapply (wp_wand_r _ _ _)
    isplitl [HP H0 H1 H2 H3]
    · iapply (body_B m c t h)
      isplitl [HP]; · iexact HP
      isplitl [H0]; · iexact H0
      isplitl [H1]; · iexact H1
      isplitl [H2]; · iexact H2
      iexact H3
    iintro %_ ⟨HP, H0, H1, H2, H3⟩
    isplitl [HP]; · iexact HP
    isplitl [Ho]; · iexact Ho
    isplitl [H0]; · iexact H0
    isplitl [H1]; · iexact H1
    isplitl [H2]; · iexact H2
    iexact H3
  · rewrite [(out_idle t h4).1, ho, hp, hq]
    simp only [before_0, before_1, before_2, before_3, after_0, after_1, after_2, after_3, (out_idle t h4).2]
    have hb : Pre m c t ⊢ wp frame (wpE (defs₀ (F := Ideal)) Variants.none c none) Set.univ (bodyAt t)
        fun _ => Post m c t iprop(∃ d, owns (c : Thread nD τ) (ms3 t) fullShare d) := by
      rcases path_at t with h | h | h | h | h
      · exact body_A m c t h
      · exact body_C m c t h
      · exact body_D m c t h
      · exact body_E m c t h
      · exact absurd h.2.2.2.2 h4
    iintro ⟨HP, Ho, ⟨%d0, H0⟩, ⟨%d1, H1⟩, ⟨%d2, H2⟩, H3⟩
    iapply (wp_wand_r _ _ _)
    isplitl [HP H0 H1 H2 H3]
    · iapply hb
      isplitl [HP]; · iexact HP
      isplitl [H0]; · iexact H0
      isplitl [H1]; · iexact H1
      isplitl [H2]; · iexact H2
      iexact H3
    iintro %_ ⟨HP, H0, H1, H2, H3⟩
    isplitl [HP]; · iexact HP
    isplitl [Ho]; · iexact Ho
    isplitl [H0]; · iexact H0
    isplitl [H1]; · iexact H1
    isplitl [H2]; · iexact H2
    iexact H3

/-- The library's body obligation. -/
theorem body_obligation (c : Dev nD) : BodyObligation (dats m 0 c) (defs₀ (F := Ideal)) Variants.none () Set.univ := fun t => by
  rw [bigSep_W0]
  exact sound_body m c t

end Cert.KernelIdeal.Attn

end
-- ==== Proof.KernelIdeal.Run.lean ====
module

public import proofs.«01_k».proof.Proof.KernelIdeal.Body
public import Idealize.ShloMosaic.Lib.Pipeline.Quiescent
public import Idealize.ShloMosaic.Lib.Pipeline.Frame
public import Idealize.ShloMosaic.Lib.Claim

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource model of the run, at the instance's values. -/
local notation "𝕄" => MT nD τ sig Unit (Elt Ideal) ℕ (UR sig nD τ) ℕ

variable (m : (ℓ : Loc nD τ sig) → Buf (Elt Ideal) ℓ) (ρ : Dev nD → PrngReg)

/-! ## The launch: the host writes the tables, then the region runs at them -/

/-- The resource algebra's embedding. -/
abbrev EP : Emb (UR sig nD τ) 𝕄 := emb₁

/-- The rounds library's launch element. -/
def u₀ : UR sig nD τ :=
  initOf (Pipeline.cells pcs ((launch0 (F := Ideal)).cellOf_inj fun _ => adm)) (Pipeline.launchToks pcs ((launch0 (F := Ideal)).cellOf_inj fun _ => adm))

theorem share_eq (c : Dev nD) (w : Fin cfgA.W) : (dats m 0 c).share w = fullShare := by unfold Dat.share; split <;> rfl

/-- The two tables held, one by one. -/
theorem prefHeld_two (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide, bigSep_insert (by decide), bigSep_singleton]
  rfl

/-- The invariant before the first point. -/
theorem phi_first (c : Dev nD) :
    iprop(BI.emp ∗ Pipeline.prefHeld pre0 c (fun _ => fullShare.right) adm.1 ∗ Pipeline.scopedRest spec0 c) ⊢ (dats m 0 c).Φ 0 := by
  rw [prefHeld_two, scopedRest0_eq, show (dats m 0 c).Φ 0 = Phi m c 0 from rfl]
  unfold Phi
  iintro ⟨-, ⟨HT0, HT1⟩, ⟨%a0, HS0⟩, ⟨%a1, HS1⟩, ⟨%a2, HS2⟩⟩
  iexists ((a0, a1, a2) : St c)
  isplitr; · ipureintro; intro h; exact absurd rfl h
  isplitl [HS0]; · iexact HS0
  isplitl [HS1]; · iexact HS1
  isplitl [HS2]; · iexact HS2
  isplitl [HT0]; · iexact HT0
  iexact HT1

/-- After the last point the scratch is given back. -/
theorem phi_last (c : Dev nD) : (dats m 0 c).Φ (Fin.last cfgA.N) ⊢ iprop(BI.emp ∗ Pipeline.scopedRest spec0 c) := by
  rw [scopedRest0_eq, show (dats m 0 c).Φ (Fin.last cfgA.N) = Phi m c cfgA.N from rfl]
  unfold Phi
  iintro ⟨%s, -, HS0, HS1, HS2, -, -⟩
  isplitr; · iempintro
  isplitl [HS0]
  · iexists _; iexact HS0
  isplitl [HS1]
  · iexists _; iexact HS1
  iexists _; iexact HS2

/-- The contents the region starts from: the launch's, with the tables written. -/
abbrev V₁ (c : Dev nD) (b : Ref sig .tc) : Buf (Elt Ideal) ((c.tc : Thread nD τ).loc b) :=
  StableHlo.after (hostOps0 (F := Ideal)) (fun b => m (c, b)) b

theorem V₁_arr (c : Dev nD) : ∀ w : Fin cfgA.W, m ((cfgA.win w).arr.view.loc (c : Thread nD τ)) = V₁ m c (Pipeline.arrRef cfgA.spec w) := by
  intro w; fin_cases w
  · show m (c.tc.loc main_arg0) = StableHlo.after (hostOps0 (F := Ideal)) (fun b => m (c, b)) main_arg0
    after_results
  · show m (c.tc.loc main_arg1) = StableHlo.after (hostOps0 (F := Ideal)) (fun b => m (c, b)) main_arg1
    after_results
  · show m (c.tc.loc main_arg2) = StableHlo.after (hostOps0 (F := Ideal)) (fun b => m (c, b)) main_arg2
    after_results
  · show m (c.tc.loc main_v0) = StableHlo.after (hostOps0 (F := Ideal)) (fun b => m (c, b)) main_v0
    after_results

theorem V₁_tab (c : Dev nD) : ∀ k : Fin 2, V₁ m c (pre0.ref k) = adm.1 k := by
  intro k; fin_cases k
  · show StableHlo.after (hostOps0 (F := Ideal)) (fun b => m (c, b)) main_c = TQ
    after_results; rfl
  · show StableHlo.after (hostOps0 (F := Ideal)) (fun b => m (c, b)) main_c_0 = TK
    after_results; rfl

set_option backward.isDefEq.respectTransparency.types false in
set_option maxHeartbeats 4000000 in
/-- From any memory with zero counters, every weakly fair execution of the launch ends with each array at the contents
    the proof data says, and with every counter at zero. -/
theorem run_main : θ_run (defs (F := Ideal)) (onTc (τ := τ) (main (F := Ideal))) ⟨m, fun _ => 0, ρ⟩ (fun r =>
      (∀ c : Dev nD, ∀ w : Fin cfgA.W, r.2.mem ((cfgA.win w).arr.view.loc (c : Thread nD τ)) = (dats m 0 c).arrAt w cfgA.N) ∧ r.2.sem = fun _ => 0) :=
  Pipeline.θ_run_region_noSem_pf_quiescent pcfgs (fun _ => adm) (dats m) () ((launch0 (F := Ideal)).cellOf_inj fun _ => adm) (0 : Fin 1)
    (launch0 (F := Ideal)).win.to₀ (launch0 (F := Ideal)).pre EP defs₀ Variants.none m ρ main
    (hbody := fun c => (body_obligation m c).loose) (hne := (launch0 (F := Ideal)).block_pos)
    (harr := (launch0 (F := Ideal)).arr_whole) (hstage := (launch0 (F := Ideal)).stage_whole) (howed := fun _ _ => rfl)
    (u₀ := u₀) (hu₀ := .rfl)
    (V := V₁ m)
    (hmain := Pipeline.hmainP_prefix pcfgs (0 : Fin 1) defs₀ Variants.none m main hostOps0 hostOps0_sub ⟨rfl, rfl⟩ main_chain)
    (hsplit := fun c => Pipeline.arrays_split pcs (dats m) 0 (launch0 (F := Ideal)).win.arr_inj c (launch0 (F := Ideal)).arr_whole
      (share_eq m c) _ _ (V₁_arr m c))
    (hpf := V₁_tab m)
    (X := fun _ => iprop(emp)) (Y := fun _ => iprop(emp)) (Z := fun _ => iprop(emp))
    (hX := fun c => by rw [unscopedRestP0_eq]; iintro -; isplitr <;> iempintro)
    (hin := phi_first m)
    (hout := phi_last m)
    (QY := fun _ _ => True)
    (hY := fun c s' => by
      iintro ⟨-, -, HSI⟩; imodintro
      isplitr; · ipureintro; trivial
      iexact HSI)
    (hQ := fun _ h hz => ⟨fun c => (h c).1, hz⟩)

/-- The launch's result: the output array at the computed contents, the arguments unchanged, every counter at zero. -/
theorem run_result : θ_run (defs (F := Ideal)) (onTc (τ := τ) (main (F := Ideal))) ⟨m, fun _ => 0, ρ⟩ (fun r =>
      (∀ c : Dev nD, r.2.mem ((c.tc : Thread nD τ).loc main_v0) = (dats m 0 c).arrAt (3 : Fin 4) cfgA.N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0) :=
  (θ_run defs _ _).mono (fun _ h => ⟨fun c => ⟨h.1 c (3 : Fin 4),
    (h.1 c (0 : Fin 4)).trans ((dats m 0 c).arrAt_in (0 : Fin 4) rfl _),
    (h.1 c (1 : Fin 4)).trans ((dats m 0 c).arrAt_in (1 : Fin 4) rfl _),
    (h.1 c (2 : Fin 4)).trans ((dats m 0 c).arrAt_in (2 : Fin 4) rfl _)⟩, h.2⟩) (run_main m ρ)

end Cert.KernelIdeal.Attn

end
-- ==== Proof.KernelIdeal.Softmax.lean ====
/-
  The softmax over a growing prefix of keys, in the extended reals. Nothing here is about a program: `s` gives a score for
  each key number, `v` a value, and the statements say how the running maximum and the running sums move as the prefix grows,
  and that their quotient is the softmax-weighted sum.
-/
module

public import Idealize.ShloMosaic.PureOps.Ideal
public import Idealize.ShloMosaic.PureOps.Ideal.Laws

@[expose] public section

namespace Cert.KernelIdeal.Attn

open Idealize Idealize.ShloMosaic Finset

/-- The largest score among the first `n` keys, `⊥` when there is none. -/
noncomputable def mx (s : ℕ → EReal) (n : ℕ) : EReal := (range n).sup s

/-- The sum over the first `n` keys of the values weighted by the exponential of the score less the largest score. -/
noncomputable def ac (s v : ℕ → EReal) (n : ℕ) : EReal := ∑ j ∈ range n, Ideal.exp (s j - mx s n) * v j

theorem exp_nonneg (x : EReal) : 0 ≤ Ideal.exp x := by
  induction x with
  | bot => simp
  | top => simp
  | coe r => simp only [Ideal.exp_coe]; exact_mod_cast (Real.exp_pos r).le

theorem exp_ne_top {x : EReal} (h : x ≠ ⊤) : Ideal.exp x ≠ ⊤ := by
  induction x with
  | bot => simp
  | top => exact absurd rfl h
  | coe r => simp

/-- A nonnegative finite factor goes into a finite sum, whatever the terms. -/
theorem mul_sum_of_nonneg {ι : Type} (t : Finset ι) (f : ι → EReal) {c : EReal} (h0 : 0 ≤ c) (ht : c ≠ ⊤) :
    c * ∑ j ∈ t, f j = ∑ j ∈ t, c * f j := by
  classical
  induction t using Finset.induction_on with
  | empty => simp
  | insert a t ha ih =>
    rw [sum_insert ha, sum_insert ha, EReal.left_distrib_of_nonneg_of_ne_top h0 ht, ih]

theorem le_mx (s : ℕ → EReal) {n j : ℕ} (h : j < n) : s j ≤ mx s n := le_sup (mem_range.2 h)

theorem mx_mono (s : ℕ → EReal) {n m : ℕ} (h : n ≤ m) : mx s n ≤ mx s m := sup_mono (range_subset_range.2 h)

theorem mx_ne_top {s : ℕ → EReal} (hs : ∀ j, s j ≠ ⊤) (n : ℕ) : mx s n ≠ ⊤ := by
  refine ne_of_lt ((Finset.sup_lt_iff (by exact bot_lt_top)).2 fun j _ => lt_top_iff_ne_top.2 (hs j))

theorem mx_zero (s : ℕ → EReal) : mx s 0 = ⊥ := by simp [mx]

theorem ac_zero (s v : ℕ → EReal) : ac s v 0 = 0 := by simp [ac]

/-- The largest score among `n + k` keys is the larger of that of the first `n` and that of the next `k`. -/
theorem mx_add (s : ℕ → EReal) (n k : ℕ) : max (mx s n) ((range k).sup fun j => s (n + j)) = mx s (n + k) := by
  apply le_antisymm
  · exact max_le (mx_mono s (Nat.le_add_right n k))
      (Finset.sup_le fun j hj => le_mx s (by have := mem_range.1 hj; omega))
  · refine Finset.sup_le fun j hj => ?_
    rcases Nat.lt_or_ge j n with h | h
    · exact le_max_of_le_left (le_mx s h)
    · refine le_max_of_le_right ?_
      have hk : j - n ∈ range k := mem_range.2 (by have := mem_range.1 hj; omega)
      have := le_sup (f := fun j => s (n + j)) hk
      simpa [Nat.add_sub_cancel' h] using this

theorem sub_ne_top {a b : EReal} (ha : a ≠ ⊤) (h : a ≤ b) : a - b ≠ ⊤ := by
  induction a with
  | top => exact absurd rfl ha
  | bot => simp
  | coe x =>
    induction b with
    | bot => exact absurd h (by simp)
    | top => simp
    | coe y => exact_mod_cast EReal.coe_ne_top (x - y)

/-- Rescaling a weight from the old largest score to the new one. -/
theorem exp_rescale {a b c : EReal} (hc : c ≠ ⊤) (ab : a ≤ b) (bc : b ≤ c) :
    Ideal.exp (b - c) * Ideal.exp (a - b) = Ideal.exp (a - c) := by
  induction c with
  | top => exact absurd rfl hc
  | bot =>
    obtain rfl := le_bot_iff.1 bc
    obtain rfl := le_bot_iff.1 ab
    simp
  | coe z =>
    induction b with
    | top => exact absurd bc (by simp)
    | bot =>
      obtain rfl := le_bot_iff.1 ab
      simp
    | coe y =>
      induction a with
      | top => exact absurd ab (by simp)
      | bot => simp
      | coe x =>
        rw [← EReal.coe_sub, ← EReal.coe_sub, ← EReal.coe_sub]
        simp only [Ideal.exp_coe]
        rw [← EReal.coe_mul, ← Real.exp_add]
        congr 2
        ring

/-- The running sum of the first `n` keys rescaled to the new largest score, plus the next `k` keys' terms, is the running
    sum of the first `n + k` keys. -/
theorem ac_add {s : ℕ → EReal} (hs : ∀ j, s j ≠ ⊤) (v : ℕ → EReal) (n k : ℕ) :
    Ideal.exp (mx s n - mx s (n + k)) * ac s v n + ∑ j ∈ range k, Ideal.exp (s (n + j) - mx s (n + k)) * v (n + j)
      = ac s v (n + k) := by
  have hle : mx s n ≤ mx s (n + k) := mx_mono s (Nat.le_add_right n k)
  rw [show ac s v (n + k) = ∑ j ∈ range (n + k), Ideal.exp (s j - mx s (n + k)) * v j from rfl, sum_range_add, ac,
    mul_sum_of_nonneg _ _ (exp_nonneg _) (exp_ne_top (sub_ne_top (mx_ne_top hs n) hle))]
  congr 1
  refine sum_congr rfl fun j hj => ?_
  rw [← mul_assoc, exp_rescale (mx_ne_top hs _) (le_mx s (mem_range.1 hj)) hle]

/-- Masked keys past `n` change no maximum. -/
theorem mx_masked {s : ℕ → EReal} {n : ℕ} (k : ℕ) (h : ∀ j, n ≤ j → s j = ⊥) : mx s (n + k) = mx s n := by
  rw [← mx_add, Finset.sup_eq_bot_iff (f := fun j => s (n + j)) (S := range k) |>.2 fun j _ => h _ (Nat.le_add_right n j)]
  exact max_eq_left bot_le

/-- Masked keys past `n` change no running sum. -/
theorem ac_masked {s : ℕ → EReal} {n : ℕ} (v : ℕ → EReal) (k : ℕ) (h : ∀ j, n ≤ j → s j = ⊥) :
    ac s v (n + k) = ac s v n := by
  rw [ac, sum_range_add, mx_masked k h]
  have : ∑ x ∈ range k, Ideal.exp (s (n + x) - mx s n) * v (n + x) = 0 :=
    sum_eq_zero fun j _ => by rw [h _ (Nat.le_add_right n j)]; simp
  rw [this, add_zero]
  rfl

/-- When every score is finite or masked and some key is not masked, the running sum of values over the running sum of
    ones is the sum of the values weighted by the normalised exponentials. -/
theorem quotient_eq {s : ℕ → EReal} (hs : ∀ j, s j ≠ ⊤) (v : ℕ → EReal) {n : ℕ} (hn : mx s n ≠ ⊥) :
    Ideal.div (ac s v n) (ac s (fun _ => 1) n)
      = ∑ j ∈ range n, v j * Ideal.div (Ideal.exp (s j - mx s n)) (∑ i ∈ range n, Ideal.exp (s i - mx s n)) := by
  have hL : ac s (fun _ => 1) n = ∑ i ∈ range n, Ideal.exp (s i - mx s n) := by simp [ac]
  rw [hL]
  set L := ∑ i ∈ range n, Ideal.exp (s i - mx s n) with hLdef
  have hterm : ∀ j, Ideal.exp (s j - mx s n) ≠ ⊤ ∨ n ≤ j := fun j => by
    rcases Nat.lt_or_ge j n with h | h
    · exact .inl (exp_ne_top (sub_ne_top (hs j) (le_mx s h)))
    · exact .inr h
  have hLtop : L ≠ ⊤ := by
    rw [hLdef]
    have : ∀ m ≤ n, (∑ i ∈ range m, Ideal.exp (s i - mx s n)) ≠ ⊤ := by
      intro m
      induction m with
      | zero => intro _; simp
      | succ m ih =>
        intro hm
        rw [sum_range_succ]
        exact EReal.add_ne_top (ih (by omega)) ((hterm m).resolve_right (by omega))
    exact this n le_rfl
  have hLpos : 0 < L := by
    have hne : (range n).Nonempty := by
      rw [Finset.nonempty_iff_ne_empty]
      intro h0
      exact hn (by simp [mx, h0])
    obtain ⟨j, hj, hmax⟩ := Finset.exists_mem_eq_sup (range n) hne s
    have h1 : Ideal.exp (s j - mx s n) = 1 := by
      have hm : mx s n = s j := hmax
      rw [hm] at hn ⊢
      have htop := hs j
      generalize s j = x at hn htop ⊢
      induction x with
      | bot => exact absurd rfl hn
      | top => exact absurd rfl htop
      | coe r => rw [← EReal.coe_sub, sub_self, Ideal.exp_coe, Real.exp_zero, EReal.coe_one]
    calc (0 : EReal) < 1 := zero_lt_one
      _ = Ideal.exp (s j - mx s n) := h1.symm
      _ ≤ L := single_le_sum (f := fun i => Ideal.exp (s i - mx s n)) (fun i _ => exp_nonneg _) hj
  have hdiv : ∀ x : EReal, Ideal.div x L = x * L⁻¹ := fun x => by rw [Ideal.div, if_neg hLpos.ne']
  have hinv0 : 0 ≤ L⁻¹ := EReal.inv_nonneg_of_nonneg hLpos.le
  have hinvt : L⁻¹ ≠ ⊤ := by
    lift L to ℝ using ⟨hLtop, (lt_of_le_of_lt bot_le hLpos).ne'⟩ with l
    rw [← EReal.coe_inv]
    exact EReal.coe_ne_top _
  rw [hdiv, mul_comm, ac, mul_sum_of_nonneg _ _ hinv0 hinvt]
  refine sum_congr rfl fun j _ => ?_
  rw [hdiv]
  ac_rfl

end Cert.KernelIdeal.Attn
-- ==== Proof.KernelIdeal.Mask.lean ====
/-
  The chunk mask of the kernel at an index: a key is allowed when its chunk of 64 is not after the query's.
-/
module

public import proofs.«01_k».proof.Proof.KernelIdeal.RunA
public import proofs.«01_k».proof.Proof.KernelIdeal.RunB
public import proofs.«01_k».proof.Proof.KernelIdeal.RunE
public import Idealize.ShloMosaic.Lib.Pointwise.Tactic
public import Idealize.ShloMosaic.Lib.Pointwise

@[expose] public section

set_option maxRecDepth 16384

noncomputable section

namespace Cert.KernelIdeal.Attn

open Cert.KernelIdeal Cert.KernelIdeal.Gen
open Idealize.ShloMosaic
open Idealize.ShloMosaic.TcCoe

/-- Floor division of a row number by 64, as the kernel spells it with a sign correction. -/
theorem chunk_word : ∀ n : Fin 8192,
    Scalar.select
        (IntOp.andi
          (IntOp.cmpi CmpIPredicate.ne
            (IntOp.subi (BitVec.setWidth 32 (IntOp.cmpi CmpIPredicate.sgt (BitVec.ofNat 32 n.val) 0#32))
              (BitVec.setWidth 32 (IntOp.cmpi CmpIPredicate.slt (BitVec.ofNat 32 n.val) 0#32)))
            1#32)
          (IntOp.cmpi CmpIPredicate.ne (IntOp.remsi ArithUnit.vector (BitVec.ofNat 32 n.val) 64#32) 0#32))
        (IntOp.subi (IntOp.divsi ArithUnit.vector (BitVec.ofNat 32 n.val) 64#32) 1#32)
        (IntOp.divsi ArithUnit.vector (BitVec.ofNat 32 n.val) 64#32) = BitVec.ofNat 32 (n.val / 64) := by
  decide +kernel

/-- The signed comparison of two chunk numbers. -/
theorem chunk_le : ∀ a b : Fin 128,
    IntOp.cmpi CmpIPredicate.sle (BitVec.ofNat 32 a.val) (BitVec.ofNat 32 b.val) = if a.val ≤ b.val then 1#1 else 0#1 := by
  decide +kernel

/-- The mask of path A at query row `i` and key row `j` of the tile. -/
theorem maskA_apply (i : Fin 1024) (j : Fin 512) : runA.sl.r_2 (ix2 i j) = if j.val / 64 ≤ i.val / 64 then 1#1 else 0#1 := by
  pointwise [runA.sl.r_2, runA.sl.v51, runA.sl.v52, runA.sl.v28, runA.sl.v68, runA.sl.v72, runA.sl.v27, runA.sl.v30, runA.sl.v32, runA.sl.v35, runA.sl.v42, runA.sl.v43, runA.sl.v47, runA.sl.v50, runA.sl.v57, runA.sl.v60, k0_pay57]
  rw [chunk_word ⟨i.val, i.isLt.trans (by decide)⟩, chunk_word ⟨j.val, j.isLt.trans (by decide)⟩]
  exact chunk_le ⟨j.val / 64, by have := j.isLt; omega⟩ ⟨i.val / 64, by have := i.isLt; omega⟩

/-- The mask of path E at query row `i` and key row `j` of the tile. -/
theorem maskE_apply (i : Fin 1024) (j : Fin 512) : runE.sl.r_2 (ix2 i j) = if j.val / 64 ≤ i.val / 64 then 1#1 else 0#1 := by
  pointwise [runE.sl.r_2, runE.sl.v51, runE.sl.v52, runE.sl.v28, runE.sl.v68, runE.sl.v72, runE.sl.v27, runE.sl.v30, runE.sl.v32, runE.sl.v35, runE.sl.v42, runE.sl.v43, runE.sl.v47, runE.sl.v50, runE.sl.v57, runE.sl.v60, k0_pay57]
  rw [chunk_word ⟨i.val, i.isLt.trans (by decide)⟩, chunk_word ⟨j.val, j.isLt.trans (by decide)⟩]
  exact chunk_le ⟨j.val / 64, by have := j.isLt; omega⟩ ⟨i.val / 64, by have := i.isLt; omega⟩

/-- The mask of path B at query row `i` and key row `j` of the tile. -/
theorem maskB_apply (i : Fin 512) (j : Fin 512) : runB.sl.r_2 (ix2 i j) = if j.val / 64 ≤ i.val / 64 then 1#1 else 0#1 := by
  pointwise [runB.sl.r_2, runB.sl.v51, runB.sl.v52, runB.sl.v28, runB.sl.v68, runB.sl.v72, runB.sl.v27, runB.sl.v30, runB.sl.v32, runB.sl.v35, runB.sl.v42, runB.sl.v43, runB.sl.v47, runB.sl.v50, runB.sl.v57, runB.sl.v60, k0_pay100]
  rw [chunk_word ⟨i.val, i.isLt.trans (by decide)⟩, chunk_word ⟨j.val, j.isLt.trans (by decide)⟩]
  exact chunk_le ⟨j.val / 64, by have := j.isLt; omega⟩ ⟨i.val / 64, by have := i.isLt; omega⟩

end Cert.KernelIdeal.Attn

end
-- ==== Proof.KernelIdeal.Points.lean ====
/-
  The grid's points in numbers: which batch, query tile and key tile each point takes, which path that makes, and where
  each window's block then lies in its array.
-/
module

public import proofs.«01_k».proof.Proof.KernelIdeal.Traj

@[expose] public section

set_option maxRecDepth 16384
set_option Elab.async false

noncomputable section

namespace Cert.KernelIdeal.Attn

open Cert.KernelIdeal Cert.KernelIdeal.Gen
open Idealize.ShloMosaic
open Idealize.ShloMosaic.TcCoe

/-- The batch, the query tile and the key tile of point `t`. -/
abbrev bn (t : Fin cfgA.N) : ℕ := t.val / 72
abbrev qn (t : Fin cfgA.N) : ℕ := (qw t).toNat
abbrev kn (t : Fin cfgA.N) : ℕ := (kw t).toNat

theorem N_eq : cfgA.N = 288 := by decide +kernel
theorem pt_lt : ∀ t : Fin cfgA.N, bn t < 4 ∧ qn t < 8 ∧ kn t < 16 := by decide +kernel
theorem pt_A : ∀ t : Fin cfgA.N, IsA (qw t) (kw t) → qn t = 0 ∧ kn t = 0 := by decide +kernel
theorem pt_C : ∀ t : Fin cfgA.N, IsC (qw t) (kw t) → 0 < qn t ∧ kn t = 0 := by decide +kernel
theorem pt_D : ∀ t : Fin cfgA.N, IsD (qw t) (kw t) → kn t ≠ 0 ∧ kn t + 1 ≤ 2 * qn t := by decide +kernel
theorem pt_E : ∀ t : Fin cfgA.N, IsE (qw t) (kw t) → kn t ≠ 0 ∧ kn t = 2 * qn t := by decide +kernel
theorem pt_B : ∀ t : Fin cfgA.N, IsB (qw t) (kw t) → kn t = 2 * qn t + 1 := by decide +kernel

/-- The point before one that is not the first of its sequence takes the key tile before, of the same query tile. -/
theorem pt_prev : ∀ t : Fin cfgA.N, kn t ≠ 0 → ∃ h : t.val - 1 < cfgA.N, t.val - 1 + 1 = t.val ∧ bn ⟨t.val - 1, h⟩ = bn t ∧ qn ⟨t.val - 1, h⟩ = qn t ∧ kn ⟨t.val - 1, h⟩ + 1 = kn t := by
  decide +kernel

/-- The last point of each query tile. -/
theorem pt_last : ∀ (b : Fin 4) (a : Fin 8), ∃ h : 72 * b.val + (a.val * (a.val + 1) + 2 * a.val + 1) < cfgA.N,
    IsB (qw ⟨_, h⟩) (kw ⟨_, h⟩) ∧ bn ⟨_, h⟩ = b.val ∧ qn ⟨_, h⟩ = a.val := by
  decide +kernel

theorem off_0 : ∀ (t : Fin cfgA.N) a, (cfgA.win (0 : Fin 4)).index t a * (cfgA.win (0 : Fin 4)).size a = (![0, 8192 * bn t + 1024 * qn t, 0] : Fin 3 → ℕ) a := by decide +kernel
theorem off_1 : ∀ (t : Fin cfgA.N) a, (cfgA.win (1 : Fin 4)).index t a * (cfgA.win (1 : Fin 4)).size a = (![0, 8192 * bn t + 512 * kn t, 0] : Fin 3 → ℕ) a := by decide +kernel
theorem off_2 : ∀ (t : Fin cfgA.N) a, (cfgA.win (2 : Fin 4)).index t a * (cfgA.win (2 : Fin 4)).size a = (![0, 8192 * bn t + 512 * kn t, 0] : Fin 3 → ℕ) a := by decide +kernel
theorem off_3 : ∀ (t : Fin cfgA.N) a, (cfgA.win (3 : Fin 4)).index t a * (cfgA.win (3 : Fin 4)).size a = (![8192 * bn t + 1024 * qn t, 0] : Fin 2 → ℕ) a
    ∧ (cfgA.win (3 : Fin 4)).xsize (crd t) a = S1024x1024.size a := by decide +kernel

end Cert.KernelIdeal.Attn

end
-- ==== Proof.KernelIdeal.Heads.lean ====
/-
  The work of one head in one step of the kernel, as the extended reals have it: the scores of a query tile against a key
  tile, the new running maximum, the new running sums, each as the vector expression the kernel forms and then at an index.
-/
module

public import proofs.«01_k».proof.Proof.Gen.KernelIdeal.Skeleton
public import Idealize.ShloMosaic.Lib.Pointwise.Tactic
public import Idealize.ShloMosaic.Lib.Pointwise

@[expose] public section

set_option maxRecDepth 16384

noncomputable section

namespace Cert.KernelIdeal.Attn

open Cert.KernelIdeal Cert.KernelIdeal.Gen
open Idealize.ShloMosaic
open Idealize.ShloMosaic.TcCoe

/-! ## A tile of 1024 rows -/

/-- The scores of 1024 queries against 512 keys. -/
def hS1024 (q : Vec Ideal S1x1024x256 .bf16) (k : Vec Ideal S1x512x256 .bf16) : FVec Ideal S1024x512 .f32 :=
  matmul dot_S1024x256_S512x256_S1024x512_1_1_0_0_n_n none (shapeCast S1024x256 q shapeCasts_S1x1024x256_S1024x256 : FVec Ideal S1024x256 .bf16)
    (shapeCast S512x256 k shapeCasts_S1x512x256_S512x256 : FVec Ideal S512x256 .bf16) (constant S1024x512 .f32 0x00000000#32)

/-- The running maximum after the scores `S`, from the one before. -/
def hM1024 (S : FVec Ideal S1024x512 .f32) (m : Vec Ideal S1x1024x128 .f32) : FVec Ideal S1024x128 .f32 :=
  maximumf (shapeCast S1024x128 m shapeCasts_S1x1024x128_S1024x128)
    (broadcastTo S1024x128 (shapeCast S1024x1 (multiReduction .maximumf [1] S1024 S 0xFF800000#32 reduces_S1024x512_S1024 (.inl rfl) rfl) shapeCasts_S1024_S1024x1) broadcasts_S1024x1_S1024x128)

/-- The running sums after the scores `S`, from the running maximum and sums before and the values. -/
def hA1024 (S : FVec Ideal S1024x512 .f32) (m : Vec Ideal S1x1024x128 .f32) (v : Vec Ideal S1x512x256 .bf16) (a : Vec Ideal S1x1024x256 .f32) : FVec Ideal S1x1024x256 .f32 :=
  shapeCast S1x1024x256 (addf (mulf
    (concatenate S1024x256 1 [⟨S1024x128, exp (subf (shapeCast S1024x128 m shapeCasts_S1x1024x128_S1024x128) (hM1024 S m))⟩,
      ⟨S1024x128, exp (subf (shapeCast S1024x128 m shapeCasts_S1x1024x128_S1024x128) (hM1024 S m))⟩] concatenates_S1024x128_S1024x128_S1024x256_d1)
    (shapeCast S1024x256 a shapeCasts_S1x1024x256_S1024x256 : FVec Ideal S1024x256 .f32))
    (matmul dot_S1024x512_S512x256_S1024x256_1_0_0_1_n_n none
      (truncf .bf16 (exp (subf S (concatenate S1024x512 1 [⟨S1024x128, hM1024 S m⟩, ⟨S1024x128, hM1024 S m⟩, ⟨S1024x128, hM1024 S m⟩, ⟨S1024x128, hM1024 S m⟩] concatenates_S1024x128_S1024x128_S1024x128_S1024x128_S1024x512_d1))) bitsLt_bf16_f32)
      (shapeCast S512x256 v shapeCasts_S1x512x256_S512x256 : FVec Ideal S512x256 .bf16) (constant S1024x256 .f32 0x00000000#32))) shapeCasts_S1024x256_S1x1024x256

theorem hS1024_apply (q : Vec Ideal S1x1024x256 .bf16) (k : Vec Ideal S1x512x256 .bf16) (r : Fin 1024) (j : Fin 512) :
    hS1024 q k (ix2 r j) = ∑ d : Fin 256, q (ix3 0 r d) * k (ix3 0 j d) := by
  unfold hS1024
  pointwise [dot_S1024x256_S512x256_S1024x512_1_1_0_0_n_n]

theorem hM1024_apply (S : FVec Ideal S1024x512 .f32) (m : Vec Ideal S1x1024x128 .f32) (r : Fin 1024) (l : Fin 128) :
    hM1024 S m (ix2 r l) = max (m (ix3 0 r l)) (Finset.univ.sup fun j : Fin 512 => S (ix2 r j)) := by
  unfold hM1024
  pointwise
  rw [show Ideal.ofBits .f32 0xFF800000#32 = (⊥ : EReal) from by simp [Ideal.ofBits, Ideal.ieee]]
  rfl

theorem hA1024_apply (S : FVec Ideal S1024x512 .f32) (m : Vec Ideal S1x1024x128 .f32) (v : Vec Ideal S1x512x256 .bf16) (a : Vec Ideal S1x1024x256 .f32) (r : Fin 1024) (d : Fin 256) :
    hA1024 S m v a (ix3 0 r d) = Ideal.exp (m (ix3 0 r ⟨d.val % 128, Nat.mod_lt _ (by decide)⟩) - hM1024 S m (ix2 r ⟨d.val % 128, Nat.mod_lt _ (by decide)⟩)) * a (ix3 0 r d)
      + ∑ j : Fin 512, Ideal.exp (S (ix2 r j) - hM1024 S m (ix2 r ⟨j.val % 128, Nat.mod_lt _ (by decide)⟩)) * v (ix3 0 j d) := by
  unfold hA1024
  pointwise [dot_S1024x512_S512x256_S1024x256_1_0_0_1_n_n]
  have hd := d.isLt
  refine congrArg₂ (· + ·) (congrArg (· * _) ?_) ?_
  · split
    · next h => simp only [Nat.mod_eq_of_lt h]
    · next h => simp only [show d.val % 128 = d.val - 128 by omega]
  · refine Finset.sum_congr rfl fun j _ => ?_
    have hj := j.isLt
    congr 3
    split
    · next h => simp only [Nat.mod_eq_of_lt h]
    · split
      · next h h' => simp only [show j.val % 128 = j.val - 128 by omega]
      · split
        · next h h' h'' => simp only [show j.val % 128 = j.val - 128 - 128 by omega]
        · next h h' h'' => simp only [show j.val % 128 = j.val - 128 - 128 - 128 by omega]

/-! ## A tile of 512 rows -/

/-- The scores of 512 queries against 512 keys. -/
def hS512 (q : Vec Ideal S1x512x256 .bf16) (k : Vec Ideal S1x512x256 .bf16) : FVec Ideal S512x512 .f32 :=
  matmul dot_S512x256_S512x256_S512x512_1_1_0_0_n_n none (shapeCast S512x256 q shapeCasts_S1x512x256_S512x256 : FVec Ideal S512x256 .bf16)
    (shapeCast S512x256 k shapeCasts_S1x512x256_S512x256 : FVec Ideal S512x256 .bf16) (constant S512x512 .f32 0x00000000#32)

/-- The running maximum after the scores `S`, from the one before. -/
def hM512 (S : FVec Ideal S512x512 .f32) (m : Vec Ideal S1x512x128 .f32) : FVec Ideal S512x128 .f32 :=
  maximumf (shapeCast S512x128 m shapeCasts_S1x512x128_S512x128)
    (broadcastTo S512x128 (shapeCast S512x1 (multiReduction .maximumf [1] S512 S 0xFF800000#32 reduces_S512x512_S512 (.inl rfl) rfl) shapeCasts_S512_S512x1) broadcasts_S512x1_S512x128)

/-- The running sums after the scores `S`, from the running maximum and sums before and the values. -/
def hA512 (S : FVec Ideal S512x512 .f32) (m : Vec Ideal S1x512x128 .f32) (v : Vec Ideal S1x512x256 .bf16) (a : Vec Ideal S1x512x256 .f32) : FVec Ideal S1x512x256 .f32 :=
  shapeCast S1x512x256 (addf (mulf
    (concatenate S512x256 1 [⟨S512x128, exp (subf (shapeCast S512x128 m shapeCasts_S1x512x128_S512x128) (hM512 S m))⟩,
      ⟨S512x128, exp (subf (shapeCast S512x128 m shapeCasts_S1x512x128_S512x128) (hM512 S m))⟩] concatenates_S512x128_S512x128_S512x256_d1)
    (shapeCast S512x256 a shapeCasts_S1x512x256_S512x256 : FVec Ideal S512x256 .f32))
    (matmul dot_S512x512_S512x256_S512x256_1_0_0_1_n_n none
      (truncf .bf16 (exp (subf S (concatenate S512x512 1 [⟨S512x128, hM512 S m⟩, ⟨S512x128, hM512 S m⟩, ⟨S512x128, hM512 S m⟩, ⟨S512x128, hM512 S m⟩] concatenates_S512x128_S512x128_S512x128_S512x128_S512x512_d1))) bitsLt_bf16_f32)
      (shapeCast S512x256 v shapeCasts_S1x512x256_S512x256 : FVec Ideal S512x256 .bf16) (constant S512x256 .f32 0x00000000#32))) shapeCasts_S512x256_S1x512x256

theorem hS512_apply (q : Vec Ideal S1x512x256 .bf16) (k : Vec Ideal S1x512x256 .bf16) (r : Fin 512) (j : Fin 512) :
    hS512 q k (ix2 r j) = ∑ d : Fin 256, q (ix3 0 r d) * k (ix3 0 j d) := by
  unfold hS512
  pointwise [dot_S512x256_S512x256_S512x512_1_1_0_0_n_n]

theorem hM512_apply (S : FVec Ideal S512x512 .f32) (m : Vec Ideal S1x512x128 .f32) (r : Fin 512) (l : Fin 128) :
    hM512 S m (ix2 r l) = max (m (ix3 0 r l)) (Finset.univ.sup fun j : Fin 512 => S (ix2 r j)) := by
  unfold hM512
  pointwise
  rw [show Ideal.ofBits .f32 0xFF800000#32 = (⊥ : EReal) from by simp [Ideal.ofBits, Ideal.ieee]]
  rfl

theorem hA512_apply (S : FVec Ideal S512x512 .f32) (m : Vec Ideal S1x512x128 .f32) (v : Vec Ideal S1x512x256 .bf16) (a : Vec Ideal S1x512x256 .f32) (r : Fin 512) (d : Fin 256) :
    hA512 S m v a (ix3 0 r d) = Ideal.exp (m (ix3 0 r ⟨d.val % 128, Nat.mod_lt _ (by decide)⟩) - hM512 S m (ix2 r ⟨d.val % 128, Nat.mod_lt _ (by decide)⟩)) * a (ix3 0 r d)
      + ∑ j : Fin 512, Ideal.exp (S (ix2 r j) - hM512 S m (ix2 r ⟨j.val % 128, Nat.mod_lt _ (by decide)⟩)) * v (ix3 0 j d) := by
  unfold hA512
  pointwise [dot_S512x512_S512x256_S512x256_1_0_0_1_n_n]
  have hd := d.isLt
  refine congrArg₂ (· + ·) (congrArg (· * _) ?_) ?_
  · split
    · next h => simp only [Nat.mod_eq_of_lt h]
    · next h => simp only [show d.val % 128 = d.val - 128 by omega]
  · refine Finset.sum_congr rfl fun j _ => ?_
    have hj := j.isLt
    congr 3
    split
    · next h => simp only [Nat.mod_eq_of_lt h]
    · split
      · next h h' => simp only [show j.val % 128 = j.val - 128 by omega]
      · split
        · next h h' h'' => simp only [show j.val % 128 = j.val - 128 - 128 by omega]
        · next h h' h'' => simp only [show j.val % 128 = j.val - 128 - 128 - 128 by omega]

end Cert.KernelIdeal.Attn

end
-- ==== Proof.KernelIdeal.Step.lean ====
/-
  One step of the kernel on the whole scratch: what the running maxima, the running sums and the extended values hold
  afterwards, as functions of what they held before, and how one head's stores agree with these functions.
-/
module

public import proofs.«01_k».proof.Proof.KernelIdeal.Heads
public import proofs.«01_k».proof.Proof.KernelIdeal.Tables
public import Idealize.ShloMosaic.Lib.Pipeline.ReadBack
public import Idealize.ShloMosaic.Lib.Writes
public import Idealize.ShloMosaic.Lib.WritesUnit

@[expose] public section

set_option maxRecDepth 16384

noncomputable section

namespace Cert.KernelIdeal.Attn

open Cert.KernelIdeal Cert.KernelIdeal.Gen
open Idealize.ShloMosaic
open Idealize.ShloMosaic.TcCoe

/-- The head `h` of a buffer of eight heads. -/
def sl {R C : ℕ} (X : (⟨3, ![8, R, C]⟩ : Shape).Idx → EReal) (h : Fin 8) : (⟨3, ![1, R, C]⟩ : Shape).Idx → EReal :=
  fun y => X (ix3 h (y 1) (y 2))

/-- The lower 512 of the 1024 rows of head `h`. -/
def sl5 {C : ℕ} (X : (⟨3, ![8, 1024, C]⟩ : Shape).Idx → EReal) (h : Fin 8) : (⟨3, ![1, 512, C]⟩ : Shape).Idx → EReal :=
  fun y => X (ix3 h ⟨512 + (y 1).val, by have : (y 1).val < 512 := (y 1).isLt; omega⟩ (y 2))

/-- The scores with the masked ones at `⊥`: 1024 query rows. -/
def hSm1024 (b : IVec S1024x512 1) (q : Vec Ideal S1x1024x256 .bf16) (k : Vec Ideal S1x512x256 .bf16) : FVec Ideal S1024x512 .f32 :=
  select b (hS1024 q k) (broadcast S1024x512 (Named.named κ "mask" 0xF149F2CA#32))

/-- The scores with the masked ones at `⊥`: 512 query rows. -/
def hSm512 (b : IVec S512x512 1) (q : Vec Ideal S1x512x256 .bf16) (k : Vec Ideal S1x512x256 .bf16) : FVec Ideal S512x512 .f32 :=
  select b (hS512 q k) (broadcast S512x512 (Named.named κ "mask" 0xF149F2CA#32))

/-- The running maxima after a step on all rows. -/
def nextM (S : Fin 8 → FVec Ideal S1024x512 .f32) (M : S8x1024x128.Idx → EReal) : S8x1024x128.Idx → EReal :=
  fun i => hM1024 (S (i 0)) (sl M (i 0)) (ix2 (i 1) (i 2))

/-- The running sums after a step on all rows. -/
def nextA (S : Fin 8 → FVec Ideal S1024x512 .f32) (M : S8x1024x128.Idx → EReal) (V : S8x512x256.Idx → EReal) (A : S8x1024x256.Idx → EReal) :
    S8x1024x256.Idx → EReal :=
  fun i => hA1024 (S (i 0)) (sl M (i 0)) (sl V (i 0)) (sl A (i 0)) (ix3 0 (i 1) (i 2))

/-- The running maxima after a step on the lower rows. -/
def nextM5 (S : Fin 8 → FVec Ideal S512x512 .f32) (M : S8x1024x128.Idx → EReal) : S8x1024x128.Idx → EReal :=
  fun i => hM512 (S (i 0)) (sl5 M (i 0)) (ix2 ⟨(i 1).val - 512, by have : (i 1).val < 1024 := (i 1).isLt; omega⟩ (i 2))

/-- The running sums after a step on the lower rows. -/
def nextA5 (S : Fin 8 → FVec Ideal S512x512 .f32) (M : S8x1024x128.Idx → EReal) (V : S8x512x256.Idx → EReal) (A : S8x1024x256.Idx → EReal) :
    S8x1024x256.Idx → EReal :=
  fun i => hA512 (S (i 0)) (sl5 M (i 0)) (sl V (i 0)) (sl5 A (i 0)) (ix3 0 ⟨(i 1).val - 512, by have : (i 1).val < 1024 := (i 1).isLt; omega⟩ (i 2))

/-- The values with a column of ones beside them: the step writes the left half. -/
def nextV (v : S8x512x128.Idx → EReal) (V : S8x512x256.Idx → EReal) : S8x512x256.Idx → EReal :=
  fun i => if h : (i 2).val < 128 then v (ix3 (i 0) (i 1) ⟨(i 2).val, h⟩) else V i

/-! ## Loads of one head -/

theorem ld_sl {R C : ℕ} (X : (⟨3, ![8, R, C]⟩ : Shape).Idx → EReal) (h : Fin 8) (off : Fin 3 → ℕ) (ho : off = ![h.val, 0, 0]) (inb) :
    View.ld (Val := Elt Ideal) (e' := .f32) X (Rect.unit (s := ⟨3, ![8, R, C]⟩) off ![1, R, C] inb) = sl X h := by
  subst ho
  funext y
  refine congrArg X (funext fun a => Fin.ext ?_)
  have h0 : (y 0).val < 1 := (y 0).isLt
  fin_cases a
  · show h.val + 1 * (y 0).val = h.val; omega
  · show 0 + 1 * (y 1).val = (y 1).val; omega
  · show 0 + 1 * (y 2).val = (y 2).val; omega

theorem ld_sl5 {C : ℕ} (X : (⟨3, ![8, 1024, C]⟩ : Shape).Idx → EReal) (h : Fin 8) (off : Fin 3 → ℕ) (ho : off = ![h.val, 512, 0]) (inb) :
    View.ld (Val := Elt Ideal) (e' := .f32) X (Rect.unit (s := ⟨3, ![8, 1024, C]⟩) off ![1, 512, C] inb) = sl5 X h := by
  subst ho
  funext y
  refine congrArg X (funext fun a => Fin.ext ?_)
  have h0 : (y 0).val < 1 := (y 0).isLt
  fin_cases a
  · show h.val + 1 * (y 0).val = h.val; omega
  · show 512 + 1 * (y 1).val = 512 + (y 1).val; omega
  · show 0 + 1 * (y 2).val = (y 2).val; omega

/-- A load of one head of an input block. -/
theorem rd_rep {R C : ℕ} {sp : Space} (v : View sig .tc sp ⟨3, ![8, R, C]⟩ .bf16) (x : (⟨3, ![8, R, C]⟩ : Shape).Idx → EReal) (h : Fin 8)
    (off : Fin 3 → ℕ) (ho : off = ![h.val, 0, 0]) (inb) :
    v.readAt (Elt Ideal) (Rect.unit (s := ⟨3, ![8, R, C]⟩) off ![1, R, C] inb).toLoadRect (v.rep x) = sl x h := by
  rw [View.readAt_rep]
  exact ld_sl x h off ho inb

/-- A load of one head's lower rows of an input block. -/
theorem rd_rep5 {C : ℕ} {sp : Space} (v : View sig .tc sp ⟨3, ![8, 1024, C]⟩ .bf16) (x : (⟨3, ![8, 1024, C]⟩ : Shape).Idx → EReal) (h : Fin 8)
    (off : Fin 3 → ℕ) (ho : off = ![h.val, 512, 0]) (inb) :
    v.readAt (Elt Ideal) (Rect.unit (s := ⟨3, ![8, 1024, C]⟩) off ![1, 512, C] inb).toLoadRect (v.rep x) = sl5 x h := by
  rw [View.readAt_rep]
  exact ld_sl5 x h off ho inb

/-- The fill of the running maxima. -/
theorem pay1_eq : (k0_pay1 (F := Ideal) : S8x1024x128.Idx → EReal) = fun _ => ⊥ := by
  funext y
  pointwise [k0_pay1]
  simp [Ideal.ofBits, Ideal.ieee]

/-- The fill of the running sums. -/
theorem pay2_eq : (k0_pay2 (F := Ideal) : S8x1024x256.Idx → EReal) = fun _ => 0 := by
  funext y
  pointwise [k0_pay2]

/-! ## One head's stores -/

theorem emb_sl {R C : ℕ} (h : Fin 8) (off : Fin 3 → ℕ) (ho : off = ![h.val, 0, 0]) (inb) (y : (⟨3, ![1, R, C]⟩ : Shape).Idx) :
    (Rect.unit (s := ⟨3, ![8, R, C]⟩) off ![1, R, C] inb).emb y = ix3 h (y 1) (y 2) := by
  subst ho
  refine funext fun a => Fin.ext ?_
  have h0 : (y 0).val < 1 := (y 0).isLt
  fin_cases a
  · show h.val + 1 * (y 0).val = h.val; omega
  · show 0 + 1 * (y 1).val = (y 1).val; omega
  · show 0 + 1 * (y 2).val = (y 2).val; omega

theorem emb_sl5 {C : ℕ} (h : Fin 8) (off : Fin 3 → ℕ) (ho : off = ![h.val, 512, 0]) (inb) (y : (⟨3, ![1, 512, C]⟩ : Shape).Idx) :
    (Rect.unit (s := ⟨3, ![8, 1024, C]⟩) off ![1, 512, C] inb).emb y
      = ix3 h ⟨512 + (y 1).val, by have : (y 1).val < 512 := (y 1).isLt; omega⟩ (y 2) := by
  subst ho
  refine funext fun a => Fin.ext ?_
  have h0 : (y 0).val < 1 := (y 0).isLt
  fin_cases a
  · show h.val + 1 * (y 0).val = h.val; omega
  · show 512 + 1 * (y 1).val = 512 + (y 1).val; omega
  · show 0 + 1 * (y 2).val = (y 2).val; omega

theorem idx1 {R C : ℕ} (y : (⟨3, ![1, R, C]⟩ : Shape).Idx) : y = ix3 0 (y 1) (y 2) := by
  refine funext fun a => Fin.ext ?_
  have h0 : (y 0).val < 1 := (y 0).isLt
  fin_cases a
  · show (y 0).val = 0; omega
  · rfl
  · rfl

theorem cast_row (X : S1024x128.Idx → EReal) (y : S1x1024x128.Idx) : shapeCast S1x1024x128 X shapeCasts_S1024x128_S1x1024x128 y = X (ix2 (y 1) (y 2)) := by
  pointwise

theorem cast_row5 (X : S512x128.Idx → EReal) (y : S1x512x128.Idx) : shapeCast S1x512x128 X shapeCasts_S512x128_S1x512x128 y = X (ix2 (y 1) (y 2)) := by
  pointwise

/-- One head's store of the running maxima is a block of `nextM`. -/
theorem piece_M (k : Fin 8) (S : FVec Ideal S1024x512 .f32) (m : Vec Ideal S1x1024x128 .f32) (Sf : Fin 8 → FVec Ideal S1024x512 .f32)
    (M : S8x1024x128.Idx → EReal) (hS : S = Sf k) (hm : m = sl M k) (off : Fin 3 → ℕ) (ho : off = ![k.val, 0, 0]) (inb) (y : S1x1024x128.Idx) :
    shapeCast S1x1024x128 (hM1024 S m) shapeCasts_S1024x128_S1x1024x128 y
      = nextM Sf M ((Rect.unit (s := S8x1024x128) off S1x1024x128.size inb).emb y) := by
  subst hS hm
  rw [show (Rect.unit (s := S8x1024x128) off S1x1024x128.size inb).emb y = _ from emb_sl k off ho inb y]
  exact cast_row _ y

/-- One head's store of the running sums is a block of `nextA`. -/
theorem piece_A (k : Fin 8) (S : FVec Ideal S1024x512 .f32) (m : Vec Ideal S1x1024x128 .f32) (v : Vec Ideal S1x512x256 .bf16) (a : Vec Ideal S1x1024x256 .f32)
    (Sf : Fin 8 → FVec Ideal S1024x512 .f32) (M : S8x1024x128.Idx → EReal) (V : S8x512x256.Idx → EReal) (A : S8x1024x256.Idx → EReal)
    (hS : S = Sf k) (hm : m = sl M k) (hv : v = sl V k) (ha : a = sl A k) (off : Fin 3 → ℕ) (ho : off = ![k.val, 0, 0]) (inb) (y : S1x1024x256.Idx) :
    hA1024 S m v a y = nextA Sf M V A ((Rect.unit (s := S8x1024x256) off S1x1024x256.size inb).emb y) := by
  subst hS hm hv ha
  rw [show (Rect.unit (s := S8x1024x256) off S1x1024x256.size inb).emb y = _ from emb_sl k off ho inb y]
  exact congrArg _ (idx1 y)

/-- One head's store of the running maxima on the lower rows is a block of `nextM5`. -/
theorem piece_M5 (k : Fin 8) (S : FVec Ideal S512x512 .f32) (m : Vec Ideal S1x512x128 .f32) (Sf : Fin 8 → FVec Ideal S512x512 .f32)
    (M : S8x1024x128.Idx → EReal) (hS : S = Sf k) (hm : m = sl5 M k) (off : Fin 3 → ℕ) (ho : off = ![k.val, 512, 0]) (inb) (y : S1x512x128.Idx) :
    shapeCast S1x512x128 (hM512 S m) shapeCasts_S512x128_S1x512x128 y
      = nextM5 Sf M ((Rect.unit (s := S8x1024x128) off S1x512x128.size inb).emb y) := by
  subst hS hm
  rw [show (Rect.unit (s := S8x1024x128) off S1x512x128.size inb).emb y = _ from emb_sl5 k off ho inb y]
  refine (cast_row5 _ y).trans (congrArg (hM512 (Sf k) (sl5 M k)) ?_)
  exact congrArg (fun a : Fin 512 => ix2 a (y 2)) (Fin.ext (by show _ = 512 + (y 1).val - 512; omega))

/-- One head's store of the running sums on the lower rows is a block of `nextA5`. -/
theorem piece_A5 (k : Fin 8) (S : FVec Ideal S512x512 .f32) (m : Vec Ideal S1x512x128 .f32) (v : Vec Ideal S1x512x256 .bf16) (a : Vec Ideal S1x512x256 .f32)
    (Sf : Fin 8 → FVec Ideal S512x512 .f32) (M : S8x1024x128.Idx → EReal) (V : S8x512x256.Idx → EReal) (A : S8x1024x256.Idx → EReal)
    (hS : S = Sf k) (hm : m = sl5 M k) (hv : v = sl V k) (ha : a = sl5 A k) (off : Fin 3 → ℕ) (ho : off = ![k.val, 512, 0]) (inb) (y : S1x512x256.Idx) :
    hA512 S m v a y = nextA5 Sf M V A ((Rect.unit (s := S8x1024x256) off S1x512x256.size inb).emb y) := by
  subst hS hm hv ha
  rw [show (Rect.unit (s := S8x1024x256) off S1x512x256.size inb).emb y = _ from emb_sl5 k off ho inb y]
  refine (congrArg _ (idx1 y)).trans (congrArg (hA512 (Sf k) (sl5 M k) (sl V k) (sl5 A k)) ?_)
  exact congrArg (fun a : Fin 512 => ix3 0 a (y 2)) (Fin.ext (by show _ = 512 + (y 1).val - 512; omega))

/-- Stores that are all blocks of `G` leave `G` where one of them falls. -/
theorem read_of_pieces {sig : RefSig} {κ : Kind} {sp : Space} {s : Shape} {e : EltTy} {Val : EltTy → Type} (v : View sig κ sp s e)
    (f : v.ty.Contents Val) (G : s.Idx → Val e) (L : List (View.Piece Val s e)) (h : View.PiecesOf G L) (y : s.Idx) (hc : ∃ p ∈ L, y ∈ p.1.set) :
    v.read Val (v.writes Val f L) y = G y :=
  View.read_writes_apply_of_pieces v f G L h.mem y hc

/-- The extended values over a buffer kept from the step before. -/
theorem read_kept (c : Dev nD) (arg6 : Memref sig .tc .vmem S8x512x128 .bf16) (x2 : S8x512x128.Idx → Elt Ideal .bf16)
    (xa2 : Buf (Elt Ideal) ((c : Thread nD τ).loc cc0_scratch2)) (i : S8x512x256.Idx) :
    scV.view.read (Elt Ideal) (scV.view.writes (Elt Ideal) xa2
      [⟨Rect.unit ![0, 0, 0] S8x512x128.size inb_S8x512x256_S8x512x128_0_0_0,
        k0_pay4 (View.readAt (Elt Ideal) arg6.view (Rect.unit ![0, 0, 0] S8x512x128.size inb_S8x512x128_S8x512x128_0_0_0).toLoadRect (arg6.view.rep x2))⟩]) i
      = nextV x2 (scV.view.read (Elt Ideal) xa2) i := by
  unfold nextV
  split
  · next h =>
    refine (View.read_writes_cons_unit_of_mem scV.view xa2 _ _ _ i (ix3 (i 0) (i 1) ⟨(i 2).val, h⟩) rfl ?_).trans ?_
    · intro a
      fin_cases a <;> simp [ix3]
    · rw [View.readAt_rep]
      pointwise [k0_pay4]
  · next h =>
    refine (View.read_writes_cons_unit_of_not_mem scV.view xa2 _ _ _ i rfl 2 ?_).trans rfl
    right
    show 0 + 128 ≤ (i 2).val
    omega

/-- The fill of the ones. -/
theorem pay3_eq : (k0_pay3 (F := Ideal) : S8x512x128.Idx → EReal) = fun _ => 1 := by
  funext y
  pointwise [k0_pay3]

/-- The extended values when the ones are written first. -/
theorem canon_fresh (arg6 : Memref sig .tc .vmem S8x512x128 .bf16) (x2 : S8x512x128.Idx → Elt Ideal .bf16) (i : S8x512x256.Idx) :
    View.canon (Val := Elt Ideal) (s := S8x512x256) (e := .bf16)
      [⟨Rect.unit ![0, 0, 0] S8x512x128.size inb_S8x512x256_S8x512x128_0_0_0,
        k0_pay4 (View.readAt (Elt Ideal) arg6.view (Rect.unit ![0, 0, 0] S8x512x128.size inb_S8x512x128_S8x512x128_0_0_0).toLoadRect (arg6.view.rep x2))⟩,
       ⟨Rect.unit ![0, 0, 128] S8x512x128.size inb_S8x512x256_S8x512x128_0_0_128, k0_pay3 (F := Ideal)⟩] i
      = nextV x2 (fun _ => (1 : EReal)) i := by
  rw [← View.read_writes_junk_apply_eq_canon scV.view]
  unfold nextV
  split
  · next h =>
    refine (View.read_writes_cons_unit_of_mem scV.view _ _ _ _ i (ix3 (i 0) (i 1) ⟨(i 2).val, h⟩) rfl ?_).trans ?_
    · intro a
      fin_cases a <;> simp [ix3]
    · rw [View.readAt_rep]
      pointwise [k0_pay4]
  · next h =>
    have h2 : (i 2).val < 256 := (i 2).isLt
    refine (View.read_writes_cons_unit_of_not_mem scV.view _ _ _ _ i rfl 2 ?_).trans ?_
    · right
      show 0 + 128 ≤ (i 2).val
      omega
    · refine (View.read_writes_cons_unit_of_mem scV.view _ _ _ _ i (ix3 (i 0) (i 1) ⟨(i 2).val - 128, by omega⟩) rfl ?_).trans ?_
      · intro a
        fin_cases a
        · simp [ix3]
        · simp [ix3]
        · show (i 2).val = 128 + ((i 2).val - 128)
          omega
      · exact congrFun pay3_eq _

/-- A block of queries, of keys and of values: where it lies, and what it holds. -/
abbrev QBlk := Memref sig .tc .vmem S8x1024x256 .bf16
abbrev KBlk := Memref sig .tc .vmem S8x512x256 .bf16
abbrev VBlk := Memref sig .tc .vmem S8x512x128 .bf16
abbrev QVal := S8x1024x256.Idx → Elt Ideal .bf16
abbrev KVal := S8x512x256.Idx → Elt Ideal .bf16
abbrev VVal := S8x512x128.Idx → Elt Ideal .bf16

/-- The rows of one head in the scratch for the maxima and in the scratch for the sums. -/
abbrev rM0 : Rect S8x1024x128 := Rect.unit (s := S8x1024x128) ![0, 0, 0] S1x1024x128.size inb_S8x1024x128_S1x1024x128_0_0_0
abbrev rM1 : Rect S8x1024x128 := Rect.unit (s := S8x1024x128) ![1, 0, 0] S1x1024x128.size inb_S8x1024x128_S1x1024x128_1_0_0
abbrev rM2 : Rect S8x1024x128 := Rect.unit (s := S8x1024x128) ![2, 0, 0] S1x1024x128.size inb_S8x1024x128_S1x1024x128_2_0_0
abbrev rM3 : Rect S8x1024x128 := Rect.unit (s := S8x1024x128) ![3, 0, 0] S1x1024x128.size inb_S8x1024x128_S1x1024x128_3_0_0
abbrev rM4 : Rect S8x1024x128 := Rect.unit (s := S8x1024x128) ![4, 0, 0] S1x1024x128.size inb_S8x1024x128_S1x1024x128_4_0_0
abbrev rM5 : Rect S8x1024x128 := Rect.unit (s := S8x1024x128) ![5, 0, 0] S1x1024x128.size inb_S8x1024x128_S1x1024x128_5_0_0
abbrev rM6 : Rect S8x1024x128 := Rect.unit (s := S8x1024x128) ![6, 0, 0] S1x1024x128.size inb_S8x1024x128_S1x1024x128_6_0_0
abbrev rM7 : Rect S8x1024x128 := Rect.unit (s := S8x1024x128) ![7, 0, 0] S1x1024x128.size inb_S8x1024x128_S1x1024x128_7_0_0
abbrev rA0 : Rect S8x1024x256 := Rect.unit (s := S8x1024x256) ![0, 0, 0] S1x1024x256.size inb_S8x1024x256_S1x1024x256_0_0_0
abbrev rA1 : Rect S8x1024x256 := Rect.unit (s := S8x1024x256) ![1, 0, 0] S1x1024x256.size inb_S8x1024x256_S1x1024x256_1_0_0
abbrev rA2 : Rect S8x1024x256 := Rect.unit (s := S8x1024x256) ![2, 0, 0] S1x1024x256.size inb_S8x1024x256_S1x1024x256_2_0_0
abbrev rA3 : Rect S8x1024x256 := Rect.unit (s := S8x1024x256) ![3, 0, 0] S1x1024x256.size inb_S8x1024x256_S1x1024x256_3_0_0
abbrev rA4 : Rect S8x1024x256 := Rect.unit (s := S8x1024x256) ![4, 0, 0] S1x1024x256.size inb_S8x1024x256_S1x1024x256_4_0_0
abbrev rA5 : Rect S8x1024x256 := Rect.unit (s := S8x1024x256) ![5, 0, 0] S1x1024x256.size inb_S8x1024x256_S1x1024x256_5_0_0
abbrev rA6 : Rect S8x1024x256 := Rect.unit (s := S8x1024x256) ![6, 0, 0] S1x1024x256.size inb_S8x1024x256_S1x1024x256_6_0_0
abbrev rA7 : Rect S8x1024x256 := Rect.unit (s := S8x1024x256) ![7, 0, 0] S1x1024x256.size inb_S8x1024x256_S1x1024x256_7_0_0

/-- A load of a head's rows passes over a store of another head's. -/
theorem skM (r : Rect S8x1024x128) (w : r.shape.Idx → Elt Ideal .f32) (H : List (View.Piece (Elt Ideal) S8x1024x128 .f32)) (B : Rect S8x1024x128)
    (h : LoadRect.disj r B.toLoadRect = true) : scM.view.readCov (⟨r, w⟩ :: H) B.toLoadRect = scM.view.readCov H B.toLoadRect :=
  View.readCov_skip (Val := Elt Ideal) scM.view r w H B.toLoadRect h

theorem skA (r : Rect S8x1024x256) (w : r.shape.Idx → Elt Ideal .f32) (H : List (View.Piece (Elt Ideal) S8x1024x256 .f32)) (B : Rect S8x1024x256)
    (h : LoadRect.disj r B.toLoadRect = true) : scA.view.readCov (⟨r, w⟩ :: H) B.toLoadRect = scA.view.readCov H B.toLoadRect :=
  View.readCov_skip (Val := Elt Ideal) scA.view r w H B.toLoadRect h

/-- A load of a head's rows after the whole buffer was filled with the first key tile's starting values. -/
theorem fillM (k : Fin 8) (off : Fin 3 → ℕ) (ho : off = ![k.val, 0, 0]) (inb) :
    scM.view.readCov (Val := Elt Ideal) [⟨Rect.unit (s := S8x1024x128) ![0, 0, 0] S8x1024x128.size inb_S8x1024x128_S8x1024x128_0_0_0, k0_pay1 (F := Ideal)⟩]
      (Rect.unit (s := S8x1024x128) off S1x1024x128.size inb).toLoadRect = sl (fun _ => (⊥ : EReal)) k :=
  (View.readCov_fill (Val := Elt Ideal) scM.view inb_S8x1024x128_S8x1024x128_0_0_0 (k0_pay1 (F := Ideal)) [] (Rect.unit (s := S8x1024x128) off S1x1024x128.size inb) (by decide)).trans
    ((ld_sl (k0_pay1 (F := Ideal)) k off ho inb).trans (congrArg (fun x : S8x1024x128.Idx → EReal => sl x k) pay1_eq))

theorem fillA (k : Fin 8) (off : Fin 3 → ℕ) (ho : off = ![k.val, 0, 0]) (inb) :
    scA.view.readCov (Val := Elt Ideal) [⟨Rect.unit (s := S8x1024x256) ![0, 0, 0] S8x1024x256.size inb_S8x1024x256_S8x1024x256_0_0_0, k0_pay2 (F := Ideal)⟩]
      (Rect.unit (s := S8x1024x256) off S1x1024x256.size inb).toLoadRect = sl (fun _ => (0 : EReal)) k :=
  (View.readCov_fill (Val := Elt Ideal) scA.view inb_S8x1024x256_S8x1024x256_0_0_0 (k0_pay2 (F := Ideal)) [] (Rect.unit (s := S8x1024x256) off S1x1024x256.size inb) (by decide)).trans
    ((ld_sl (k0_pay2 (F := Ideal)) k off ho inb).trans (congrArg (fun x : S8x1024x256.Idx → EReal => sl x k) pay2_eq))

end Cert.KernelIdeal.Attn

end
-- ==== Proof.KernelIdeal.StepA.lean ====
/-
  The step of path A, the first key tile of a sequence: what it leaves in the scratch.
-/
module

public import proofs.«01_k».proof.Proof.KernelIdeal.Step
public import proofs.«01_k».proof.Proof.KernelIdeal.Traj

@[expose] public section

set_option maxRecDepth 16384

noncomputable section

namespace Cert.KernelIdeal.Attn

open Cert.KernelIdeal Cert.KernelIdeal.Gen
open Idealize.ShloMosaic
open Idealize.ShloMosaic.TcCoe

/-- The extended values after the step of path A: the tile's values, ones beside them. -/
theorem VA_canon (arg6 : VBlk) (x2 : VVal) :
    View.canon (runA.sl.HS2_2 arg6 x2) = nextV x2 (fun _ => (1 : EReal)) := by
  funext i
  exact canon_fresh arg6 x2 i

theorem mA_0 (arg4 : QBlk) (arg5 : KBlk) (arg6 : VBlk)
    (x0 : QVal) (x1 : KVal) (x2 : VVal) :
    scM.view.readCov runA.sl.HS0_1 rM0.toLoadRect = sl (fun _ => (⊥ : EReal)) 0 :=
  fillM 0 ![0, 0, 0] rfl _

theorem aA_0 (arg4 : QBlk) (arg5 : KBlk) (arg6 : VBlk)
    (x0 : QVal) (x1 : KVal) (x2 : VVal) :
    scA.view.readCov runA.sl.HS1_1 rA0.toLoadRect = sl (fun _ => (0 : EReal)) 0 :=
  fillA 0 ![0, 0, 0] rfl _

theorem mA_1 (arg4 : QBlk) (arg5 : KBlk) (arg6 : VBlk)
    (x0 : QVal) (x1 : KVal) (x2 : VVal) :
    scM.view.readCov (runA.sl.HS0_2 arg4 arg5 x0 x1) rM1.toLoadRect = sl (fun _ => (⊥ : EReal)) 1 :=
  ((skM rM0 _ runA.sl.HS0_1 rM1 (by decide)).trans <|
    fillM 1 ![1, 0, 0] rfl _)

theorem aA_1 (arg4 : QBlk) (arg5 : KBlk) (arg6 : VBlk)
    (x0 : QVal) (x1 : KVal) (x2 : VVal) :
    scA.view.readCov (runA.sl.HS1_2 arg4 arg5 arg6 x0 x1 x2) rA1.toLoadRect = sl (fun _ => (0 : EReal)) 1 :=
  ((skA rA0 _ runA.sl.HS1_1 rA1 (by decide)).trans <|
    fillA 1 ![1, 0, 0] rfl _)

theorem mA_2 (arg4 : QBlk) (arg5 : KBlk) (arg6 : VBlk)
    (x0 : QVal) (x1 : KVal) (x2 : VVal) :
    scM.view.readCov (runA.sl.HS0_3 arg4 arg5 x0 x1) rM2.toLoadRect = sl (fun _ => (⊥ : EReal)) 2 :=
  ((skM rM1 _ (runA.sl.HS0_2 arg4 arg5 x0 x1) rM2 (by decide)).trans <|
    (skM rM0 _ runA.sl.HS0_1 rM2 (by decide)).trans <|
    fillM 2 ![2, 0, 0] rfl _)

theorem aA_2 (arg4 : QBlk) (arg5 : KBlk) (arg6 : VBlk)
    (x0 : QVal) (x1 : KVal) (x2 : VVal) :
    scA.view.readCov (runA.sl.HS1_3 arg4 arg5 arg6 x0 x1 x2) rA2.toLoadRect = sl (fun _ => (0 : EReal)) 2 :=
  ((skA rA1 _ (runA.sl.HS1_2 arg4 arg5 arg6 x0 x1 x2) rA2 (by decide)).trans <|
    (skA rA0 _ runA.sl.HS1_1 rA2 (by decide)).trans <|
    fillA 2 ![2, 0, 0] rfl _)

theorem mA_3 (arg4 : QBlk) (arg5 : KBlk) (arg6 : VBlk)
    (x0 : QVal) (x1 : KVal) (x2 : VVal) :
    scM.view.readCov (runA.sl.HS0_4 arg4 arg5 x0 x1) rM3.toLoadRect = sl (fun _ => (⊥ : EReal)) 3 :=
  ((skM rM2 _ (runA.sl.HS0_3 arg4 arg5 x0 x1) rM3 (by decide)).trans <|
    (skM rM1 _ (runA.sl.HS0_2 arg4 arg5 x0 x1) rM3 (by decide)).trans <|
    (skM rM0 _ runA.sl.HS0_1 rM3 (by decide)).trans <|
    fillM 3 ![3, 0, 0] rfl _)

theorem aA_3 (arg4 : QBlk) (arg5 : KBlk) (arg6 : VBlk)
    (x0 : QVal) (x1 : KVal) (x2 : VVal) :
    scA.view.readCov (runA.sl.HS1_4 arg4 arg5 arg6 x0 x1 x2) rA3.toLoadRect = sl (fun _ => (0 : EReal)) 3 :=
  ((skA rA2 _ (runA.sl.HS1_3 arg4 arg5 arg6 x0 x1 x2) rA3 (by decide)).trans <|
    (skA rA1 _ (runA.sl.HS1_2 arg4 arg5 arg6 x0 x1 x2) rA3 (by decide)).trans <|
    (skA rA0 _ runA.sl.HS1_1 rA3 (by decide)).trans <|
    fillA 3 ![3, 0, 0] rfl _)

theorem mA_4 (arg4 : QBlk) (arg5 : KBlk) (arg6 : VBlk)
    (x0 : QVal) (x1 : KVal) (x2 : VVal) :
    scM.view.readCov (runA.sl.HS0_5 arg4 arg5 x0 x1) rM4.toLoadRect = sl (fun _ => (⊥ : EReal)) 4 :=
  ((skM rM3 _ (runA.sl.HS0_4 arg4 arg5 x0 x1) rM4 (by decide)).trans <|
    (skM rM2 _ (runA.sl.HS0_3 arg4 arg5 x0 x1) rM4 (by decide)).trans <|
    (skM rM1 _ (runA.sl.HS0_2 arg4 arg5 x0 x1) rM4 (by decide)).trans <|
    (skM rM0 _ runA.sl.HS0_1 rM4 (by decide)).trans <|
    fillM 4 ![4, 0, 0] rfl _)

theorem aA_4 (arg4 : QBlk) (arg5 : KBlk) (arg6 : VBlk)
    (x0 : QVal) (x1 : KVal) (x2 : VVal) :
    scA.view.readCov (runA.sl.HS1_5 arg4 arg5 arg6 x0 x1 x2) rA4.toLoadRect = sl (fun _ => (0 : EReal)) 4 :=
  ((skA rA3 _ (runA.sl.HS1_4 arg4 arg5 arg6 x0 x1 x2) rA4 (by decide)).trans <|
    (skA rA2 _ (runA.sl.HS1_3 arg4 arg5 arg6 x0 x1 x2) rA4 (by decide)).trans <|
    (skA rA1 _ (runA.sl.HS1_2 arg4 arg5 arg6 x0 x1 x2) rA4 (by decide)).trans <|
    (skA rA0 _ runA.sl.HS1_1 rA4 (by decide)).trans <|
    fillA 4 ![4, 0, 0] rfl _)

theorem mA_5 (arg4 : QBlk) (arg5 : KBlk) (arg6 : VBlk)
    (x0 : QVal) (x1 : KVal) (x2 : VVal) :
    scM.view.readCov (runA.sl.HS0_6 arg4 arg5 x0 x1) rM5.toLoadRect = sl (fun _ => (⊥ : EReal)) 5 :=
  ((skM rM4 _ (runA.sl.HS0_5 arg4 arg5 x0 x1) rM5 (by decide)).trans <|
    (skM rM3 _ (runA.sl.HS0_4 arg4 arg5 x0 x1) rM5 (by decide)).trans <|
    (skM rM2 _ (runA.sl.HS0_3 arg4 arg5 x0 x1) rM5 (by decide)).trans <|
    (skM rM1 _ (runA.sl.HS0_2 arg4 arg5 x0 x1) rM5 (by decide)).trans <|
    (skM rM0 _ runA.sl.HS0_1 rM5 (by decide)).trans <|
    fillM 5 ![5, 0, 0] rfl _)

theorem aA_5 (arg4 : QBlk) (arg5 : KBlk) (arg6 : VBlk)
    (x0 : QVal) (x1 : KVal) (x2 : VVal) :
    scA.view.readCov (runA.sl.HS1_6 arg4 arg5 arg6 x0 x1 x2) rA5.toLoadRect = sl (fun _ => (0 : EReal)) 5 :=
  ((skA rA4 _ (runA.sl.HS1_5 arg4 arg5 arg6 x0 x1 x2) rA5 (by decide)).trans <|
    (skA rA3 _ (runA.sl.HS1_4 arg4 arg5 arg6 x0 x1 x2) rA5 (by decide)).trans <|
    (skA rA2 _ (runA.sl.HS1_3 arg4 arg5 arg6 x0 x1 x2) rA5 (by decide)).trans <|
    (skA rA1 _ (runA.sl.HS1_2 arg4 arg5 arg6 x0 x1 x2) rA5 (by decide)).trans <|
    (skA rA0 _ runA.sl.HS1_1 rA5 (by decide)).trans <|
    fillA 5 ![5, 0, 0] rfl _)

theorem mA_6 (arg4 : QBlk) (arg5 : KBlk) (arg6 : VBlk)
    (x0 : QVal) (x1 : KVal) (x2 : VVal) :
    scM.view.readCov (runA.sl.HS0_7 arg4 arg5 x0 x1) rM6.toLoadRect = sl (fun _ => (⊥ : EReal)) 6 :=
  ((skM rM5 _ (runA.sl.HS0_6 arg4 arg5 x0 x1) rM6 (by decide)).trans <|
    (skM rM4 _ (runA.sl.HS0_5 arg4 arg5 x0 x1) rM6 (by decide)).trans <|
    (skM rM3 _ (runA.sl.HS0_4 arg4 arg5 x0 x1) rM6 (by decide)).trans <|
    (skM rM2 _ (runA.sl.HS0_3 arg4 arg5 x0 x1) rM6 (by decide)).trans <|
    (skM rM1 _ (runA.sl.HS0_2 arg4 arg5 x0 x1) rM6 (by decide)).trans <|
    (skM rM0 _ runA.sl.HS0_1 rM6 (by decide)).trans <|
    fillM 6 ![6, 0, 0] rfl _)

theorem aA_6 (arg4 : QBlk) (arg5 : KBlk) (arg6 : VBlk)
    (x0 : QVal) (x1 : KVal) (x2 : VVal) :
    scA.view.readCov (runA.sl.HS1_7 arg4 arg5 arg6 x0 x1 x2) rA6.toLoadRect = sl (fun _ => (0 : EReal)) 6 :=
  ((skA rA5 _ (runA.sl.HS1_6 arg4 arg5 arg6 x0 x1 x2) rA6 (by decide)).trans <|
    (skA rA4 _ (runA.sl.HS1_5 arg4 arg5 arg6 x0 x1 x2) rA6 (by decide)).trans <|
    (skA rA3 _ (runA.sl.HS1_4 arg4 arg5 arg6 x0 x1 x2) rA6 (by decide)).trans <|
    (skA rA2 _ (runA.sl.HS1_3 arg4 arg5 arg6 x0 x1 x2) rA6 (by decide)).trans <|
    (skA rA1 _ (runA.sl.HS1_2 arg4 arg5 arg6 x0 x1 x2) rA6 (by decide)).trans <|
    (skA rA0 _ runA.sl.HS1_1 rA6 (by decide)).trans <|
    fillA 6 ![6, 0, 0] rfl _)

theorem mA_7 (arg4 : QBlk) (arg5 : KBlk) (arg6 : VBlk)
    (x0 : QVal) (x1 : KVal) (x2 : VVal) :
    scM.view.readCov (runA.sl.HS0_8 arg4 arg5 x0 x1) rM7.toLoadRect = sl (fun _ => (⊥ : EReal)) 7 :=
  ((skM rM6 _ (runA.sl.HS0_7 arg4 arg5 x0 x1) rM7 (by decide)).trans <|
    (skM rM5 _ (runA.sl.HS0_6 arg4 arg5 x0 x1) rM7 (by decide)).trans <|
    (skM rM4 _ (runA.sl.HS0_5 arg4 arg5 x0 x1) rM7 (by decide)).trans <|
    (skM rM3 _ (runA.sl.HS0_4 arg4 arg5 x0 x1) rM7 (by decide)).trans <|
    (skM rM2 _ (runA.sl.HS0_3 arg4 arg5 x0 x1) rM7 (by decide)).trans <|
    (skM rM1 _ (runA.sl.HS0_2 arg4 arg5 x0 x1) rM7 (by decide)).trans <|
    (skM rM0 _ runA.sl.HS0_1 rM7 (by decide)).trans <|
    fillM 7 ![7, 0, 0] rfl _)

theorem aA_7 (arg4 : QBlk) (arg5 : KBlk) (arg6 : VBlk)
    (x0 : QVal) (x1 : KVal) (x2 : VVal) :
    scA.view.readCov (runA.sl.HS1_8 arg4 arg5 arg6 x0 x1 x2) rA7.toLoadRect = sl (fun _ => (0 : EReal)) 7 :=
  ((skA rA6 _ (runA.sl.HS1_7 arg4 arg5 arg6 x0 x1 x2) rA7 (by decide)).trans <|
    (skA rA5 _ (runA.sl.HS1_6 arg4 arg5 arg6 x0 x1 x2) rA7 (by decide)).trans <|
    (skA rA4 _ (runA.sl.HS1_5 arg4 arg5 arg6 x0 x1 x2) rA7 (by decide)).trans <|
    (skA rA3 _ (runA.sl.HS1_4 arg4 arg5 arg6 x0 x1 x2) rA7 (by decide)).trans <|
    (skA rA2 _ (runA.sl.HS1_3 arg4 arg5 arg6 x0 x1 x2) rA7 (by decide)).trans <|
    (skA rA1 _ (runA.sl.HS1_2 arg4 arg5 arg6 x0 x1 x2) rA7 (by decide)).trans <|
    (skA rA0 _ runA.sl.HS1_1 rA7 (by decide)).trans <|
    fillA 7 ![7, 0, 0] rfl _)

theorem vA_0 (arg6 : VBlk) (x2 : VVal) :
    scV.view.readCov (runA.sl.HS2_2 arg6 x2) (Rect.unit (s := S8x512x256) ![0, 0, 0] S1x512x256.size inb_S8x512x256_S1x512x256_0_0_0).toLoadRect = sl (nextV x2 (fun _ => (1 : EReal))) 0 :=
  (View.readCov_eq_canon' scV.view (runA.sl.HS2_2 arg6 x2) _).trans
    ((ld_sl (View.canon (runA.sl.HS2_2 arg6 x2)) 0 ![0, 0, 0] rfl inb_S8x512x256_S1x512x256_0_0_0).trans (congrArg (sl · 0) (VA_canon arg6 x2)))

theorem vA_1 (arg6 : VBlk) (x2 : VVal) :
    scV.view.readCov (runA.sl.HS2_2 arg6 x2) (Rect.unit (s := S8x512x256) ![1, 0, 0] S1x512x256.size inb_S8x512x256_S1x512x256_1_0_0).toLoadRect = sl (nextV x2 (fun _ => (1 : EReal))) 1 :=
  (View.readCov_eq_canon' scV.view (runA.sl.HS2_2 arg6 x2) _).trans
    ((ld_sl (View.canon (runA.sl.HS2_2 arg6 x2)) 1 ![1, 0, 0] rfl inb_S8x512x256_S1x512x256_1_0_0).trans (congrArg (sl · 1) (VA_canon arg6 x2)))

theorem vA_2 (arg6 : VBlk) (x2 : VVal) :
    scV.view.readCov (runA.sl.HS2_2 arg6 x2) (Rect.unit (s := S8x512x256) ![2, 0, 0] S1x512x256.size inb_S8x512x256_S1x512x256_2_0_0).toLoadRect = sl (nextV x2 (fun _ => (1 : EReal))) 2 :=
  (View.readCov_eq_canon' scV.view (runA.sl.HS2_2 arg6 x2) _).trans
    ((ld_sl (View.canon (runA.sl.HS2_2 arg6 x2)) 2 ![2, 0, 0] rfl inb_S8x512x256_S1x512x256_2_0_0).trans (congrArg (sl · 2) (VA_canon arg6 x2)))

theorem vA_3 (arg6 : VBlk) (x2 : VVal) :
    scV.view.readCov (runA.sl.HS2_2 arg6 x2) (Rect.unit (s := S8x512x256) ![3, 0, 0] S1x512x256.size inb_S8x512x256_S1x512x256_3_0_0).toLoadRect = sl (nextV x2 (fun _ => (1 : EReal))) 3 :=
  (View.readCov_eq_canon' scV.view (runA.sl.HS2_2 arg6 x2) _).trans
    ((ld_sl (View.canon (runA.sl.HS2_2 arg6 x2)) 3 ![3, 0, 0] rfl inb_S8x512x256_S1x512x256_3_0_0).trans (congrArg (sl · 3) (VA_canon arg6 x2)))

theorem vA_4 (arg6 : VBlk) (x2 : VVal) :
    scV.view.readCov (runA.sl.HS2_2 arg6 x2) (Rect.unit (s := S8x512x256) ![4, 0, 0] S1x512x256.size inb_S8x512x256_S1x512x256_4_0_0).toLoadRect = sl (nextV x2 (fun _ => (1 : EReal))) 4 :=
  (View.readCov_eq_canon' scV.view (runA.sl.HS2_2 arg6 x2) _).trans
    ((ld_sl (View.canon (runA.sl.HS2_2 arg6 x2)) 4 ![4, 0, 0] rfl inb_S8x512x256_S1x512x256_4_0_0).trans (congrArg (sl · 4) (VA_canon arg6 x2)))

theorem vA_5 (arg6 : VBlk) (x2 : VVal) :
    scV.view.readCov (runA.sl.HS2_2 arg6 x2) (Rect.unit (s := S8x512x256) ![5, 0, 0] S1x512x256.size inb_S8x512x256_S1x512x256_5_0_0).toLoadRect = sl (nextV x2 (fun _ => (1 : EReal))) 5 :=
  (View.readCov_eq_canon' scV.view (runA.sl.HS2_2 arg6 x2) _).trans
    ((ld_sl (View.canon (runA.sl.HS2_2 arg6 x2)) 5 ![5, 0, 0] rfl inb_S8x512x256_S1x512x256_5_0_0).trans (congrArg (sl · 5) (VA_canon arg6 x2)))

theorem vA_6 (arg6 : VBlk) (x2 : VVal) :
    scV.view.readCov (runA.sl.HS2_2 arg6 x2) (Rect.unit (s := S8x512x256) ![6, 0, 0] S1x512x256.size inb_S8x512x256_S1x512x256_6_0_0).toLoadRect = sl (nextV x2 (fun _ => (1 : EReal))) 6 :=
  (View.readCov_eq_canon' scV.view (runA.sl.HS2_2 arg6 x2) _).trans
    ((ld_sl (View.canon (runA.sl.HS2_2 arg6 x2)) 6 ![6, 0, 0] rfl inb_S8x512x256_S1x512x256_6_0_0).trans (congrArg (sl · 6) (VA_canon arg6 x2)))

theorem vA_7 (arg6 : VBlk) (x2 : VVal) :
    scV.view.readCov (runA.sl.HS2_2 arg6 x2) (Rect.unit (s := S8x512x256) ![7, 0, 0] S1x512x256.size inb_S8x512x256_S1x512x256_7_0_0).toLoadRect = sl (nextV x2 (fun _ => (1 : EReal))) 7 :=
  (View.readCov_eq_canon' scV.view (runA.sl.HS2_2 arg6 x2) _).trans
    ((ld_sl (View.canon (runA.sl.HS2_2 arg6 x2)) 7 ![7, 0, 0] rfl inb_S8x512x256_S1x512x256_7_0_0).trans (congrArg (sl · 7) (VA_canon arg6 x2)))

/-- Each head's store of the running maxima on path A is a block of the step. -/
theorem MA_pieces (arg4 : QBlk) (arg5 : KBlk) (arg6 : VBlk)
    (x0 : QVal) (x1 : KVal) (x2 : VVal) :
    View.PiecesOf (nextM (fun k => hSm1024 runA.sl.r_2 (sl x0 k) (sl x1 k)) (fun _ => (⊥ : EReal))) ((runA.sl.HS0_9 arg4 arg5 x0 x1).take 8) :=
  let Sf : Fin 8 → FVec Ideal S1024x512 .f32 := (fun k => hSm1024 runA.sl.r_2 (sl x0 k) (sl x1 k))
  ⟨fun y => piece_M 7 _ _ Sf _ (congrArg₂ (hSm1024 runA.sl.r_2) (rd_rep arg4.view x0 7 ![7, 0, 0] rfl inb_S8x1024x256_S1x1024x256_7_0_0) (rd_rep arg5.view x1 7 ![7, 0, 0] rfl inb_S8x512x256_S1x512x256_7_0_0)) (mA_7 arg4 arg5 arg6 x0 x1 x2) ![7, 0, 0] rfl inb_S8x1024x128_S1x1024x128_7_0_0 y,
    fun y => piece_M 6 _ _ Sf _ (congrArg₂ (hSm1024 runA.sl.r_2) (rd_rep arg4.view x0 6 ![6, 0, 0] rfl inb_S8x1024x256_S1x1024x256_6_0_0) (rd_rep arg5.view x1 6 ![6, 0, 0] rfl inb_S8x512x256_S1x512x256_6_0_0)) (mA_6 arg4 arg5 arg6 x0 x1 x2) ![6, 0, 0] rfl inb_S8x1024x128_S1x1024x128_6_0_0 y,
    fun y => piece_M 5 _ _ Sf _ (congrArg₂ (hSm1024 runA.sl.r_2) (rd_rep arg4.view x0 5 ![5, 0, 0] rfl inb_S8x1024x256_S1x1024x256_5_0_0) (rd_rep arg5.view x1 5 ![5, 0, 0] rfl inb_S8x512x256_S1x512x256_5_0_0)) (mA_5 arg4 arg5 arg6 x0 x1 x2) ![5, 0, 0] rfl inb_S8x1024x128_S1x1024x128_5_0_0 y,
    fun y => piece_M 4 _ _ Sf _ (congrArg₂ (hSm1024 runA.sl.r_2) (rd_rep arg4.view x0 4 ![4, 0, 0] rfl inb_S8x1024x256_S1x1024x256_4_0_0) (rd_rep arg5.view x1 4 ![4, 0, 0] rfl inb_S8x512x256_S1x512x256_4_0_0)) (mA_4 arg4 arg5 arg6 x0 x1 x2) ![4, 0, 0] rfl inb_S8x1024x128_S1x1024x128_4_0_0 y,
    fun y => piece_M 3 _ _ Sf _ (congrArg₂ (hSm1024 runA.sl.r_2) (rd_rep arg4.view x0 3 ![3, 0, 0] rfl inb_S8x1024x256_S1x1024x256_3_0_0) (rd_rep arg5.view x1 3 ![3, 0, 0] rfl inb_S8x512x256_S1x512x256_3_0_0)) (mA_3 arg4 arg5 arg6 x0 x1 x2) ![3, 0, 0] rfl inb_S8x1024x128_S1x1024x128_3_0_0 y,
    fun y => piece_M 2 _ _ Sf _ (congrArg₂ (hSm1024 runA.sl.r_2) (rd_rep arg4.view x0 2 ![2, 0, 0] rfl inb_S8x1024x256_S1x1024x256_2_0_0) (rd_rep arg5.view x1 2 ![2, 0, 0] rfl inb_S8x512x256_S1x512x256_2_0_0)) (mA_2 arg4 arg5 arg6 x0 x1 x2) ![2, 0, 0] rfl inb_S8x1024x128_S1x1024x128_2_0_0 y,
    fun y => piece_M 1 _ _ Sf _ (congrArg₂ (hSm1024 runA.sl.r_2) (rd_rep arg4.view x0 1 ![1, 0, 0] rfl inb_S8x1024x256_S1x1024x256_1_0_0) (rd_rep arg5.view x1 1 ![1, 0, 0] rfl inb_S8x512x256_S1x512x256_1_0_0)) (mA_1 arg4 arg5 arg6 x0 x1 x2) ![1, 0, 0] rfl inb_S8x1024x128_S1x1024x128_1_0_0 y,
    fun y => piece_M 0 _ _ Sf _ (congrArg₂ (hSm1024 runA.sl.r_2) (rd_rep arg4.view x0 0 ![0, 0, 0] rfl inb_S8x1024x256_S1x1024x256_0_0_0) (rd_rep arg5.view x1 0 ![0, 0, 0] rfl inb_S8x512x256_S1x512x256_0_0_0)) (mA_0 arg4 arg5 arg6 x0 x1 x2) ![0, 0, 0] rfl inb_S8x1024x128_S1x1024x128_0_0_0 y, trivial⟩

/-- Each head's store of the running sums on path A is a block of the step. -/
theorem AA_pieces (arg4 : QBlk) (arg5 : KBlk) (arg6 : VBlk)
    (x0 : QVal) (x1 : KVal) (x2 : VVal) :
    View.PiecesOf (nextA (fun k => hSm1024 runA.sl.r_2 (sl x0 k) (sl x1 k)) (fun _ => (⊥ : EReal)) (nextV x2 (fun _ => (1 : EReal))) (fun _ => (0 : EReal))) ((runA.sl.HS1_9 arg4 arg5 arg6 x0 x1 x2).take 8) :=
  let Sf : Fin 8 → FVec Ideal S1024x512 .f32 := (fun k => hSm1024 runA.sl.r_2 (sl x0 k) (sl x1 k))
  ⟨fun y => piece_A 7 _ _ _ _ Sf _ _ _ (congrArg₂ (hSm1024 runA.sl.r_2) (rd_rep arg4.view x0 7 ![7, 0, 0] rfl inb_S8x1024x256_S1x1024x256_7_0_0) (rd_rep arg5.view x1 7 ![7, 0, 0] rfl inb_S8x512x256_S1x512x256_7_0_0)) (mA_7 arg4 arg5 arg6 x0 x1 x2) (vA_7 arg6 x2) (aA_7 arg4 arg5 arg6 x0 x1 x2) ![7, 0, 0] rfl inb_S8x1024x256_S1x1024x256_7_0_0 y,
    fun y => piece_A 6 _ _ _ _ Sf _ _ _ (congrArg₂ (hSm1024 runA.sl.r_2) (rd_rep arg4.view x0 6 ![6, 0, 0] rfl inb_S8x1024x256_S1x1024x256_6_0_0) (rd_rep arg5.view x1 6 ![6, 0, 0] rfl inb_S8x512x256_S1x512x256_6_0_0)) (mA_6 arg4 arg5 arg6 x0 x1 x2) (vA_6 arg6 x2) (aA_6 arg4 arg5 arg6 x0 x1 x2) ![6, 0, 0] rfl inb_S8x1024x256_S1x1024x256_6_0_0 y,
    fun y => piece_A 5 _ _ _ _ Sf _ _ _ (congrArg₂ (hSm1024 runA.sl.r_2) (rd_rep arg4.view x0 5 ![5, 0, 0] rfl inb_S8x1024x256_S1x1024x256_5_0_0) (rd_rep arg5.view x1 5 ![5, 0, 0] rfl inb_S8x512x256_S1x512x256_5_0_0)) (mA_5 arg4 arg5 arg6 x0 x1 x2) (vA_5 arg6 x2) (aA_5 arg4 arg5 arg6 x0 x1 x2) ![5, 0, 0] rfl inb_S8x1024x256_S1x1024x256_5_0_0 y,
    fun y => piece_A 4 _ _ _ _ Sf _ _ _ (congrArg₂ (hSm1024 runA.sl.r_2) (rd_rep arg4.view x0 4 ![4, 0, 0] rfl inb_S8x1024x256_S1x1024x256_4_0_0) (rd_rep arg5.view x1 4 ![4, 0, 0] rfl inb_S8x512x256_S1x512x256_4_0_0)) (mA_4 arg4 arg5 arg6 x0 x1 x2) (vA_4 arg6 x2) (aA_4 arg4 arg5 arg6 x0 x1 x2) ![4, 0, 0] rfl inb_S8x1024x256_S1x1024x256_4_0_0 y,
    fun y => piece_A 3 _ _ _ _ Sf _ _ _ (congrArg₂ (hSm1024 runA.sl.r_2) (rd_rep arg4.view x0 3 ![3, 0, 0] rfl inb_S8x1024x256_S1x1024x256_3_0_0) (rd_rep arg5.view x1 3 ![3, 0, 0] rfl inb_S8x512x256_S1x512x256_3_0_0)) (mA_3 arg4 arg5 arg6 x0 x1 x2) (vA_3 arg6 x2) (aA_3 arg4 arg5 arg6 x0 x1 x2) ![3, 0, 0] rfl inb_S8x1024x256_S1x1024x256_3_0_0 y,
    fun y => piece_A 2 _ _ _ _ Sf _ _ _ (congrArg₂ (hSm1024 runA.sl.r_2) (rd_rep arg4.view x0 2 ![2, 0, 0] rfl inb_S8x1024x256_S1x1024x256_2_0_0) (rd_rep arg5.view x1 2 ![2, 0, 0] rfl inb_S8x512x256_S1x512x256_2_0_0)) (mA_2 arg4 arg5 arg6 x0 x1 x2) (vA_2 arg6 x2) (aA_2 arg4 arg5 arg6 x0 x1 x2) ![2, 0, 0] rfl inb_S8x1024x256_S1x1024x256_2_0_0 y,
    fun y => piece_A 1 _ _ _ _ Sf _ _ _ (congrArg₂ (hSm1024 runA.sl.r_2) (rd_rep arg4.view x0 1 ![1, 0, 0] rfl inb_S8x1024x256_S1x1024x256_1_0_0) (rd_rep arg5.view x1 1 ![1, 0, 0] rfl inb_S8x512x256_S1x512x256_1_0_0)) (mA_1 arg4 arg5 arg6 x0 x1 x2) (vA_1 arg6 x2) (aA_1 arg4 arg5 arg6 x0 x1 x2) ![1, 0, 0] rfl inb_S8x1024x256_S1x1024x256_1_0_0 y,
    fun y => piece_A 0 _ _ _ _ Sf _ _ _ (congrArg₂ (hSm1024 runA.sl.r_2) (rd_rep arg4.view x0 0 ![0, 0, 0] rfl inb_S8x1024x256_S1x1024x256_0_0_0) (rd_rep arg5.view x1 0 ![0, 0, 0] rfl inb_S8x512x256_S1x512x256_0_0_0)) (mA_0 arg4 arg5 arg6 x0 x1 x2) (vA_0 arg6 x2) (aA_0 arg4 arg5 arg6 x0 x1 x2) ![0, 0, 0] rfl inb_S8x1024x256_S1x1024x256_0_0_0 y, trivial⟩

end Cert.KernelIdeal.Attn

end
-- ==== Proof.KernelIdeal.StepB.lean ====
/-
  The step of path B, the key tile in the upper half: what it leaves in the scratch.
-/
module

public import proofs.«01_k».proof.Proof.KernelIdeal.Step
public import proofs.«01_k».proof.Proof.KernelIdeal.Traj

@[expose] public section

set_option maxRecDepth 16384

noncomputable section

namespace Cert.KernelIdeal.Attn

open Cert.KernelIdeal Cert.KernelIdeal.Gen
open Idealize.ShloMosaic
open Idealize.ShloMosaic.TcCoe

/-- The extended values after the step of path B: the tile's values, the other half kept. -/
theorem VB_read (c : Dev nD) (arg6 : VBlk) (x2 : VVal)
    (xa2 : Buf (Elt Ideal) ((c : Thread nD τ).loc cc0_scratch2)) :
    scV.view.read (Elt Ideal) (scV.view.writes (Elt Ideal) xa2 (runB.sl.HS2_1 arg6 x2)) = nextV x2 (scV.view.read (Elt Ideal) xa2) := by
  funext i
  exact read_kept c arg6 x2 xa2 i

/-- The stores of the running maxima on path B. -/
def listMB (c : Dev nD) (arg4 : QBlk) (arg5 : KBlk)
    (x0 : QVal) (x1 : KVal) (xa0 : Buf (Elt Ideal) ((c : Thread nD τ).loc cc0_scratch0)) :
    List (View.Piece (Elt Ideal) S8x1024x128 .f32) :=
  [⟨Rect.unit ![7, 512, 0] S1x512x128.size inb_S8x1024x128_S1x512x128_7_512_0, k0_pay9 (runB.sl.r_10 c arg4 arg5 x0 x1 xa0)⟩,
   ⟨Rect.unit ![6, 512, 0] S1x512x128.size inb_S8x1024x128_S1x512x128_6_512_0, k0_pay135 (runB.sl.r_9 c arg4 arg5 x0 x1 xa0)⟩,
   ⟨Rect.unit ![5, 512, 0] S1x512x128.size inb_S8x1024x128_S1x512x128_5_512_0, k0_pay130 (runB.sl.r_8 c arg4 arg5 x0 x1 xa0)⟩,
   ⟨Rect.unit ![4, 512, 0] S1x512x128.size inb_S8x1024x128_S1x512x128_4_512_0, k0_pay125 (runB.sl.r_7 c arg4 arg5 x0 x1 xa0)⟩,
   ⟨Rect.unit ![3, 512, 0] S1x512x128.size inb_S8x1024x128_S1x512x128_3_512_0, k0_pay120 (runB.sl.r_6 c arg4 arg5 x0 x1 xa0)⟩,
   ⟨Rect.unit ![2, 512, 0] S1x512x128.size inb_S8x1024x128_S1x512x128_2_512_0, k0_pay115 (runB.sl.r_5 c arg4 arg5 x0 x1 xa0)⟩,
   ⟨Rect.unit ![1, 512, 0] S1x512x128.size inb_S8x1024x128_S1x512x128_1_512_0, k0_pay110 (runB.sl.r_4 c arg4 arg5 x0 x1 xa0)⟩,
   ⟨Rect.unit ![0, 512, 0] S1x512x128.size inb_S8x1024x128_S1x512x128_0_512_0, k0_pay105 (runB.sl.r_3 c arg4 arg5 x0 x1 xa0)⟩]

/-- Each head's store of the running maxima on path B is a block of the step. -/
theorem MB_pieces (c : Dev nD) (arg4 : QBlk) (arg5 : KBlk) (arg6 : VBlk)
    (x0 : QVal) (x1 : KVal) (x2 : VVal)
    (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) :
    View.PiecesOf (nextM5 (fun k => hSm512 runB.sl.r_2 (sl5 x0 k) (sl x1 k)) (scM.view.read (Elt Ideal) xa0)) (listMB c arg4 arg5 x0 x1 xa0) :=
  let Sf : Fin 8 → FVec Ideal S512x512 .f32 := (fun k => hSm512 runB.sl.r_2 (sl5 x0 k) (sl x1 k))
  ⟨fun y => piece_M5 7 _ _ Sf _ (congrArg₂ (hSm512 runB.sl.r_2) (rd_rep5 arg4.view x0 7 ![7, 512, 0] rfl inb_S8x1024x256_S1x512x256_7_512_0) (rd_rep arg5.view x1 7 ![7, 0, 0] rfl inb_S8x512x256_S1x512x256_7_0_0)) (ld_sl5 (scM.view.read (Elt Ideal) xa0) 7 ![7, 512, 0] rfl inb_S8x1024x128_S1x512x128_7_512_0) ![7, 512, 0] rfl inb_S8x1024x128_S1x512x128_7_512_0 y,
    fun y => piece_M5 6 _ _ Sf _ (congrArg₂ (hSm512 runB.sl.r_2) (rd_rep5 arg4.view x0 6 ![6, 512, 0] rfl inb_S8x1024x256_S1x512x256_6_512_0) (rd_rep arg5.view x1 6 ![6, 0, 0] rfl inb_S8x512x256_S1x512x256_6_0_0)) (ld_sl5 (scM.view.read (Elt Ideal) xa0) 6 ![6, 512, 0] rfl inb_S8x1024x128_S1x512x128_6_512_0) ![6, 512, 0] rfl inb_S8x1024x128_S1x512x128_6_512_0 y,
    fun y => piece_M5 5 _ _ Sf _ (congrArg₂ (hSm512 runB.sl.r_2) (rd_rep5 arg4.view x0 5 ![5, 512, 0] rfl inb_S8x1024x256_S1x512x256_5_512_0) (rd_rep arg5.view x1 5 ![5, 0, 0] rfl inb_S8x512x256_S1x512x256_5_0_0)) (ld_sl5 (scM.view.read (Elt Ideal) xa0) 5 ![5, 512, 0] rfl inb_S8x1024x128_S1x512x128_5_512_0) ![5, 512, 0] rfl inb_S8x1024x128_S1x512x128_5_512_0 y,
    fun y => piece_M5 4 _ _ Sf _ (congrArg₂ (hSm512 runB.sl.r_2) (rd_rep5 arg4.view x0 4 ![4, 512, 0] rfl inb_S8x1024x256_S1x512x256_4_512_0) (rd_rep arg5.view x1 4 ![4, 0, 0] rfl inb_S8x512x256_S1x512x256_4_0_0)) (ld_sl5 (scM.view.read (Elt Ideal) xa0) 4 ![4, 512, 0] rfl inb_S8x1024x128_S1x512x128_4_512_0) ![4, 512, 0] rfl inb_S8x1024x128_S1x512x128_4_512_0 y,
    fun y => piece_M5 3 _ _ Sf _ (congrArg₂ (hSm512 runB.sl.r_2) (rd_rep5 arg4.view x0 3 ![3, 512, 0] rfl inb_S8x1024x256_S1x512x256_3_512_0) (rd_rep arg5.view x1 3 ![3, 0, 0] rfl inb_S8x512x256_S1x512x256_3_0_0)) (ld_sl5 (scM.view.read (Elt Ideal) xa0) 3 ![3, 512, 0] rfl inb_S8x1024x128_S1x512x128_3_512_0) ![3, 512, 0] rfl inb_S8x1024x128_S1x512x128_3_512_0 y,
    fun y => piece_M5 2 _ _ Sf _ (congrArg₂ (hSm512 runB.sl.r_2) (rd_rep5 arg4.view x0 2 ![2, 512, 0] rfl inb_S8x1024x256_S1x512x256_2_512_0) (rd_rep arg5.view x1 2 ![2, 0, 0] rfl inb_S8x512x256_S1x512x256_2_0_0)) (ld_sl5 (scM.view.read (Elt Ideal) xa0) 2 ![2, 512, 0] rfl inb_S8x1024x128_S1x512x128_2_512_0) ![2, 512, 0] rfl inb_S8x1024x128_S1x512x128_2_512_0 y,
    fun y => piece_M5 1 _ _ Sf _ (congrArg₂ (hSm512 runB.sl.r_2) (rd_rep5 arg4.view x0 1 ![1, 512, 0] rfl inb_S8x1024x256_S1x512x256_1_512_0) (rd_rep arg5.view x1 1 ![1, 0, 0] rfl inb_S8x512x256_S1x512x256_1_0_0)) (ld_sl5 (scM.view.read (Elt Ideal) xa0) 1 ![1, 512, 0] rfl inb_S8x1024x128_S1x512x128_1_512_0) ![1, 512, 0] rfl inb_S8x1024x128_S1x512x128_1_512_0 y,
    fun y => piece_M5 0 _ _ Sf _ (congrArg₂ (hSm512 runB.sl.r_2) (rd_rep5 arg4.view x0 0 ![0, 512, 0] rfl inb_S8x1024x256_S1x512x256_0_512_0) (rd_rep arg5.view x1 0 ![0, 0, 0] rfl inb_S8x512x256_S1x512x256_0_0_0)) (ld_sl5 (scM.view.read (Elt Ideal) xa0) 0 ![0, 512, 0] rfl inb_S8x1024x128_S1x512x128_0_512_0) ![0, 512, 0] rfl inb_S8x1024x128_S1x512x128_0_512_0 y, trivial⟩

/-- Each head's store of the running sums on path B is a block of the step. -/
theorem AB_pieces (c : Dev nD) (arg4 : QBlk) (arg5 : KBlk) (arg6 : VBlk)
    (x0 : QVal) (x1 : KVal) (x2 : VVal)
    (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) :
    View.PiecesOf (nextA5 (fun k => hSm512 runB.sl.r_2 (sl5 x0 k) (sl x1 k)) (scM.view.read (Elt Ideal) xa0) (nextV x2 (scV.view.read (Elt Ideal) xa2)) (scA.view.read (Elt Ideal) xa1)) (runB.sl.HS1_8 c arg4 arg5 arg6 x0 x1 x2 xa0 xa1 xa2) :=
  let Sf : Fin 8 → FVec Ideal S512x512 .f32 := (fun k => hSm512 runB.sl.r_2 (sl5 x0 k) (sl x1 k))
  ⟨fun y => piece_A5 7 _ _ _ _ Sf _ _ _ (congrArg₂ (hSm512 runB.sl.r_2) (rd_rep5 arg4.view x0 7 ![7, 512, 0] rfl inb_S8x1024x256_S1x512x256_7_512_0) (rd_rep arg5.view x1 7 ![7, 0, 0] rfl inb_S8x512x256_S1x512x256_7_0_0)) (ld_sl5 (scM.view.read (Elt Ideal) xa0) 7 ![7, 512, 0] rfl inb_S8x1024x128_S1x512x128_7_512_0) ((ld_sl (scV.view.read (Elt Ideal) (scV.view.writes (Elt Ideal) xa2 (runB.sl.HS2_1 arg6 x2))) 7 ![7, 0, 0] rfl inb_S8x512x256_S1x512x256_7_0_0).trans (congrArg (sl · 7) (VB_read c arg6 x2 xa2))) (ld_sl5 (scA.view.read (Elt Ideal) xa1) 7 ![7, 512, 0] rfl inb_S8x1024x256_S1x512x256_7_512_0) ![7, 512, 0] rfl inb_S8x1024x256_S1x512x256_7_512_0 y,
    fun y => piece_A5 6 _ _ _ _ Sf _ _ _ (congrArg₂ (hSm512 runB.sl.r_2) (rd_rep5 arg4.view x0 6 ![6, 512, 0] rfl inb_S8x1024x256_S1x512x256_6_512_0) (rd_rep arg5.view x1 6 ![6, 0, 0] rfl inb_S8x512x256_S1x512x256_6_0_0)) (ld_sl5 (scM.view.read (Elt Ideal) xa0) 6 ![6, 512, 0] rfl inb_S8x1024x128_S1x512x128_6_512_0) ((ld_sl (scV.view.read (Elt Ideal) (scV.view.writes (Elt Ideal) xa2 (runB.sl.HS2_1 arg6 x2))) 6 ![6, 0, 0] rfl inb_S8x512x256_S1x512x256_6_0_0).trans (congrArg (sl · 6) (VB_read c arg6 x2 xa2))) (ld_sl5 (scA.view.read (Elt Ideal) xa1) 6 ![6, 512, 0] rfl inb_S8x1024x256_S1x512x256_6_512_0) ![6, 512, 0] rfl inb_S8x1024x256_S1x512x256_6_512_0 y,
    fun y => piece_A5 5 _ _ _ _ Sf _ _ _ (congrArg₂ (hSm512 runB.sl.r_2) (rd_rep5 arg4.view x0 5 ![5, 512, 0] rfl inb_S8x1024x256_S1x512x256_5_512_0) (rd_rep arg5.view x1 5 ![5, 0, 0] rfl inb_S8x512x256_S1x512x256_5_0_0)) (ld_sl5 (scM.view.read (Elt Ideal) xa0) 5 ![5, 512, 0] rfl inb_S8x1024x128_S1x512x128_5_512_0) ((ld_sl (scV.view.read (Elt Ideal) (scV.view.writes (Elt Ideal) xa2 (runB.sl.HS2_1 arg6 x2))) 5 ![5, 0, 0] rfl inb_S8x512x256_S1x512x256_5_0_0).trans (congrArg (sl · 5) (VB_read c arg6 x2 xa2))) (ld_sl5 (scA.view.read (Elt Ideal) xa1) 5 ![5, 512, 0] rfl inb_S8x1024x256_S1x512x256_5_512_0) ![5, 512, 0] rfl inb_S8x1024x256_S1x512x256_5_512_0 y,
    fun y => piece_A5 4 _ _ _ _ Sf _ _ _ (congrArg₂ (hSm512 runB.sl.r_2) (rd_rep5 arg4.view x0 4 ![4, 512, 0] rfl inb_S8x1024x256_S1x512x256_4_512_0) (rd_rep arg5.view x1 4 ![4, 0, 0] rfl inb_S8x512x256_S1x512x256_4_0_0)) (ld_sl5 (scM.view.read (Elt Ideal) xa0) 4 ![4, 512, 0] rfl inb_S8x1024x128_S1x512x128_4_512_0) ((ld_sl (scV.view.read (Elt Ideal) (scV.view.writes (Elt Ideal) xa2 (runB.sl.HS2_1 arg6 x2))) 4 ![4, 0, 0] rfl inb_S8x512x256_S1x512x256_4_0_0).trans (congrArg (sl · 4) (VB_read c arg6 x2 xa2))) (ld_sl5 (scA.view.read (Elt Ideal) xa1) 4 ![4, 512, 0] rfl inb_S8x1024x256_S1x512x256_4_512_0) ![4, 512, 0] rfl inb_S8x1024x256_S1x512x256_4_512_0 y,
    fun y => piece_A5 3 _ _ _ _ Sf _ _ _ (congrArg₂ (hSm512 runB.sl.r_2) (rd_rep5 arg4.view x0 3 ![3, 512, 0] rfl inb_S8x1024x256_S1x512x256_3_512_0) (rd_rep arg5.view x1 3 ![3, 0, 0] rfl inb_S8x512x256_S1x512x256_3_0_0)) (ld_sl5 (scM.view.read (Elt Ideal) xa0) 3 ![3, 512, 0] rfl inb_S8x1024x128_S1x512x128_3_512_0) ((ld_sl (scV.view.read (Elt Ideal) (scV.view.writes (Elt Ideal) xa2 (runB.sl.HS2_1 arg6 x2))) 3 ![3, 0, 0] rfl inb_S8x512x256_S1x512x256_3_0_0).trans (congrArg (sl · 3) (VB_read c arg6 x2 xa2))) (ld_sl5 (scA.view.read (Elt Ideal) xa1) 3 ![3, 512, 0] rfl inb_S8x1024x256_S1x512x256_3_512_0) ![3, 512, 0] rfl inb_S8x1024x256_S1x512x256_3_512_0 y,
    fun y => piece_A5 2 _ _ _ _ Sf _ _ _ (congrArg₂ (hSm512 runB.sl.r_2) (rd_rep5 arg4.view x0 2 ![2, 512, 0] rfl inb_S8x1024x256_S1x512x256_2_512_0) (rd_rep arg5.view x1 2 ![2, 0, 0] rfl inb_S8x512x256_S1x512x256_2_0_0)) (ld_sl5 (scM.view.read (Elt Ideal) xa0) 2 ![2, 512, 0] rfl inb_S8x1024x128_S1x512x128_2_512_0) ((ld_sl (scV.view.read (Elt Ideal) (scV.view.writes (Elt Ideal) xa2 (runB.sl.HS2_1 arg6 x2))) 2 ![2, 0, 0] rfl inb_S8x512x256_S1x512x256_2_0_0).trans (congrArg (sl · 2) (VB_read c arg6 x2 xa2))) (ld_sl5 (scA.view.read (Elt Ideal) xa1) 2 ![2, 512, 0] rfl inb_S8x1024x256_S1x512x256_2_512_0) ![2, 512, 0] rfl inb_S8x1024x256_S1x512x256_2_512_0 y,
    fun y => piece_A5 1 _ _ _ _ Sf _ _ _ (congrArg₂ (hSm512 runB.sl.r_2) (rd_rep5 arg4.view x0 1 ![1, 512, 0] rfl inb_S8x1024x256_S1x512x256_1_512_0) (rd_rep arg5.view x1 1 ![1, 0, 0] rfl inb_S8x512x256_S1x512x256_1_0_0)) (ld_sl5 (scM.view.read (Elt Ideal) xa0) 1 ![1, 512, 0] rfl inb_S8x1024x128_S1x512x128_1_512_0) ((ld_sl (scV.view.read (Elt Ideal) (scV.view.writes (Elt Ideal) xa2 (runB.sl.HS2_1 arg6 x2))) 1 ![1, 0, 0] rfl inb_S8x512x256_S1x512x256_1_0_0).trans (congrArg (sl · 1) (VB_read c arg6 x2 xa2))) (ld_sl5 (scA.view.read (Elt Ideal) xa1) 1 ![1, 512, 0] rfl inb_S8x1024x256_S1x512x256_1_512_0) ![1, 512, 0] rfl inb_S8x1024x256_S1x512x256_1_512_0 y,
    fun y => piece_A5 0 _ _ _ _ Sf _ _ _ (congrArg₂ (hSm512 runB.sl.r_2) (rd_rep5 arg4.view x0 0 ![0, 512, 0] rfl inb_S8x1024x256_S1x512x256_0_512_0) (rd_rep arg5.view x1 0 ![0, 0, 0] rfl inb_S8x512x256_S1x512x256_0_0_0)) (ld_sl5 (scM.view.read (Elt Ideal) xa0) 0 ![0, 512, 0] rfl inb_S8x1024x128_S1x512x128_0_512_0) ((ld_sl (scV.view.read (Elt Ideal) (scV.view.writes (Elt Ideal) xa2 (runB.sl.HS2_1 arg6 x2))) 0 ![0, 0, 0] rfl inb_S8x512x256_S1x512x256_0_0_0).trans (congrArg (sl · 0) (VB_read c arg6 x2 xa2))) (ld_sl5 (scA.view.read (Elt Ideal) xa1) 0 ![0, 512, 0] rfl inb_S8x1024x256_S1x512x256_0_512_0) ![0, 512, 0] rfl inb_S8x1024x256_S1x512x256_0_512_0 y, trivial⟩

end Cert.KernelIdeal.Attn

end
-- ==== Proof.KernelIdeal.StepC.lean ====
/-
  The step of path C, the first key tile: what it leaves in the scratch.
-/
module

public import proofs.«01_k».proof.Proof.KernelIdeal.Step
public import proofs.«01_k».proof.Proof.KernelIdeal.Traj

@[expose] public section

set_option maxRecDepth 16384

noncomputable section

namespace Cert.KernelIdeal.Attn

open Cert.KernelIdeal Cert.KernelIdeal.Gen
open Idealize.ShloMosaic
open Idealize.ShloMosaic.TcCoe

/-- The extended values after the step of path C: the tile's values, ones beside them. -/
theorem VC_canon (arg6 : VBlk) (x2 : VVal) :
    View.canon (runC.sl.HS2_2 arg6 x2) = nextV x2 (fun _ => (1 : EReal)) := by
  funext i
  exact canon_fresh arg6 x2 i

theorem mC_0 (arg4 : QBlk) (arg5 : KBlk) (arg6 : VBlk)
    (x0 : QVal) (x1 : KVal) (x2 : VVal) :
    scM.view.readCov runC.sl.HS0_1 rM0.toLoadRect = sl (fun _ => (⊥ : EReal)) 0 :=
  fillM 0 ![0, 0, 0] rfl _

theorem aC_0 (arg4 : QBlk) (arg5 : KBlk) (arg6 : VBlk)
    (x0 : QVal) (x1 : KVal) (x2 : VVal) :
    scA.view.readCov runC.sl.HS1_1 rA0.toLoadRect = sl (fun _ => (0 : EReal)) 0 :=
  fillA 0 ![0, 0, 0] rfl _

theorem mC_1 (arg4 : QBlk) (arg5 : KBlk) (arg6 : VBlk)
    (x0 : QVal) (x1 : KVal) (x2 : VVal) :
    scM.view.readCov (runC.sl.HS0_2 arg4 arg5 x0 x1) rM1.toLoadRect = sl (fun _ => (⊥ : EReal)) 1 :=
  ((skM rM0 _ runC.sl.HS0_1 rM1 (by decide)).trans <|
    fillM 1 ![1, 0, 0] rfl _)

theorem aC_1 (arg4 : QBlk) (arg5 : KBlk) (arg6 : VBlk)
    (x0 : QVal) (x1 : KVal) (x2 : VVal) :
    scA.view.readCov (runC.sl.HS1_2 arg4 arg5 arg6 x0 x1 x2) rA1.toLoadRect = sl (fun _ => (0 : EReal)) 1 :=
  ((skA rA0 _ runC.sl.HS1_1 rA1 (by decide)).trans <|
    fillA 1 ![1, 0, 0] rfl _)

theorem mC_2 (arg4 : QBlk) (arg5 : KBlk) (arg6 : VBlk)
    (x0 : QVal) (x1 : KVal) (x2 : VVal) :
    scM.view.readCov (runC.sl.HS0_3 arg4 arg5 x0 x1) rM2.toLoadRect = sl (fun _ => (⊥ : EReal)) 2 :=
  ((skM rM1 _ (runC.sl.HS0_2 arg4 arg5 x0 x1) rM2 (by decide)).trans <|
    (skM rM0 _ runC.sl.HS0_1 rM2 (by decide)).trans <|
    fillM 2 ![2, 0, 0] rfl _)

theorem aC_2 (arg4 : QBlk) (arg5 : KBlk) (arg6 : VBlk)
    (x0 : QVal) (x1 : KVal) (x2 : VVal) :
    scA.view.readCov (runC.sl.HS1_3 arg4 arg5 arg6 x0 x1 x2) rA2.toLoadRect = sl (fun _ => (0 : EReal)) 2 :=
  ((skA rA1 _ (runC.sl.HS1_2 arg4 arg5 arg6 x0 x1 x2) rA2 (by decide)).trans <|
    (skA rA0 _ runC.sl.HS1_1 rA2 (by decide)).trans <|
    fillA 2 ![2, 0, 0] rfl _)

theorem mC_3 (arg4 : QBlk) (arg5 : KBlk) (arg6 : VBlk)
    (x0 : QVal) (x1 : KVal) (x2 : VVal) :
    scM.view.readCov (runC.sl.HS0_4 arg4 arg5 x0 x1) rM3.toLoadRect = sl (fun _ => (⊥ : EReal)) 3 :=
  ((skM rM2 _ (runC.sl.HS0_3 arg4 arg5 x0 x1) rM3 (by decide)).trans <|
    (skM rM1 _ (runC.sl.HS0_2 arg4 arg5 x0 x1) rM3 (by decide)).trans <|
    (skM rM0 _ runC.sl.HS0_1 rM3 (by decide)).trans <|
    fillM 3 ![3, 0, 0] rfl _)

theorem aC_3 (arg4 : QBlk) (arg5 : KBlk) (arg6 : VBlk)
    (x0 : QVal) (x1 : KVal) (x2 : VVal) :
    scA.view.readCov (runC.sl.HS1_4 arg4 arg5 arg6 x0 x1 x2) rA3.toLoadRect = sl (fun _ => (0 : EReal)) 3 :=
  ((skA rA2 _ (runC.sl.HS1_3 arg4 arg5 arg6 x0 x1 x2) rA3 (by decide)).trans <|
    (skA rA1 _ (runC.sl.HS1_2 arg4 arg5 arg6 x0 x1 x2) rA3 (by decide)).trans <|
    (skA rA0 _ runC.sl.HS1_1 rA3 (by decide)).trans <|
    fillA 3 ![3, 0, 0] rfl _)

theorem mC_4 (arg4 : QBlk) (arg5 : KBlk) (arg6 : VBlk)
    (x0 : QVal) (x1 : KVal) (x2 : VVal) :
    scM.view.readCov (runC.sl.HS0_5 arg4 arg5 x0 x1) rM4.toLoadRect = sl (fun _ => (⊥ : EReal)) 4 :=
  ((skM rM3 _ (runC.sl.HS0_4 arg4 arg5 x0 x1) rM4 (by decide)).trans <|
    (skM rM2 _ (runC.sl.HS0_3 arg4 arg5 x0 x1) rM4 (by decide)).trans <|
    (skM rM1 _ (runC.sl.HS0_2 arg4 arg5 x0 x1) rM4 (by decide)).trans <|
    (skM rM0 _ runC.sl.HS0_1 rM4 (by decide)).trans <|
    fillM 4 ![4, 0, 0] rfl _)

theorem aC_4 (arg4 : QBlk) (arg5 : KBlk) (arg6 : VBlk)
    (x0 : QVal) (x1 : KVal) (x2 : VVal) :
    scA.view.readCov (runC.sl.HS1_5 arg4 arg5 arg6 x0 x1 x2) rA4.toLoadRect = sl (fun _ => (0 : EReal)) 4 :=
  ((skA rA3 _ (runC.sl.HS1_4 arg4 arg5 arg6 x0 x1 x2) rA4 (by decide)).trans <|
    (skA rA2 _ (runC.sl.HS1_3 arg4 arg5 arg6 x0 x1 x2) rA4 (by decide)).trans <|
    (skA rA1 _ (runC.sl.HS1_2 arg4 arg5 arg6 x0 x1 x2) rA4 (by decide)).trans <|
    (skA rA0 _ runC.sl.HS1_1 rA4 (by decide)).trans <|
    fillA 4 ![4, 0, 0] rfl _)

theorem mC_5 (arg4 : QBlk) (arg5 : KBlk) (arg6 : VBlk)
    (x0 : QVal) (x1 : KVal) (x2 : VVal) :
    scM.view.readCov (runC.sl.HS0_6 arg4 arg5 x0 x1) rM5.toLoadRect = sl (fun _ => (⊥ : EReal)) 5 :=
  ((skM rM4 _ (runC.sl.HS0_5 arg4 arg5 x0 x1) rM5 (by decide)).trans <|
    (skM rM3 _ (runC.sl.HS0_4 arg4 arg5 x0 x1) rM5 (by decide)).trans <|
    (skM rM2 _ (runC.sl.HS0_3 arg4 arg5 x0 x1) rM5 (by decide)).trans <|
    (skM rM1 _ (runC.sl.HS0_2 arg4 arg5 x0 x1) rM5 (by decide)).trans <|
    (skM rM0 _ runC.sl.HS0_1 rM5 (by decide)).trans <|
    fillM 5 ![5, 0, 0] rfl _)

theorem aC_5 (arg4 : QBlk) (arg5 : KBlk) (arg6 : VBlk)
    (x0 : QVal) (x1 : KVal) (x2 : VVal) :
    scA.view.readCov (runC.sl.HS1_6 arg4 arg5 arg6 x0 x1 x2) rA5.toLoadRect = sl (fun _ => (0 : EReal)) 5 :=
  ((skA rA4 _ (runC.sl.HS1_5 arg4 arg5 arg6 x0 x1 x2) rA5 (by decide)).trans <|
    (skA rA3 _ (runC.sl.HS1_4 arg4 arg5 arg6 x0 x1 x2) rA5 (by decide)).trans <|
    (skA rA2 _ (runC.sl.HS1_3 arg4 arg5 arg6 x0 x1 x2) rA5 (by decide)).trans <|
    (skA rA1 _ (runC.sl.HS1_2 arg4 arg5 arg6 x0 x1 x2) rA5 (by decide)).trans <|
    (skA rA0 _ runC.sl.HS1_1 rA5 (by decide)).trans <|
    fillA 5 ![5, 0, 0] rfl _)

theorem mC_6 (arg4 : QBlk) (arg5 : KBlk) (arg6 : VBlk)
    (x0 : QVal) (x1 : KVal) (x2 : VVal) :
    scM.view.readCov (runC.sl.HS0_7 arg4 arg5 x0 x1) rM6.toLoadRect = sl (fun _ => (⊥ : EReal)) 6 :=
  ((skM rM5 _ (runC.sl.HS0_6 arg4 arg5 x0 x1) rM6 (by decide)).trans <|
    (skM rM4 _ (runC.sl.HS0_5 arg4 arg5 x0 x1) rM6 (by decide)).trans <|
    (skM rM3 _ (runC.sl.HS0_4 arg4 arg5 x0 x1) rM6 (by decide)).trans <|
    (skM rM2 _ (runC.sl.HS0_3 arg4 arg5 x0 x1) rM6 (by decide)).trans <|
    (skM rM1 _ (runC.sl.HS0_2 arg4 arg5 x0 x1) rM6 (by decide)).trans <|
    (skM rM0 _ runC.sl.HS0_1 rM6 (by decide)).trans <|
    fillM 6 ![6, 0, 0] rfl _)

theorem aC_6 (arg4 : QBlk) (arg5 : KBlk) (arg6 : VBlk)
    (x0 : QVal) (x1 : KVal) (x2 : VVal) :
    scA.view.readCov (runC.sl.HS1_7 arg4 arg5 arg6 x0 x1 x2) rA6.toLoadRect = sl (fun _ => (0 : EReal)) 6 :=
  ((skA rA5 _ (runC.sl.HS1_6 arg4 arg5 arg6 x0 x1 x2) rA6 (by decide)).trans <|
    (skA rA4 _ (runC.sl.HS1_5 arg4 arg5 arg6 x0 x1 x2) rA6 (by decide)).trans <|
    (skA rA3 _ (runC.sl.HS1_4 arg4 arg5 arg6 x0 x1 x2) rA6 (by decide)).trans <|
    (skA rA2 _ (runC.sl.HS1_3 arg4 arg5 arg6 x0 x1 x2) rA6 (by decide)).trans <|
    (skA rA1 _ (runC.sl.HS1_2 arg4 arg5 arg6 x0 x1 x2) rA6 (by decide)).trans <|
    (skA rA0 _ runC.sl.HS1_1 rA6 (by decide)).trans <|
    fillA 6 ![6, 0, 0] rfl _)

theorem mC_7 (arg4 : QBlk) (arg5 : KBlk) (arg6 : VBlk)
    (x0 : QVal) (x1 : KVal) (x2 : VVal) :
    scM.view.readCov (runC.sl.HS0_8 arg4 arg5 x0 x1) rM7.toLoadRect = sl (fun _ => (⊥ : EReal)) 7 :=
  ((skM rM6 _ (runC.sl.HS0_7 arg4 arg5 x0 x1) rM7 (by decide)).trans <|
    (skM rM5 _ (runC.sl.HS0_6 arg4 arg5 x0 x1) rM7 (by decide)).trans <|
    (skM rM4 _ (runC.sl.HS0_5 arg4 arg5 x0 x1) rM7 (by decide)).trans <|
    (skM rM3 _ (runC.sl.HS0_4 arg4 arg5 x0 x1) rM7 (by decide)).trans <|
    (skM rM2 _ (runC.sl.HS0_3 arg4 arg5 x0 x1) rM7 (by decide)).trans <|
    (skM rM1 _ (runC.sl.HS0_2 arg4 arg5 x0 x1) rM7 (by decide)).trans <|
    (skM rM0 _ runC.sl.HS0_1 rM7 (by decide)).trans <|
    fillM 7 ![7, 0, 0] rfl _)

theorem aC_7 (arg4 : QBlk) (arg5 : KBlk) (arg6 : VBlk)
    (x0 : QVal) (x1 : KVal) (x2 : VVal) :
    scA.view.readCov (runC.sl.HS1_8 arg4 arg5 arg6 x0 x1 x2) rA7.toLoadRect = sl (fun _ => (0 : EReal)) 7 :=
  ((skA rA6 _ (runC.sl.HS1_7 arg4 arg5 arg6 x0 x1 x2) rA7 (by decide)).trans <|
    (skA rA5 _ (runC.sl.HS1_6 arg4 arg5 arg6 x0 x1 x2) rA7 (by decide)).trans <|
    (skA rA4 _ (runC.sl.HS1_5 arg4 arg5 arg6 x0 x1 x2) rA7 (by decide)).trans <|
    (skA rA3 _ (runC.sl.HS1_4 arg4 arg5 arg6 x0 x1 x2) rA7 (by decide)).trans <|
    (skA rA2 _ (runC.sl.HS1_3 arg4 arg5 arg6 x0 x1 x2) rA7 (by decide)).trans <|
    (skA rA1 _ (runC.sl.HS1_2 arg4 arg5 arg6 x0 x1 x2) rA7 (by decide)).trans <|
    (skA rA0 _ runC.sl.HS1_1 rA7 (by decide)).trans <|
    fillA 7 ![7, 0, 0] rfl _)

theorem vC_0 (arg6 : VBlk) (x2 : VVal) :
    scV.view.readCov (runC.sl.HS2_2 arg6 x2) (Rect.unit (s := S8x512x256) ![0, 0, 0] S1x512x256.size inb_S8x512x256_S1x512x256_0_0_0).toLoadRect = sl (nextV x2 (fun _ => (1 : EReal))) 0 :=
  (View.readCov_eq_canon' scV.view (runC.sl.HS2_2 arg6 x2) _).trans
    ((ld_sl (View.canon (runC.sl.HS2_2 arg6 x2)) 0 ![0, 0, 0] rfl inb_S8x512x256_S1x512x256_0_0_0).trans (congrArg (sl · 0) (VC_canon arg6 x2)))

theorem vC_1 (arg6 : VBlk) (x2 : VVal) :
    scV.view.readCov (runC.sl.HS2_2 arg6 x2) (Rect.unit (s := S8x512x256) ![1, 0, 0] S1x512x256.size inb_S8x512x256_S1x512x256_1_0_0).toLoadRect = sl (nextV x2 (fun _ => (1 : EReal))) 1 :=
  (View.readCov_eq_canon' scV.view (runC.sl.HS2_2 arg6 x2) _).trans
    ((ld_sl (View.canon (runC.sl.HS2_2 arg6 x2)) 1 ![1, 0, 0] rfl inb_S8x512x256_S1x512x256_1_0_0).trans (congrArg (sl · 1) (VC_canon arg6 x2)))

theorem vC_2 (arg6 : VBlk) (x2 : VVal) :
    scV.view.readCov (runC.sl.HS2_2 arg6 x2) (Rect.unit (s := S8x512x256) ![2, 0, 0] S1x512x256.size inb_S8x512x256_S1x512x256_2_0_0).toLoadRect = sl (nextV x2 (fun _ => (1 : EReal))) 2 :=
  (View.readCov_eq_canon' scV.view (runC.sl.HS2_2 arg6 x2) _).trans
    ((ld_sl (View.canon (runC.sl.HS2_2 arg6 x2)) 2 ![2, 0, 0] rfl inb_S8x512x256_S1x512x256_2_0_0).trans (congrArg (sl · 2) (VC_canon arg6 x2)))

theorem vC_3 (arg6 : VBlk) (x2 : VVal) :
    scV.view.readCov (runC.sl.HS2_2 arg6 x2) (Rect.unit (s := S8x512x256) ![3, 0, 0] S1x512x256.size inb_S8x512x256_S1x512x256_3_0_0).toLoadRect = sl (nextV x2 (fun _ => (1 : EReal))) 3 :=
  (View.readCov_eq_canon' scV.view (runC.sl.HS2_2 arg6 x2) _).trans
    ((ld_sl (View.canon (runC.sl.HS2_2 arg6 x2)) 3 ![3, 0, 0] rfl inb_S8x512x256_S1x512x256_3_0_0).trans (congrArg (sl · 3) (VC_canon arg6 x2)))

theorem vC_4 (arg6 : VBlk) (x2 : VVal) :
    scV.view.readCov (runC.sl.HS2_2 arg6 x2) (Rect.unit (s := S8x512x256) ![4, 0, 0] S1x512x256.size inb_S8x512x256_S1x512x256_4_0_0).toLoadRect = sl (nextV x2 (fun _ => (1 : EReal))) 4 :=
  (View.readCov_eq_canon' scV.view (runC.sl.HS2_2 arg6 x2) _).trans
    ((ld_sl (View.canon (runC.sl.HS2_2 arg6 x2)) 4 ![4, 0, 0] rfl inb_S8x512x256_S1x512x256_4_0_0).trans (congrArg (sl · 4) (VC_canon arg6 x2)))

theorem vC_5 (arg6 : VBlk) (x2 : VVal) :
    scV.view.readCov (runC.sl.HS2_2 arg6 x2) (Rect.unit (s := S8x512x256) ![5, 0, 0] S1x512x256.size inb_S8x512x256_S1x512x256_5_0_0).toLoadRect = sl (nextV x2 (fun _ => (1 : EReal))) 5 :=
  (View.readCov_eq_canon' scV.view (runC.sl.HS2_2 arg6 x2) _).trans
    ((ld_sl (View.canon (runC.sl.HS2_2 arg6 x2)) 5 ![5, 0, 0] rfl inb_S8x512x256_S1x512x256_5_0_0).trans (congrArg (sl · 5) (VC_canon arg6 x2)))

theorem vC_6 (arg6 : VBlk) (x2 : VVal) :
    scV.view.readCov (runC.sl.HS2_2 arg6 x2) (Rect.unit (s := S8x512x256) ![6, 0, 0] S1x512x256.size inb_S8x512x256_S1x512x256_6_0_0).toLoadRect = sl (nextV x2 (fun _ => (1 : EReal))) 6 :=
  (View.readCov_eq_canon' scV.view (runC.sl.HS2_2 arg6 x2) _).trans
    ((ld_sl (View.canon (runC.sl.HS2_2 arg6 x2)) 6 ![6, 0, 0] rfl inb_S8x512x256_S1x512x256_6_0_0).trans (congrArg (sl · 6) (VC_canon arg6 x2)))

theorem vC_7 (arg6 : VBlk) (x2 : VVal) :
    scV.view.readCov (runC.sl.HS2_2 arg6 x2) (Rect.unit (s := S8x512x256) ![7, 0, 0] S1x512x256.size inb_S8x512x256_S1x512x256_7_0_0).toLoadRect = sl (nextV x2 (fun _ => (1 : EReal))) 7 :=
  (View.readCov_eq_canon' scV.view (runC.sl.HS2_2 arg6 x2) _).trans
    ((ld_sl (View.canon (runC.sl.HS2_2 arg6 x2)) 7 ![7, 0, 0] rfl inb_S8x512x256_S1x512x256_7_0_0).trans (congrArg (sl · 7) (VC_canon arg6 x2)))

/-- Each head's store of the running maxima on path C is a block of the step. -/
theorem MC_pieces (arg4 : QBlk) (arg5 : KBlk) (arg6 : VBlk)
    (x0 : QVal) (x1 : KVal) (x2 : VVal) :
    View.PiecesOf (nextM (fun k => hS1024 (sl x0 k) (sl x1 k)) (fun _ => (⊥ : EReal))) ((runC.sl.HS0_9 arg4 arg5 x0 x1).take 8) :=
  let Sf : Fin 8 → FVec Ideal S1024x512 .f32 := (fun k => hS1024 (sl x0 k) (sl x1 k))
  ⟨fun y => piece_M 7 _ _ Sf _ (congrArg₂ hS1024 (rd_rep arg4.view x0 7 ![7, 0, 0] rfl inb_S8x1024x256_S1x1024x256_7_0_0) (rd_rep arg5.view x1 7 ![7, 0, 0] rfl inb_S8x512x256_S1x512x256_7_0_0)) (mC_7 arg4 arg5 arg6 x0 x1 x2) ![7, 0, 0] rfl inb_S8x1024x128_S1x1024x128_7_0_0 y,
    fun y => piece_M 6 _ _ Sf _ (congrArg₂ hS1024 (rd_rep arg4.view x0 6 ![6, 0, 0] rfl inb_S8x1024x256_S1x1024x256_6_0_0) (rd_rep arg5.view x1 6 ![6, 0, 0] rfl inb_S8x512x256_S1x512x256_6_0_0)) (mC_6 arg4 arg5 arg6 x0 x1 x2) ![6, 0, 0] rfl inb_S8x1024x128_S1x1024x128_6_0_0 y,
    fun y => piece_M 5 _ _ Sf _ (congrArg₂ hS1024 (rd_rep arg4.view x0 5 ![5, 0, 0] rfl inb_S8x1024x256_S1x1024x256_5_0_0) (rd_rep arg5.view x1 5 ![5, 0, 0] rfl inb_S8x512x256_S1x512x256_5_0_0)) (mC_5 arg4 arg5 arg6 x0 x1 x2) ![5, 0, 0] rfl inb_S8x1024x128_S1x1024x128_5_0_0 y,
    fun y => piece_M 4 _ _ Sf _ (congrArg₂ hS1024 (rd_rep arg4.view x0 4 ![4, 0, 0] rfl inb_S8x1024x256_S1x1024x256_4_0_0) (rd_rep arg5.view x1 4 ![4, 0, 0] rfl inb_S8x512x256_S1x512x256_4_0_0)) (mC_4 arg4 arg5 arg6 x0 x1 x2) ![4, 0, 0] rfl inb_S8x1024x128_S1x1024x128_4_0_0 y,
    fun y => piece_M 3 _ _ Sf _ (congrArg₂ hS1024 (rd_rep arg4.view x0 3 ![3, 0, 0] rfl inb_S8x1024x256_S1x1024x256_3_0_0) (rd_rep arg5.view x1 3 ![3, 0, 0] rfl inb_S8x512x256_S1x512x256_3_0_0)) (mC_3 arg4 arg5 arg6 x0 x1 x2) ![3, 0, 0] rfl inb_S8x1024x128_S1x1024x128_3_0_0 y,
    fun y => piece_M 2 _ _ Sf _ (congrArg₂ hS1024 (rd_rep arg4.view x0 2 ![2, 0, 0] rfl inb_S8x1024x256_S1x1024x256_2_0_0) (rd_rep arg5.view x1 2 ![2, 0, 0] rfl inb_S8x512x256_S1x512x256_2_0_0)) (mC_2 arg4 arg5 arg6 x0 x1 x2) ![2, 0, 0] rfl inb_S8x1024x128_S1x1024x128_2_0_0 y,
    fun y => piece_M 1 _ _ Sf _ (congrArg₂ hS1024 (rd_rep arg4.view x0 1 ![1, 0, 0] rfl inb_S8x1024x256_S1x1024x256_1_0_0) (rd_rep arg5.view x1 1 ![1, 0, 0] rfl inb_S8x512x256_S1x512x256_1_0_0)) (mC_1 arg4 arg5 arg6 x0 x1 x2) ![1, 0, 0] rfl inb_S8x1024x128_S1x1024x128_1_0_0 y,
    fun y => piece_M 0 _ _ Sf _ (congrArg₂ hS1024 (rd_rep arg4.view x0 0 ![0, 0, 0] rfl inb_S8x1024x256_S1x1024x256_0_0_0) (rd_rep arg5.view x1 0 ![0, 0, 0] rfl inb_S8x512x256_S1x512x256_0_0_0)) (mC_0 arg4 arg5 arg6 x0 x1 x2) ![0, 0, 0] rfl inb_S8x1024x128_S1x1024x128_0_0_0 y, trivial⟩

/-- Each head's store of the running sums on path C is a block of the step. -/
theorem AC_pieces (arg4 : QBlk) (arg5 : KBlk) (arg6 : VBlk)
    (x0 : QVal) (x1 : KVal) (x2 : VVal) :
    View.PiecesOf (nextA (fun k => hS1024 (sl x0 k) (sl x1 k)) (fun _ => (⊥ : EReal)) (nextV x2 (fun _ => (1 : EReal))) (fun _ => (0 : EReal))) ((runC.sl.HS1_9 arg4 arg5 arg6 x0 x1 x2).take 8) :=
  let Sf : Fin 8 → FVec Ideal S1024x512 .f32 := (fun k => hS1024 (sl x0 k) (sl x1 k))
  ⟨fun y => piece_A 7 _ _ _ _ Sf _ _ _ (congrArg₂ hS1024 (rd_rep arg4.view x0 7 ![7, 0, 0] rfl inb_S8x1024x256_S1x1024x256_7_0_0) (rd_rep arg5.view x1 7 ![7, 0, 0] rfl inb_S8x512x256_S1x512x256_7_0_0)) (mC_7 arg4 arg5 arg6 x0 x1 x2) (vC_7 arg6 x2) (aC_7 arg4 arg5 arg6 x0 x1 x2) ![7, 0, 0] rfl inb_S8x1024x256_S1x1024x256_7_0_0 y,
    fun y => piece_A 6 _ _ _ _ Sf _ _ _ (congrArg₂ hS1024 (rd_rep arg4.view x0 6 ![6, 0, 0] rfl inb_S8x1024x256_S1x1024x256_6_0_0) (rd_rep arg5.view x1 6 ![6, 0, 0] rfl inb_S8x512x256_S1x512x256_6_0_0)) (mC_6 arg4 arg5 arg6 x0 x1 x2) (vC_6 arg6 x2) (aC_6 arg4 arg5 arg6 x0 x1 x2) ![6, 0, 0] rfl inb_S8x1024x256_S1x1024x256_6_0_0 y,
    fun y => piece_A 5 _ _ _ _ Sf _ _ _ (congrArg₂ hS1024 (rd_rep arg4.view x0 5 ![5, 0, 0] rfl inb_S8x1024x256_S1x1024x256_5_0_0) (rd_rep arg5.view x1 5 ![5, 0, 0] rfl inb_S8x512x256_S1x512x256_5_0_0)) (mC_5 arg4 arg5 arg6 x0 x1 x2) (vC_5 arg6 x2) (aC_5 arg4 arg5 arg6 x0 x1 x2) ![5, 0, 0] rfl inb_S8x1024x256_S1x1024x256_5_0_0 y,
    fun y => piece_A 4 _ _ _ _ Sf _ _ _ (congrArg₂ hS1024 (rd_rep arg4.view x0 4 ![4, 0, 0] rfl inb_S8x1024x256_S1x1024x256_4_0_0) (rd_rep arg5.view x1 4 ![4, 0, 0] rfl inb_S8x512x256_S1x512x256_4_0_0)) (mC_4 arg4 arg5 arg6 x0 x1 x2) (vC_4 arg6 x2) (aC_4 arg4 arg5 arg6 x0 x1 x2) ![4, 0, 0] rfl inb_S8x1024x256_S1x1024x256_4_0_0 y,
    fun y => piece_A 3 _ _ _ _ Sf _ _ _ (congrArg₂ hS1024 (rd_rep arg4.view x0 3 ![3, 0, 0] rfl inb_S8x1024x256_S1x1024x256_3_0_0) (rd_rep arg5.view x1 3 ![3, 0, 0] rfl inb_S8x512x256_S1x512x256_3_0_0)) (mC_3 arg4 arg5 arg6 x0 x1 x2) (vC_3 arg6 x2) (aC_3 arg4 arg5 arg6 x0 x1 x2) ![3, 0, 0] rfl inb_S8x1024x256_S1x1024x256_3_0_0 y,
    fun y => piece_A 2 _ _ _ _ Sf _ _ _ (congrArg₂ hS1024 (rd_rep arg4.view x0 2 ![2, 0, 0] rfl inb_S8x1024x256_S1x1024x256_2_0_0) (rd_rep arg5.view x1 2 ![2, 0, 0] rfl inb_S8x512x256_S1x512x256_2_0_0)) (mC_2 arg4 arg5 arg6 x0 x1 x2) (vC_2 arg6 x2) (aC_2 arg4 arg5 arg6 x0 x1 x2) ![2, 0, 0] rfl inb_S8x1024x256_S1x1024x256_2_0_0 y,
    fun y => piece_A 1 _ _ _ _ Sf _ _ _ (congrArg₂ hS1024 (rd_rep arg4.view x0 1 ![1, 0, 0] rfl inb_S8x1024x256_S1x1024x256_1_0_0) (rd_rep arg5.view x1 1 ![1, 0, 0] rfl inb_S8x512x256_S1x512x256_1_0_0)) (mC_1 arg4 arg5 arg6 x0 x1 x2) (vC_1 arg6 x2) (aC_1 arg4 arg5 arg6 x0 x1 x2) ![1, 0, 0] rfl inb_S8x1024x256_S1x1024x256_1_0_0 y,
    fun y => piece_A 0 _ _ _ _ Sf _ _ _ (congrArg₂ hS1024 (rd_rep arg4.view x0 0 ![0, 0, 0] rfl inb_S8x1024x256_S1x1024x256_0_0_0) (rd_rep arg5.view x1 0 ![0, 0, 0] rfl inb_S8x512x256_S1x512x256_0_0_0)) (mC_0 arg4 arg5 arg6 x0 x1 x2) (vC_0 arg6 x2) (aC_0 arg4 arg5 arg6 x0 x1 x2) ![0, 0, 0] rfl inb_S8x1024x256_S1x1024x256_0_0_0 y, trivial⟩

end Cert.KernelIdeal.Attn

end
-- ==== Proof.KernelIdeal.StepD.lean ====
/-
  The step of path D, a key tile before the query tile: what it leaves in the scratch.
-/
module

public import proofs.«01_k».proof.Proof.KernelIdeal.Step
public import proofs.«01_k».proof.Proof.KernelIdeal.Traj

@[expose] public section

set_option maxRecDepth 16384

noncomputable section

namespace Cert.KernelIdeal.Attn

open Cert.KernelIdeal Cert.KernelIdeal.Gen
open Idealize.ShloMosaic
open Idealize.ShloMosaic.TcCoe

/-- The extended values after the step of path D: the tile's values, the other half kept. -/
theorem VD_read (c : Dev nD) (arg6 : VBlk) (x2 : VVal)
    (xa2 : Buf (Elt Ideal) ((c : Thread nD τ).loc cc0_scratch2)) :
    scV.view.read (Elt Ideal) (scV.view.writes (Elt Ideal) xa2 (runD.sl.HS2_1 arg6 x2)) = nextV x2 (scV.view.read (Elt Ideal) xa2) := by
  funext i
  exact read_kept c arg6 x2 xa2 i

/-- Each head's store of the running maxima on path D is a block of the step. -/
theorem MD_pieces (c : Dev nD) (arg4 : QBlk) (arg5 : KBlk) (arg6 : VBlk)
    (x0 : QVal) (x1 : KVal) (x2 : VVal)
    (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) :
    View.PiecesOf (nextM (fun k => hS1024 (sl x0 k) (sl x1 k)) (scM.view.read (Elt Ideal) xa0)) (runD.sl.HS0_8 c arg4 arg5 x0 x1 xa0) :=
  let Sf : Fin 8 → FVec Ideal S1024x512 .f32 := (fun k => hS1024 (sl x0 k) (sl x1 k))
  ⟨fun y => piece_M 7 _ _ Sf _ (congrArg₂ hS1024 (rd_rep arg4.view x0 7 ![7, 0, 0] rfl inb_S8x1024x256_S1x1024x256_7_0_0) (rd_rep arg5.view x1 7 ![7, 0, 0] rfl inb_S8x512x256_S1x512x256_7_0_0)) (ld_sl (scM.view.read (Elt Ideal) xa0) 7 ![7, 0, 0] rfl inb_S8x1024x128_S1x1024x128_7_0_0) ![7, 0, 0] rfl inb_S8x1024x128_S1x1024x128_7_0_0 y,
    fun y => piece_M 6 _ _ Sf _ (congrArg₂ hS1024 (rd_rep arg4.view x0 6 ![6, 0, 0] rfl inb_S8x1024x256_S1x1024x256_6_0_0) (rd_rep arg5.view x1 6 ![6, 0, 0] rfl inb_S8x512x256_S1x512x256_6_0_0)) (ld_sl (scM.view.read (Elt Ideal) xa0) 6 ![6, 0, 0] rfl inb_S8x1024x128_S1x1024x128_6_0_0) ![6, 0, 0] rfl inb_S8x1024x128_S1x1024x128_6_0_0 y,
    fun y => piece_M 5 _ _ Sf _ (congrArg₂ hS1024 (rd_rep arg4.view x0 5 ![5, 0, 0] rfl inb_S8x1024x256_S1x1024x256_5_0_0) (rd_rep arg5.view x1 5 ![5, 0, 0] rfl inb_S8x512x256_S1x512x256_5_0_0)) (ld_sl (scM.view.read (Elt Ideal) xa0) 5 ![5, 0, 0] rfl inb_S8x1024x128_S1x1024x128_5_0_0) ![5, 0, 0] rfl inb_S8x1024x128_S1x1024x128_5_0_0 y,
    fun y => piece_M 4 _ _ Sf _ (congrArg₂ hS1024 (rd_rep arg4.view x0 4 ![4, 0, 0] rfl inb_S8x1024x256_S1x1024x256_4_0_0) (rd_rep arg5.view x1 4 ![4, 0, 0] rfl inb_S8x512x256_S1x512x256_4_0_0)) (ld_sl (scM.view.read (Elt Ideal) xa0) 4 ![4, 0, 0] rfl inb_S8x1024x128_S1x1024x128_4_0_0) ![4, 0, 0] rfl inb_S8x1024x128_S1x1024x128_4_0_0 y,
    fun y => piece_M 3 _ _ Sf _ (congrArg₂ hS1024 (rd_rep arg4.view x0 3 ![3, 0, 0] rfl inb_S8x1024x256_S1x1024x256_3_0_0) (rd_rep arg5.view x1 3 ![3, 0, 0] rfl inb_S8x512x256_S1x512x256_3_0_0)) (ld_sl (scM.view.read (Elt Ideal) xa0) 3 ![3, 0, 0] rfl inb_S8x1024x128_S1x1024x128_3_0_0) ![3, 0, 0] rfl inb_S8x1024x128_S1x1024x128_3_0_0 y,
    fun y => piece_M 2 _ _ Sf _ (congrArg₂ hS1024 (rd_rep arg4.view x0 2 ![2, 0, 0] rfl inb_S8x1024x256_S1x1024x256_2_0_0) (rd_rep arg5.view x1 2 ![2, 0, 0] rfl inb_S8x512x256_S1x512x256_2_0_0)) (ld_sl (scM.view.read (Elt Ideal) xa0) 2 ![2, 0, 0] rfl inb_S8x1024x128_S1x1024x128_2_0_0) ![2, 0, 0] rfl inb_S8x1024x128_S1x1024x128_2_0_0 y,
    fun y => piece_M 1 _ _ Sf _ (congrArg₂ hS1024 (rd_rep arg4.view x0 1 ![1, 0, 0] rfl inb_S8x1024x256_S1x1024x256_1_0_0) (rd_rep arg5.view x1 1 ![1, 0, 0] rfl inb_S8x512x256_S1x512x256_1_0_0)) (ld_sl (scM.view.read (Elt Ideal) xa0) 1 ![1, 0, 0] rfl inb_S8x1024x128_S1x1024x128_1_0_0) ![1, 0, 0] rfl inb_S8x1024x128_S1x1024x128_1_0_0 y,
    fun y => piece_M 0 _ _ Sf _ (congrArg₂ hS1024 (rd_rep arg4.view x0 0 ![0, 0, 0] rfl inb_S8x1024x256_S1x1024x256_0_0_0) (rd_rep arg5.view x1 0 ![0, 0, 0] rfl inb_S8x512x256_S1x512x256_0_0_0)) (ld_sl (scM.view.read (Elt Ideal) xa0) 0 ![0, 0, 0] rfl inb_S8x1024x128_S1x1024x128_0_0_0) ![0, 0, 0] rfl inb_S8x1024x128_S1x1024x128_0_0_0 y, trivial⟩

/-- Each head's store of the running sums on path D is a block of the step. -/
theorem AD_pieces (c : Dev nD) (arg4 : QBlk) (arg5 : KBlk) (arg6 : VBlk)
    (x0 : QVal) (x1 : KVal) (x2 : VVal)
    (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) :
    View.PiecesOf (nextA (fun k => hS1024 (sl x0 k) (sl x1 k)) (scM.view.read (Elt Ideal) xa0) (nextV x2 (scV.view.read (Elt Ideal) xa2)) (scA.view.read (Elt Ideal) xa1)) (runD.sl.HS1_8 c arg4 arg5 arg6 x0 x1 x2 xa0 xa1 xa2) :=
  let Sf : Fin 8 → FVec Ideal S1024x512 .f32 := (fun k => hS1024 (sl x0 k) (sl x1 k))
  ⟨fun y => piece_A 7 _ _ _ _ Sf _ _ _ (congrArg₂ hS1024 (rd_rep arg4.view x0 7 ![7, 0, 0] rfl inb_S8x1024x256_S1x1024x256_7_0_0) (rd_rep arg5.view x1 7 ![7, 0, 0] rfl inb_S8x512x256_S1x512x256_7_0_0)) (ld_sl (scM.view.read (Elt Ideal) xa0) 7 ![7, 0, 0] rfl inb_S8x1024x128_S1x1024x128_7_0_0) ((ld_sl (scV.view.read (Elt Ideal) (scV.view.writes (Elt Ideal) xa2 (runD.sl.HS2_1 arg6 x2))) 7 ![7, 0, 0] rfl inb_S8x512x256_S1x512x256_7_0_0).trans (congrArg (sl · 7) (VD_read c arg6 x2 xa2))) (ld_sl (scA.view.read (Elt Ideal) xa1) 7 ![7, 0, 0] rfl inb_S8x1024x256_S1x1024x256_7_0_0) ![7, 0, 0] rfl inb_S8x1024x256_S1x1024x256_7_0_0 y,
    fun y => piece_A 6 _ _ _ _ Sf _ _ _ (congrArg₂ hS1024 (rd_rep arg4.view x0 6 ![6, 0, 0] rfl inb_S8x1024x256_S1x1024x256_6_0_0) (rd_rep arg5.view x1 6 ![6, 0, 0] rfl inb_S8x512x256_S1x512x256_6_0_0)) (ld_sl (scM.view.read (Elt Ideal) xa0) 6 ![6, 0, 0] rfl inb_S8x1024x128_S1x1024x128_6_0_0) ((ld_sl (scV.view.read (Elt Ideal) (scV.view.writes (Elt Ideal) xa2 (runD.sl.HS2_1 arg6 x2))) 6 ![6, 0, 0] rfl inb_S8x512x256_S1x512x256_6_0_0).trans (congrArg (sl · 6) (VD_read c arg6 x2 xa2))) (ld_sl (scA.view.read (Elt Ideal) xa1) 6 ![6, 0, 0] rfl inb_S8x1024x256_S1x1024x256_6_0_0) ![6, 0, 0] rfl inb_S8x1024x256_S1x1024x256_6_0_0 y,
    fun y => piece_A 5 _ _ _ _ Sf _ _ _ (congrArg₂ hS1024 (rd_rep arg4.view x0 5 ![5, 0, 0] rfl inb_S8x1024x256_S1x1024x256_5_0_0) (rd_rep arg5.view x1 5 ![5, 0, 0] rfl inb_S8x512x256_S1x512x256_5_0_0)) (ld_sl (scM.view.read (Elt Ideal) xa0) 5 ![5, 0, 0] rfl inb_S8x1024x128_S1x1024x128_5_0_0) ((ld_sl (scV.view.read (Elt Ideal) (scV.view.writes (Elt Ideal) xa2 (runD.sl.HS2_1 arg6 x2))) 5 ![5, 0, 0] rfl inb_S8x512x256_S1x512x256_5_0_0).trans (congrArg (sl · 5) (VD_read c arg6 x2 xa2))) (ld_sl (scA.view.read (Elt Ideal) xa1) 5 ![5, 0, 0] rfl inb_S8x1024x256_S1x1024x256_5_0_0) ![5, 0, 0] rfl inb_S8x1024x256_S1x1024x256_5_0_0 y,
    fun y => piece_A 4 _ _ _ _ Sf _ _ _ (congrArg₂ hS1024 (rd_rep arg4.view x0 4 ![4, 0, 0] rfl inb_S8x1024x256_S1x1024x256_4_0_0) (rd_rep arg5.view x1 4 ![4, 0, 0] rfl inb_S8x512x256_S1x512x256_4_0_0)) (ld_sl (scM.view.read (Elt Ideal) xa0) 4 ![4, 0, 0] rfl inb_S8x1024x128_S1x1024x128_4_0_0) ((ld_sl (scV.view.read (Elt Ideal) (scV.view.writes (Elt Ideal) xa2 (runD.sl.HS2_1 arg6 x2))) 4 ![4, 0, 0] rfl inb_S8x512x256_S1x512x256_4_0_0).trans (congrArg (sl · 4) (VD_read c arg6 x2 xa2))) (ld_sl (scA.view.read (Elt Ideal) xa1) 4 ![4, 0, 0] rfl inb_S8x1024x256_S1x1024x256_4_0_0) ![4, 0, 0] rfl inb_S8x1024x256_S1x1024x256_4_0_0 y,
    fun y => piece_A 3 _ _ _ _ Sf _ _ _ (congrArg₂ hS1024 (rd_rep arg4.view x0 3 ![3, 0, 0] rfl inb_S8x1024x256_S1x1024x256_3_0_0) (rd_rep arg5.view x1 3 ![3, 0, 0] rfl inb_S8x512x256_S1x512x256_3_0_0)) (ld_sl (scM.view.read (Elt Ideal) xa0) 3 ![3, 0, 0] rfl inb_S8x1024x128_S1x1024x128_3_0_0) ((ld_sl (scV.view.read (Elt Ideal) (scV.view.writes (Elt Ideal) xa2 (runD.sl.HS2_1 arg6 x2))) 3 ![3, 0, 0] rfl inb_S8x512x256_S1x512x256_3_0_0).trans (congrArg (sl · 3) (VD_read c arg6 x2 xa2))) (ld_sl (scA.view.read (Elt Ideal) xa1) 3 ![3, 0, 0] rfl inb_S8x1024x256_S1x1024x256_3_0_0) ![3, 0, 0] rfl inb_S8x1024x256_S1x1024x256_3_0_0 y,
    fun y => piece_A 2 _ _ _ _ Sf _ _ _ (congrArg₂ hS1024 (rd_rep arg4.view x0 2 ![2, 0, 0] rfl inb_S8x1024x256_S1x1024x256_2_0_0) (rd_rep arg5.view x1 2 ![2, 0, 0] rfl inb_S8x512x256_S1x512x256_2_0_0)) (ld_sl (scM.view.read (Elt Ideal) xa0) 2 ![2, 0, 0] rfl inb_S8x1024x128_S1x1024x128_2_0_0) ((ld_sl (scV.view.read (Elt Ideal) (scV.view.writes (Elt Ideal) xa2 (runD.sl.HS2_1 arg6 x2))) 2 ![2, 0, 0] rfl inb_S8x512x256_S1x512x256_2_0_0).trans (congrArg (sl · 2) (VD_read c arg6 x2 xa2))) (ld_sl (scA.view.read (Elt Ideal) xa1) 2 ![2, 0, 0] rfl inb_S8x1024x256_S1x1024x256_2_0_0) ![2, 0, 0] rfl inb_S8x1024x256_S1x1024x256_2_0_0 y,
    fun y => piece_A 1 _ _ _ _ Sf _ _ _ (congrArg₂ hS1024 (rd_rep arg4.view x0 1 ![1, 0, 0] rfl inb_S8x1024x256_S1x1024x256_1_0_0) (rd_rep arg5.view x1 1 ![1, 0, 0] rfl inb_S8x512x256_S1x512x256_1_0_0)) (ld_sl (scM.view.read (Elt Ideal) xa0) 1 ![1, 0, 0] rfl inb_S8x1024x128_S1x1024x128_1_0_0) ((ld_sl (scV.view.read (Elt Ideal) (scV.view.writes (Elt Ideal) xa2 (runD.sl.HS2_1 arg6 x2))) 1 ![1, 0, 0] rfl inb_S8x512x256_S1x512x256_1_0_0).trans (congrArg (sl · 1) (VD_read c arg6 x2 xa2))) (ld_sl (scA.view.read (Elt Ideal) xa1) 1 ![1, 0, 0] rfl inb_S8x1024x256_S1x1024x256_1_0_0) ![1, 0, 0] rfl inb_S8x1024x256_S1x1024x256_1_0_0 y,
    fun y => piece_A 0 _ _ _ _ Sf _ _ _ (congrArg₂ hS1024 (rd_rep arg4.view x0 0 ![0, 0, 0] rfl inb_S8x1024x256_S1x1024x256_0_0_0) (rd_rep arg5.view x1 0 ![0, 0, 0] rfl inb_S8x512x256_S1x512x256_0_0_0)) (ld_sl (scM.view.read (Elt Ideal) xa0) 0 ![0, 0, 0] rfl inb_S8x1024x128_S1x1024x128_0_0_0) ((ld_sl (scV.view.read (Elt Ideal) (scV.view.writes (Elt Ideal) xa2 (runD.sl.HS2_1 arg6 x2))) 0 ![0, 0, 0] rfl inb_S8x512x256_S1x512x256_0_0_0).trans (congrArg (sl · 0) (VD_read c arg6 x2 xa2))) (ld_sl (scA.view.read (Elt Ideal) xa1) 0 ![0, 0, 0] rfl inb_S8x1024x256_S1x1024x256_0_0_0) ![0, 0, 0] rfl inb_S8x1024x256_S1x1024x256_0_0_0 y, trivial⟩

end Cert.KernelIdeal.Attn

end
-- ==== Proof.KernelIdeal.StepE.lean ====
/-
  The step of path E, the key tile at the query tile's start: what it leaves in the scratch.
-/
module

public import proofs.«01_k».proof.Proof.KernelIdeal.Step
public import proofs.«01_k».proof.Proof.KernelIdeal.Traj

@[expose] public section

set_option maxRecDepth 16384

noncomputable section

namespace Cert.KernelIdeal.Attn

open Cert.KernelIdeal Cert.KernelIdeal.Gen
open Idealize.ShloMosaic
open Idealize.ShloMosaic.TcCoe

/-- The extended values after the step of path E: the tile's values, the other half kept. -/
theorem VE_read (c : Dev nD) (arg6 : VBlk) (x2 : VVal)
    (xa2 : Buf (Elt Ideal) ((c : Thread nD τ).loc cc0_scratch2)) :
    scV.view.read (Elt Ideal) (scV.view.writes (Elt Ideal) xa2 (runE.sl.HS2_1 arg6 x2)) = nextV x2 (scV.view.read (Elt Ideal) xa2) := by
  funext i
  exact read_kept c arg6 x2 xa2 i

/-- Each head's store of the running maxima on path E is a block of the step. -/
theorem ME_pieces (c : Dev nD) (arg4 : QBlk) (arg5 : KBlk) (arg6 : VBlk)
    (x0 : QVal) (x1 : KVal) (x2 : VVal)
    (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) :
    View.PiecesOf (nextM (fun k => hSm1024 runE.sl.r_2 (sl x0 k) (sl x1 k)) (scM.view.read (Elt Ideal) xa0)) (runE.sl.HS0_8 c arg4 arg5 x0 x1 xa0) :=
  let Sf : Fin 8 → FVec Ideal S1024x512 .f32 := (fun k => hSm1024 runE.sl.r_2 (sl x0 k) (sl x1 k))
  ⟨fun y => piece_M 7 _ _ Sf _ (congrArg₂ (hSm1024 runE.sl.r_2) (rd_rep arg4.view x0 7 ![7, 0, 0] rfl inb_S8x1024x256_S1x1024x256_7_0_0) (rd_rep arg5.view x1 7 ![7, 0, 0] rfl inb_S8x512x256_S1x512x256_7_0_0)) (ld_sl (scM.view.read (Elt Ideal) xa0) 7 ![7, 0, 0] rfl inb_S8x1024x128_S1x1024x128_7_0_0) ![7, 0, 0] rfl inb_S8x1024x128_S1x1024x128_7_0_0 y,
    fun y => piece_M 6 _ _ Sf _ (congrArg₂ (hSm1024 runE.sl.r_2) (rd_rep arg4.view x0 6 ![6, 0, 0] rfl inb_S8x1024x256_S1x1024x256_6_0_0) (rd_rep arg5.view x1 6 ![6, 0, 0] rfl inb_S8x512x256_S1x512x256_6_0_0)) (ld_sl (scM.view.read (Elt Ideal) xa0) 6 ![6, 0, 0] rfl inb_S8x1024x128_S1x1024x128_6_0_0) ![6, 0, 0] rfl inb_S8x1024x128_S1x1024x128_6_0_0 y,
    fun y => piece_M 5 _ _ Sf _ (congrArg₂ (hSm1024 runE.sl.r_2) (rd_rep arg4.view x0 5 ![5, 0, 0] rfl inb_S8x1024x256_S1x1024x256_5_0_0) (rd_rep arg5.view x1 5 ![5, 0, 0] rfl inb_S8x512x256_S1x512x256_5_0_0)) (ld_sl (scM.view.read (Elt Ideal) xa0) 5 ![5, 0, 0] rfl inb_S8x1024x128_S1x1024x128_5_0_0) ![5, 0, 0] rfl inb_S8x1024x128_S1x1024x128_5_0_0 y,
    fun y => piece_M 4 _ _ Sf _ (congrArg₂ (hSm1024 runE.sl.r_2) (rd_rep arg4.view x0 4 ![4, 0, 0] rfl inb_S8x1024x256_S1x1024x256_4_0_0) (rd_rep arg5.view x1 4 ![4, 0, 0] rfl inb_S8x512x256_S1x512x256_4_0_0)) (ld_sl (scM.view.read (Elt Ideal) xa0) 4 ![4, 0, 0] rfl inb_S8x1024x128_S1x1024x128_4_0_0) ![4, 0, 0] rfl inb_S8x1024x128_S1x1024x128_4_0_0 y,
    fun y => piece_M 3 _ _ Sf _ (congrArg₂ (hSm1024 runE.sl.r_2) (rd_rep arg4.view x0 3 ![3, 0, 0] rfl inb_S8x1024x256_S1x1024x256_3_0_0) (rd_rep arg5.view x1 3 ![3, 0, 0] rfl inb_S8x512x256_S1x512x256_3_0_0)) (ld_sl (scM.view.read (Elt Ideal) xa0) 3 ![3, 0, 0] rfl inb_S8x1024x128_S1x1024x128_3_0_0) ![3, 0, 0] rfl inb_S8x1024x128_S1x1024x128_3_0_0 y,
    fun y => piece_M 2 _ _ Sf _ (congrArg₂ (hSm1024 runE.sl.r_2) (rd_rep arg4.view x0 2 ![2, 0, 0] rfl inb_S8x1024x256_S1x1024x256_2_0_0) (rd_rep arg5.view x1 2 ![2, 0, 0] rfl inb_S8x512x256_S1x512x256_2_0_0)) (ld_sl (scM.view.read (Elt Ideal) xa0) 2 ![2, 0, 0] rfl inb_S8x1024x128_S1x1024x128_2_0_0) ![2, 0, 0] rfl inb_S8x1024x128_S1x1024x128_2_0_0 y,
    fun y => piece_M 1 _ _ Sf _ (congrArg₂ (hSm1024 runE.sl.r_2) (rd_rep arg4.view x0 1 ![1, 0, 0] rfl inb_S8x1024x256_S1x1024x256_1_0_0) (rd_rep arg5.view x1 1 ![1, 0, 0] rfl inb_S8x512x256_S1x512x256_1_0_0)) (ld_sl (scM.view.read (Elt Ideal) xa0) 1 ![1, 0, 0] rfl inb_S8x1024x128_S1x1024x128_1_0_0) ![1, 0, 0] rfl inb_S8x1024x128_S1x1024x128_1_0_0 y,
    fun y => piece_M 0 _ _ Sf _ (congrArg₂ (hSm1024 runE.sl.r_2) (rd_rep arg4.view x0 0 ![0, 0, 0] rfl inb_S8x1024x256_S1x1024x256_0_0_0) (rd_rep arg5.view x1 0 ![0, 0, 0] rfl inb_S8x512x256_S1x512x256_0_0_0)) (ld_sl (scM.view.read (Elt Ideal) xa0) 0 ![0, 0, 0] rfl inb_S8x1024x128_S1x1024x128_0_0_0) ![0, 0, 0] rfl inb_S8x1024x128_S1x1024x128_0_0_0 y, trivial⟩

/-- Each head's store of the running sums on path E is a block of the step. -/
theorem AE_pieces (c : Dev nD) (arg4 : QBlk) (arg5 : KBlk) (arg6 : VBlk)
    (x0 : QVal) (x1 : KVal) (x2 : VVal)
    (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) :
    View.PiecesOf (nextA (fun k => hSm1024 runE.sl.r_2 (sl x0 k) (sl x1 k)) (scM.view.read (Elt Ideal) xa0) (nextV x2 (scV.view.read (Elt Ideal) xa2)) (scA.view.read (Elt Ideal) xa1)) (runE.sl.HS1_8 c arg4 arg5 arg6 x0 x1 x2 xa0 xa1 xa2) :=
  let Sf : Fin 8 → FVec Ideal S1024x512 .f32 := (fun k => hSm1024 runE.sl.r_2 (sl x0 k) (sl x1 k))
  ⟨fun y => piece_A 7 _ _ _ _ Sf _ _ _ (congrArg₂ (hSm1024 runE.sl.r_2) (rd_rep arg4.view x0 7 ![7, 0, 0] rfl inb_S8x1024x256_S1x1024x256_7_0_0) (rd_rep arg5.view x1 7 ![7, 0, 0] rfl inb_S8x512x256_S1x512x256_7_0_0)) (ld_sl (scM.view.read (Elt Ideal) xa0) 7 ![7, 0, 0] rfl inb_S8x1024x128_S1x1024x128_7_0_0) ((ld_sl (scV.view.read (Elt Ideal) (scV.view.writes (Elt Ideal) xa2 (runE.sl.HS2_1 arg6 x2))) 7 ![7, 0, 0] rfl inb_S8x512x256_S1x512x256_7_0_0).trans (congrArg (sl · 7) (VE_read c arg6 x2 xa2))) (ld_sl (scA.view.read (Elt Ideal) xa1) 7 ![7, 0, 0] rfl inb_S8x1024x256_S1x1024x256_7_0_0) ![7, 0, 0] rfl inb_S8x1024x256_S1x1024x256_7_0_0 y,
    fun y => piece_A 6 _ _ _ _ Sf _ _ _ (congrArg₂ (hSm1024 runE.sl.r_2) (rd_rep arg4.view x0 6 ![6, 0, 0] rfl inb_S8x1024x256_S1x1024x256_6_0_0) (rd_rep arg5.view x1 6 ![6, 0, 0] rfl inb_S8x512x256_S1x512x256_6_0_0)) (ld_sl (scM.view.read (Elt Ideal) xa0) 6 ![6, 0, 0] rfl inb_S8x1024x128_S1x1024x128_6_0_0) ((ld_sl (scV.view.read (Elt Ideal) (scV.view.writes (Elt Ideal) xa2 (runE.sl.HS2_1 arg6 x2))) 6 ![6, 0, 0] rfl inb_S8x512x256_S1x512x256_6_0_0).trans (congrArg (sl · 6) (VE_read c arg6 x2 xa2))) (ld_sl (scA.view.read (Elt Ideal) xa1) 6 ![6, 0, 0] rfl inb_S8x1024x256_S1x1024x256_6_0_0) ![6, 0, 0] rfl inb_S8x1024x256_S1x1024x256_6_0_0 y,
    fun y => piece_A 5 _ _ _ _ Sf _ _ _ (congrArg₂ (hSm1024 runE.sl.r_2) (rd_rep arg4.view x0 5 ![5, 0, 0] rfl inb_S8x1024x256_S1x1024x256_5_0_0) (rd_rep arg5.view x1 5 ![5, 0, 0] rfl inb_S8x512x256_S1x512x256_5_0_0)) (ld_sl (scM.view.read (Elt Ideal) xa0) 5 ![5, 0, 0] rfl inb_S8x1024x128_S1x1024x128_5_0_0) ((ld_sl (scV.view.read (Elt Ideal) (scV.view.writes (Elt Ideal) xa2 (runE.sl.HS2_1 arg6 x2))) 5 ![5, 0, 0] rfl inb_S8x512x256_S1x512x256_5_0_0).trans (congrArg (sl · 5) (VE_read c arg6 x2 xa2))) (ld_sl (scA.view.read (Elt Ideal) xa1) 5 ![5, 0, 0] rfl inb_S8x1024x256_S1x1024x256_5_0_0) ![5, 0, 0] rfl inb_S8x1024x256_S1x1024x256_5_0_0 y,
    fun y => piece_A 4 _ _ _ _ Sf _ _ _ (congrArg₂ (hSm1024 runE.sl.r_2) (rd_rep arg4.view x0 4 ![4, 0, 0] rfl inb_S8x1024x256_S1x1024x256_4_0_0) (rd_rep arg5.view x1 4 ![4, 0, 0] rfl inb_S8x512x256_S1x512x256_4_0_0)) (ld_sl (scM.view.read (Elt Ideal) xa0) 4 ![4, 0, 0] rfl inb_S8x1024x128_S1x1024x128_4_0_0) ((ld_sl (scV.view.read (Elt Ideal) (scV.view.writes (Elt Ideal) xa2 (runE.sl.HS2_1 arg6 x2))) 4 ![4, 0, 0] rfl inb_S8x512x256_S1x512x256_4_0_0).trans (congrArg (sl · 4) (VE_read c arg6 x2 xa2))) (ld_sl (scA.view.read (Elt Ideal) xa1) 4 ![4, 0, 0] rfl inb_S8x1024x256_S1x1024x256_4_0_0) ![4, 0, 0] rfl inb_S8x1024x256_S1x1024x256_4_0_0 y,
    fun y => piece_A 3 _ _ _ _ Sf _ _ _ (congrArg₂ (hSm1024 runE.sl.r_2) (rd_rep arg4.view x0 3 ![3, 0, 0] rfl inb_S8x1024x256_S1x1024x256_3_0_0) (rd_rep arg5.view x1 3 ![3, 0, 0] rfl inb_S8x512x256_S1x512x256_3_0_0)) (ld_sl (scM.view.read (Elt Ideal) xa0) 3 ![3, 0, 0] rfl inb_S8x1024x128_S1x1024x128_3_0_0) ((ld_sl (scV.view.read (Elt Ideal) (scV.view.writes (Elt Ideal) xa2 (runE.sl.HS2_1 arg6 x2))) 3 ![3, 0, 0] rfl inb_S8x512x256_S1x512x256_3_0_0).trans (congrArg (sl · 3) (VE_read c arg6 x2 xa2))) (ld_sl (scA.view.read (Elt Ideal) xa1) 3 ![3, 0, 0] rfl inb_S8x1024x256_S1x1024x256_3_0_0) ![3, 0, 0] rfl inb_S8x1024x256_S1x1024x256_3_0_0 y,
    fun y => piece_A 2 _ _ _ _ Sf _ _ _ (congrArg₂ (hSm1024 runE.sl.r_2) (rd_rep arg4.view x0 2 ![2, 0, 0] rfl inb_S8x1024x256_S1x1024x256_2_0_0) (rd_rep arg5.view x1 2 ![2, 0, 0] rfl inb_S8x512x256_S1x512x256_2_0_0)) (ld_sl (scM.view.read (Elt Ideal) xa0) 2 ![2, 0, 0] rfl inb_S8x1024x128_S1x1024x128_2_0_0) ((ld_sl (scV.view.read (Elt Ideal) (scV.view.writes (Elt Ideal) xa2 (runE.sl.HS2_1 arg6 x2))) 2 ![2, 0, 0] rfl inb_S8x512x256_S1x512x256_2_0_0).trans (congrArg (sl · 2) (VE_read c arg6 x2 xa2))) (ld_sl (scA.view.read (Elt Ideal) xa1) 2 ![2, 0, 0] rfl inb_S8x1024x256_S1x1024x256_2_0_0) ![2, 0, 0] rfl inb_S8x1024x256_S1x1024x256_2_0_0 y,
    fun y => piece_A 1 _ _ _ _ Sf _ _ _ (congrArg₂ (hSm1024 runE.sl.r_2) (rd_rep arg4.view x0 1 ![1, 0, 0] rfl inb_S8x1024x256_S1x1024x256_1_0_0) (rd_rep arg5.view x1 1 ![1, 0, 0] rfl inb_S8x512x256_S1x512x256_1_0_0)) (ld_sl (scM.view.read (Elt Ideal) xa0) 1 ![1, 0, 0] rfl inb_S8x1024x128_S1x1024x128_1_0_0) ((ld_sl (scV.view.read (Elt Ideal) (scV.view.writes (Elt Ideal) xa2 (runE.sl.HS2_1 arg6 x2))) 1 ![1, 0, 0] rfl inb_S8x512x256_S1x512x256_1_0_0).trans (congrArg (sl · 1) (VE_read c arg6 x2 xa2))) (ld_sl (scA.view.read (Elt Ideal) xa1) 1 ![1, 0, 0] rfl inb_S8x1024x256_S1x1024x256_1_0_0) ![1, 0, 0] rfl inb_S8x1024x256_S1x1024x256_1_0_0 y,
    fun y => piece_A 0 _ _ _ _ Sf _ _ _ (congrArg₂ (hSm1024 runE.sl.r_2) (rd_rep arg4.view x0 0 ![0, 0, 0] rfl inb_S8x1024x256_S1x1024x256_0_0_0) (rd_rep arg5.view x1 0 ![0, 0, 0] rfl inb_S8x512x256_S1x512x256_0_0_0)) (ld_sl (scM.view.read (Elt Ideal) xa0) 0 ![0, 0, 0] rfl inb_S8x1024x128_S1x1024x128_0_0_0) ((ld_sl (scV.view.read (Elt Ideal) (scV.view.writes (Elt Ideal) xa2 (runE.sl.HS2_1 arg6 x2))) 0 ![0, 0, 0] rfl inb_S8x512x256_S1x512x256_0_0_0).trans (congrArg (sl · 0) (VE_read c arg6 x2 xa2))) (ld_sl (scA.view.read (Elt Ideal) xa1) 0 ![0, 0, 0] rfl inb_S8x1024x256_S1x1024x256_0_0_0) ![0, 0, 0] rfl inb_S8x1024x256_S1x1024x256_0_0_0 y, trivial⟩

end Cert.KernelIdeal.Attn

end
-- ==== Proof.KernelIdeal.Next.lean ====
/-
  What one point of the kernel leaves in the scratch, path by path, as functions of what the scratch held before.
-/
module

public import proofs.«01_k».proof.Proof.KernelIdeal.StepA
public import proofs.«01_k».proof.Proof.KernelIdeal.StepB
public import proofs.«01_k».proof.Proof.KernelIdeal.StepC
public import proofs.«01_k».proof.Proof.KernelIdeal.StepD
public import proofs.«01_k».proof.Proof.KernelIdeal.StepE

@[expose] public section

set_option maxRecDepth 16384

noncomputable section

namespace Cert.KernelIdeal.Attn

open Cert.KernelIdeal Cert.KernelIdeal.Gen
open Idealize.ShloMosaic
open Idealize.ShloMosaic.TcCoe

variable (m : (ℓ : Loc nD τ sig) → Buf (Elt Ideal) ℓ)

/-- The block of queries at point `t`. -/
def qb (c : Dev nD) (t : Fin cfgA.N) : S8x1024x256.Idx → EReal := iblk m c (0 : Fin 4) t

/-- The block of keys at point `t`. -/
def kb (c : Dev nD) (t : Fin cfgA.N) : S8x512x256.Idx → EReal := iblk m c (1 : Fin 4) t

/-- The block of values at point `t`. -/
def vb (c : Dev nD) (t : Fin cfgA.N) : S8x512x128.Idx → EReal := iblk m c (2 : Fin 4) t

/-- The running maxima in a scratch. -/
def gM {c : Dev nD} (s : St c) : S8x1024x128.Idx → EReal := scM.view.read (Elt Ideal) s.1

/-- The running sums in a scratch. -/
def gA {c : Dev nD} (s : St c) : S8x1024x256.Idx → EReal := scA.view.read (Elt Ideal) s.2.1

/-- The extended values in a scratch. -/
def gV {c : Dev nD} (s : St c) : S8x512x256.Idx → EReal := scV.view.read (Elt Ideal) s.2.2

/-- The scores of every head on path D or C. -/
def SfD (c : Dev nD) (t : Fin cfgA.N) : Fin 8 → FVec Ideal S1024x512 .f32 := fun k => hS1024 (sl (qb m c t) k) (sl (kb m c t) k)
/-- The scores of every head on path A. -/
def SfA (c : Dev nD) (t : Fin cfgA.N) : Fin 8 → FVec Ideal S1024x512 .f32 := fun k => hSm1024 runA.sl.r_2 (sl (qb m c t) k) (sl (kb m c t) k)
/-- The scores of every head on path E. -/
def SfE (c : Dev nD) (t : Fin cfgA.N) : Fin 8 → FVec Ideal S1024x512 .f32 := fun k => hSm1024 runE.sl.r_2 (sl (qb m c t) k) (sl (kb m c t) k)
/-- The scores of every head on path B. -/
def SfB (c : Dev nD) (t : Fin cfgA.N) : Fin 8 → FVec Ideal S512x512 .f32 := fun k => hSm512 runB.sl.r_2 (sl5 (qb m c t) k) (sl (kb m c t) k)

/-- Scratch 1 after path D, as the stores of the body. -/
theorem step1_D (c : Dev nD) (t : Fin cfgA.N) (s : St c) (h : IsD (qw t) (kw t)) :
    (step m c t s).1 = scM.view.writes (Elt Ideal) (View.whole cc0_scratch0).junk (runD.sl.HS0_8 c (ms0 t) (ms1 t) (iblk m c (0 : Fin 4) t) (iblk m c (1 : Fin 4) t) s.1) := by
  refine (congrArg Prod.fst (step_D m c t s h)).trans ?_
  unfold atD runD
  dsimp only

/-- Scratch 2 after path D, as the stores of the body. -/
theorem step2_D (c : Dev nD) (t : Fin cfgA.N) (s : St c) (h : IsD (qw t) (kw t)) :
    (step m c t s).2.1 = scA.view.writes (Elt Ideal) (View.whole cc0_scratch1).junk (runD.sl.HS1_8 c (ms0 t) (ms1 t) (ms2 t) (iblk m c (0 : Fin 4) t) (iblk m c (1 : Fin 4) t) (iblk m c (2 : Fin 4) t) s.1 s.2.1 s.2.2) := by
  refine (congrArg (fun s => s.2.1) (step_D m c t s h)).trans ?_
  unfold atD runD
  dsimp only

/-- Scratch 3 after path D, as the stores of the body. -/
theorem step3_D (c : Dev nD) (t : Fin cfgA.N) (s : St c) (h : IsD (qw t) (kw t)) :
    (step m c t s).2.2 = scV.view.writes (Elt Ideal) s.2.2 (runD.sl.HS2_1 (ms2 t) (iblk m c (2 : Fin 4) t)) := by
  refine (congrArg (fun s => s.2.2) (step_D m c t s h)).trans ?_
  unfold atD runD
  dsimp only

/-- The running maxima after path D. -/
theorem gM_D (c : Dev nD) (t : Fin cfgA.N) (s : St c) (h : IsD (qw t) (kw t)) : gM (step m c t s) = nextM (SfD m c t) (gM s) := by
  unfold gM
  rw [step1_D m c t s h]
  funext y
  exact View.read_writes_apply_of_pieces scM.view (View.whole cc0_scratch0).junk _ (runD.sl.HS0_8 c (ms0 t) (ms1 t) (iblk m c (0 : Fin 4) t) (iblk m c (1 : Fin 4) t) s.1) (MD_pieces c (ms0 t) (ms1 t) (ms2 t) (iblk m c (0 : Fin 4) t) (iblk m c (1 : Fin 4) t) (iblk m c (2 : Fin 4) t) s.1 s.2.1 s.2.2).mem y
    (View.cover_of_tiled _ ![1, 1024, 128] rfl y)

/-- The running sums after path D. -/
theorem gA_D (c : Dev nD) (t : Fin cfgA.N) (s : St c) (h : IsD (qw t) (kw t)) :
    gA (step m c t s) = nextA (SfD m c t) (gM s) (nextV (vb m c t) (gV s)) (gA s) := by
  unfold gA
  rw [step2_D m c t s h]
  funext y
  exact View.read_writes_apply_of_pieces scA.view (View.whole cc0_scratch1).junk _ (runD.sl.HS1_8 c (ms0 t) (ms1 t) (ms2 t) (iblk m c (0 : Fin 4) t) (iblk m c (1 : Fin 4) t) (iblk m c (2 : Fin 4) t) s.1 s.2.1 s.2.2) (AD_pieces c (ms0 t) (ms1 t) (ms2 t) (iblk m c (0 : Fin 4) t) (iblk m c (1 : Fin 4) t) (iblk m c (2 : Fin 4) t) s.1 s.2.1 s.2.2).mem y
    (View.cover_of_tiled _ ![1, 1024, 256] rfl y)

/-- The extended values after path D. -/
theorem gV_D (c : Dev nD) (t : Fin cfgA.N) (s : St c) (h : IsD (qw t) (kw t)) : gV (step m c t s) = nextV (vb m c t) (gV s) := by
  unfold gV
  rw [step3_D m c t s h]
  exact VD_read c (ms2 t) (iblk m c (2 : Fin 4) t) s.2.2

/-- Scratch 1 after path E, as the stores of the body. -/
theorem step1_E (c : Dev nD) (t : Fin cfgA.N) (s : St c) (h : IsE (qw t) (kw t)) :
    (step m c t s).1 = scM.view.writes (Elt Ideal) (View.whole cc0_scratch0).junk (runE.sl.HS0_8 c (ms0 t) (ms1 t) (iblk m c (0 : Fin 4) t) (iblk m c (1 : Fin 4) t) s.1) := by
  refine (congrArg Prod.fst (step_E m c t s h)).trans ?_
  unfold atE runE
  dsimp only

/-- Scratch 2 after path E, as the stores of the body. -/
theorem step2_E (c : Dev nD) (t : Fin cfgA.N) (s : St c) (h : IsE (qw t) (kw t)) :
    (step m c t s).2.1 = scA.view.writes (Elt Ideal) (View.whole cc0_scratch1).junk (runE.sl.HS1_8 c (ms0 t) (ms1 t) (ms2 t) (iblk m c (0 : Fin 4) t) (iblk m c (1 : Fin 4) t) (iblk m c (2 : Fin 4) t) s.1 s.2.1 s.2.2) := by
  refine (congrArg (fun s => s.2.1) (step_E m c t s h)).trans ?_
  unfold atE runE
  dsimp only

/-- Scratch 3 after path E, as the stores of the body. -/
theorem step3_E (c : Dev nD) (t : Fin cfgA.N) (s : St c) (h : IsE (qw t) (kw t)) :
    (step m c t s).2.2 = scV.view.writes (Elt Ideal) s.2.2 (runE.sl.HS2_1 (ms2 t) (iblk m c (2 : Fin 4) t)) := by
  refine (congrArg (fun s => s.2.2) (step_E m c t s h)).trans ?_
  unfold atE runE
  dsimp only

/-- The running maxima after path E. -/
theorem gM_E (c : Dev nD) (t : Fin cfgA.N) (s : St c) (h : IsE (qw t) (kw t)) : gM (step m c t s) = nextM (SfE m c t) (gM s) := by
  unfold gM
  rw [step1_E m c t s h]
  funext y
  exact View.read_writes_apply_of_pieces scM.view (View.whole cc0_scratch0).junk _ (runE.sl.HS0_8 c (ms0 t) (ms1 t) (iblk m c (0 : Fin 4) t) (iblk m c (1 : Fin 4) t) s.1) (ME_pieces c (ms0 t) (ms1 t) (ms2 t) (iblk m c (0 : Fin 4) t) (iblk m c (1 : Fin 4) t) (iblk m c (2 : Fin 4) t) s.1 s.2.1 s.2.2).mem y
    (View.cover_of_tiled _ ![1, 1024, 128] rfl y)

/-- The running sums after path E. -/
theorem gA_E (c : Dev nD) (t : Fin cfgA.N) (s : St c) (h : IsE (qw t) (kw t)) :
    gA (step m c t s) = nextA (SfE m c t) (gM s) (nextV (vb m c t) (gV s)) (gA s) := by
  unfold gA
  rw [step2_E m c t s h]
  funext y
  exact View.read_writes_apply_of_pieces scA.view (View.whole cc0_scratch1).junk _ (runE.sl.HS1_8 c (ms0 t) (ms1 t) (ms2 t) (iblk m c (0 : Fin 4) t) (iblk m c (1 : Fin 4) t) (iblk m c (2 : Fin 4) t) s.1 s.2.1 s.2.2) (AE_pieces c (ms0 t) (ms1 t) (ms2 t) (iblk m c (0 : Fin 4) t) (iblk m c (1 : Fin 4) t) (iblk m c (2 : Fin 4) t) s.1 s.2.1 s.2.2).mem y
    (View.cover_of_tiled _ ![1, 1024, 256] rfl y)

/-- The extended values after path E. -/
theorem gV_E (c : Dev nD) (t : Fin cfgA.N) (s : St c) (h : IsE (qw t) (kw t)) : gV (step m c t s) = nextV (vb m c t) (gV s) := by
  unfold gV
  rw [step3_E m c t s h]
  exact VE_read c (ms2 t) (iblk m c (2 : Fin 4) t) s.2.2

/-- Scratch 1 after path A, as the stores of the body. -/
theorem step1_A (c : Dev nD) (t : Fin cfgA.N) (s : St c) (h : IsA (qw t) (kw t)) :
    (step m c t s).1 = scM.view.writes (Elt Ideal) (View.whole cc0_scratch0).junk (runA.sl.HS0_9 (ms0 t) (ms1 t) (iblk m c (0 : Fin 4) t) (iblk m c (1 : Fin 4) t)) := by
  refine (congrArg Prod.fst (step_A m c t s h)).trans ?_
  unfold atA runA
  dsimp only

/-- Scratch 2 after path A, as the stores of the body. -/
theorem step2_A (c : Dev nD) (t : Fin cfgA.N) (s : St c) (h : IsA (qw t) (kw t)) :
    (step m c t s).2.1 = scA.view.writes (Elt Ideal) (View.whole cc0_scratch1).junk (runA.sl.HS1_9 (ms0 t) (ms1 t) (ms2 t) (iblk m c (0 : Fin 4) t) (iblk m c (1 : Fin 4) t) (iblk m c (2 : Fin 4) t)) := by
  refine (congrArg (fun s => s.2.1) (step_A m c t s h)).trans ?_
  unfold atA runA
  dsimp only

/-- Scratch 3 after path A, as the stores of the body. -/
theorem step3_A (c : Dev nD) (t : Fin cfgA.N) (s : St c) (h : IsA (qw t) (kw t)) :
    (step m c t s).2.2 = scV.view.writes (Elt Ideal) (View.whole cc0_scratch2).junk (runA.sl.HS2_2 (ms2 t) (iblk m c (2 : Fin 4) t)) := by
  refine (congrArg (fun s => s.2.2) (step_A m c t s h)).trans ?_
  unfold atA runA
  dsimp only

/-- The running maxima after path A. -/
theorem gM_A (c : Dev nD) (t : Fin cfgA.N) (s : St c) (h : IsA (qw t) (kw t)) : gM (step m c t s) = nextM (SfA m c t) (fun _ => ⊥) := by
  unfold gM
  rw [step1_A m c t s h]
  funext y
  exact View.read_writes_apply_of_pieces scM.view (scM.view.writes (Elt Ideal) (View.whole cc0_scratch0).junk runA.sl.HS0_1) _ ((runA.sl.HS0_9 (ms0 t) (ms1 t) (iblk m c (0 : Fin 4) t) (iblk m c (1 : Fin 4) t)).take 8) (MA_pieces (ms0 t) (ms1 t) (ms2 t) (iblk m c (0 : Fin 4) t) (iblk m c (1 : Fin 4) t) (iblk m c (2 : Fin 4) t)).mem y
    (View.cover_of_tiled _ ![1, 1024, 128] rfl y)

/-- The running sums after path A. -/
theorem gA_A (c : Dev nD) (t : Fin cfgA.N) (s : St c) (h : IsA (qw t) (kw t)) :
    gA (step m c t s) = nextA (SfA m c t) (fun _ => ⊥) (nextV (vb m c t) (fun _ => 1)) (fun _ => 0) := by
  unfold gA
  rw [step2_A m c t s h]
  funext y
  exact View.read_writes_apply_of_pieces scA.view (scA.view.writes (Elt Ideal) (View.whole cc0_scratch1).junk runA.sl.HS1_1) _ ((runA.sl.HS1_9 (ms0 t) (ms1 t) (ms2 t) (iblk m c (0 : Fin 4) t) (iblk m c (1 : Fin 4) t) (iblk m c (2 : Fin 4) t)).take 8) (AA_pieces (ms0 t) (ms1 t) (ms2 t) (iblk m c (0 : Fin 4) t) (iblk m c (1 : Fin 4) t) (iblk m c (2 : Fin 4) t)).mem y
    (View.cover_of_tiled _ ![1, 1024, 256] rfl y)

/-- The extended values after path A. -/
theorem gV_A (c : Dev nD) (t : Fin cfgA.N) (s : St c) (h : IsA (qw t) (kw t)) : gV (step m c t s) = nextV (vb m c t) (fun _ => 1) := by
  unfold gV
  rw [step3_A m c t s h]
  funext y
  exact (congrFun (View.read_writes_junk_eq_canon scV.view (runA.sl.HS2_2 (ms2 t) (iblk m c (2 : Fin 4) t))) y).trans
    (congrFun (VA_canon (ms2 t) (iblk m c (2 : Fin 4) t)) y)

/-- Scratch 1 after path C, as the stores of the body. -/
theorem step1_C (c : Dev nD) (t : Fin cfgA.N) (s : St c) (h : IsC (qw t) (kw t)) :
    (step m c t s).1 = scM.view.writes (Elt Ideal) (View.whole cc0_scratch0).junk (runC.sl.HS0_9 (ms0 t) (ms1 t) (iblk m c (0 : Fin 4) t) (iblk m c (1 : Fin 4) t)) := by
  refine (congrArg Prod.fst (step_C m c t s h)).trans ?_
  unfold atC runC
  dsimp only

/-- Scratch 2 after path C, as the stores of the body. -/
theorem step2_C (c : Dev nD) (t : Fin cfgA.N) (s : St c) (h : IsC (qw t) (kw t)) :
    (step m c t s).2.1 = scA.view.writes (Elt Ideal) (View.whole cc0_scratch1).junk (runC.sl.HS1_9 (ms0 t) (ms1 t) (ms2 t) (iblk m c (0 : Fin 4) t) (iblk m c (1 : Fin 4) t) (iblk m c (2 : Fin 4) t)) := by
  refine (congrArg (fun s => s.2.1) (step_C m c t s h)).trans ?_
  unfold atC runC
  dsimp only

/-- Scratch 3 after path C, as the stores of the body. -/
theorem step3_C (c : Dev nD) (t : Fin cfgA.N) (s : St c) (h : IsC (qw t) (kw t)) :
    (step m c t s).2.2 = scV.view.writes (Elt Ideal) (View.whole cc0_scratch2).junk (runC.sl.HS2_2 (ms2 t) (iblk m c (2 : Fin 4) t)) := by
  refine (congrArg (fun s => s.2.2) (step_C m c t s h)).trans ?_
  unfold atC runC
  dsimp only

/-- The running maxima after path C. -/
theorem gM_C (c : Dev nD) (t : Fin cfgA.N) (s : St c) (h : IsC (qw t) (kw t)) : gM (step m c t s) = nextM (SfD m c t) (fun _ => ⊥) := by
  unfold gM
  rw [step1_C m c t s h]
  funext y
  exact View.read_writes_apply_of_pieces scM.view (scM.view.writes (Elt Ideal) (View.whole cc0_scratch0).junk runC.sl.HS0_1) _ ((runC.sl.HS0_9 (ms0 t) (ms1 t) (iblk m c (0 : Fin 4) t) (iblk m c (1 : Fin 4) t)).take 8) (MC_pieces (ms0 t) (ms1 t) (ms2 t) (iblk m c (0 : Fin 4) t) (iblk m c (1 : Fin 4) t) (iblk m c (2 : Fin 4) t)).mem y
    (View.cover_of_tiled _ ![1, 1024, 128] rfl y)

/-- The running sums after path C. -/
theorem gA_C (c : Dev nD) (t : Fin cfgA.N) (s : St c) (h : IsC (qw t) (kw t)) :
    gA (step m c t s) = nextA (SfD m c t) (fun _ => ⊥) (nextV (vb m c t) (fun _ => 1)) (fun _ => 0) := by
  unfold gA
  rw [step2_C m c t s h]
  funext y
  exact View.read_writes_apply_of_pieces scA.view (scA.view.writes (Elt Ideal) (View.whole cc0_scratch1).junk runC.sl.HS1_1) _ ((runC.sl.HS1_9 (ms0 t) (ms1 t) (ms2 t) (iblk m c (0 : Fin 4) t) (iblk m c (1 : Fin 4) t) (iblk m c (2 : Fin 4) t)).take 8) (AC_pieces (ms0 t) (ms1 t) (ms2 t) (iblk m c (0 : Fin 4) t) (iblk m c (1 : Fin 4) t) (iblk m c (2 : Fin 4) t)).mem y
    (View.cover_of_tiled _ ![1, 1024, 256] rfl y)

/-- The extended values after path C. -/
theorem gV_C (c : Dev nD) (t : Fin cfgA.N) (s : St c) (h : IsC (qw t) (kw t)) : gV (step m c t s) = nextV (vb m c t) (fun _ => 1) := by
  unfold gV
  rw [step3_C m c t s h]
  funext y
  exact (congrFun (View.read_writes_junk_eq_canon scV.view (runC.sl.HS2_2 (ms2 t) (iblk m c (2 : Fin 4) t))) y).trans
    (congrFun (VC_canon (ms2 t) (iblk m c (2 : Fin 4) t)) y)

/-- A store on the lower rows of head `k` holds the index. -/
theorem mem5_128 (y : S8x1024x128.Idx) (hy : 512 ≤ (y 1).val) (k : ℕ) (hk : (y 0).val = k) (inb) :
    y ∈ (Rect.unit (s := S8x1024x128) ![k, 512, 0] S1x512x128.size inb).set := by
  rw [Rect.mem_set_unit]
  have h1 : (y 1).val < 1024 := (y 1).isLt
  have h2 : (y 2).val < 128 := (y 2).isLt
  intro a
  fin_cases a
  · show k ≤ (y 0).val ∧ (y 0).val < k + 1; omega
  · show 512 ≤ (y 1).val ∧ (y 1).val < 512 + 512; omega
  · show 0 ≤ (y 2).val ∧ (y 2).val < 0 + 128; omega

/-- No store on the lower rows holds an index of the upper rows. -/
theorem not_mem5_128 (y : S8x1024x128.Idx) (hy : (y 1).val < 512) (k : ℕ) (inb) :
    y ∉ (Rect.unit (s := S8x1024x128) ![k, 512, 0] S1x512x128.size inb).set := by
  rw [Rect.mem_set_unit]
  intro h
  have h1 : 512 ≤ (y 1).val := (h 1).1
  omega

/-- A store on the lower rows of head `k` holds the index. -/
theorem mem5_256 (y : S8x1024x256.Idx) (hy : 512 ≤ (y 1).val) (k : ℕ) (hk : (y 0).val = k) (inb) :
    y ∈ (Rect.unit (s := S8x1024x256) ![k, 512, 0] S1x512x256.size inb).set := by
  rw [Rect.mem_set_unit]
  have h1 : (y 1).val < 1024 := (y 1).isLt
  have h2 : (y 2).val < 256 := (y 2).isLt
  intro a
  fin_cases a
  · show k ≤ (y 0).val ∧ (y 0).val < k + 1; omega
  · show 512 ≤ (y 1).val ∧ (y 1).val < 512 + 512; omega
  · show 0 ≤ (y 2).val ∧ (y 2).val < 0 + 256; omega

/-- No store on the lower rows holds an index of the upper rows. -/
theorem not_mem5_256 (y : S8x1024x256.Idx) (hy : (y 1).val < 512) (k : ℕ) (inb) :
    y ∉ (Rect.unit (s := S8x1024x256) ![k, 512, 0] S1x512x256.size inb).set := by
  rw [Rect.mem_set_unit]
  intro h
  have h1 : 512 ≤ (y 1).val := (h 1).1
  omega

/-- Scratch 1 after path B, as the stores of the body. -/
theorem step1_B (c : Dev nD) (t : Fin cfgA.N) (s : St c) (h : IsB (qw t) (kw t)) :
    (step m c t s).1 = scM.view.writes (Elt Ideal) s.1 (listMB c (ms0 t) (ms1 t) (iblk m c (0 : Fin 4) t) (iblk m c (1 : Fin 4) t) s.1) := by
  refine (congrArg Prod.fst (step_B m c t s h)).trans ?_
  unfold atB runB listMB
  dsimp only

/-- Scratch 2 after path B, as the stores of the body. -/
theorem step2_B (c : Dev nD) (t : Fin cfgA.N) (s : St c) (h : IsB (qw t) (kw t)) :
    (step m c t s).2.1 = scA.view.writes (Elt Ideal) s.2.1 (runB.sl.HS1_8 c (ms0 t) (ms1 t) (ms2 t) (iblk m c (0 : Fin 4) t) (iblk m c (1 : Fin 4) t) (iblk m c (2 : Fin 4) t) s.1 s.2.1 s.2.2) := by
  refine (congrArg (fun s => s.2.1) (step_B m c t s h)).trans ?_
  unfold atB runB
  dsimp only

/-- Scratch 3 after path B, as the stores of the body. -/
theorem step3_B (c : Dev nD) (t : Fin cfgA.N) (s : St c) (h : IsB (qw t) (kw t)) :
    (step m c t s).2.2 = scV.view.writes (Elt Ideal) s.2.2 (runB.sl.HS2_1 (ms2 t) (iblk m c (2 : Fin 4) t)) := by
  refine (congrArg (fun s => s.2.2) (step_B m c t s h)).trans ?_
  unfold atB runB
  dsimp only

set_option maxHeartbeats 1000000 in
/-- The running maxima after path B, on the lower rows. -/
theorem gM_B (c : Dev nD) (t : Fin cfgA.N) (s : St c) (h : IsB (qw t) (kw t)) (y : S8x1024x128.Idx) (hy : 512 ≤ (y 1).val) :
    gM (step m c t s) y = nextM5 (SfB m c t) (gM s) y := by
  unfold gM
  rw [step1_B m c t s h]
  exact View.read_writes_apply_of_pieces scM.view s.1 _ (listMB c (ms0 t) (ms1 t) (iblk m c (0 : Fin 4) t) (iblk m c (1 : Fin 4) t) s.1) (MB_pieces c (ms0 t) (ms1 t) (ms2 t) (iblk m c (0 : Fin 4) t) (iblk m c (1 : Fin 4) t) (iblk m c (2 : Fin 4) t) s.1 s.2.1 s.2.2).mem y
    (by
      have h0 : (y 0).val < 8 := (y 0).isLt
      rcases (show (y 0).val = 7 ∨ (y 0).val = 6 ∨ (y 0).val = 5 ∨ (y 0).val = 4 ∨ (y 0).val = 3 ∨ (y 0).val = 2 ∨ (y 0).val = 1 ∨ (y 0).val = 0 by omega) with e | e | e | e | e | e | e | e
      · exact ⟨_, List.mem_cons_self, mem5_128 y hy 7 e inb_S8x1024x128_S1x512x128_7_512_0⟩
      · exact ⟨_, (List.mem_cons_of_mem _ List.mem_cons_self), mem5_128 y hy 6 e inb_S8x1024x128_S1x512x128_6_512_0⟩
      · exact ⟨_, (List.mem_cons_of_mem _ (List.mem_cons_of_mem _ List.mem_cons_self)), mem5_128 y hy 5 e inb_S8x1024x128_S1x512x128_5_512_0⟩
      · exact ⟨_, (List.mem_cons_of_mem _ (List.mem_cons_of_mem _ (List.mem_cons_of_mem _ List.mem_cons_self))), mem5_128 y hy 4 e inb_S8x1024x128_S1x512x128_4_512_0⟩
      · exact ⟨_, (List.mem_cons_of_mem _ (List.mem_cons_of_mem _ (List.mem_cons_of_mem _ (List.mem_cons_of_mem _ List.mem_cons_self)))), mem5_128 y hy 3 e inb_S8x1024x128_S1x512x128_3_512_0⟩
      · exact ⟨_, (List.mem_cons_of_mem _ (List.mem_cons_of_mem _ (List.mem_cons_of_mem _ (List.mem_cons_of_mem _ (List.mem_cons_of_mem _ List.mem_cons_self))))), mem5_128 y hy 2 e inb_S8x1024x128_S1x512x128_2_512_0⟩
      · exact ⟨_, (List.mem_cons_of_mem _ (List.mem_cons_of_mem _ (List.mem_cons_of_mem _ (List.mem_cons_of_mem _ (List.mem_cons_of_mem _ (List.mem_cons_of_mem _ List.mem_cons_self)))))), mem5_128 y hy 1 e inb_S8x1024x128_S1x512x128_1_512_0⟩
      · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem5_128 y hy 0 e inb_S8x1024x128_S1x512x128_0_512_0⟩
      )

set_option maxHeartbeats 1000000 in
/-- The running sums after path B, on the lower rows. -/
theorem gA_B (c : Dev nD) (t : Fin cfgA.N) (s : St c) (h : IsB (qw t) (kw t)) (y : S8x1024x256.Idx) (hy : 512 ≤ (y 1).val) :
    gA (step m c t s) y = nextA5 (SfB m c t) (gM s) (nextV (vb m c t) (gV s)) (gA s) y := by
  unfold gA
  rw [step2_B m c t s h]
  exact View.read_writes_apply_of_pieces scA.view s.2.1 _ (runB.sl.HS1_8 c (ms0 t) (ms1 t) (ms2 t) (iblk m c (0 : Fin 4) t) (iblk m c (1 : Fin 4) t) (iblk m c (2 : Fin 4) t) s.1 s.2.1 s.2.2) (AB_pieces c (ms0 t) (ms1 t) (ms2 t) (iblk m c (0 : Fin 4) t) (iblk m c (1 : Fin 4) t) (iblk m c (2 : Fin 4) t) s.1 s.2.1 s.2.2).mem y
    (by
      have h0 : (y 0).val < 8 := (y 0).isLt
      rcases (show (y 0).val = 7 ∨ (y 0).val = 6 ∨ (y 0).val = 5 ∨ (y 0).val = 4 ∨ (y 0).val = 3 ∨ (y 0).val = 2 ∨ (y 0).val = 1 ∨ (y 0).val = 0 by omega) with e | e | e | e | e | e | e | e
      · exact ⟨_, List.mem_cons_self, mem5_256 y hy 7 e inb_S8x1024x256_S1x512x256_7_512_0⟩
      · exact ⟨_, (List.mem_cons_of_mem _ List.mem_cons_self), mem5_256 y hy 6 e inb_S8x1024x256_S1x512x256_6_512_0⟩
      · exact ⟨_, (List.mem_cons_of_mem _ (List.mem_cons_of_mem _ List.mem_cons_self)), mem5_256 y hy 5 e inb_S8x1024x256_S1x512x256_5_512_0⟩
      · exact ⟨_, (List.mem_cons_of_mem _ (List.mem_cons_of_mem _ (List.mem_cons_of_mem _ List.mem_cons_self))), mem5_256 y hy 4 e inb_S8x1024x256_S1x512x256_4_512_0⟩
      · exact ⟨_, (List.mem_cons_of_mem _ (List.mem_cons_of_mem _ (List.mem_cons_of_mem _ (List.mem_cons_of_mem _ List.mem_cons_self)))), mem5_256 y hy 3 e inb_S8x1024x256_S1x512x256_3_512_0⟩
      · exact ⟨_, (List.mem_cons_of_mem _ (List.mem_cons_of_mem _ (List.mem_cons_of_mem _ (List.mem_cons_of_mem _ (List.mem_cons_of_mem _ List.mem_cons_self))))), mem5_256 y hy 2 e inb_S8x1024x256_S1x512x256_2_512_0⟩
      · exact ⟨_, (List.mem_cons_of_mem _ (List.mem_cons_of_mem _ (List.mem_cons_of_mem _ (List.mem_cons_of_mem _ (List.mem_cons_of_mem _ (List.mem_cons_of_mem _ List.mem_cons_self)))))), mem5_256 y hy 1 e inb_S8x1024x256_S1x512x256_1_512_0⟩
      · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem5_256 y hy 0 e inb_S8x1024x256_S1x512x256_0_512_0⟩
      )

set_option maxHeartbeats 1000000 in
/-- The running sums after path B, on the upper rows: kept. -/
theorem gA_B_keep (c : Dev nD) (t : Fin cfgA.N) (s : St c) (h : IsB (qw t) (kw t)) (y : S8x1024x256.Idx) (hy : (y 1).val < 512) :
    gA (step m c t s) y = gA s y := by
  unfold gA
  rw [step2_B m c t s h]
  refine View.read_writes_apply_of_forall_not_mem scA.view s.2.1 y (runB.sl.HS1_8 c (ms0 t) (ms1 t) (ms2 t) (iblk m c (0 : Fin 4) t) (iblk m c (1 : Fin 4) t) (iblk m c (2 : Fin 4) t) s.1 s.2.1 s.2.2) (List.forall_mem_cons.mpr ⟨not_mem5_256 y hy 7 inb_S8x1024x256_S1x512x256_7_512_0, List.forall_mem_cons.mpr ⟨not_mem5_256 y hy 6 inb_S8x1024x256_S1x512x256_6_512_0, List.forall_mem_cons.mpr ⟨not_mem5_256 y hy 5 inb_S8x1024x256_S1x512x256_5_512_0, List.forall_mem_cons.mpr ⟨not_mem5_256 y hy 4 inb_S8x1024x256_S1x512x256_4_512_0, List.forall_mem_cons.mpr ⟨not_mem5_256 y hy 3 inb_S8x1024x256_S1x512x256_3_512_0, List.forall_mem_cons.mpr ⟨not_mem5_256 y hy 2 inb_S8x1024x256_S1x512x256_2_512_0, List.forall_mem_cons.mpr ⟨not_mem5_256 y hy 1 inb_S8x1024x256_S1x512x256_1_512_0, List.forall_mem_cons.mpr ⟨not_mem5_256 y hy 0 inb_S8x1024x256_S1x512x256_0_512_0, fun _ hn => absurd hn List.not_mem_nil⟩⟩⟩⟩⟩⟩⟩⟩)

/-- The extended values after path B. -/
theorem gV_B (c : Dev nD) (t : Fin cfgA.N) (s : St c) (h : IsB (qw t) (kw t)) : gV (step m c t s) = nextV (vb m c t) (gV s) := by
  unfold gV
  rw [step3_B m c t s h]
  exact VB_read c (ms2 t) (iblk m c (2 : Fin 4) t) s.2.2

end Cert.KernelIdeal.Attn

end
-- ==== Proof.KernelIdeal.Out.lean ====
/-
  The block of the result that the last key tile of a sequence stores: the running sums divided by the running row sums.
-/
module

public import proofs.«01_k».proof.Proof.KernelIdeal.Next

@[expose] public section

set_option maxRecDepth 16384

noncomputable section

namespace Cert.KernelIdeal.Attn

open Cert.KernelIdeal Cert.KernelIdeal.Gen
open Idealize.ShloMosaic
open Idealize.ShloMosaic.TcCoe

variable (m : (ℓ : Loc nD τ sig) → Buf (Elt Ideal) ℓ)

/-- One head's result: the sums over the values divided by the sums of the weights. -/
def hO (a : Vec Ideal S1x1024x256 .f32) : FVec Ideal S1024x128 .bf16 :=
  truncf .bf16 (divf (extractStridedSlice S1024x128 ![0, 0] (shapeCast S1024x256 a shapeCasts_S1x1024x256_S1024x256) slices_S1024x256_o0_0_S1024x128)
    (extractStridedSlice S1024x128 ![0, 128] (shapeCast S1024x256 a shapeCasts_S1x1024x256_S1024x256) slices_S1024x256_o0_128_S1024x128)) bitsLt_bf16_f32

theorem hO_apply (a : Vec Ideal S1x1024x256 .f32) (r : Fin 1024) (d : Fin 128) :
    hO a (ix2 r d) = Ideal.div (a (ix3 0 r ⟨d.val, by omega⟩)) (a (ix3 0 r ⟨128 + d.val, by omega⟩)) := by
  pointwise [hO]

/-- The result block from the running sums. -/
def quot (A : S8x1024x256.Idx → EReal) : S1024x1024.Idx → EReal := fun i =>
  have h1 : (i 1).val < 1024 := (i 1).isLt
  Ideal.div (A (ix3 ⟨(i 1).val / 128, by omega⟩ (i 0) ⟨(i 1).val % 128, by omega⟩))
    (A (ix3 ⟨(i 1).val / 128, by omega⟩ (i 0) ⟨128 + (i 1).val % 128, by omega⟩))

/-- One head's store of the result is a block of `quot`. -/
theorem piece_O (k : Fin 8) (A : S8x1024x256.Idx → EReal) (a : Vec Ideal S1x1024x256 .f32) (ha : a = sl A k) (off : Fin 2 → ℕ)
    (ho : off = ![0, 128 * k.val]) (inb) (y : S1024x128.Idx) :
    hO a y = quot A ((Rect.unit (s := S1024x1024) off S1024x128.size inb).emb y) := by
  subst ha ho
  have hd : (y 1).val < 128 := (y 1).isLt
  have e : (Rect.unit (s := S1024x1024) ![0, 128 * k.val] S1024x128.size inb).emb y = ix2 (y 0) ⟨128 * k.val + (y 1).val, by omega⟩ := by
    refine funext fun a => Fin.ext ?_
    fin_cases a
    · show 0 + 1 * (y 0).val = (y 0).val; omega
    · show 128 * k.val + 1 * (y 1).val = 128 * k.val + (y 1).val; omega
  have hy : y = ix2 (y 0) (y 1) := by
    refine funext fun a => ?_
    fin_cases a <;> rfl
  rw [e]
  refine (congrArg (hO (sl A k)) hy).trans ((hO_apply (sl A k) (y 0) (y 1)).trans ?_)
  have e1 : (128 * k.val + (y 1).val) / 128 = k.val := by omega
  have e2 : (128 * k.val + (y 1).val) % 128 = (y 1).val := by omega
  have key : ∀ (a b : Fin 8) (c d : Fin 256), a = b → c = d → A (ix3 a (y 0) c) = A (ix3 b (y 0) d) := by
    rintro _ _ _ _ rfl rfl; rfl
  refine congrArg₂ Ideal.div (key _ _ _ _ (Fin.ext ?_) (Fin.ext ?_)) (key _ _ _ _ (Fin.ext ?_) (Fin.ext ?_))
  · exact e1.symm
  · exact e2.symm
  · exact e1.symm
  · show 128 + (y 1).val = 128 + (128 * k.val + (y 1).val) % 128
    omega

/-- Each head's store of the result is a block of `quot`, at the sums the step leaves. -/
theorem OB_pieces (c : Dev nD) (t : Fin cfgA.N) (s : St c) :
    View.PiecesOf (quot (scA.view.read (Elt Ideal) (scA.view.writes (Elt Ideal) s.2.1 (runB.sl.HS1_8 c (ms0 t) (ms1 t) (ms2 t) (iblk m c (0 : Fin 4) t) (iblk m c (1 : Fin 4) t) (iblk m c (2 : Fin 4) t) s.1 s.2.1 s.2.2)))) (runB.sl.HO3_8 c (ms0 t) (ms1 t) (ms2 t) (iblk m c (0 : Fin 4) t) (iblk m c (1 : Fin 4) t) (iblk m c (2 : Fin 4) t) s.1 s.2.1 s.2.2) :=
  let A : S8x1024x256.Idx → EReal := scA.view.read (Elt Ideal) (scA.view.writes (Elt Ideal) s.2.1 (runB.sl.HS1_8 c (ms0 t) (ms1 t) (ms2 t) (iblk m c (0 : Fin 4) t) (iblk m c (1 : Fin 4) t) (iblk m c (2 : Fin 4) t) s.1 s.2.1 s.2.2))
  ⟨fun y => piece_O 7 _ _ (ld_sl A 7 ![7, 0, 0] rfl inb_S8x1024x256_S1x1024x256_7_0_0) ![0, 896] rfl inb_S1024x1024_S1024x128_0_896 y,
    fun y => piece_O 6 _ _ (ld_sl A 6 ![6, 0, 0] rfl inb_S8x1024x256_S1x1024x256_6_0_0) ![0, 768] rfl inb_S1024x1024_S1024x128_0_768 y,
    fun y => piece_O 5 _ _ (ld_sl A 5 ![5, 0, 0] rfl inb_S8x1024x256_S1x1024x256_5_0_0) ![0, 640] rfl inb_S1024x1024_S1024x128_0_640 y,
    fun y => piece_O 4 _ _ (ld_sl A 4 ![4, 0, 0] rfl inb_S8x1024x256_S1x1024x256_4_0_0) ![0, 512] rfl inb_S1024x1024_S1024x128_0_512 y,
    fun y => piece_O 3 _ _ (ld_sl A 3 ![3, 0, 0] rfl inb_S8x1024x256_S1x1024x256_3_0_0) ![0, 384] rfl inb_S1024x1024_S1024x128_0_384 y,
    fun y => piece_O 2 _ _ (ld_sl A 2 ![2, 0, 0] rfl inb_S8x1024x256_S1x1024x256_2_0_0) ![0, 256] rfl inb_S1024x1024_S1024x128_0_256 y,
    fun y => piece_O 1 _ _ (ld_sl A 1 ![1, 0, 0] rfl inb_S8x1024x256_S1x1024x256_1_0_0) ![0, 128] rfl inb_S1024x1024_S1024x128_0_128 y,
    fun y => piece_O 0 _ _ (ld_sl A 0 ![0, 0, 0] rfl inb_S8x1024x256_S1x1024x256_0_0_0) ![0, 0] rfl inb_S1024x1024_S1024x128_0_0 y, trivial⟩

theorem list_B (c : Dev nD) (t : Fin cfgA.N) (s : St c) (h : IsB (qw t) (kw t)) : (atB m c t s h).1 = runB.sl.HO3_8 c (ms0 t) (ms1 t) (ms2 t) (iblk m c (0 : Fin 4) t) (iblk m c (1 : Fin 4) t) (iblk m c (2 : Fin 4) t) s.1 s.2.1 s.2.2 := by
  unfold atB runB
  dsimp only

/-- What the last point of a sequence stores in the result: the quotient of the sums it leaves. -/
theorem outBlk_eq (c : Dev nD) (t : Fin cfgA.N) (s : St c) (h : IsB (qw t) (kw t)) : outBlk m c t s h = quot (gA (step m c t s)) := by
  unfold gA outBlk
  rw [step2_B m c t s h, list_B m c t s h]
  funext y
  exact View.read_writes_apply_of_pieces VO VO.junk _ (runB.sl.HO3_8 c (ms0 t) (ms1 t) (ms2 t) (iblk m c (0 : Fin 4) t) (iblk m c (1 : Fin 4) t) (iblk m c (2 : Fin 4) t) s.1 s.2.1 s.2.2) (OB_pieces m c t s).mem y
    (View.cover_of_tiled _ ![1024, 128] rfl y)

end Cert.KernelIdeal.Attn

end
-- ==== Proof.KernelIdeal.Inv.lean ====
/-
  The kernel's invariant: after each point every row's running maximum, running sums and extended values are those of the
  keys walked so far, as the softmax over a growing prefix has them; so the result block of a query tile's last point is
  the quotient over all keys.
-/
module

public import proofs.«01_k».proof.Proof.KernelIdeal.Softmax
public import proofs.«01_k».proof.Proof.KernelIdeal.Mask
public import proofs.«01_k».proof.Proof.KernelIdeal.Points
public import proofs.«01_k».proof.Proof.KernelIdeal.Out

@[expose] public section

set_option maxRecDepth 16384

noncomputable section

namespace Cert.KernelIdeal.Attn

open Cert.KernelIdeal Cert.KernelIdeal.Gen
open Idealize.ShloMosaic
open Idealize.ShloMosaic.TcCoe

/-! ## The scores and values of one row, keyed by number -/

/-- Row `n` of head `h`, at feature `d`. -/
def row {C : ℕ} (X : (⟨3, ![8, 32768, C]⟩ : Shape).Idx → EReal) (h : Fin 8) (n : ℕ) (d : Fin C) : EReal :=
  X (ix3 h ⟨n % 32768, Nat.mod_lt _ (by decide)⟩ d)

/-- The score of query `i` of batch `b` against key `j`: `⊥` when the key's chunk comes after the query's. -/
def sc (q k : (⟨3, ![8, 32768, 256]⟩ : Shape).Idx → EReal) (h : Fin 8) (b i : ℕ) : ℕ → EReal :=
  fun j => if j / 64 ≤ i / 64 then ∑ d : Fin 256, row q h (8192 * b + i) d * row k h (8192 * b + j) d else ⊥

/-- The value of key `j` of batch `b`, ones past the 128 features. -/
def ve (v : (⟨3, ![8, 32768, 128]⟩ : Shape).Idx → EReal) (h : Fin 8) (b : ℕ) (d : Fin 256) : ℕ → EReal :=
  fun j => if hd : d.val < 128 then row v h (8192 * b + j) ⟨d.val, hd⟩ else 1

theorem sum_ne_top {ι : Type} (t : Finset ι) (f : ι → EReal) (h : ∀ i ∈ t, f i ≠ ⊤) : ∑ i ∈ t, f i ≠ ⊤ := by
  classical
  induction t using Finset.induction_on with
  | empty => simp
  | insert a t ha ih =>
    rw [Finset.sum_insert ha]
    exact EReal.add_ne_top (h a (Finset.mem_insert_self a t)) (ih fun i hi => h i (Finset.mem_insert_of_mem hi))

/-- With finite queries and keys no score is `⊤`. -/
theorem sc_ne_top {q k : (⟨3, ![8, 32768, 256]⟩ : Shape).Idx → EReal} (hq : ∀ i, q i ≠ ⊥ ∧ q i ≠ ⊤) (hk : ∀ i, k i ≠ ⊥ ∧ k i ≠ ⊤)
    (h : Fin 8) (b i j : ℕ) : sc q k h b i j ≠ ⊤ := by
  unfold sc
  split
  · refine sum_ne_top _ _ fun d _ => ?_
    unfold row
    lift q (ix3 h ⟨(8192 * b + i) % 32768, Nat.mod_lt _ (by decide)⟩ d) to ℝ using ⟨(hq _).2, (hq _).1⟩ with x hx
    lift k (ix3 h ⟨(8192 * b + j) % 32768, Nat.mod_lt _ (by decide)⟩ d) to ℝ using ⟨(hk _).2, (hk _).1⟩ with y hy
    rw [← EReal.coe_mul]
    exact EReal.coe_ne_top _
  · exact bot_ne_top

theorem sup_fin (f : ℕ → EReal) (n : ℕ) : (Finset.univ.sup fun j : Fin n => f j.val) = (Finset.range n).sup f := by
  apply le_antisymm
  · exact Finset.sup_le fun j _ => Finset.le_sup (f := f) (Finset.mem_range.2 j.isLt)
  · exact Finset.sup_le fun j hj => Finset.le_sup (f := fun j : Fin n => f j.val) (Finset.mem_univ ⟨j, Finset.mem_range.1 hj⟩)

/-- One step moves a row's running maximum on by 512 keys. -/
theorem nextM_row (S : Fin 8 → FVec Ideal S1024x512 .f32) (M : S8x1024x128.Idx → EReal) (h : Fin 8) (r : Fin 1024) (s : ℕ → EReal) (n : ℕ)
    (hS : ∀ j : Fin 512, S h (ix2 r j) = s (n + j.val)) (hM : ∀ l : Fin 128, M (ix3 h r l) = mx s n) (l : Fin 128) :
    nextM S M (ix3 h r l) = mx s (n + 512) := by
  refine (hM1024_apply (S h) (sl M h) r l).trans ?_
  rw [← mx_add, ← sup_fin]
  refine congrArg₂ max ?_ (Finset.sup_congr rfl fun j _ => hS j)
  refine Eq.trans ?_ (hM l)
  show M _ = M _
  rfl

/-- One step moves a row's running sum on by 512 keys. -/
theorem nextA_row (S : Fin 8 → FVec Ideal S1024x512 .f32) (M : S8x1024x128.Idx → EReal) (V : S8x512x256.Idx → EReal) (A : S8x1024x256.Idx → EReal)
    (h : Fin 8) (r : Fin 1024) (s v : ℕ → EReal) (hs : ∀ j, s j ≠ ⊤) (n : ℕ)
    (hS : ∀ j : Fin 512, S h (ix2 r j) = s (n + j.val)) (hM : ∀ l : Fin 128, M (ix3 h r l) = mx s n) (d : Fin 256)
    (hV : ∀ j : Fin 512, V (ix3 h j d) = v (n + j.val)) (hA : A (ix3 h r d) = ac s v n) :
    nextA S M V A (ix3 h r d) = ac s v (n + 512) := by
  have hN : ∀ l : Fin 128, hM1024 (S h) (sl M h) (ix2 r l) = mx s (n + 512) := nextM_row S M h r s n hS hM
  have hR : ∀ l : Fin 128, sl M h (ix3 0 r l) = mx s n := fun l => by
    refine Eq.trans ?_ (hM l)
    show M _ = M _
    rfl
  have hB : sl A h (ix3 0 r d) = ac s v n := by
    refine Eq.trans ?_ hA
    show A _ = A _
    rfl
  refine (hA1024_apply (S h) (sl M h) (sl V h) (sl A h) r d).trans ?_
  rw [← ac_add hs, Finset.sum_range, hN, hR, hB]
  refine congrArg₂ (· + ·) rfl (Finset.sum_congr rfl fun j _ => ?_)
  rw [hN, hS]
  exact congrArg _ (hV j)

/-- One step moves a row's running maximum on by 512 keys. -/
theorem nextM5_row (S : Fin 8 → FVec Ideal S512x512 .f32) (M : S8x1024x128.Idx → EReal) (h : Fin 8) (r : Fin 1024) (hr : 512 ≤ r.val) (s : ℕ → EReal) (n : ℕ)
    (hS : ∀ j : Fin 512, S h (ix2 ⟨r.val - 512, by omega⟩ j) = s (n + j.val)) (hM : ∀ l : Fin 128, M (ix3 h r l) = mx s n) (l : Fin 128) :
    nextM5 S M (ix3 h r l) = mx s (n + 512) := by
  refine (hM512_apply (S h) (sl5 M h) ⟨r.val - 512, by omega⟩ l).trans ?_
  rw [← mx_add, ← sup_fin]
  refine congrArg₂ max ?_ (Finset.sup_congr rfl fun j _ => hS j)
  refine Eq.trans ?_ (hM l)
  show M _ = M _
  exact congrArg (fun a : Fin 1024 => M (ix3 h a l)) (Fin.ext (by show 512 + (r.val - 512) = r.val; omega))

/-- One step moves a row's running sum on by 512 keys. -/
theorem nextA5_row (S : Fin 8 → FVec Ideal S512x512 .f32) (M : S8x1024x128.Idx → EReal) (V : S8x512x256.Idx → EReal) (A : S8x1024x256.Idx → EReal)
    (h : Fin 8) (r : Fin 1024) (hr : 512 ≤ r.val) (s v : ℕ → EReal) (hs : ∀ j, s j ≠ ⊤) (n : ℕ)
    (hS : ∀ j : Fin 512, S h (ix2 ⟨r.val - 512, by omega⟩ j) = s (n + j.val)) (hM : ∀ l : Fin 128, M (ix3 h r l) = mx s n) (d : Fin 256)
    (hV : ∀ j : Fin 512, V (ix3 h j d) = v (n + j.val)) (hA : A (ix3 h r d) = ac s v n) :
    nextA5 S M V A (ix3 h r d) = ac s v (n + 512) := by
  have hN : ∀ l : Fin 128, hM512 (S h) (sl5 M h) (ix2 ⟨r.val - 512, by omega⟩ l) = mx s (n + 512) := nextM5_row S M h r hr s n hS hM
  have hR : ∀ l : Fin 128, sl5 M h (ix3 0 ⟨r.val - 512, by omega⟩ l) = mx s n := fun l => by
    refine Eq.trans ?_ (hM l)
    show M _ = M _
    exact congrArg (fun a : Fin 1024 => M (ix3 h a l)) (Fin.ext (by show 512 + (r.val - 512) = r.val; omega))
  have hB : sl5 A h (ix3 0 ⟨r.val - 512, by omega⟩ d) = ac s v n := by
    refine Eq.trans ?_ hA
    show A _ = A _
    exact congrArg (fun a : Fin 1024 => A (ix3 h a d)) (Fin.ext (by show 512 + (r.val - 512) = r.val; omega))
  refine (hA512_apply (S h) (sl5 M h) (sl V h) (sl5 A h) ⟨r.val - 512, by omega⟩ d).trans ?_
  rw [← ac_add hs, Finset.sum_range, hN, hR, hB]
  refine congrArg₂ (· + ·) rfl (Finset.sum_congr rfl fun j _ => ?_)
  rw [hN, hS]
  exact congrArg _ (hV j)

/-! ## The blocks of a point -/

variable (m : (ℓ : Loc nD τ sig) → Buf (Elt Ideal) ℓ)

/-- The three argument arrays. -/
abbrev aQ (c : Dev nD) : S8x32768x256.Idx → EReal := m ((c : Thread nD τ).loc main_arg0)
abbrev aK (c : Dev nD) : S8x32768x256.Idx → EReal := m ((c : Thread nD τ).loc main_arg1)
abbrev aV (c : Dev nD) : S8x32768x128.Idx → EReal := m ((c : Thread nD τ).loc main_arg2)

theorem qb_apply (c : Dev nD) (t : Fin cfgA.N) (h : Fin 8) (r : Fin 1024) (d : Fin 256) :
    qb m c t (ix3 h r d) = row (aQ m c) h (8192 * bn t + (1024 * qn t + r.val)) d := by
  show aQ m c (((cfgA.win (0 : Fin 4)).rect t).emb (ix3 h r d)) = _
  refine congrArg (aQ m c) (funext fun a => Fin.ext ?_)
  have hl := pt_lt t
  have hr := r.isLt
  have e := off_0 t a
  refine (Pipeline.Window.rect_emb_val (cfgA.win (0 : Fin 4)) t (ix3 h r d) a rfl).trans ?_
  rw [e]
  fin_cases a
  · show 0 + h.val = h.val; omega
  · show 8192 * bn t + 1024 * qn t + r.val = (8192 * bn t + (1024 * qn t + r.val)) % 32768; omega
  · show 0 + d.val = d.val; omega

theorem kb_apply (c : Dev nD) (t : Fin cfgA.N) (h : Fin 8) (r : Fin 512) (d : Fin 256) :
    kb m c t (ix3 h r d) = row (aK m c) h (8192 * bn t + (512 * kn t + r.val)) d := by
  show aK m c (((cfgA.win (1 : Fin 4)).rect t).emb (ix3 h r d)) = _
  refine congrArg (aK m c) (funext fun a => Fin.ext ?_)
  have hl := pt_lt t
  have hr := r.isLt
  have e := off_1 t a
  refine (Pipeline.Window.rect_emb_val (cfgA.win (1 : Fin 4)) t (ix3 h r d) a rfl).trans ?_
  rw [e]
  fin_cases a
  · show 0 + h.val = h.val; omega
  · show 8192 * bn t + 512 * kn t + r.val = (8192 * bn t + (512 * kn t + r.val)) % 32768; omega
  · show 0 + d.val = d.val; omega

theorem vb_apply (c : Dev nD) (t : Fin cfgA.N) (h : Fin 8) (r : Fin 512) (d : Fin 128) :
    vb m c t (ix3 h r d) = row (aV m c) h (8192 * bn t + (512 * kn t + r.val)) d := by
  show aV m c (((cfgA.win (2 : Fin 4)).rect t).emb (ix3 h r d)) = _
  refine congrArg (aV m c) (funext fun a => Fin.ext ?_)
  have hl := pt_lt t
  have hr := r.isLt
  have e := off_2 t a
  refine (Pipeline.Window.rect_emb_val (cfgA.win (2 : Fin 4)) t (ix3 h r d) a rfl).trans ?_
  rw [e]
  fin_cases a
  · show 0 + h.val = h.val; omega
  · show 8192 * bn t + 512 * kn t + r.val = (8192 * bn t + (512 * kn t + r.val)) % 32768; omega
  · show 0 + d.val = d.val; omega

/-! ## The scores of a point -/

theorem named_bot : (Named.named κ "mask" 0xF149F2CA#32 : Ideal .f32) = (⊥ : EReal) := rfl

/-- A point's query row. -/
abbrev sAt (c : Dev nD) (t : Fin cfgA.N) (h : Fin 8) (r : Fin 1024) : ℕ → EReal := sc (aQ m c) (aK m c) h (bn t) (1024 * qn t + r.val)

theorem dots (c : Dev nD) (t : Fin cfgA.N) (h : Fin 8) (r : Fin 1024) (j : Fin 512) :
    (∑ d : Fin 256, qb m c t (ix3 h r d) * kb m c t (ix3 h j d))
      = ∑ d : Fin 256, row (aQ m c) h (8192 * bn t + (1024 * qn t + r.val)) d * row (aK m c) h (8192 * bn t + (512 * kn t + j.val)) d :=
  Finset.sum_congr rfl fun d _ => by rw [qb_apply, kb_apply]

theorem SfD_row (c : Dev nD) (t : Fin cfgA.N) (hk : kn t + 1 ≤ 2 * qn t) (h : Fin 8) (r : Fin 1024) (j : Fin 512) :
    SfD m c t h (ix2 r j) = sAt m c t h r (512 * kn t + j.val) := by
  have hj := j.isLt
  rw [sAt, sc, if_pos (by omega), ← dots]
  exact hS1024_apply _ _ r j

theorem SfA_row (c : Dev nD) (t : Fin cfgA.N) (hk : kn t = 2 * qn t) (h : Fin 8) (r : Fin 1024) (j : Fin 512) :
    SfA m c t h (ix2 r j) = sAt m c t h r (512 * kn t + j.val) := by
  have e : SfA m c t h (ix2 r j) = if runA.sl.r_2 (ix2 r j) = 1#1 then hS1024 (sl (qb m c t) h) (sl (kb m c t) h) (ix2 r j) else (⊥ : EReal) := by
    unfold SfA hSm1024
    pointwise
    rfl
  rw [e, maskA_apply, hS1024_apply]
  by_cases hc : j.val / 64 ≤ r.val / 64
  · rw [if_pos hc, if_pos rfl, sAt, sc, if_pos (by omega), ← dots]
    rfl
  · rw [if_neg hc, if_neg (by decide), sAt, sc, if_neg (by omega)]

theorem SfE_row (c : Dev nD) (t : Fin cfgA.N) (hk : kn t = 2 * qn t) (h : Fin 8) (r : Fin 1024) (j : Fin 512) :
    SfE m c t h (ix2 r j) = sAt m c t h r (512 * kn t + j.val) := by
  have e : SfE m c t h (ix2 r j) = if runE.sl.r_2 (ix2 r j) = 1#1 then hS1024 (sl (qb m c t) h) (sl (kb m c t) h) (ix2 r j) else (⊥ : EReal) := by
    unfold SfE hSm1024
    pointwise
    rfl
  rw [e, maskE_apply, hS1024_apply]
  by_cases hc : j.val / 64 ≤ r.val / 64
  · rw [if_pos hc, if_pos rfl, sAt, sc, if_pos (by omega), ← dots]
    rfl
  · rw [if_neg hc, if_neg (by decide), sAt, sc, if_neg (by omega)]

theorem SfB_row (c : Dev nD) (t : Fin cfgA.N) (hk : kn t = 2 * qn t + 1) (h : Fin 8) (r : Fin 1024) (hr : 512 ≤ r.val) (j : Fin 512) :
    SfB m c t h (ix2 ⟨r.val - 512, by omega⟩ j) = sAt m c t h r (512 * kn t + j.val) := by
  have e : SfB m c t h (ix2 ⟨r.val - 512, by omega⟩ j)
      = if runB.sl.r_2 (ix2 ⟨r.val - 512, by omega⟩ j) = 1#1 then hS512 (sl5 (qb m c t) h) (sl (kb m c t) h) (ix2 ⟨r.val - 512, by omega⟩ j) else (⊥ : EReal) := by
    unfold SfB hSm512
    pointwise
    rfl
  rw [e, maskB_apply, hS512_apply]
  by_cases hc : j.val / 64 ≤ (r.val - 512) / 64
  · rw [if_pos hc, if_pos rfl, sAt, sc, if_pos (by omega), ← dots]
    refine Finset.sum_congr rfl fun d _ => congrArg (· * kb m c t (ix3 h j d)) ?_
    exact congrArg (fun a : Fin 1024 => qb m c t (ix3 h a d)) (Fin.ext (by show 512 + (r.val - 512) = r.val; omega))
  · rw [if_neg hc, if_neg (by decide), sAt, sc, if_neg (by omega)]

/-- Past the query tile every key is masked. -/
theorem masked_past (c : Dev nD) (t : Fin cfgA.N) (h : Fin 8) (r : Fin 1024) (n : ℕ) (hn : (1024 * qn t + r.val) / 64 < n / 64) (j : ℕ) (hj : n ≤ j) :
    sAt m c t h r j = ⊥ := by
  have : n / 64 ≤ j / 64 := Nat.div_le_div_right hj
  rw [sAt, sc, if_neg (by omega)]

/-! ## The invariant -/

/-- The extended values a point works with: the block's, ones beside them. -/
theorem nextV_row (c : Dev nD) (t : Fin cfgA.N) (V : S8x512x256.Idx → EReal) (hV : ∀ (h : Fin 8) (j : Fin 512) (d : Fin 256), 128 ≤ d.val → V (ix3 h j d) = 1)
    (h : Fin 8) (j : Fin 512) (d : Fin 256) : nextV (vb m c t) V (ix3 h j d) = ve (aV m c) h (bn t) d (512 * kn t + j.val) := by
  unfold nextV ve
  by_cases hd : d.val < 128
  · rw [dif_pos hd, dif_pos (show ((ix3 h j d : S8x512x256.Idx) 2).val < 128 from hd)]
    exact vb_apply m c t h j ⟨d.val, hd⟩
  · rw [dif_neg hd, dif_neg (show ¬ ((ix3 h j d : S8x512x256.Idx) 2).val < 128 from hd)]
    exact hV h j d (by omega)

/-- After point `t` the scratch is at the keys walked so far, `n` of them. -/
structure Inv (c : Dev nD) (t : Fin cfgA.N) (s : St c) (n : ℕ) : Prop where
  M : ∀ (h : Fin 8) (r : Fin 1024) (l : Fin 128), gM s (ix3 h r l) = mx (sAt m c t h r) n
  A : ∀ (h : Fin 8) (r : Fin 1024) (d : Fin 256), gA s (ix3 h r d) = ac (sAt m c t h r) (ve (aV m c) h (bn t) d) n
  V : ∀ (h : Fin 8) (j : Fin 512) (d : Fin 256), 128 ≤ d.val → gV s (ix3 h j d) = 1

theorem nextV_ones (c : Dev nD) (t : Fin cfgA.N) (V : S8x512x256.Idx → EReal) (hV : ∀ (h : Fin 8) (j : Fin 512) (d : Fin 256), 128 ≤ d.val → V (ix3 h j d) = 1)
    (h : Fin 8) (j : Fin 512) (d : Fin 256) (hd : 128 ≤ d.val) : nextV (vb m c t) V (ix3 h j d) = 1 := by
  unfold nextV
  rw [dif_neg (show ¬ ((ix3 h j d : S8x512x256.Idx) 2).val < 128 from by show ¬ d.val < 128; omega)]
  exact hV h j d hd

variable (hq : ∀ c i, aQ m c i ≠ ⊥ ∧ aQ m c i ≠ ⊤) (hk : ∀ c i, aK m c i ≠ ⊥ ∧ aK m c i ≠ ⊤)

include hq hk

/-- A step from a scratch at the first `512 * kn t` keys, with the scores of the next 512. -/
theorem inv_step (c : Dev nD) (t : Fin cfgA.N) (S : Fin 8 → FVec Ideal S1024x512 .f32) (s s' : St c)
    (hS : ∀ (h : Fin 8) (r : Fin 1024) (j : Fin 512), S h (ix2 r j) = sAt m c t h r (512 * kn t + j.val))
    (M : S8x1024x128.Idx → EReal) (V : S8x512x256.Idx → EReal) (A : S8x1024x256.Idx → EReal)
    (hM : ∀ (h : Fin 8) (r : Fin 1024) (l : Fin 128), M (ix3 h r l) = mx (sAt m c t h r) (512 * kn t))
    (hA : ∀ (h : Fin 8) (r : Fin 1024) (d : Fin 256), A (ix3 h r d) = ac (sAt m c t h r) (ve (aV m c) h (bn t) d) (512 * kn t))
    (hV : ∀ (h : Fin 8) (j : Fin 512) (d : Fin 256), 128 ≤ d.val → V (ix3 h j d) = 1)
    (eM : gM s' = nextM S M) (eA : gA s' = nextA S M (nextV (vb m c t) V) A) (eV : gV s' = nextV (vb m c t) V) :
    Inv m c t s' (512 * (kn t + 1)) where
  M h r l := by
    rw [eM]
    exact nextM_row S M h r (sAt m c t h r) (512 * kn t) (hS h r) (hM h r) l
  A h r d := by
    rw [eA]
    exact nextA_row S M _ A h r (sAt m c t h r) _ (fun j => sc_ne_top (hq c) (hk c) _ _ _ _) (512 * kn t) (hS h r) (hM h r) d
      (fun j => nextV_row m c t V hV h j d) (hA h r d)
  V h j d hd := by
    rw [eV]
    exact nextV_ones m c t V hV h j d hd

/-- The invariant at every point but a query tile's last. -/
theorem inv_all (c : Dev nD) : ∀ (n : ℕ) (t : Fin cfgA.N), t.val = n → ¬ IsB (qw t) (kw t) → Inv m c t (traj m c (t.val + 1)) (512 * (kn t + 1)) := by
  intro n
  induction n using Nat.strong_induction_on with
  | _ n ih =>
    intro t ht hB
    rw [traj_succ]
    have before : kn t ≠ 0 → kn t ≤ 2 * qn t → Inv m c t (traj m c t.val) (512 * kn t) := fun h0 hle => by
      obtain ⟨hu, e1, e2, e3, e4⟩ := pt_prev t h0
      have hi := ih (t.val - 1) (by omega) ⟨t.val - 1, hu⟩ rfl (fun hb => by have := pt_B _ hb; omega)
      have eR : ∀ h r, sAt m c ⟨t.val - 1, hu⟩ h r = sAt m c t h r := fun h r => by unfold sAt; rw [e2, e3]
      have eT : traj m c ((⟨t.val - 1, hu⟩ : Fin cfgA.N).val + 1) = traj m c t.val := congrArg (traj m c) e1
      rw [eT, e4] at hi
      exact ⟨fun h r l => (hi.M h r l).trans (by rw [eR]), fun h r d => (hi.A h r d).trans (by rw [eR, e2]), hi.V⟩
    rcases path_at t with h | h | h | h | h
    · obtain ⟨p1, p2⟩ := pt_A t h
      refine inv_step m hq hk c t (SfA m c t) (traj m c t.val) _ (SfA_row m c t (by omega)) (fun _ => ⊥) (fun _ => 1) (fun _ => 0) ?_ ?_ (fun _ _ _ _ => rfl)
        (gM_A m c t _ h) (gA_A m c t _ h) (gV_A m c t _ h)
      · intro h r l; rw [p2, Nat.mul_zero, mx_zero]
      · intro h r l; rw [p2, Nat.mul_zero, ac_zero]
    · obtain ⟨p1, p2⟩ := pt_C t h
      refine inv_step m hq hk c t (SfD m c t) (traj m c t.val) _ (SfD_row m c t (by omega)) (fun _ => ⊥) (fun _ => 1) (fun _ => 0) ?_ ?_ (fun _ _ _ _ => rfl)
        (gM_C m c t _ h) (gA_C m c t _ h) (gV_C m c t _ h)
      · intro h r l; rw [p2, Nat.mul_zero, mx_zero]
      · intro h r l; rw [p2, Nat.mul_zero, ac_zero]
    · obtain ⟨p1, p2⟩ := pt_D t h
      have hi := before p1 (by omega)
      exact inv_step m hq hk c t (SfD m c t) (traj m c t.val) _ (SfD_row m c t p2) _ _ _ hi.M hi.A hi.V
        (gM_D m c t _ h) (gA_D m c t _ h) (gV_D m c t _ h)
    · obtain ⟨p1, p2⟩ := pt_E t h
      have hi := before p1 (by omega)
      exact inv_step m hq hk c t (SfE m c t) (traj m c t.val) _ (SfE_row m c t p2) _ _ _ hi.M hi.A hi.V
        (gM_E m c t _ h) (gA_E m c t _ h) (gV_E m c t _ h)
    · exact absurd h hB

/-- After a query tile's last point the sums are over all keys of its sequence. -/
theorem sums_last (c : Dev nD) (t : Fin cfgA.N) (h : IsB (qw t) (kw t)) (hd : Fin 8) (r : Fin 1024) (d : Fin 256) :
    gA (step m c t (traj m c t.val)) (ix3 hd r d) = ac (sAt m c t hd r) (ve (aV m c) hd (bn t) d) 8192 := by
  have hl := pt_lt t
  have hr := r.isLt
  have hkn := pt_B t h
  have hi : Inv m c t (traj m c t.val) (512 * kn t) := by
    obtain ⟨hu, e1, e2, e3, e4⟩ := pt_prev t (by omega)
    have hi := inv_all m hq hk c (t.val - 1) ⟨t.val - 1, hu⟩ rfl (fun hb => by have := pt_B _ hb; omega)
    have eR : ∀ h r, sAt m c ⟨t.val - 1, hu⟩ h r = sAt m c t h r := fun h r => by unfold sAt; rw [e2, e3]
    have eT : traj m c ((⟨t.val - 1, hu⟩ : Fin cfgA.N).val + 1) = traj m c t.val := congrArg (traj m c) e1
    rw [eT, e4] at hi
    exact ⟨fun h r l => (hi.M h r l).trans (by rw [eR]), fun h r d => (hi.A h r d).trans (by rw [eR, e2]), hi.V⟩
  by_cases h5 : 512 ≤ r.val
  · rw [gA_B m c t _ h (ix3 hd r d) h5]
    rw [nextA5_row (SfB m c t) _ _ _ hd r h5 (sAt m c t hd r) _ (fun j => sc_ne_top (hq c) (hk c) _ _ _ _) (512 * kn t)
      (SfB_row m c t hkn hd r h5) (hi.M hd r) d (fun j => nextV_row m c t _ hi.V hd j d) (hi.A hd r d)]
    rw [show (8192 : ℕ) = (512 * kn t + 512) + (8192 - (512 * kn t + 512)) from by omega]
    exact (ac_masked _ _ (masked_past m c t hd r _ (by omega))).symm
  · rw [gA_B_keep m c t _ h (ix3 hd r d) (by show r.val < 512; omega), hi.A hd r d]
    rw [show (8192 : ℕ) = 512 * kn t + (8192 - 512 * kn t) from by omega]
    exact (ac_masked _ _ (masked_past m c t hd r _ (by omega))).symm

omit hq hk

/-- The attention's result at row `n` and column `e`: the softmax-weighted sum, written as a quotient of two sums. -/
def attn (q k : (⟨3, ![8, 32768, 256]⟩ : Shape).Idx → EReal) (v : (⟨3, ![8, 32768, 128]⟩ : Shape).Idx → EReal) : (⟨2, ![32768, 1024]⟩ : Shape).Idx → EReal := fun i =>
  have h1 : (i 1).val < 1024 := (i 1).isLt
  Ideal.div (ac (sc q k ⟨(i 1).val / 128, by omega⟩ ((i 0).val / 8192) ((i 0).val % 8192)) (ve v ⟨(i 1).val / 128, by omega⟩ ((i 0).val / 8192) ⟨(i 1).val % 128, by omega⟩) 8192)
    (ac (sc q k ⟨(i 1).val / 128, by omega⟩ ((i 0).val / 8192) ((i 0).val % 8192)) (fun _ => 1) 8192)

include hq hk

/-- What a flushing point writes back is its block of `attn`. -/
theorem flushed_eq (c : Dev nD) (t : Fin cfgA.N) (hf : (cfgA.win (3 : Fin 4)).flush t = true) :
    (dats m 0 c).flushed (3 : Fin 4) t = ((cfgA.win (3 : Fin 4)).blk t).view.read (Elt Ideal) (attn (aQ m c) (aK m c) (aV m c)) := by
  have h4 : C4 (qw t) (kw t) := by
    by_contra hn
    rw [(out_idle t hn).2] at hf
    exact Bool.false_ne_true hf
  have hB : IsB (qw t) (kw t) := by
    rcases path_at t with h | h | h | h | h
    · exact absurd h4 h.2.2.2.2
    · exact absurd h4 h.2.2.2.2
    · exact absurd h4 h.2.2.2.2
    · exact absurd h4 h.2.2.2.2
    · exact h
  show (cfgA.win (3 : Fin 4)).cut (crd t) ((dats m 0 c).after (3 : Fin 4) t) = _
  rw [after_3, outAt_B m c t hB, outBlk_eq]
  funext y
  show quot (gA (step m c t (traj m c t.val))) y = attn (aQ m c) (aK m c) (aV m c) (((cfgA.win (3 : Fin 4)).rect t).emb y)
  have hl := pt_lt t
  have e0 : ((((cfgA.win (3 : Fin 4)).rect t).emb y : S32768x1024.Idx) 0).val = 8192 * bn t + 1024 * qn t + (y 0).val :=
    (Pipeline.Window.rect_emb_val (cfgA.win (3 : Fin 4)) t y 0 rfl).trans (by rw [(off_3 t 0).1]; rfl)
  have e1 : ((((cfgA.win (3 : Fin 4)).rect t).emb y : S32768x1024.Idx) 1).val = (y 1).val :=
    (Pipeline.Window.rect_emb_val (cfgA.win (3 : Fin 4)) t y 1 rfl).trans (by rw [(off_3 t 1).1]; exact Nat.zero_add _)
  have h0 : (y 0).val < 1024 := (y 0).isLt
  have h1 : (y 1).val < 1024 := (y 1).isLt
  have hv : ∀ hd : Fin 8, ∀ d : Fin 128, ve (aV m c) hd (bn t) ⟨128 + d.val, by omega⟩ = fun _ => 1 := fun hd d => by
    funext j
    unfold ve
    rw [dif_neg (by show ¬ 128 + d.val < 128; omega)]
  refine (congrArg₂ Ideal.div (sums_last m hq hk c t hB ⟨(y 1).val / 128, by omega⟩ (y 0) ⟨(y 1).val % 128, by omega⟩)
    (sums_last m hq hk c t hB ⟨(y 1).val / 128, by omega⟩ (y 0) ⟨128 + (y 1).val % 128, by omega⟩)).trans ?_
  have a0 : (8192 * bn t + 1024 * qn t + (y 0).val) / 8192 = bn t := by omega
  have a1 : (8192 * bn t + 1024 * qn t + (y 0).val) % 8192 = 1024 * qn t + (y 0).val := by omega
  have key : ∀ (N E : ℕ) (hE : E < 1024), N = 8192 * bn t + 1024 * qn t + (y 0).val → E = (y 1).val →
      Ideal.div (ac (sAt m c t ⟨(y 1).val / 128, by omega⟩ (y 0)) (ve (aV m c) ⟨(y 1).val / 128, by omega⟩ (bn t) ⟨(y 1).val % 128, by omega⟩) 8192)
        (ac (sAt m c t ⟨(y 1).val / 128, by omega⟩ (y 0)) (ve (aV m c) ⟨(y 1).val / 128, by omega⟩ (bn t) ⟨128 + (y 1).val % 128, by omega⟩) 8192)
      = Ideal.div (ac (sc (aQ m c) (aK m c) ⟨E / 128, by omega⟩ (N / 8192) (N % 8192)) (ve (aV m c) ⟨E / 128, by omega⟩ (N / 8192) ⟨E % 128, by omega⟩) 8192)
        (ac (sc (aQ m c) (aK m c) ⟨E / 128, by omega⟩ (N / 8192) (N % 8192)) (fun _ => 1) 8192) := by
    rintro N E hE rfl rfl
    rw [a0, a1, hv ⟨(y 1).val / 128, by omega⟩ ⟨(y 1).val % 128, by omega⟩]
  exact key _ _ (by rw [e1]; exact h1) e0 e1

/-- The blocks written back tile the result. -/
theorem cover (i : S32768x1024.Idx) : ∃ t : Fin cfgA.N, (cfgA.win (3 : Fin 4)).flush t = true ∧ i ∈ ((cfgA.win (3 : Fin 4)).blk t).view.set := by
  have h0 : (i 0).val < 32768 := (i 0).isLt
  have h1 : (i 1).val < 1024 := (i 1).isLt
  obtain ⟨ht, hB, hb, ha⟩ := pt_last ⟨(i 0).val / 8192, by omega⟩ ⟨(i 0).val % 8192 / 1024, by omega⟩
  refine ⟨⟨_, ht⟩, (out_live _ hB.2.2.2.2).2, ?_⟩
  show i ∈ ((View.whole main_v0).slice ((cfgA.win (3 : Fin 4)).rect ⟨_, ht⟩)).set
  erw [View.set_slice_whole]
  refine (Pipeline.Window.mem_rect_iff (cfgA.win (3 : Fin 4)) ⟨_, ht⟩ i rfl).mpr fun a => ?_
  rw [(off_3 _ a).1, (off_3 _ a).2, hb, ha]
  fin_cases a
  · show 8192 * ((i 0).val / 8192) + 1024 * ((i 0).val % 8192 / 1024) ≤ (i 0).val ∧ (i 0).val < 8192 * ((i 0).val / 8192) + 1024 * ((i 0).val % 8192 / 1024) + 1024
    omega
  · show 0 ≤ (i 1).val ∧ (i 1).val < 0 + 1024
    omega

/-- The result array ends holding the attention of the argument arrays. -/
theorem final_o (c : Dev nD) : (dats m 0 c).arrAt (3 : Fin 4) cfgA.N = attn (aQ m c) (aK m c) (aV m c) :=
  (dats m 0 c).arrAt_eq_of_cover (3 : Fin 4) (attn (aQ m c) (aK m c) (aV m c)) (flushed_eq m hq hk c) (cover m hq hk)

end Cert.KernelIdeal.Attn

end
-- ==== Proof.Reference.lean ====
/-
  The reference, read at an index: its mask, its scores, its softmax and its result, which is the attention of the argument
  arrays as the kernel's side states it.
-/
module

public import proofs.«01_k».proof.Proof.Gen.ReferenceIdeal.Run
public import proofs.«01_k».proof.Proof.KernelIdeal.Inv
public import Idealize.ShloMosaic.Lib.Pointwise.Tactic
public import Idealize.ShloMosaic.Lib.Pointwise

@[expose] public section

set_option maxRecDepth 16384

noncomputable section

namespace Cert.ReferenceIdeal.Attn

open Cert.ReferenceIdeal Cert.ReferenceIdeal.Gen Cert.ReferenceIdeal.Value
open Idealize.ShloMosaic
open Idealize.ShloMosaic.TcCoe
open Cert.KernelIdeal.Attn (sc row ve mx ac attn)

/-- Each position's chunk. -/
def chunk : IVec S8192 32 := (select (andi (cmpi .ne (signi (iotaInDim S8192 32 0)) (broadcastInDim S8192 ![] bcast_S_S8192 (signi (id (constantI S_ 32 64#32))))) (cmpi .ne (Host.remsi (iotaInDim S8192 32 0) (broadcastInDim S8192 ![] bcast_S_S8192 (id (constantI S_ 32 64#32)))) (broadcastInDim S8192 ![] bcast_S_S8192 (constantI S_ 32 0#32)))) (subi (Host.divsi (iotaInDim S8192 32 0) (broadcastInDim S8192 ![] bcast_S_S8192 (id (constantI S_ 32 64#32)))) (broadcastInDim S8192 ![] bcast_S_S8192 (constantI S_ 32 1#32))) (Host.divsi (iotaInDim S8192 32 0) (broadcastInDim S8192 ![] bcast_S_S8192 (id (constantI S_ 32 64#32)))))

/-- Which keys a query may see. -/
def allowed : IVec S8192x8192 1 :=
  cmpi .sle (broadcastInDim S8192x8192 ![0, 1] bcast_S1x8192_S8192x8192_0_1 (broadcastInDim S1x8192 ![1] bcast_S8192_S1x8192_1 chunk)) (broadcastInDim S8192x8192 ![0, 1] bcast_S8192x1_S8192x8192_0_1 (broadcastInDim S8192x1 ![0] bcast_S8192_S8192x1_0 chunk))

/-- The masked scores. -/
def scores (q k : FVec Ideal S8x32768x256 .bf16) : FVec Ideal S8x4x8192x8192 .f32 :=
  select (broadcastInDim S8x4x8192x8192 ![0, 1, 2, 3] bcast_S1x1x8192x8192_S8x4x8192x8192_0_1_2_3 (broadcastInDim S1x1x8192x8192 ![2, 3] bcast_S8192x8192_S1x1x8192x8192_2_3 allowed))
    (Host.dotGeneral dot_S8x4x8192x256_S8x4x8192x256_S8x4x8192x8192_3_3_2_2_01_01 none (shapeCast _ (extf .f32 q bitsLt_bf16_f32) shapeCasts_S8x32768x256_S8x4x8192x256) (shapeCast _ (extf .f32 k bitsLt_bf16_f32) shapeCasts_S8x32768x256_S8x4x8192x256))
    (broadcastInDim S8x4x8192x8192 ![] bcast_S_S8x4x8192x8192 (id (constant S_ .f32 0xFF800000#32)))

/-- Each row's largest score. -/
def top (s : FVec Ideal S8x4x8192x8192 .f32) : FVec Ideal S8x4x8192 .f32 :=
  maximumf (broadcastInDim S8x4x8192 ![] bcast_S_S8x4x8192 (constant S_ .f32 0xFF800000#32)) (Host.reduce FloatOps.maximumf s (constant S_ .f32 0xFF800000#32) reducesTo_S8x4x8192x8192_S8x4x8192_d3 h_S_)

/-- The exponentials. -/
def expo (s : FVec Ideal S8x4x8192x8192 .f32) : FVec Ideal S8x4x8192x8192 .f32 :=
  Host.exp (subf s (broadcastInDim S8x4x8192x8192 ![0, 1, 2, 3] bcast_S8x4x8192x1_S8x4x8192x8192_0_1_2_3 (broadcastInDim S8x4x8192x1 ![0, 1, 2] bcast_S8x4x8192_S8x4x8192x1_0_1_2 (top s))))

/-- The weights. -/
def wts (e : FVec Ideal S8x4x8192x8192 .f32) : FVec Ideal S8x4x8192x8192 .f32 :=
  Host.divf e (broadcastInDim S8x4x8192x8192 ![0, 1, 2, 3] bcast_S8x4x8192x1_S8x4x8192x8192_0_1_2_3 (broadcastInDim S8x4x8192x1 ![0, 1, 2] bcast_S8x4x8192_S8x4x8192x1_0_1_2 (Host.reduceAdd e (constant S_ .f32 0x00000000#32) reducesTo_S8x4x8192x8192_S8x4x8192_d3 h_S_)))

/-- The weighted values, head and feature side by side. -/
def mixed (v : FVec Ideal S8x32768x128 .bf16) (w : FVec Ideal S8x4x8192x8192 .f32) : FVec Ideal S32768x1024 .bf16 :=
  truncf .bf16 (shapeCast _ (transpose S4x8192x8x128 [0, 3, 1, 2] (Host.dotGeneral dot_S8x4x8192x128_S8x4x8192x8192_S4x8x128x8192_2_3_3_2_10_10 none (shapeCast _ (extf .f32 v bitsLt_bf16_f32) shapeCasts_S8x32768x128_S8x4x8192x128) w) transposes_S4x8x128x8192_S4x8192x8x128_0_3_1_2) shapeCasts_S4x8192x8x128_S32768x1024) bitsLt_bf16_f32

/-- The reference's result as those stages composed. -/
theorem res_eq (m : (ℓ : Loc nD τ sig) → Buf (Elt Ideal) ℓ) (c : Dev nD) :
    res_main_v30 m c = mixed (m ((c.tc : Thread nD τ).loc main_arg2)) (wts (expo (scores (m ((c.tc : Thread nD τ).loc main_arg0)) (m ((c.tc : Thread nD τ).loc main_arg1))))) := rfl

/-- Floor division of a position by 64, as the host spells it with a sign correction. -/
theorem host_chunk : ∀ n : Fin 8192,
    Scalar.select
      (IntOp.andi
        (IntOp.cmpi CmpIPredicate.ne
          (if BitVec.ofNat 32 n.val = 0 then 0 else if (BitVec.ofNat 32 n.val).msb = true then -1 else (1 : BitVec 32))
          (if (64#32) = 0 then 0 else if (64#32).msb = true then -1 else (1 : BitVec 32)))
        (IntOp.cmpi CmpIPredicate.ne (IntOp.remsi ArithUnit.host (BitVec.ofNat 32 n.val) 64#32) 0#32))
      (IntOp.subi (IntOp.divsi ArithUnit.host (BitVec.ofNat 32 n.val) 64#32) 1#32)
      (IntOp.divsi ArithUnit.host (BitVec.ofNat 32 n.val) 64#32) = BitVec.ofNat 32 (n.val / 64) := by
  decide +kernel

/-- A position's chunk is its number divided by 64. -/
theorem chunk_apply (n : Fin 8192) : chunk (ix1 n) = BitVec.ofNat 32 (n.val / 64) := by
  pointwise [chunk]
  exact host_chunk n

/-- A query may see a key when the key's chunk is not after the query's. -/
theorem allowed_apply (i j : Fin 8192) : allowed (ix2 i j) = if j.val / 64 ≤ i.val / 64 then 1#1 else 0#1 := by
  have e : allowed (ix2 i j) = IntOp.cmpi .sle (chunk (ix1 j)) (chunk (ix1 i)) := by
    pointwise [allowed]
  rw [e, chunk_apply, chunk_apply]
  exact Cert.KernelIdeal.Attn.chunk_le ⟨j.val / 64, by omega⟩ ⟨i.val / 64, by omega⟩

/-- The word of minus infinity. -/
theorem neg_inf : Ideal.ofBits .f32 0xFF800000#32 = (⊥ : EReal) := by
  simp [Ideal.ofBits, Ideal.ieee]

/-- The masked scores at an index: the row products where the mask allows the key, minus infinity elsewhere. -/
theorem scores_apply (q k : FVec Ideal S8x32768x256 .bf16) (h : Fin 8) (b : Fin 4) (i j : Fin 8192) :
    scores q k (ix4 h b i j) = sc q k h b.val i.val j.val := by
  have e : scores q k (ix4 h b i j) = Scalar.select (allowed (ix2 i j)) (∑ d : Fin 256, q (ix3 h ⟨b.val * 8192 + i.val, by omega⟩ d) * k (ix3 h ⟨b.val * 8192 + j.val, by omega⟩ d)) (Ideal.ofBits .f32 0xFF800000#32) := by
    pointwise [scores, dot_S8x4x8192x256_S8x4x8192x256_S8x4x8192x8192_3_3_2_2_01_01]
    rfl
  rw [e, allowed_apply, neg_inf]
  unfold sc row
  have hi : (8192 * b.val + i.val) % 32768 = b.val * 8192 + i.val := by omega
  have hj : (8192 * b.val + j.val) % 32768 = b.val * 8192 + j.val := by omega
  by_cases hc : j.val / 64 ≤ i.val / 64
  · simp only [hc, if_true, hi, hj]; rfl
  · simp only [hc, if_false]; rfl

/-- A maximum over the last axis of four, at an index. -/
theorem reduce_last {n0 n1 n2 n3 : ℕ} {u : Shape} (s : FVec Ideal ⟨4, ![n0, n1, n2, n3]⟩ .f32) (init : FVec Ideal u .f32)
    (hr : (⟨4, ![n0, n1, n2, n3]⟩ : Shape).ReducesTo [3] ⟨3, ![n0, n1, n2]⟩) (hu : 0 < u.numel) (a : Fin n0) (b : Fin n1) (c : Fin n2) :
    Host.reduce FloatOps.maximumf s init hr hu (ix3 a b c)
      = (Finset.univ : Finset (Fin n3)).fold max (init (Shape.Idx.first hu)) (fun x => (s (ix4 a b c x) : EReal)) := by
  pointwise []

/-- A maximum of two arrays, at an index. -/
theorem max_apply {u : Shape} (x y : FVec Ideal u .f32) (i : u.Idx) : maximumf x y i = (max (x i) (y i) : EReal) := rfl

/-- A scalar spread over an array, at an index. -/
theorem spread_apply {u : Shape} (w : BitVec 32) (hb : S_.BroadcastsInDim u (![] : Fin 0 → Fin u.rank)) (i : u.Idx) :
    broadcastInDim u ![] hb (constant (F := Ideal) S_ .f32 w) i = Ideal.ofBits .f32 w := rfl

/-- The constant array, at an index. -/
theorem constant_at {u : Shape} (w : BitVec 32) (i : u.Idx) : constant (F := Ideal) u .f32 w i = Ideal.ofBits .f32 w := rfl

/-- A fold of maxima from minus infinity is the supremum. -/
theorem fold_sup {ι : Type} (S : Finset ι) (f : ι → EReal) : S.fold max (⊥ : EReal) f = S.sup f := by
  induction S using Finset.cons_induction with
  | empty => simp
  | cons x T hx ih => rw [Finset.fold_cons, Finset.sup_cons, ih]

/-- A row's largest score. -/
theorem top_apply (s : FVec Ideal S8x4x8192x8192 .f32) (h : Fin 8) (b : Fin 4) (i : Fin 8192) :
    top s (ix3 h b i) = Finset.univ.sup fun j : Fin 8192 => (s (ix4 h b i j) : EReal) := by
  unfold top
  rw [max_apply, spread_apply, reduce_last, constant_at, neg_inf, fold_sup]
  exact max_eq_right bot_le

/-- An exponential at an index. -/
theorem expo_apply (s : FVec Ideal S8x4x8192x8192 .f32) (h : Fin 8) (b : Fin 4) (i j : Fin 8192) :
    expo s (ix4 h b i j) = Ideal.exp (s (ix4 h b i j) - top s (ix3 h b i)) := by
  pointwise [expo]

/-- A weight at an index: an exponential divided by its row's sum. -/
theorem wts_apply (e : FVec Ideal S8x4x8192x8192 .f32) (h : Fin 8) (b : Fin 4) (i j : Fin 8192) :
    wts e (ix4 h b i j) = Ideal.div (e (ix4 h b i j)) (∑ x : Fin 8192, e (ix4 h b i x)) := by
  pointwise [wts]

/-- The result at an index: the row's weights on the values. -/
theorem mixed_apply (v : FVec Ideal S8x32768x128 .bf16) (w : FVec Ideal S8x4x8192x8192 .f32) (h : Fin 8) (b : Fin 4) (i : Fin 8192) (d : Fin 128) :
    mixed v w (ix2 ⟨8192 * b.val + i.val, by omega⟩ ⟨128 * h.val + d.val, by omega⟩) = ∑ j : Fin 8192, row v h (8192 * b.val + j.val) d * w (ix4 h b i j) := by
  pointwise [mixed, dot_S8x4x8192x128_S8x4x8192x8192_S4x8x128x8192_2_3_3_2_10_10]
  unfold row
  refine Finset.sum_congr rfl fun j _ => ?_
  have hj : (8192 * b.val + j.val) % 32768 = b.val * 8192 + j.val := by omega
  simp only [hj]

/-- A memory array's finite scores have a finite supremum. -/
theorem mx_ne_bot {q k : (⟨3, ![8, 32768, 256]⟩ : Shape).Idx → EReal} (hq : ∀ i, q i ≠ ⊥ ∧ q i ≠ ⊤) (hk : ∀ i, k i ≠ ⊥ ∧ k i ≠ ⊤)
    (h : Fin 8) (b i : ℕ) : mx (sc q k h b i) 8192 ≠ ⊥ := by
  have h0 : sc q k h b i 0 ≠ ⊥ := by
    unfold sc
    rw [if_pos (by omega)]
    refine Finset.sum_induction _ (fun x : EReal => x ≠ ⊥) (fun x y hx hy e => ?_) EReal.zero_ne_bot fun d _ => ?_
    · rcases EReal.add_eq_bot_iff.mp e with e | e
      · exact hx e
      · exact hy e
    · unfold row
      have hx := hq (ix3 h ⟨(8192 * b + i) % 32768, by omega⟩ d)
      have hy := hk (ix3 h ⟨(8192 * b + 0) % 32768, by omega⟩ d)
      rw [← EReal.coe_toReal hx.2 hx.1, ← EReal.coe_toReal hy.2 hy.1, ← EReal.coe_mul]
      exact EReal.coe_ne_bot _
  intro hb
  refine h0 (le_bot_iff.mp ?_)
  rw [← hb]
  exact Finset.le_sup (f := sc q k h b i) (Finset.mem_range.mpr (by omega))

/-- The reference's result is the attention of its arguments, when the queries and keys are finite. -/
theorem mixed_eq (q k : FVec Ideal S8x32768x256 .bf16) (v : FVec Ideal S8x32768x128 .bf16)
    (hq : ∀ i, (q i : EReal) ≠ ⊥ ∧ (q i : EReal) ≠ ⊤) (hk : ∀ i, (k i : EReal) ≠ ⊥ ∧ (k i : EReal) ≠ ⊤) :
    mixed v (wts (expo (scores q k))) = attn q k v := by
  have key : ∀ (h : Fin 8) (b : Fin 4) (i : Fin 8192) (d : Fin 128),
      mixed v (wts (expo (scores q k))) (ix2 ⟨8192 * b.val + i.val, by omega⟩ ⟨128 * h.val + d.val, by omega⟩)
        = Ideal.div (ac (sc q k h b.val i.val) (ve v h b.val ⟨d.val, by omega⟩) 8192) (ac (sc q k h b.val i.val) (fun _ => 1) 8192) := by
    intro h b i d
    have ht : ∀ j : Fin 8192, expo (scores q k) (ix4 h b i j) = Ideal.exp (sc q k h b.val i.val j.val - mx (sc q k h b.val i.val) 8192) := by
      intro j
      rw [expo_apply, top_apply, scores_apply]
      refine congrArg (fun x => Ideal.exp (sc q k h b.val i.val j.val - x)) ?_
      refine (Finset.sup_congr rfl fun x _ => scores_apply q k h b i x).trans ?_
      exact Cert.KernelIdeal.Attn.sup_fin (sc q k h b.val i.val) 8192
    rw [Cert.KernelIdeal.Attn.quotient_eq (fun j => Cert.KernelIdeal.Attn.sc_ne_top hq hk h b.val i.val j) _ (mx_ne_bot hq hk h b.val i.val),
      mixed_apply, Finset.sum_range, Finset.sum_range]
    refine Finset.sum_congr rfl fun j _ => ?_
    rw [wts_apply, ht, Finset.sum_congr rfl fun x _ => ht x]
    refine congrArg (fun x => x * _) ?_
    unfold ve
    rw [dif_pos d.isLt]
  funext i
  have h0 : (i 0).val < 32768 := (i 0).isLt
  have h1 : (i 1).val < 1024 := (i 1).isLt
  have e : i = ix2 (n0 := 32768) (n1 := 1024) ⟨8192 * ((i 0).val / 8192) + (i 0).val % 8192, by omega⟩ ⟨128 * ((i 1).val / 128) + (i 1).val % 128, by omega⟩ := by
    funext t
    fin_cases t
    · exact Fin.ext (by show (i 0).val = 8192 * ((i 0).val / 8192) + (i 0).val % 8192; omega)
    · exact Fin.ext (by show (i 1).val = 128 * ((i 1).val / 128) + (i 1).val % 128; omega)
  refine (congrArg (mixed v (wts (expo (scores q k)))) e).trans ?_
  exact key ⟨(i 1).val / 128, by omega⟩ ⟨(i 0).val / 8192, by omega⟩ ⟨(i 0).val % 8192, by omega⟩ ⟨(i 1).val % 128, by omega⟩

end Cert.ReferenceIdeal.Attn

end
-- ==== Proof.Precondition.lean ====
/-
  The precondition, read: every query and every key is finite.
-/
module

public import proofs.«01_k».proof.Defs
public import proofs.«01_k».proof.Proof.Gen.KernelIdeal
public import Idealize.ShloMosaic.Lib.ReduceAll
public import Idealize.ShloMosaic.Lib.Pointwise.Tactic
public import Idealize.ShloMosaic.Lib.Pointwise

@[expose] public section

noncomputable section

namespace Cert.Pre_finite_qk

open Idealize.ShloMosaic
open Idealize.ShloMosaic.TcCoe

/-- The side conditions of the precondition's operations. -/
theorem facts : Cert.Pre_finite_qk.Facts where
  bitsLt_bf16_f32 := by decide
  bcast_S_S8x32768x256 := by decide
  reducesTo_S8x32768x256_S_d0_1_2 := by decide
  h_S_ := by decide

attribute [local instance] facts

instance : Subsingleton S_.Idx := ⟨fun a b => funext fun i => i.elim0⟩

/-- A number whose absolute value is below infinity is finite. -/
theorem finite_of_abs (x : EReal) (h : Ideal.cmp .olt (max x (-x)) (Ideal.ofBits .f32 0x7F800000#32) = 1#1) : x ≠ ⊥ ∧ x ≠ ⊤ := by
  have ht : Ideal.ofBits .f32 0x7F800000#32 = (⊤ : EReal) := by simp [Ideal.ofBits, Ideal.ieee]
  rw [ht] at h
  constructor
  · rintro rfl
    revert h
    simp [Ideal.cmp]
  · rintro rfl
    revert h
    simp [Ideal.cmp]

/-- Where the test of all elements holds, each is finite. -/
theorem finite_of_all (x : FVec Ideal S8x32768x256 .bf16)
    (h : Host.reduce IntOp.andi (cmpf .olt (Host.absf (extf .f32 x Facts.bitsLt_bf16_f32)) (broadcastInDim S8x32768x256 ![] Facts.bcast_S_S8x32768x256 (constant S_ .f32 0x7F800000#32))) (constantI S_ 1 1#1) Facts.reducesTo_S8x32768x256_S_d0_1_2 Facts.h_S_ ix0 = 1#1)
    (i : S8x32768x256.Idx) : (x i : EReal) ≠ ⊥ ∧ (x i : EReal) ≠ ⊤ :=
  finite_of_abs _ (Host.reduce_andi_all _ _ _ _ _ h i)

/-- The precondition says that the queries and the keys are finite. -/
theorem finite_of_pre (q k : FVec Ideal S8x32768x256 .bf16) (v : FVec Ideal S8x32768x128 .bf16)
    (h : fn (F := Ideal) q k v = fun _ => 1#1) :
    (∀ i, (q i : EReal) ≠ ⊥ ∧ (q i : EReal) ≠ ⊤) ∧ ∀ i, (k i : EReal) ≠ ⊥ ∧ (k i : EReal) ≠ ⊤ := by
  have h0 := congrFun h ix0
  have hand : ∀ a b : BitVec 1, a &&& b = 1#1 → a = 1#1 ∧ b = 1#1 := by decide
  have h1 := hand _ _ h0
  exact ⟨finite_of_all q h1.1, finite_of_all k h1.2⟩

end Cert.Pre_finite_qk

end
-- ==== Proof.OprojIdeal.Out.lean ====
/-
  The output projection's call on the extended reals: the hidden state it leaves, read at an index, and its reference.
-/
module

public import proofs.«01_k».proof.Proof.Gen.OprojIdeal.Frame
public import proofs.«01_k».proof.Proof.Gen.OprojReferenceIdeal.Run
public import Idealize.ShloMosaic.Lib.Pipeline.Value
public import Idealize.ShloMosaic.Lib.Pipeline.ValueKit.Basic
public import Idealize.ShloMosaic.Lib.Pointwise.Tactic
public import Idealize.ShloMosaic.Lib.Pointwise
public import Idealize.ShloMosaic.Lib.IdealHost

@[expose] public section

set_option maxRecDepth 16384

noncomputable section

namespace Cert.OprojIdeal.Out

open Cert.OprojIdeal Cert.OprojIdeal.Gen
open Idealize.ShloMosaic
open Idealize.ShloMosaic.TcCoe Idealize.SL.Sem
open Idealize.ShloMosaic.Pipeline (Dat)

/-- An element of the hidden state: the incoming one plus the heads' row against the weight's column. -/
def hidE {N : ℕ} (o h : (⟨2, ![N, 1024]⟩ : Shape).Idx → EReal) (w : S1024x1024.Idx → EReal) (n : Fin N) (d : Fin 1024) : EReal :=
  h (ix2 n d) + Finset.univ.sum fun k : Fin 1024 => o (ix2 n k) * w (ix2 k d)

theorem pay4_at (h o : S512x1024.Idx → EReal) (w : S1024x1024.Idx → EReal) (r : Fin 512) (d : Fin 1024) :
    k0_pay4 (F := Ideal) h o w (ix2 r d) = hidE o h w r d := by
  unfold k0_pay4
  pointwise [hidE]

variable (m : (ℓ : Loc nD τ sig) → Buf (Elt Ideal) ℓ) (ρ : Dev nD → PrngReg)

/-- The whole hidden state of device `c`. -/
def hid (c : Dev nD) : S32768x1024.Idx → EReal := fun i =>
  hidE (m ((c : Thread nD τ).loc main_arg0)) (m ((c : Thread nD τ).loc main_arg1)) (m ((c : Thread nD τ).loc main_arg2)) (⟨(i 0).val, (i 0).isLt⟩ : Fin 32768) (⟨(i 1).val, (i 1).isLt⟩ : Fin 1024)

theorem hz : (![0, 0] : Fin 2 → Nat) = fun _ => 0 := funext fun a => by fin_cases a <;> rfl

/-- The rounded weight is the weight on the extended reals. -/
theorem V_w (c : Dev nD) : V m c main_v0 = m ((c : Thread nD τ).loc main_arg2) := by
  unfold V
  after_results <;> rfl

theorem ix0 : ∀ t : Fin cfg0.N, (cfg0.win 0).index t = ![t.val, 0] := by decide +kernel
theorem ix1 : ∀ t : Fin cfg0.N, (cfg0.win 1).index t = ![t.val, 0] := by decide +kernel
theorem ix2' : ∀ t : Fin cfg0.N, (cfg0.win 2).index t = ![0, 0] := by decide +kernel
theorem ix9 : ∀ t : Fin cfg0.N, (cfg0.win 9).index t = ![t.val, 0] := by decide +kernel

/-- What a point writes back is its block of the hidden state. -/
theorem flushed_eq (c : Dev nD) (t : Fin cfg0.N) :
    (dats m 0 c).flushed 9 t = ((cfg0.win 9).blk t).view.read (Elt Ideal) (hid m c) := by
  show (cfg0.win 9).cut (grid0.coords t) ((dats m 0 c).after 9 t) = _
  rw [after0_9]
  unfold out0_9
  rw [View.canon_unit_zero hz, View.ld_unit_zero hz, View.ld_unit_zero hz, View.ld_unit_zero hz]
  funext y
  have h0 : (y 0).val < 512 := (y 0).isLt
  have h1 : (y 1).val < 1024 := (y 1).isLt
  obtain ⟨r, hr⟩ : ∃ r : Fin 512, r = ⟨(y 0).val, h0⟩ := ⟨_, rfl⟩
  obtain ⟨d, hd⟩ : ∃ d : Fin 1024, d = ⟨(y 1).val, h1⟩ := ⟨_, rfl⟩
  have hy : (y : S512x1024.Idx) = ix2 r d := by
    subst hr hd
    funext a
    match a with
    | ⟨0, _⟩ => rfl
    | ⟨1, _⟩ => rfl
  have ht : t.val < 64 := t.isLt
  have hn : t.val * 512 + r.val < 32768 := by have := r.isLt; omega
  have e9 : (((cfg0.win 9).rect t).emb y : S32768x1024.Idx) = ix2 (⟨t.val * 512 + r.val, hn⟩ : Fin 32768) d := by
    funext a
    match a with
    | ⟨0, _⟩ => exact Fin.ext ((Pipeline.Window.rect_emb_val (cfg0.win 9) t y 0 rfl).trans (by subst hr; rw [ix9]; rfl))
    | ⟨1, _⟩ => exact Fin.ext ((Pipeline.Window.rect_emb_val (cfg0.win 9) t y 1 rfl).trans (by subst hd; rw [ix9]; exact Nat.zero_add _))
  have eo : ∀ k : Fin 1024, iblk m c 0 t (ix2 r k) = m ((c : Thread nD τ).loc main_arg0) (ix2 (⟨t.val * 512 + r.val, hn⟩ : Fin 32768) k) := by
    intro k
    refine (congrFun (V_main_arg0 m c) (((cfg0.win 0).rect t).emb (ix2 r k))).trans (congrArg (m ((c : Thread nD τ).loc main_arg0)) ?_)
    funext a
    match a with
    | ⟨0, _⟩ => exact Fin.ext ((Pipeline.Window.rect_emb_val (cfg0.win 0) t (ix2 r k) 0 rfl).trans (by rw [ix0]; rfl))
    | ⟨1, _⟩ => exact Fin.ext ((Pipeline.Window.rect_emb_val (cfg0.win 0) t (ix2 r k) 1 rfl).trans (by rw [ix0]; exact Nat.zero_add _))
  have eh : ∀ k : Fin 1024, iblk m c 1 t (ix2 r k) = m ((c : Thread nD τ).loc main_arg1) (ix2 (⟨t.val * 512 + r.val, hn⟩ : Fin 32768) k) := by
    intro k
    refine (congrFun (V_main_arg1 m c) (((cfg0.win 1).rect t).emb (ix2 r k))).trans (congrArg (m ((c : Thread nD τ).loc main_arg1)) ?_)
    funext a
    match a with
    | ⟨0, _⟩ => exact Fin.ext ((Pipeline.Window.rect_emb_val (cfg0.win 1) t (ix2 r k) 0 rfl).trans (by rw [ix1]; rfl))
    | ⟨1, _⟩ => exact Fin.ext ((Pipeline.Window.rect_emb_val (cfg0.win 1) t (ix2 r k) 1 rfl).trans (by rw [ix1]; exact Nat.zero_add _))
  have ew : ∀ k e : Fin 1024, iblk m c 2 t (ix2 k e) = m ((c : Thread nD τ).loc main_arg2) (ix2 k e) := by
    intro k e
    refine (congrFun (V_w m c) (((cfg0.win 2).rect t).emb (ix2 k e))).trans (congrArg (m ((c : Thread nD τ).loc main_arg2)) ?_)
    funext a
    match a with
    | ⟨0, _⟩ => exact Fin.ext ((Pipeline.Window.rect_emb_val (cfg0.win 2) t (ix2 k e) 0 rfl).trans (by rw [ix2']; exact Nat.zero_add _))
    | ⟨1, _⟩ => exact Fin.ext ((Pipeline.Window.rect_emb_val (cfg0.win 2) t (ix2 k e) 1 rfl).trans (by rw [ix2']; exact Nat.zero_add _))
  show k0_pay4 (iblk m c 1 t) (iblk m c 0 t) (iblk m c 2 t) y = hid m c (((cfg0.win 9).rect t).emb y)
  rw [e9]
  refine (congrArg (k0_pay4 (iblk m c 1 t) (iblk m c 0 t) (iblk m c 2 t)) hy).trans ?_
  refine (pay4_at (iblk m c 1 t) (iblk m c 0 t) (iblk m c 2 t) r d).trans ?_
  exact congrArg₂ (· + ·) (eh d) (Finset.sum_congr rfl fun k _ => congrArg₂ (· * ·) (eo k) (ew k d))

/-- The blocks written back tile the result. -/
theorem cover (i : S32768x1024.Idx) : ∃ t : Fin cfg0.N, (cfg0.win 9).flush t = true ∧ i ∈ ((cfg0.win 9).blk t).view.set := by
  have h0 : (i 0).val < 32768 := (i 0).isLt
  have h1 : (i 1).val < 1024 := (i 1).isLt
  have ht : (i 0).val / 512 < cfg0.N := by
    show _ < 64
    omega
  refine ⟨⟨_, ht⟩, flush0_9 _, ?_⟩
  show i ∈ ((View.whole main_v11_0).slice ((cfg0.win 9).rect ⟨_, ht⟩)).set
  erw [View.set_slice_whole]
  refine (Pipeline.Window.mem_rect_iff (cfg0.win 9) ⟨_, ht⟩ i rfl).mpr fun a => ?_
  rw [ix9]
  fin_cases a
  · show (i 0).val / 512 * 512 ≤ (i 0).val ∧ (i 0).val < (i 0).val / 512 * 512 + 512
    omega
  · show 0 * 1024 ≤ (i 1).val ∧ (i 1).val < 0 * 1024 + 1024
    omega

/-- The run: the result is the hidden state. -/
theorem run : θ_run defs (onTc (τ := τ) (main (F := Ideal))) ⟨m, fun _ => 0, ρ⟩ fun r => ∀ c : Dev nD,
    r.2.mem ((c : Thread nD τ).loc main_v11_0) = hid m c :=
  (θ_run defs _ _).mono (fun _ h c => ((h c).1 9).trans
    ((dats m 0 c).arrAt_eq_of_cover 9 (hid m c) (fun t _ => flushed_eq m c t) cover)) (run_main m ρ)

end Cert.OprojIdeal.Out

namespace Cert.OprojReferenceIdeal.Out

open Cert.OprojReferenceIdeal Cert.OprojReferenceIdeal.Gen
open Idealize.ShloMosaic
open Cert.OprojIdeal.Out (hidE)

/-- The reference at an index. -/
theorem ref_at (o : FVec Ideal S32768x1024 .bf16) (h : FVec Ideal S32768x1024 .f32) (w : FVec Ideal S1024x1024 .f32) (n : Fin 32768) (d : Fin 1024) :
    addf h (Host.dotGeneral dot_S32768x1024_S1024x1024_S32768x1024_1_0_0_1_n_n none (extf .f32 o bitsLt_bf16_f32) w) (ix2 n d) = hidE o h w n d := by
  pointwise [hidE]

end Cert.OprojReferenceIdeal.Out

end
-- ==== Proof.ValuesIdeal.Out.lean ====
/-
  The projections' call on the extended reals: the values it leaves, head by head, read at an index.
-/
module

public import proofs.«01_k».proof.Proof.Gen.ValuesIdeal.Frame
public import Idealize.ShloMosaic.Lib.Pipeline.Value
public import Idealize.ShloMosaic.Lib.Pipeline.ValueKit.Basic
public import Idealize.ShloMosaic.Lib.Pointwise.Tactic
public import Idealize.ShloMosaic.Lib.Pointwise
public import Idealize.ShloMosaic.Lib.IdealHost
public import Idealize.ShloMosaic.Lib.KernelVsHost

@[expose] public section

set_option maxRecDepth 16384

noncomputable section

namespace Cert.ValuesIdeal.Out

open Cert.ValuesIdeal Cert.ValuesIdeal.Gen
open Idealize.ShloMosaic
open Idealize.ShloMosaic.TcCoe Idealize.SL.Sem
open Idealize.ShloMosaic.Pipeline (Dat)

/-- A row scaled by its root mean square and by the gains. -/
def normE {C : ℕ} (n : EReal) (x g : Fin C → EReal) (d : Fin C) : EReal :=
  x d * Ideal.rsqrt (Ideal.div (Finset.univ.sum fun k => x k * x k) n + Ideal.ofBits .f32 0x358637BD#32) * g d

/-- The latent row: the normalised row through the down projection, normalised again. -/
def latE (x g : Fin 1024 → EReal) (w : Fin 1024 → Fin 256 → EReal) (gl : Fin 256 → EReal) (d : Fin 256) : EReal :=
  normE (Ideal.ofBits .f32 0x43800000#32) (fun e => Finset.univ.sum fun k => normE (Ideal.ofBits .f32 0x44800000#32) x g k * w k e) gl d

/-- One element of the values: the latent row against a column of the up projection. -/
def valE (x g : Fin 1024 → EReal) (w : Fin 1024 → Fin 256 → EReal) (gl u : Fin 256 → EReal) : EReal :=
  Finset.univ.sum fun k => latE x g w gl k * u k

/-- The body's value product from its blocks. -/
def prod (x0 : Vec Ideal S512x1024 .f32) (x3 : Vec Ideal S1x1024 .f32) (x4 : Vec Ideal S1024x256 .bf16) (x5 : Vec Ideal S1x256 .f32) (x8 : Vec Ideal S256x1024 .bf16) : FVec Ideal S512x1024 .f32 :=
  k0_pay10 (k0_pay5 x0 x3 x4) (k0_pay6 x5) (k0_pay7 x0 x3 x4) x8

theorem pay4_at (x0 : Vec Ideal S512x1024 .f32) (x3 : Vec Ideal S1x1024 .f32) (r : Fin 512) (d : Fin 1024) :
    k0_pay4 x0 x3 (ix2 r d) = normE (Ideal.ofBits .f32 0x44800000#32) (fun k => x0 (ix2 r k)) (fun k => x3 (ix2 0 k)) d := by
  unfold k0_pay4 normE
  pointwise

theorem pay8_at (x0 : Vec Ideal S512x1024 .f32) (x3 : Vec Ideal S1x1024 .f32) (x4 : Vec Ideal S1024x256 .bf16) (x5 : Vec Ideal S1x256 .f32) (r : Fin 512) (d : Fin 256) :
    k0_pay8 (k0_pay5 x0 x3 x4) (k0_pay6 x5) (k0_pay7 x0 x3 x4) (ix2 r d) = latE (fun k => x0 (ix2 r k)) (fun k => x3 (ix2 0 k)) (fun k j => x4 (ix2 k j)) (fun k => x5 (ix2 0 k)) d := by
  unfold k0_pay8 latE normE
  pointwise [k0_pay5, k0_pay6, k0_pay7, pay4_at, normE]

theorem prod_at (x0 : Vec Ideal S512x1024 .f32) (x3 : Vec Ideal S1x1024 .f32) (x4 : Vec Ideal S1024x256 .bf16) (x5 : Vec Ideal S1x256 .f32) (x8 : Vec Ideal S256x1024 .bf16)
    (r : Fin 512) (e : Fin 1024) :
    prod x0 x3 x4 x5 x8 (ix2 r e) = valE (fun k => x0 (ix2 r k)) (fun k => x3 (ix2 0 k)) (fun k j => x4 (ix2 k j)) (fun k => x5 (ix2 0 k)) (fun k => x8 (ix2 k e)) := by
  unfold prod k0_pay10 valE
  pointwise [pay8_at]

/-! ## The pieces a point writes: head by head the product's columns -/

theorem hz : (![0, 0] : Fin 2 → Nat) = fun _ => 0 := funext fun a => by fin_cases a <;> rfl

/-- Column `j` of head `a` among the product's columns. -/
abbrev col (a : Fin 8) (j : Fin 128) : Fin 1024 := ⟨a.val * 128 + j.val, by omega⟩

/-- A product laid out head by head. -/
def heads (v : S512x1024.Idx → EReal) : S8x512x128.Idx → EReal := fun y =>
  v (ix2 (⟨(y 1).val, (y 1).isLt⟩ : Fin 512) (col ⟨(y 0).val, (y 0).isLt⟩ ⟨(y 2).val, (y 2).isLt⟩))

/-- One piece: the columns from `o` on, under a leading axis of size one, are head `a`. -/
theorem piece (v : FVec Ideal S512x1024 .f32) (a o : ℕ) (ha : a < 8) (ho : o = a * 128) (hs : S512x1024.Slices ![0, o] S512x128)
    (hi : ∀ d, (![a, 0, 0] : Fin 3 → ℕ) d + S1x512x128.size d ≤ S8x512x128.size d) (x : S1x512x128.Idx) :
    shapeCast S1x512x128 (truncf .bf16 (extractStridedSlice S512x128 ![0, o] v hs : FVec Ideal S512x128 .f32) bitsLt_bf16_f32 : FVec Ideal S512x128 .bf16) shapeCasts_S512x128_S1x512x128 x
      = heads v ((Rect.unit (s := S8x512x128) ![a, 0, 0] S1x512x128.size hi).emb x) := by
  subst ho
  have h0 : (x 0).val < 1 := (x 0).isLt
  have h1 : (x 1).val < 512 := (x 1).isLt
  have h2 : (x 2).val < 128 := (x 2).isLt
  refine (shapeCast_apply _ _ x (ix2 (⟨(x 1).val, h1⟩ : Fin 512) (⟨(x 2).val, h2⟩ : Fin 128)) ?_).trans ?_
  · rw [Shape.rowMajor_val_two, Shape.rowMajor_val_three]
    show (x 1).val * 128 + (x 2).val = ((x 0).val * 512 + (x 1).val) * 128 + (x 2).val
    omega
  · refine congrArg v (funext fun b => Fin.ext ?_)
    match b with
    | ⟨0, _⟩ => show 0 + (x 1).val = 0 + 1 * (x 1).val; omega
    | ⟨1, _⟩ => show a * 128 + (x 2).val = (a + 1 * (x 0).val) * 128 + (0 + 1 * (x 2).val); omega

/-- What the pieces leave in the block. -/
theorem out_eq (x0 : Vec Ideal S512x1024 .f32) (x1 : Vec Ideal S512x128 .f32) (x2 : Vec Ideal S512x128 .f32) (x3 : Vec Ideal S1x1024 .f32) (x4 : Vec Ideal S1024x256 .bf16) (x5 : Vec Ideal S1x256 .f32) (x6 : Vec Ideal S1024x128 .bf16)
    (x7 : Vec Ideal S256x1024 .bf16) (x8 : Vec Ideal S256x1024 .bf16) (x9 : Vec Ideal S1x256 .f32) (x10 : Vec Ideal S1x1024 .f32) (x11 : Vec Ideal S1024x384 .bf16) (x12 : Vec Ideal S1x384 .f32) (x13 : Vec Ideal S384x2048 .bf16)
    (x14 : Vec Ideal S1x256 .f32) (x15 : Vec Ideal S1024x128 .bf16) (x16 : Vec Ideal S128x1024 .bf16) (y : S8x512x128.Idx) :
    out0_19 x0 x1 x2 x3 x4 x5 x6 x7 x8 x9 x10 x11 x12 x13 x14 x15 x16 y = heads (prod x0 x3 x4 x5 x8) y := by
  have e : k0_pay111 x0 x1 x2 x3 x4 x5 x6 x7 x8 x9 x10 x11 x12 x13 x14 x15 x16 = prod x0 x3 x4 x5 x8 := by
    unfold k0_pay111 k0_pay108 k0_pay107 k0_pay106 prod
    rw [View.ld_unit_zero hz, View.ld_unit_zero hz, View.ld_unit_zero hz, View.ld_unit_zero hz, View.ld_unit_zero hz]
  unfold out0_19
  rw [e]
  refine View.canon_apply_of_pieces (Val := Elt Ideal) (e := .bf16) (heads (prod x0 x3 x4 x5 x8)) _ ?_ y (cover0_19 _ _ _ _ _ _ _ _ y)
  intro p hp
  simp only [List.mem_cons, List.not_mem_nil, or_false] at hp
  rcases hp with rfl | rfl | rfl | rfl | rfl | rfl | rfl | rfl
  · exact piece _ 7 896 (by omega) rfl _ inb_S8x512x128_S1x512x128_7_0_0
  · exact piece _ 6 768 (by omega) rfl _ inb_S8x512x128_S1x512x128_6_0_0
  · exact piece _ 5 640 (by omega) rfl _ inb_S8x512x128_S1x512x128_5_0_0
  · exact piece _ 4 512 (by omega) rfl _ inb_S8x512x128_S1x512x128_4_0_0
  · exact piece _ 3 384 (by omega) rfl _ inb_S8x512x128_S1x512x128_3_0_0
  · exact piece _ 2 256 (by omega) rfl _ inb_S8x512x128_S1x512x128_2_0_0
  · exact piece _ 1 128 (by omega) rfl _ inb_S8x512x128_S1x512x128_1_0_0
  · exact piece _ 0 0 (by omega) rfl _ inb_S8x512x128_S1x512x128_0_0_0

/-! ## What the region finds in the weights' arrays -/

variable (m : (ℓ : Loc nD τ sig) → Buf (Elt Ideal) ℓ) (ρ : Dev nD → PrngReg)

theorem V_32 (c : Dev nD) (k : Fin 1024) : V m c main_v32 (ix2 0 k) = m ((c : Thread nD τ).loc main_arg3) (ix1 k) := by
  have e : V m c main_v32 = shapeCast S1x1024 (m ((c : Thread nD τ).loc main_arg3)) shapeCasts_S1024_S1x1024 := by
    unfold V
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
    after_results <;> rfl
  rw [e]
  exact shapeCast_apply _ _ _ (ix1 k) (by rw [Shape.rowMajor_val_one, Shape.rowMajor_val_two]; show k.val = 0 * 1024 + k.val; omega)

theorem V_33 (c : Dev nD) : V m c main_v33 = m ((c : Thread nD τ).loc main_arg4) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results <;> rfl

theorem V_34 (c : Dev nD) (k : Fin 256) : V m c main_v34 (ix2 0 k) = m ((c : Thread nD τ).loc main_arg5) (ix1 k) := by
  have e : V m c main_v34 = shapeCast S1x256 (m ((c : Thread nD τ).loc main_arg5)) shapeCasts_S256_S1x256 := by
    unfold V
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
    after_results <;> rfl
  rw [e]
  exact shapeCast_apply _ _ _ (ix1 k) (by rw [Shape.rowMajor_val_one, Shape.rowMajor_val_two]; show k.val = 0 * 256 + k.val; omega)

/-- The up projection's value columns, head by head. -/
theorem V_11 (c : Dev nD) (k : Fin 256) (a : Fin 8) (j : Fin 128) :
    V m c main_v11 (ix2 k (col a j)) = m ((c : Thread nD τ).loc main_arg7) (ix2 k (⟨a.val * 256 + (128 + j.val), by omega⟩ : Fin 2048)) := by
  have e : V m c main_v11 = truncf .bf16 (shapeCast S256x1024 (pad S256x8x128 ![0, 0, 0] ![0, 0, 0] ![0, 0, 0]
      (extractStridedSlice S256x8x128 ![0, 0, 128] (shapeCast S256x8x256 (m ((c : Thread nD τ).loc main_arg7)) shapeCasts_S256x2048_S256x8x256) slices_S256x8x256_S256x8x128_0_0_128)
      (sitofp (F := Ideal) .f32 (constantI S_ 32 0#32)) pads_S256x8x128_S256x8x128_000_000_000 h_S_ : FVec Ideal S256x8x128 .f32) shapeCasts_S256x8x128_S256x1024 : FVec Ideal S256x1024 .f32) bitsLt_bf16_f32 := by
    unfold V
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
    after_results <;> rfl
  have tr : ∀ (x : FVec Ideal S256x1024 .f32) i, (truncf .bf16 x bitsLt_bf16_f32 : FVec Ideal S256x1024 .bf16) i = x i := fun _ _ => rfl
  rw [e, tr]
  refine (shapeCast_apply _ shapeCasts_S256x8x128_S256x1024 (ix2 k (col a j)) (ix3 k a j) ?_).trans ?_
  · rw [Shape.rowMajor_val_two, Shape.rowMajor_val_three]
    show (k.val * 8 + a.val) * 128 + j.val = k.val * 1024 + (a.val * 128 + j.val)
    omega
  refine (pad_apply_of_inside _ _ _ _ _ _ _ (ix3 k a j) (ix3 k a j) ?_).trans ?_
  · intro b
    match b with
    | ⟨0, _⟩ => show k.val = 0 + k.val * (0 + 1); omega
    | ⟨1, _⟩ => show a.val = 0 + a.val * (0 + 1); omega
    | ⟨2, _⟩ => show j.val = 0 + j.val * (0 + 1); omega
  refine shapeCast_apply _ shapeCasts_S256x2048_S256x8x256 _ _ ?_
  rw [Shape.rowMajor_val_two, Shape.rowMajor_val_three]
  show k.val * 2048 + (a.val * 256 + (128 + j.val)) = ((0 + k.val) * 8 + (0 + a.val)) * 256 + (128 + j.val)
  omega

/-! ## The run -/

theorem ix0 : ∀ t : Fin cfg0.N, (cfg0.win 0).index t = ![t.val, 0] := by decide +kernel
theorem ix3w : ∀ t : Fin cfg0.N, (cfg0.win 3).index t = ![0, 0] := by decide +kernel
theorem ix4w : ∀ t : Fin cfg0.N, (cfg0.win 4).index t = ![0, 0] := by decide +kernel
theorem ix5w : ∀ t : Fin cfg0.N, (cfg0.win 5).index t = ![0, 0] := by decide +kernel
theorem ix8w : ∀ t : Fin cfg0.N, (cfg0.win 8).index t = ![0, 0] := by decide +kernel
theorem ix19 : ∀ t : Fin cfg0.N, (cfg0.win 19).index t = ![0, t.val, 0] := by decide +kernel

/-- One element of the values, from the arguments. -/
def elemE (h : S32768x1024.Idx → EReal) (g : S1024.Idx → EReal) (w : S1024x256.Idx → EReal) (gl : S256.Idx → EReal) (u : S256x2048.Idx → EReal)
    (a : Fin 8) (n : Fin 32768) (j : Fin 128) : EReal :=
  valE (fun k => h (ix2 n k)) (fun k => g (ix1 k)) (fun k e => w (ix2 k e)) (fun k => gl (ix1 k)) (fun k => u (ix2 k (⟨a.val * 256 + (128 + j.val), by omega⟩ : Fin 2048)))

/-- The values of device `c`, head by head. -/
def vals (c : Dev nD) : S8x32768x128.Idx → EReal := fun i =>
  elemE (m ((c : Thread nD τ).loc main_arg0)) (m ((c : Thread nD τ).loc main_arg3)) (m ((c : Thread nD τ).loc main_arg4)) (m ((c : Thread nD τ).loc main_arg5)) (m ((c : Thread nD τ).loc main_arg7))
    (⟨(i 0).val, (i 0).isLt⟩ : Fin 8) (⟨(i 1).val, (i 1).isLt⟩ : Fin 32768) (⟨(i 2).val, (i 2).isLt⟩ : Fin 128)

theorem cong5 {x x' g g' : Fin 1024 → EReal} {w w' : Fin 1024 → Fin 256 → EReal} {gl gl' u u' : Fin 256 → EReal}
    (hx : ∀ k, x k = x' k) (hg : ∀ k, g k = g' k) (hw : ∀ k e, w k e = w' k e) (hl : ∀ k, gl k = gl' k) (hu : ∀ k, u k = u' k) :
    valE x g w gl u = valE x' g' w' gl' u' := by
  obtain rfl := funext hx
  obtain rfl := funext hg
  obtain rfl := funext fun k => funext (hw k)
  obtain rfl := funext hl
  obtain rfl := funext hu
  rfl

/-! The blocks a point reads. -/

theorem b0 (c : Dev nD) (t : Fin cfg0.N) (r : Fin 512) (k : Fin 1024) (hn : t.val * 512 + r.val < 32768) :
    iblk m c 0 t (ix2 r k) = m ((c : Thread nD τ).loc main_arg0) (ix2 (⟨t.val * 512 + r.val, hn⟩ : Fin 32768) k) := by
  refine (congrFun (V_main_arg0 m c) (((cfg0.win 0).rect t).emb (ix2 r k))).trans (congrArg (m ((c : Thread nD τ).loc main_arg0)) ?_)
  funext a
  match a with
  | ⟨0, _⟩ => exact Fin.ext ((Pipeline.Window.rect_emb_val (cfg0.win 0) t (ix2 r k) 0 rfl).trans (by rw [ix0]; rfl))
  | ⟨1, _⟩ => exact Fin.ext ((Pipeline.Window.rect_emb_val (cfg0.win 0) t (ix2 r k) 1 rfl).trans (by rw [ix0]; exact Nat.zero_add _))

theorem b3 (c : Dev nD) (t : Fin cfg0.N) (k : Fin 1024) : iblk m c 3 t (ix2 0 k) = m ((c : Thread nD τ).loc main_arg3) (ix1 k) := by
  refine (congrArg (V m c main_v32) (?_ : (((cfg0.win 3).rect t).emb (ix2 (0 : Fin 1) k) : S1x1024.Idx) = ix2 0 k)).trans (V_32 m c k)
  funext a
  match a with
  | ⟨0, _⟩ => exact Fin.ext ((Pipeline.Window.rect_emb_val (cfg0.win 3) t (ix2 (0 : Fin 1) k) 0 rfl).trans (by rw [ix3w]; exact Nat.zero_add _))
  | ⟨1, _⟩ => exact Fin.ext ((Pipeline.Window.rect_emb_val (cfg0.win 3) t (ix2 (0 : Fin 1) k) 1 rfl).trans (by rw [ix3w]; exact Nat.zero_add _))

theorem b4 (c : Dev nD) (t : Fin cfg0.N) (k : Fin 1024) (e : Fin 256) : iblk m c 4 t (ix2 k e) = m ((c : Thread nD τ).loc main_arg4) (ix2 k e) := by
  refine (congrArg (V m c main_v33) (?_ : (((cfg0.win 4).rect t).emb (ix2 k e) : S1024x256.Idx) = ix2 k e)).trans (congrFun (V_33 m c) (ix2 k e))
  funext a
  match a with
  | ⟨0, _⟩ => exact Fin.ext ((Pipeline.Window.rect_emb_val (cfg0.win 4) t (ix2 k e) 0 rfl).trans (by rw [ix4w]; exact Nat.zero_add _))
  | ⟨1, _⟩ => exact Fin.ext ((Pipeline.Window.rect_emb_val (cfg0.win 4) t (ix2 k e) 1 rfl).trans (by rw [ix4w]; exact Nat.zero_add _))

theorem b5 (c : Dev nD) (t : Fin cfg0.N) (k : Fin 256) : iblk m c 5 t (ix2 0 k) = m ((c : Thread nD τ).loc main_arg5) (ix1 k) := by
  refine (congrArg (V m c main_v34) (?_ : (((cfg0.win 5).rect t).emb (ix2 (0 : Fin 1) k) : S1x256.Idx) = ix2 0 k)).trans (V_34 m c k)
  funext a
  match a with
  | ⟨0, _⟩ => exact Fin.ext ((Pipeline.Window.rect_emb_val (cfg0.win 5) t (ix2 (0 : Fin 1) k) 0 rfl).trans (by rw [ix5w]; exact Nat.zero_add _))
  | ⟨1, _⟩ => exact Fin.ext ((Pipeline.Window.rect_emb_val (cfg0.win 5) t (ix2 (0 : Fin 1) k) 1 rfl).trans (by rw [ix5w]; exact Nat.zero_add _))

theorem b8 (c : Dev nD) (t : Fin cfg0.N) (k : Fin 256) (b : Fin 8) (j : Fin 128) :
    iblk m c 8 t (ix2 k (col b j)) = m ((c : Thread nD τ).loc main_arg7) (ix2 k (⟨b.val * 256 + (128 + j.val), by omega⟩ : Fin 2048)) := by
  refine (congrArg (V m c main_v11) (?_ : (((cfg0.win 8).rect t).emb (ix2 k (col b j)) : S256x1024.Idx) = ix2 k (col b j))).trans (V_11 m c k b j)
  funext a
  match a with
  | ⟨0, _⟩ => exact Fin.ext ((Pipeline.Window.rect_emb_val (cfg0.win 8) t (ix2 k (col b j)) 0 rfl).trans (by rw [ix8w]; exact Nat.zero_add _))
  | ⟨1, _⟩ => exact Fin.ext ((Pipeline.Window.rect_emb_val (cfg0.win 8) t (ix2 k (col b j)) 1 rfl).trans (by rw [ix8w]; exact Nat.zero_add _))

/-- What a point writes back is its block of the values. -/
theorem flushed_eq (c : Dev nD) (t : Fin cfg0.N) :
    (dats m 0 c).flushed 19 t = ((cfg0.win 19).blk t).view.read (Elt Ideal) (vals m c) := by
  show (cfg0.win 19).cut (grid0.coords t) ((dats m 0 c).after 19 t) = _
  rw [after0_19]
  funext y
  have h0 : (y 0).val < 8 := (y 0).isLt
  have h1 : (y 1).val < 512 := (y 1).isLt
  have h2 : (y 2).val < 128 := (y 2).isLt
  have ht : t.val < 64 := t.isLt
  have hn : t.val * 512 + (y 1).val < 32768 := by omega
  have e19 : (((cfg0.win 19).rect t).emb y : S8x32768x128.Idx) = ix3 (⟨(y 0).val, h0⟩ : Fin 8) (⟨t.val * 512 + (y 1).val, hn⟩ : Fin 32768) (⟨(y 2).val, h2⟩ : Fin 128) := by
    funext a
    match a with
    | ⟨0, _⟩ => exact Fin.ext ((Pipeline.Window.rect_emb_val (cfg0.win 19) t y 0 rfl).trans (by rw [ix19]; exact Nat.zero_add _))
    | ⟨1, _⟩ => exact Fin.ext ((Pipeline.Window.rect_emb_val (cfg0.win 19) t y 1 rfl).trans (by rw [ix19]; rfl))
    | ⟨2, _⟩ => exact Fin.ext ((Pipeline.Window.rect_emb_val (cfg0.win 19) t y 2 rfl).trans (by rw [ix19]; exact Nat.zero_add _))
  show out0_19 (iblk m c 0 t) _ _ (iblk m c 3 t) (iblk m c 4 t) (iblk m c 5 t) _ _ (iblk m c 8 t) _ _ _ _ _ _ _ _ y = vals m c (((cfg0.win 19).rect t).emb y)
  rw [e19]
  refine (out_eq _ _ _ _ _ _ _ _ _ _ _ _ _ _ _ _ _ y).trans ?_
  refine (prod_at (iblk m c 0 t) (iblk m c 3 t) (iblk m c 4 t) (iblk m c 5 t) (iblk m c 8 t) ⟨(y 1).val, h1⟩ (col ⟨(y 0).val, h0⟩ ⟨(y 2).val, h2⟩)).trans ?_
  unfold vals elemE
  exact cong5 (fun k => b0 m c t ⟨(y 1).val, h1⟩ k hn) (b3 m c t) (b4 m c t) (b5 m c t) (fun k => b8 m c t k ⟨(y 0).val, h0⟩ ⟨(y 2).val, h2⟩)

/-- The blocks written back tile the result. -/
theorem cover (i : S8x32768x128.Idx) : ∃ t : Fin cfg0.N, (cfg0.win 19).flush t = true ∧ i ∈ ((cfg0.win 19).blk t).view.set := by
  have h0 : (i 0).val < 8 := (i 0).isLt
  have h1 : (i 1).val < 32768 := (i 1).isLt
  have h2 : (i 2).val < 128 := (i 2).isLt
  have ht : (i 1).val / 512 < cfg0.N := by
    show _ < 64
    omega
  refine ⟨⟨_, ht⟩, flush0_19 _, ?_⟩
  show i ∈ ((View.whole main_v42_2).slice ((cfg0.win 19).rect ⟨_, ht⟩)).set
  erw [View.set_slice_whole]
  refine (Pipeline.Window.mem_rect_iff (cfg0.win 19) ⟨_, ht⟩ i rfl).mpr fun a => ?_
  rw [ix19]
  fin_cases a
  · show 0 * 8 ≤ (i 0).val ∧ (i 0).val < 0 * 8 + 8
    omega
  · show (i 1).val / 512 * 512 ≤ (i 1).val ∧ (i 1).val < (i 1).val / 512 * 512 + 512
    omega
  · show 0 * 128 ≤ (i 2).val ∧ (i 2).val < 0 * 128 + 128
    omega

/-- The run: the result is the values. -/
theorem run : θ_run defs (onTc (τ := τ) (main (F := Ideal))) ⟨m, fun _ => 0, ρ⟩ fun r => ∀ c : Dev nD,
    r.2.mem ((c : Thread nD τ).loc main_v42_2) = vals m c :=
  (θ_run defs _ _).mono (fun _ h c => ((h c).1 19).trans
    ((dats m 0 c).arrAt_eq_of_cover 19 (vals m c) (fun t _ => flushed_eq m c t) cover)) (run_main m ρ)

end Cert.ValuesIdeal.Out

end
-- ==== Proof.ValuesIdeal.Reference.lean ====
/-
  The values' reference, read at an index.
-/
module

public import proofs.«01_k».proof.Proof.Gen.ValuesReferenceIdeal.Run
public import proofs.«01_k».proof.Proof.ValuesIdeal.Out

@[expose] public section

set_option maxRecDepth 16384

noncomputable section

namespace Cert.ValuesReferenceIdeal.Out

open Cert.ValuesReferenceIdeal Cert.ValuesReferenceIdeal.Gen
open Idealize.ShloMosaic
open Cert.ValuesIdeal.Out (normE latE valE elemE)

/-- The reference's normalised rows. -/
def hn (h : FVec Ideal S32768x1024 .f32) (g : FVec Ideal S1024 .f32) : FVec Ideal S32768x1024 .f32 :=
  mulf (mulf h (broadcastInDim S32768x1024 ![0, 1] bcast_S32768x1_S32768x1024_0_1 (Host.rsqrt (addf (Host.divf (broadcastInDim S32768x1 ![0] bcast_S32768_S32768x1_0 (Host.reduceAdd (mulf h h) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))

/-- Their down projection. -/
def dn (h : FVec Ideal S32768x1024 .f32) (g : FVec Ideal S1024 .f32) (w : FVec Ideal S1024x256 .f32) : FVec Ideal S32768x256 .f32 :=
  Host.dotGeneral dot_S32768x1024_S1024x256_S32768x256_1_0_0_1_n_n none (hn h g) w

/-- The latent rows. -/
def lat (h : FVec Ideal S32768x1024 .f32) (g : FVec Ideal S1024 .f32) (w : FVec Ideal S1024x256 .f32) (gl : FVec Ideal S256 .f32) : FVec Ideal S32768x256 .f32 :=
  mulf (mulf (dn h g w) (broadcastInDim S32768x256 ![0, 1] bcast_S32768x1_S32768x256_0_1 (Host.rsqrt (addf (Host.divf (broadcastInDim S32768x1 ![0] bcast_S32768_S32768x1_0 (Host.reduceAdd (mulf (dn h g w) (dn h g w)) (constant S_ .f32 0x00000000#32) reducesTo_S32768x256_S32768_d1 h_S_)) (broadcastInDim S32768x1 ![] bcast_S_S32768x1 (constant S_ .f32 0x43800000#32))) (broadcastInDim S32768x1 ![] bcast_S_S32768x1 (constant S_ .f32 0x358637BD#32)))))) (broadcastInDim S32768x256 ![0, 1] bcast_S1x256_S32768x256_0_1 (broadcastInDim S1x256 ![1] bcast_S256_S1x256_1 gl))

/-- The whole reference. -/
def res (h : FVec Ideal S32768x1024 .f32) (g : FVec Ideal S1024 .f32) (w : FVec Ideal S1024x256 .f32) (gl : FVec Ideal S256 .f32) (u : FVec Ideal S256x2048 .f32) : FVec Ideal S8x32768x128 .bf16 :=
  truncf .bf16 (transpose S8x32768x128 [1, 0, 2] (extractStridedSlice S32768x8x128 ![0, 0, 128] (shapeCast _ (Host.dotGeneral dot_S32768x256_S256x2048_S32768x2048_1_0_0_1_n_n none (lat h g w gl) u) shapeCasts_S32768x2048_S32768x8x256) slices_S32768x8x256_S32768x8x128_0_0_128) transposes_S32768x8x128_S8x32768x128_1_0_2) bitsLt_bf16_f32

theorem hn_at (h : FVec Ideal S32768x1024 .f32) (g : FVec Ideal S1024 .f32) (n : Fin 32768) (d : Fin 1024) :
    hn h g (ix2 n d) = normE (Ideal.ofBits .f32 0x44800000#32) (fun k => h (ix2 n k)) (fun k => g (ix1 k)) d := by
  unfold hn normE
  pointwise

theorem lat_at (h : FVec Ideal S32768x1024 .f32) (g : FVec Ideal S1024 .f32) (w : FVec Ideal S1024x256 .f32) (gl : FVec Ideal S256 .f32) (n : Fin 32768) (d : Fin 256) :
    lat h g w gl (ix2 n d) = latE (fun k => h (ix2 n k)) (fun k => g (ix1 k)) (fun k e => w (ix2 k e)) (fun k => gl (ix1 k)) d := by
  have e : ∀ j : Fin 256, dn h g w (ix2 n j) = Finset.univ.sum fun k => normE (Ideal.ofBits .f32 0x44800000#32) (fun k => h (ix2 n k)) (fun k => g (ix1 k)) k * w (ix2 k j) := by
    intro j
    unfold dn
    pointwise [hn_at]
  unfold lat latE
  pointwise [normE, e]

theorem res_at (h : FVec Ideal S32768x1024 .f32) (g : FVec Ideal S1024 .f32) (w : FVec Ideal S1024x256 .f32) (gl : FVec Ideal S256 .f32) (u : FVec Ideal S256x2048 .f32)
    (a : Fin 8) (n : Fin 32768) (j : Fin 128) : res h g w gl u (ix3 a n j) = elemE h g w gl u a n j := by
  have s : res h g w gl u (ix3 a n j) = shapeCast S32768x8x256 (Host.dotGeneral dot_S32768x256_S256x2048_S32768x2048_1_0_0_1_n_n none (lat h g w gl) u : FVec Ideal S32768x2048 .f32)
      shapeCasts_S32768x2048_S32768x8x256 (ix3 n a (⟨128 + j.val, by omega⟩ : Fin 256)) := by
    refine congrArg (shapeCast S32768x8x256 (Host.dotGeneral dot_S32768x256_S256x2048_S32768x2048_1_0_0_1_n_n none (lat h g w gl) u : FVec Ideal S32768x2048 .f32) shapeCasts_S32768x2048_S32768x8x256) (funext fun b => Fin.ext ?_)
    match b with
    | ⟨0, _⟩ => exact Nat.zero_add _
    | ⟨1, _⟩ => exact Nat.zero_add _
    | ⟨2, _⟩ => rfl
  rw [s]
  unfold elemE valE
  refine (shapeCast_apply _ shapeCasts_S32768x2048_S32768x8x256 _ (ix2 n (⟨a.val * 256 + (128 + j.val), by omega⟩ : Fin 2048)) ?_).trans ?_
  · rw [Shape.rowMajor_val_two, Shape.rowMajor_val_three]
    show n.val * 2048 + (a.val * 256 + (128 + j.val)) = (n.val * 8 + a.val) * 256 + (128 + j.val)
    omega
  · pointwise [lat_at]

end Cert.ValuesReferenceIdeal.Out

end
-- ==== Proof.RopeIdeal.Out.lean ====
/-
  The rotation tables' call on the extended reals: its two results read at an index, and their reference.
-/
module

public import proofs.«01_k».proof.Proof.Gen.RopeIdeal.Frame
public import proofs.«01_k».proof.Proof.Gen.RopeReferenceIdeal.Run
public import Idealize.ShloMosaic.Lib.Pipeline.Value
public import Idealize.ShloMosaic.Lib.Pipeline.ValueKit.Basic
public import Idealize.ShloMosaic.Lib.Pointwise.Tactic
public import Idealize.ShloMosaic.Lib.Pointwise
public import Idealize.ShloMosaic.Lib.IdealHost

@[expose] public section

set_option maxRecDepth 16384

noncomputable section

namespace Cert.RopeIdeal.Out

open Cert.RopeIdeal Cert.RopeIdeal.Gen
open Idealize.ShloMosaic
open Idealize.ShloMosaic.TcCoe Idealize.SL.Sem
open Idealize.ShloMosaic.Pipeline (Dat)

/-- The inverse frequencies. -/
def freq : FVec Ideal S32 .f32 := Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32)))

/-- The angle at row `r`, lane `l`: each row holds four tokens, each token a lane per frequency. -/
def angE (p : IVec S4x8192 32) (r : Fin 8192) (l : Fin 128) : EReal :=
  FloatOps.sitofp (F := Ideal) .f32 (p (ix2 (⟨(r.val * 4 + l.val / 32) / 8192, by omega⟩ : Fin 4) (⟨(r.val * 4 + l.val / 32) % 8192, by omega⟩ : Fin 8192))) * freq (ix1 (⟨l.val % 32, by omega⟩ : Fin 32))

theorem hz : (![0, 0] : Fin 2 → Nat) = fun _ => 0 := funext fun a => by fin_cases a <;> rfl

theorem pay2_at (x0 : Vec Ideal S1024x128 .f32) (x1 : Vec Ideal S1x128 .f32) (r : Fin 1024) (l : Fin 128) :
    k0_pay2 x0 x1 (ix2 r l) = Ideal.cos (x0 (ix2 r l) * x1 (ix2 0 l)) := by
  unfold k0_pay2
  pointwise [k0_pay1]

theorem pay3_at (x0 : Vec Ideal S1024x128 .f32) (x1 : Vec Ideal S1x128 .f32) (r : Fin 1024) (l : Fin 128) :
    k0_pay3 x0 x1 (ix2 r l) = Ideal.sin (x0 (ix2 r l) * x1 (ix2 0 l)) := by
  unfold k0_pay3
  pointwise [k0_pay1]

variable (m : (ℓ : Loc nD τ sig) → Buf (Elt Ideal) ℓ) (ρ : Dev nD → PrngReg)

/-- The positions as the region finds them, each repeated for its frequencies. -/
theorem V_14 (c : Dev nD) (r : Fin 8192) (l : Fin 128) :
    V m c main_v14 (ix2 r l) = FloatOps.sitofp (F := Ideal) .f32 (m ((c : Thread nD τ).loc main_arg0) (ix2 (⟨(r.val * 4 + l.val / 32) / 8192, by omega⟩ : Fin 4) (⟨(r.val * 4 + l.val / 32) % 8192, by omega⟩ : Fin 8192))) := by
  have e : V m c main_v14 = shapeCast S8192x128 (shapeCast S1048576 (broadcastInDim S32768x32 ![0] bcast_S32768_S32768x32_0
      (sitofp (F := Ideal) .f32 (shapeCast S32768 (m ((c : Thread nD τ).loc main_arg0)) shapeCasts_S4x8192_S32768) : FVec Ideal S32768 .f32)) shapeCasts_S32768x32_S1048576) shapeCasts_S1048576_S8192x128 := by
    unfold V
    after_results <;> rfl
  rw [e]
  refine (shapeCast_apply _ shapeCasts_S1048576_S8192x128 _ (ix1 (⟨r.val * 128 + l.val, by omega⟩ : Fin 1048576)) ?_).trans ?_
  · rw [Shape.rowMajor_val_two, Shape.rowMajor_val_one]
    rfl
  refine (shapeCast_apply _ shapeCasts_S32768x32_S1048576 _ (ix2 (⟨r.val * 4 + l.val / 32, by omega⟩ : Fin 32768) (⟨l.val % 32, by omega⟩ : Fin 32)) ?_).trans ?_
  · rw [Shape.rowMajor_val_two, Shape.rowMajor_val_one]
    show (r.val * 4 + l.val / 32) * 32 + l.val % 32 = r.val * 128 + l.val
    omega
  refine congrArg (FloatOps.sitofp (F := Ideal) .f32) (shapeCast_apply _ shapeCasts_S4x8192_S32768 _ _ ?_)
  rw [Shape.rowMajor_val_two, Shape.rowMajor_val_one]
  show (r.val * 4 + l.val / 32) / 8192 * 8192 + (r.val * 4 + l.val / 32) % 8192 = r.val * 4 + l.val / 32
  omega

/-- The frequencies as the region finds them, four times over. -/
theorem V_18 (c : Dev nD) (l : Fin 128) : V m c main_v18 (ix2 0 l) = freq (ix1 (⟨l.val % 32, by omega⟩ : Fin 32)) := by
  have e : V m c main_v18 = shapeCast S1x128 (shapeCast S128 (broadcastInDim S4x32 ![0, 1] bcast_S1x32_S4x32_0_1 (shapeCast S1x32 freq shapeCasts_S32_S1x32)) shapeCasts_S4x32_S128) shapeCasts_S128_S1x128 := by
    unfold V
    after_results <;> rfl
  rw [e]
  refine (shapeCast_apply _ shapeCasts_S128_S1x128 _ (ix1 l) ?_).trans ?_
  · rw [Shape.rowMajor_val_two, Shape.rowMajor_val_one]
    show l.val = 0 * 128 + l.val
    omega
  refine (shapeCast_apply _ shapeCasts_S4x32_S128 _ (ix2 (⟨l.val / 32, by omega⟩ : Fin 4) (⟨l.val % 32, by omega⟩ : Fin 32)) ?_).trans ?_
  · rw [Shape.rowMajor_val_two, Shape.rowMajor_val_one]
    show l.val / 32 * 32 + l.val % 32 = l.val
    omega
  refine shapeCast_apply _ shapeCasts_S32_S1x32 _ (ix1 (⟨l.val % 32, by omega⟩ : Fin 32)) ?_
  rw [Shape.rowMajor_val_two, Shape.rowMajor_val_one]
  show l.val % 32 = 0 * 32 + l.val % 32
  omega

theorem ix0 : ∀ t : Fin cfg0.N, (cfg0.win 0).index t = ![t.val, 0] := by decide +kernel
theorem ix1w : ∀ t : Fin cfg0.N, (cfg0.win 1).index t = ![0, 0] := by decide +kernel
theorem ix2w : ∀ t : Fin cfg0.N, (cfg0.win 2).index t = ![t.val, 0] := by decide +kernel
theorem ix3w : ∀ t : Fin cfg0.N, (cfg0.win 3).index t = ![t.val, 0] := by decide +kernel

/-- A function of the angles, over the whole table. -/
def table (f : EReal → EReal) (p : IVec S4x8192 32) : S8192x128.Idx → EReal := fun i =>
  f (angE p (⟨(i 0).val, (i 0).isLt⟩ : Fin 8192) (⟨(i 1).val, (i 1).isLt⟩ : Fin 128))

/-- The angle a point computes at an index of its block. -/
theorem ang_blk (c : Dev nD) (t : Fin cfg0.N) (r : Fin 1024) (l : Fin 128) (hn : t.val * 1024 + r.val < 8192) :
    HMul.hMul (α := EReal) (β := EReal) (γ := EReal) (iblk m c 0 t (ix2 r l)) (iblk m c 1 t (ix2 0 l)) = angE (m ((c : Thread nD τ).loc main_arg0)) ⟨t.val * 1024 + r.val, hn⟩ l := by
  refine congrArg₂ (· * ·) ?_ ?_
  · refine (congrArg (V m c main_v14) (?_ : (((cfg0.win 0).rect t).emb (ix2 r l) : S8192x128.Idx) = ix2 (⟨t.val * 1024 + r.val, hn⟩ : Fin 8192) l)).trans (V_14 m c _ l)
    funext a
    match a with
    | ⟨0, _⟩ => exact Fin.ext ((Pipeline.Window.rect_emb_val (cfg0.win 0) t (ix2 r l) 0 rfl).trans (by rw [ix0]; rfl))
    | ⟨1, _⟩ => exact Fin.ext ((Pipeline.Window.rect_emb_val (cfg0.win 0) t (ix2 r l) 1 rfl).trans (by rw [ix0]; exact Nat.zero_add _))
  · refine (congrArg (V m c main_v18) (?_ : (((cfg0.win 1).rect t).emb (ix2 (0 : Fin 1) l) : S1x128.Idx) = ix2 0 l)).trans (V_18 m c l)
    funext a
    match a with
    | ⟨0, _⟩ => exact Fin.ext ((Pipeline.Window.rect_emb_val (cfg0.win 1) t (ix2 (0 : Fin 1) l) 0 rfl).trans (by rw [ix1w]; exact Nat.zero_add _))
    | ⟨1, _⟩ => exact Fin.ext ((Pipeline.Window.rect_emb_val (cfg0.win 1) t (ix2 (0 : Fin 1) l) 1 rfl).trans (by rw [ix1w]; exact Nat.zero_add _))

/-- What a point writes back is its block of the cos table. -/
theorem flushed_2 (c : Dev nD) (t : Fin cfg0.N) :
    (dats m 0 c).flushed 2 t = ((cfg0.win 2).blk t).view.read (Elt Ideal) (table Ideal.cos (m ((c : Thread nD τ).loc main_arg0))) := by
  show (cfg0.win 2).cut (grid0.coords t) ((dats m 0 c).after 2 t) = _
  rw [after0_2]
  unfold out0_2
  rw [View.canon_unit_zero hz, View.ld_unit_zero hz, View.ld_unit_zero hz]
  funext y
  have h0 : (y 0).val < 1024 := (y 0).isLt
  have h1 : (y 1).val < 128 := (y 1).isLt
  have ht : t.val < 8 := t.isLt
  have hn : t.val * 1024 + (y 0).val < 8192 := by omega
  have hy : (y : S1024x128.Idx) = ix2 (⟨(y 0).val, h0⟩ : Fin 1024) (⟨(y 1).val, h1⟩ : Fin 128) := by
    funext a
    match a with
    | ⟨0, _⟩ => rfl
    | ⟨1, _⟩ => rfl
  have ew : (((cfg0.win 2).rect t).emb y : S8192x128.Idx) = ix2 (⟨t.val * 1024 + (y 0).val, hn⟩ : Fin 8192) (⟨(y 1).val, h1⟩ : Fin 128) := by
    funext a
    match a with
    | ⟨0, _⟩ => exact Fin.ext ((Pipeline.Window.rect_emb_val (cfg0.win 2) t y 0 rfl).trans (by rw [ix2w]; rfl))
    | ⟨1, _⟩ => exact Fin.ext ((Pipeline.Window.rect_emb_val (cfg0.win 2) t y 1 rfl).trans (by rw [ix2w]; exact Nat.zero_add _))
  show k0_pay2 (iblk m c 0 t) (iblk m c 1 t) y = table Ideal.cos _ (((cfg0.win 2).rect t).emb y)
  rw [ew]
  exact ((congrArg (k0_pay2 (iblk m c 0 t) (iblk m c 1 t)) hy).trans (pay2_at (iblk m c 0 t) (iblk m c 1 t) _ _)).trans
    (congrArg Ideal.cos (ang_blk m c t _ _ hn))

theorem cover_2 (i : S8192x128.Idx) : ∃ t : Fin cfg0.N, (cfg0.win 2).flush t = true ∧ i ∈ ((cfg0.win 2).blk t).view.set := by
  have h0 : (i 0).val < 8192 := (i 0).isLt
  have h1 : (i 1).val < 128 := (i 1).isLt
  have ht : (i 0).val / 1024 < cfg0.N := by
    show _ < 8
    omega
  refine ⟨⟨_, ht⟩, flush0_2 _, ?_⟩
  show i ∈ ((View.whole main_v19_0).slice ((cfg0.win 2).rect ⟨_, ht⟩)).set
  erw [View.set_slice_whole]
  refine (Pipeline.Window.mem_rect_iff (cfg0.win 2) ⟨_, ht⟩ i rfl).mpr fun a => ?_
  rw [ix2w]
  fin_cases a
  · show (i 0).val / 1024 * 1024 ≤ (i 0).val ∧ (i 0).val < (i 0).val / 1024 * 1024 + 1024
    omega
  · show 0 * 128 ≤ (i 1).val ∧ (i 1).val < 0 * 128 + 128
    omega

/-- What a point writes back is its block of the sin table. -/
theorem flushed_3 (c : Dev nD) (t : Fin cfg0.N) :
    (dats m 0 c).flushed 3 t = ((cfg0.win 3).blk t).view.read (Elt Ideal) (table Ideal.sin (m ((c : Thread nD τ).loc main_arg0))) := by
  show (cfg0.win 3).cut (grid0.coords t) ((dats m 0 c).after 3 t) = _
  rw [after0_3]
  unfold out0_3
  rw [View.canon_unit_zero hz, View.ld_unit_zero hz, View.ld_unit_zero hz]
  funext y
  have h0 : (y 0).val < 1024 := (y 0).isLt
  have h1 : (y 1).val < 128 := (y 1).isLt
  have ht : t.val < 8 := t.isLt
  have hn : t.val * 1024 + (y 0).val < 8192 := by omega
  have hy : (y : S1024x128.Idx) = ix2 (⟨(y 0).val, h0⟩ : Fin 1024) (⟨(y 1).val, h1⟩ : Fin 128) := by
    funext a
    match a with
    | ⟨0, _⟩ => rfl
    | ⟨1, _⟩ => rfl
  have ew : (((cfg0.win 3).rect t).emb y : S8192x128.Idx) = ix2 (⟨t.val * 1024 + (y 0).val, hn⟩ : Fin 8192) (⟨(y 1).val, h1⟩ : Fin 128) := by
    funext a
    match a with
    | ⟨0, _⟩ => exact Fin.ext ((Pipeline.Window.rect_emb_val (cfg0.win 3) t y 0 rfl).trans (by rw [ix3w]; rfl))
    | ⟨1, _⟩ => exact Fin.ext ((Pipeline.Window.rect_emb_val (cfg0.win 3) t y 1 rfl).trans (by rw [ix3w]; exact Nat.zero_add _))
  show k0_pay3 (iblk m c 0 t) (iblk m c 1 t) y = table Ideal.sin _ (((cfg0.win 3).rect t).emb y)
  rw [ew]
  exact ((congrArg (k0_pay3 (iblk m c 0 t) (iblk m c 1 t)) hy).trans (pay3_at (iblk m c 0 t) (iblk m c 1 t) _ _)).trans
    (congrArg Ideal.sin (ang_blk m c t _ _ hn))

theorem cover_3 (i : S8192x128.Idx) : ∃ t : Fin cfg0.N, (cfg0.win 3).flush t = true ∧ i ∈ ((cfg0.win 3).blk t).view.set := by
  have h0 : (i 0).val < 8192 := (i 0).isLt
  have h1 : (i 1).val < 128 := (i 1).isLt
  have ht : (i 0).val / 1024 < cfg0.N := by
    show _ < 8
    omega
  refine ⟨⟨_, ht⟩, flush0_3 _, ?_⟩
  show i ∈ ((View.whole main_v19_1).slice ((cfg0.win 3).rect ⟨_, ht⟩)).set
  erw [View.set_slice_whole]
  refine (Pipeline.Window.mem_rect_iff (cfg0.win 3) ⟨_, ht⟩ i rfl).mpr fun a => ?_
  rw [ix3w]
  fin_cases a
  · show (i 0).val / 1024 * 1024 ≤ (i 0).val ∧ (i 0).val < (i 0).val / 1024 * 1024 + 1024
    omega
  · show 0 * 128 ≤ (i 1).val ∧ (i 1).val < 0 * 128 + 128
    omega

/-- The run: the results are the two tables. -/
theorem run : θ_run defs (onTc (τ := τ) (main (F := Ideal))) ⟨m, fun _ => 0, ρ⟩ fun r => ∀ c : Dev nD,
    r.2.mem ((c : Thread nD τ).loc main_v19_0) = table Ideal.cos (m ((c : Thread nD τ).loc main_arg0))
    ∧ r.2.mem ((c : Thread nD τ).loc main_v19_1) = table Ideal.sin (m ((c : Thread nD τ).loc main_arg0)) :=
  (θ_run defs _ _).mono (fun _ h c =>
    ⟨((h c).1 2).trans ((dats m 0 c).arrAt_eq_of_cover 2 _ (fun t _ => flushed_2 m c t) cover_2),
     ((h c).1 3).trans ((dats m 0 c).arrAt_eq_of_cover 3 _ (fun t _ => flushed_3 m c t) cover_3)⟩) (run_main m ρ)

end Cert.RopeIdeal.Out

namespace Cert.RopeReferenceIdeal.Out

open Cert.RopeReferenceIdeal Cert.RopeReferenceIdeal.Gen
open Idealize.ShloMosaic
open Cert.RopeIdeal.Out (freq angE table)

/-- The reference's angles, token by token. -/
def ang (p : IVec S4x8192 32) : FVec Ideal S4x8192x32 .f32 := mulf (broadcastInDim S4x8192x32 ![0, 1, 2] bcast_S4x8192x1_S4x8192x32_0_1_2 (broadcastInDim S4x8192x1 ![0, 1] bcast_S4x8192_S4x8192x1_0_1 (sitofp .f32 p))) (broadcastInDim S4x8192x32 ![0, 1, 2] bcast_S1x1x32_S4x8192x32_0_1_2 (broadcastInDim S1x1x32 ![2] bcast_S32_S1x1x32_2 freq))

theorem ang_at (p : IVec S4x8192 32) (b : Fin 4) (s : Fin 8192) (f : Fin 32) :
    ang p (ix3 b s f) = FloatOps.sitofp (F := Ideal) .f32 (p (ix2 b s)) * freq (ix1 f) := by
  refine congrArg₂ (· * ·) (congrArg (fun i => FloatOps.sitofp (F := Ideal) .f32 (p i)) ?_) (congrArg freq ?_)
  · funext a
    match a with
    | ⟨0, _⟩ => rfl
    | ⟨1, _⟩ => rfl
  · funext a
    match a with
    | ⟨0, _⟩ => rfl

/-- A function of the angles, four tokens to a row. -/
theorem res_eq (p : IVec S4x8192 32) (f : EReal → EReal) : (shapeCast S8192x128 (fun i => f (ang p i)) shapeCasts_S4x8192x32_S8192x128 : S8192x128.Idx → EReal) = table f p := by
  funext i
  have h0 : (i 0).val < 8192 := (i 0).isLt
  have h1 : (i 1).val < 128 := (i 1).isLt
  refine (shapeCast_apply _ shapeCasts_S4x8192x32_S8192x128 i (ix3 (⟨((i 0).val * 4 + (i 1).val / 32) / 8192, by omega⟩ : Fin 4) (⟨((i 0).val * 4 + (i 1).val / 32) % 8192, by omega⟩ : Fin 8192) (⟨(i 1).val % 32, by omega⟩ : Fin 32)) ?_).trans
    (congrArg f (ang_at p _ _ _))
  rw [Shape.rowMajor_val_two, Shape.rowMajor_val_three]
  show (((i 0).val * 4 + (i 1).val / 32) / 8192 * 8192 + ((i 0).val * 4 + (i 1).val / 32) % 8192) * 32 + (i 1).val % 32 = (i 0).val * 128 + (i 1).val
  omega

end Cert.RopeReferenceIdeal.Out

end
-- ==== Proof.lean ====
module

public import proofs.«01_k».proof.Proof.Experts
public import proofs.«01_k».proof.Proof.ExpertsIdeal.Launched
public import proofs.«01_k».proof.Proof.ExpertsIdeal.Final
public import proofs.«01_k».proof.Proof.ExpertsIdeal.Reference
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.KernelIdeal.Inv
public import proofs.«01_k».proof.Proof.Reference
public import proofs.«01_k».proof.Proof.Precondition
public import proofs.«01_k».proof.Proof.Gen.Oproj.Frame
public import proofs.«01_k».proof.Proof.Gen.OprojReferenceIdeal.Run
public import proofs.«01_k».proof.Proof.Gen.Values.Frame
public import proofs.«01_k».proof.Proof.Gen.ValuesReferenceIdeal.Run
public import proofs.«01_k».proof.Proof.Gen.Rope.Frame
public import proofs.«01_k».proof.Proof.Gen.RopeReferenceIdeal.Run
public import proofs.«01_k».proof.Proof.OprojIdeal.Out
public import proofs.«01_k».proof.Proof.ValuesIdeal.Reference
public import proofs.«01_k».proof.Proof.RopeIdeal.Out
public import Idealize.ShloMosaic.Lib.Quiescent
public import Idealize.ShloMosaic.Adequacy
public import Idealize.ShloMosaic.Init

@[expose] public section

noncomputable section

namespace Cert.Proof

open Idealize.ShloMosaic Idealize.SL.Sem

/-- The kernel as printed runs to the end from any memory, its arguments unchanged, every counter at zero. -/
theorem frame_kernel : Cert.quiescent_Kernel := fun m g _ =>
  (θ_run _ _ _).mono (fun _ h => ⟨fun c => (h.1 c).2, h.2⟩) (Cert.Kernel.Attn.run_result m g)

/-- So does the idealized kernel. -/
theorem frame_ideal : Cert.quiescent_KernelIdeal := fun m g _ =>
  (θ_run _ _ _).mono (fun _ h => ⟨fun c => (h.1 c).2, h.2⟩) (Cert.KernelIdeal.Attn.run_result m g)

/-- So does the reference, which has no counter at all. -/
theorem frame_reference : Cert.quiescent_ReferenceIdeal := fun m g _ =>
  (θ_run _ _ _).mono (fun r h => ⟨fun c => (h c).2, sem_eq_zero_of_no_sems rfl r.2⟩) (Cert.ReferenceIdeal.Value.run m g)

/-- The mask constant is named: its ideal value is minus infinity. -/
theorem mask_named : Cert.preserves_Kernel_KernelIdeal := IdealRules.named_const.statement _ _ _ _ _ rfl

/-- The idealized kernel and the reference end with the same result from the same arguments, when queries and keys are finite. -/
theorem value : Cert.algebraic_KernelIdeal_ReferenceIdeal_pre_finite_qk (hPre_finite_qk := Cert.Pre_finite_qk.facts) := by
  intro m g m' g' hpre hargs
  have hf := fun c => Cert.Pre_finite_qk.finite_of_pre _ _ _ (hpre c)
  refine ⟨fun c => (Cert.KernelIdeal.Attn.dats m 0 c).arrAt (3 : Fin 4) Cert.KernelIdeal.Attn.cfgA.N,
    (θ_run _ _ _).mono (fun _ h => h.1) (Cert.KernelIdeal.Attn.run_result m g),
    (θ_run _ _ _).mono (fun r h c => ⟨(h c).1.trans ?_, (h c).2⟩) (Cert.ReferenceIdeal.Value.run m' g')⟩
  rw [Cert.ReferenceIdeal.Attn.res_eq, (hargs c).1, (hargs c).2.1, (hargs c).2.2]
  exact (Cert.ReferenceIdeal.Attn.mixed_eq _ _ _ (hf c).1 (hf c).2).trans
    (Cert.KernelIdeal.Attn.final_o m (fun c => (hf c).1) (fun c => (hf c).2) c).symm

/-- The experts' call as printed runs to the end from any memory whose plan is in range, its arguments unchanged, every counter at zero. -/
theorem frame_experts : Cert.quiescent_Experts (hExperts := Cert.Experts.Gen.facts) (hPre_plan_in_range := Cert.Pre_plan_in_range.Gen.facts) := fun m g hpre =>
  Cert.Experts.Moe.frame m g (Cert.ExpertsIdeal.Moe.plan_of_fn (F := Bits) _ _ _ _ _ _ (hpre 0))

/-- So does the idealized call. -/
theorem frame_experts_ideal : Cert.quiescent_ExpertsIdeal (hExpertsIdeal := Cert.ExpertsIdeal.Gen.facts) (hPre_plan_in_range := Cert.Pre_plan_in_range.Gen.facts) := fun m g hpre =>
  (θ_run _ _ _).mono (fun _ h => ⟨fun c => (h.1 c).2, h.2⟩)
    (Cert.ExpertsIdeal.Moe.run_result m (Cert.ExpertsIdeal.Moe.plan_of_fn _ _ _ _ _ _ (hpre 0)) g)

/-- So does its reference, from any memory; it has no counter at all. -/
theorem frame_experts_reference : Cert.quiescent_ExpertsReferenceIdeal (hExpertsReferenceIdeal := Cert.ExpertsReferenceIdeal.Gen.facts) := fun m g _ =>
  (θ_run _ _ _).mono (fun r h => ⟨fun c => (h c).2, sem_eq_zero_of_no_sems rfl r.2⟩) (Cert.ExpertsReferenceIdeal.Value.run m g)

/-- The idealized experts' call and its reference end with the same result from the same arguments, when the plan is in range. -/
theorem value_experts : Cert.algebraic_ExpertsIdeal_ExpertsReferenceIdeal (hExpertsIdeal := Cert.ExpertsIdeal.Gen.facts)
    (hExpertsReferenceIdeal := Cert.ExpertsReferenceIdeal.Gen.facts) (hPre_plan_in_range := Cert.Pre_plan_in_range.Gen.facts) := by
  intro m g m' g' hpre hargs
  have hP := Cert.ExpertsIdeal.Moe.plan_of_fn _ _ _ _ _ _ (hpre 0)
  refine ⟨fun _ => Cert.ExpertsIdeal.Moe.tiles m,
    (θ_run _ _ _).mono (fun _ h c => ⟨(h.1 c).1.trans (Cert.ExpertsIdeal.Moe.final_o m hP c), (h.1 c).2⟩) (Cert.ExpertsIdeal.Moe.run_result m hP g),
    (θ_run _ _ _).mono (fun r h c => ⟨(h c).1.trans ?_, (h c).2⟩) (Cert.ExpertsReferenceIdeal.Value.run m' g')⟩
  obtain rfl : c = 0 := Subsingleton.elim _ _
  obtain ⟨h0, h1, h2, h3, h4, h5⟩ := hargs 0
  exact Cert.ExpertsReferenceIdeal.Moe.res_tiles m' m hP 0 h0 h1 h2 h3 h4 h5

/-- The output projection as printed runs to the end from any memory, its arguments unchanged, every counter at zero. -/
theorem frame_oproj : Cert.quiescent_Oproj (hOproj := Cert.Oproj.Gen.facts) := fun m g _ => Cert.Oproj.Gen.frame m g

/-- So does the idealized call. -/
theorem frame_oproj_ideal : Cert.quiescent_OprojIdeal (hOprojIdeal := Cert.OprojIdeal.Gen.facts) := fun m g _ => Cert.OprojIdeal.Gen.frame m g

/-- So does its reference, which has no counter. -/
theorem frame_oproj_reference : Cert.quiescent_OprojReferenceIdeal (hOprojReferenceIdeal := Cert.OprojReferenceIdeal.Gen.facts) := fun m g _ =>
  (θ_run _ _ _).mono (fun r h => ⟨fun c => (h c).2, sem_eq_zero_of_no_sems rfl r.2⟩) (Cert.OprojReferenceIdeal.Value.run m g)

/-- The idealized output projection and its reference end with the same hidden state from the same arguments. -/
theorem value_oproj : Cert.algebraic_OprojIdeal_OprojReferenceIdeal (hOprojIdeal := Cert.OprojIdeal.Gen.facts)
    (hOprojReferenceIdeal := Cert.OprojReferenceIdeal.Gen.facts) := by
  intro m g m' g' _ hargs
  refine ⟨fun c => Cert.OprojIdeal.Out.hid m c,
    (θ_run _ _ _).mono (fun _ h c => ⟨h.1 c, h.2.1 c⟩) (θ_run_and (Cert.OprojIdeal.Out.run m g) (Cert.OprojIdeal.Gen.frame m g)),
    (θ_run _ _ _).mono (fun r h c => ⟨(h c).1.trans ?_, (h c).2⟩) (Cert.OprojReferenceIdeal.Value.run m' g')⟩
  rw [(hargs c).1, (hargs c).2.1, (hargs c).2.2.1]
  funext i
  rw [eq_ix2 (n0 := 32768) (n1 := 1024) i]
  exact Cert.OprojReferenceIdeal.Out.ref_at _ _ _ _ _

/-- The projections' call as printed runs to the end from any memory, its arguments unchanged, every counter at zero. -/
theorem frame_values : Cert.quiescent_Values (hValues := Cert.Values.Gen.facts) := fun m g _ => Cert.Values.Gen.frame m g

/-- So does the idealized call. -/
theorem frame_values_ideal : Cert.quiescent_ValuesIdeal (hValuesIdeal := Cert.ValuesIdeal.Gen.facts) := fun m g _ => Cert.ValuesIdeal.Gen.frame m g

/-- So does its reference, which has no counter. -/
theorem frame_values_reference : Cert.quiescent_ValuesReferenceIdeal (hValuesReferenceIdeal := Cert.ValuesReferenceIdeal.Gen.facts) := fun m g _ =>
  (θ_run _ _ _).mono (fun r h => ⟨fun c => (h c).2, sem_eq_zero_of_no_sems rfl r.2⟩) (Cert.ValuesReferenceIdeal.Value.run m g)

/-- The idealized projections' call and its reference end with the same values from the same arguments. -/
theorem value_values : Cert.algebraic_ValuesIdeal_ValuesReferenceIdeal (hValuesIdeal := Cert.ValuesIdeal.Gen.facts)
    (hValuesReferenceIdeal := Cert.ValuesReferenceIdeal.Gen.facts) := by
  intro m g m' g' _ hargs
  refine ⟨fun c => Cert.ValuesIdeal.Out.vals m c,
    (θ_run _ _ _).mono (fun _ h c => ⟨h.1 c, h.2.1 c⟩) (θ_run_and (Cert.ValuesIdeal.Out.run m g) (Cert.ValuesIdeal.Gen.frame m g)),
    (θ_run _ _ _).mono (fun r h c => ⟨(h c).1.trans (?_ : Cert.ValuesReferenceIdeal.Out.res _ _ _ _ _ = _), (h c).2⟩)
      (Cert.ValuesReferenceIdeal.Value.run m' g')⟩
  obtain ⟨h0, _, _, h3, h4, h5, _, h7, _⟩ := hargs c
  rw [h0, h3, h4, h5, h7]
  funext i
  rw [eq_ix3 (n0 := 8) (n1 := 32768) (n2 := 128) i]
  exact Cert.ValuesReferenceIdeal.Out.res_at _ _ _ _ _ _ _ _

/-- The rotation tables' call as printed runs to the end from any memory, its arguments unchanged, every counter at zero. -/
theorem frame_rope : Cert.quiescent_Rope (hRope := Cert.Rope.Gen.facts) := fun m g _ => Cert.Rope.Gen.frame m g

/-- So does the idealized call. -/
theorem frame_rope_ideal : Cert.quiescent_RopeIdeal (hRopeIdeal := Cert.RopeIdeal.Gen.facts) := fun m g _ => Cert.RopeIdeal.Gen.frame m g

/-- So does its reference, which has no counter. -/
theorem frame_rope_reference : Cert.quiescent_RopeReferenceIdeal (hRopeReferenceIdeal := Cert.RopeReferenceIdeal.Gen.facts) := fun m g _ =>
  (θ_run _ _ _).mono (fun r h => ⟨fun c => (h c).2.2, sem_eq_zero_of_no_sems rfl r.2⟩) (Cert.RopeReferenceIdeal.Value.run m g)

/-- The idealized call of the rotation tables and its reference end with the same two tables from the same positions. -/
theorem value_rope : Cert.algebraic_RopeIdeal_RopeReferenceIdeal (hRopeIdeal := Cert.RopeIdeal.Gen.facts)
    (hRopeReferenceIdeal := Cert.RopeReferenceIdeal.Gen.facts) := by
  intro m g m' g' _ hargs
  refine ⟨fun c => Cert.RopeIdeal.Out.table Ideal.cos (m ((c.tc : Thread _ _).loc Cert.RopeIdeal.main_arg0)),
    fun c => Cert.RopeIdeal.Out.table Ideal.sin (m ((c.tc : Thread _ _).loc Cert.RopeIdeal.main_arg0)),
    (θ_run _ _ _).mono (fun _ h c => ⟨(h.1 c).1, (h.1 c).2, h.2.1 c⟩) (θ_run_and (Cert.RopeIdeal.Out.run m g) (Cert.RopeIdeal.Gen.frame m g)),
    (θ_run _ _ _).mono (fun r h c => ⟨(h c).1.trans ?_, (h c).2.1.trans ?_, (h c).2.2⟩) (Cert.RopeReferenceIdeal.Value.run m' g')⟩
  · rw [hargs c]
    exact Cert.RopeReferenceIdeal.Out.res_eq _ Ideal.cos
  · rw [hargs c]
    exact Cert.RopeReferenceIdeal.Out.res_eq _ Ideal.sin

/-- Everything the certificate claims. -/
theorem claim : Cert.Claim := ⟨Cert.Kernel.Gen.facts, Cert.KernelIdeal.Gen.facts, Cert.ReferenceIdeal.Gen.facts, Cert.Experts.Gen.facts,
  Cert.ExpertsIdeal.Gen.facts, Cert.ExpertsReferenceIdeal.Gen.facts, Cert.Oproj.Gen.facts, Cert.OprojIdeal.Gen.facts,
  Cert.OprojReferenceIdeal.Gen.facts, Cert.Values.Gen.facts, Cert.ValuesIdeal.Gen.facts, Cert.ValuesReferenceIdeal.Gen.facts,
  Cert.Rope.Gen.facts, Cert.RopeIdeal.Gen.facts, Cert.RopeReferenceIdeal.Gen.facts,
  Cert.Pre_finite_qk.facts, Cert.Pre_plan_in_range.Gen.facts,
  frame_kernel, frame_ideal, fun m g _ => frame_ideal m g trivial, frame_reference, fun m g _ => frame_reference m g trivial,
  frame_experts, frame_experts_ideal, frame_experts_reference, fun m g _ => frame_experts_reference m g trivial,
  frame_oproj, frame_oproj_ideal, frame_oproj_reference, frame_values, frame_values_ideal, frame_values_reference,
  frame_rope, frame_rope_ideal, frame_rope_reference,
  mask_named, value, trivial, value_experts, trivial, value_oproj, trivial, value_values, trivial, value_rope⟩

end Cert.Proof

end
